-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_tables_ok : Cert.Pre_tables_ok.Facts] (m : (ℓ : Loc Cert.Kernel3.nD Cert.Kernel3.τ Cert.Kernel3.sig) → Buf (Elt Bits) ℓ) : Prop :=
  ∀ c : Dev Cert.Kernel3.nD,
    (Cert.Pre_tables_ok.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6))) = (fun _ => 1#1)

def Pre_Kernel3Ideal [hPre_tables_ok : Cert.Pre_tables_ok.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_tables_ok.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_tables_ok [hPre_tables_ok : Cert.Pre_tables_ok.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_tables_ok.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_prompt [hPre_finite_prompt : Cert.Pre_finite_prompt.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_prompt.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_prompt [hPre_finite_prompt : Cert.Pre_finite_prompt.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_prompt.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_cond [hPre_finite_cond : Cert.Pre_finite_cond.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_cond.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_cond [hPre_finite_cond : Cert.Pre_finite_cond.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_cond.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] [hPre_tables_ok : Cert.Pre_tables_ok.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] [hPre_tables_ok : Cert.Pre_tables_ok.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_tables_ok [hReference3Ideal : Cert.Reference3Ideal.Facts] [hPre_tables_ok : Cert.Pre_tables_ok.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_tables_ok m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_finite_prompt [hKernel5Ideal : Cert.Kernel5Ideal.Facts] [hPre_finite_prompt : Cert.Pre_finite_prompt.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_prompt m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_finite_prompt [hReference5Ideal : Cert.Reference5Ideal.Facts] [hPre_finite_prompt : Cert.Pre_finite_prompt.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_prompt m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_finite_cond [hKernel6Ideal : Cert.Kernel6Ideal.Facts] [hPre_finite_cond : Cert.Pre_finite_cond.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_cond m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_finite_cond [hReference6Ideal : Cert.Reference6Ideal.Facts] [hPre_finite_cond : Cert.Pre_finite_cond.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_cond m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v86) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] [hPre_tables_ok : Cert.Pre_tables_ok.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v39) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v42) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal_pre_finite_prompt [hKernel5Ideal : Cert.Kernel5Ideal.Facts] [hReference5Ideal : Cert.Reference5Ideal.Facts] [hPre_finite_prompt : Cert.Pre_finite_prompt.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_prompt m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v15)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v15) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v97) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal_pre_finite_cond [hKernel6Ideal : Cert.Kernel6Ideal.Facts] [hReference6Ideal : Cert.Reference6Ideal.Facts] [hPre_finite_cond : Cert.Pre_finite_cond.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_cond m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v23) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_inputs : Cert.Pre_finite_inputs.Facts) (hPre_tables_ok : Cert.Pre_tables_ok.Facts) (hPre_finite_prompt : Cert.Pre_finite_prompt.Facts) (hPre_finite_cond : Cert.Pre_finite_cond.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_tables_ok := hPre_tables_ok)
    ∧ quiescent_Kernel3Ideal (hKernel3Ideal := hKernel3Ideal) (hPre_tables_ok := hPre_tables_ok)
    ∧ quiescent_Reference3Ideal (hReference3Ideal := hReference3Ideal)
    ∧ quiescent_Reference3Ideal_pre_tables_ok (hReference3Ideal := hReference3Ideal) (hPre_tables_ok := hPre_tables_ok)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_prompt (hKernel5Ideal := hKernel5Ideal) (hPre_finite_prompt := hPre_finite_prompt)
    ∧ quiescent_Reference5Ideal (hReference5Ideal := hReference5Ideal)
    ∧ quiescent_Reference5Ideal_pre_finite_prompt (hReference5Ideal := hReference5Ideal) (hPre_finite_prompt := hPre_finite_prompt)
    ∧ quiescent_Kernel6 (hKernel6 := hKernel6)
    ∧ quiescent_Kernel6Ideal (hKernel6Ideal := hKernel6Ideal)
    ∧ quiescent_Kernel6Ideal_pre_finite_cond (hKernel6Ideal := hKernel6Ideal) (hPre_finite_cond := hPre_finite_cond)
    ∧ quiescent_Reference6Ideal (hReference6Ideal := hReference6Ideal)
    ∧ quiescent_Reference6Ideal_pre_finite_cond (hReference6Ideal := hReference6Ideal) (hPre_finite_cond := hPre_finite_cond)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_tables_ok := hPre_tables_ok)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_prompt (hKernel5Ideal := hKernel5Ideal) (hReference5Ideal := hReference5Ideal) (hPre_finite_prompt := hPre_finite_prompt)
    ∧ preserves_Kernel6_Kernel6Ideal
    ∧ algebraic_Kernel6Ideal_Reference6Ideal_pre_finite_cond (hKernel6Ideal := hKernel6Ideal) (hReference6Ideal := hReference6Ideal) (hPre_finite_cond := hPre_finite_cond)
-- ==== Pre_finite_cond.lean ====
abbrev S2x1024 : Shape := ⟨2, ![2, 1024]⟩
abbrev S1024 : Shape := ⟨1, ![1024]⟩
abbrev S2x1024x6144 : Shape := ⟨3, ![2, 1024, 6144]⟩
abbrev S2x6144 : Shape := ⟨2, ![2, 6144]⟩
abbrev S_ : Shape := ⟨0, ![]⟩

class Facts : Prop where
  bcast_S_S2x1024 : S_.BroadcastsInDim S2x1024 (![] : Fin 0 → Fin S2x1024.rank)
  reducesTo_S2x1024_S_d0_1 : S2x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S2x1024x6144 : S_.BroadcastsInDim S2x1024x6144 (![] : Fin 0 → Fin S2x1024x6144.rank)
  reducesTo_S2x1024x6144_S_d0_1_2 : S2x1024x6144.ReducesTo [0, 1, 2] S_

variable [Facts]

def fn {F : FTy → Type} [FloatOps F] (main_arg0 : FVec F S2x1024 .f32) (main_arg1 : FVec F S1024 .f32) (main_arg2 : FVec F S2x1024x6144 .f32) (main_arg3 : FVec F S2x6144 .f32) : IVec S_ 1 :=
  let main_v0 : FVec F S2x1024 .f32 := Host.absf main_arg0
  let main_cst : FVec F S_ .f32 := constant S_ .f32 0x7F800000#32
  let main_v1 : FVec F S2x1024 .f32 := broadcastInDim S2x1024 ![] bcast_S_S2x1024 main_cst
  let main_v2 : IVec S2x1024 1 := cmpf .olt main_v0 main_v1
  let main_c : IVec S_ 1 := constantI S_ 1 1#1
  let main_v3 : IVec S_ 1 := (fun x v => Host.reduce IntOp.andi x v reducesTo_S2x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S2x1024x6144 .f32 := Host.absf main_arg2
  let main_cst_2 : FVec F S_ .f32 := constant S_ .f32 0x7F800000#32
  let main_v10 : FVec F S2x1024x6144 .f32 := broadcastInDim S2x1024x6144 ![] bcast_S_S2x1024x6144 main_cst_2
  let main_v11 : IVec S2x1024x6144 1 := cmpf .olt main_v9 main_v10
  let main_c_3 : IVec S_ 1 := constantI S_ 1 1#1
  let main_v12 : IVec S_ 1 := (fun x v => Host.reduce IntOp.andi x v reducesTo_S2x1024x6144_S_d0_1_2 h_S_) main_v11 main_c_3
  let main_v13 : IVec S_ 1 := andi main_v8 main_v12
  main_v13
-- ==== Pre_finite_inputs.lean ====
abbrev S12288x3072 : Shape := ⟨2, ![12288, 3072]⟩
abbrev S2x2x4x2x512x64 : Shape := ⟨6, ![2, 2, 4, 2, 512, 64]⟩
abbrev S2x2x4x512x128 : Shape := ⟨5, ![2, 2, 4, 512, 128]⟩
abbrev S2x64 : Shape := ⟨2, ![2, 64]⟩
abbrev S2x128 : Shape := ⟨2, ![2, 128]⟩
abbrev S4096x1536 : Shape := ⟨2, ![4096, 1536]⟩
abbrev S_ : Shape := ⟨0, ![]⟩
abbrev S2x1x4x2x512x64 : Shape := ⟨6, ![2, 1, 4, 2, 512, 64]⟩
abbrev S2x1x4x512x128 : Shape := ⟨5, ![2, 1, 4, 512, 128]⟩
abbrev S1x64 : Shape := ⟨2, ![1, 64]⟩

class Facts : Prop where
  slices_S12288x3072_S4096x1536_8192_768 : S12288x3072.Slices ![8192, 768] S4096x1536
  bitsLt_bf16_f32 : FTy.bits .bf16 < FTy.bits .f32
  bcast_S_S4096x1536 : S_.BroadcastsInDim S4096x1536 (![] : Fin 0 → Fin S4096x1536.rank)
  reducesTo_S4096x1536_S_d0_1 : S4096x1536.ReducesTo [0, 1] S_
  h_S_ : 0 < S_.numel
  slices_S2x2x4x2x512x64_S2x1x4x2x512x64_0_0_0_0_0_0 : S2x2x4x2x512x64.Slices ![0, 0, 0, 0, 0, 0] S2x1x4x2x512x64
  bcast_S_S2x1x4x2x512x64 : S_.BroadcastsInDim S2x1x4x2x512x64 (![] : Fin 0 → Fin S2x1x4x2x512x64.rank)
  reducesTo_S2x1x4x2x512x64_S_d0_1_2_3_4_5 : S2x1x4x2x512x64.ReducesTo [0, 1, 2, 3, 4, 5] S_
  slices_S2x2x4x512x128_S2x1x4x512x128_0_0_0_0_0 : S2x2x4x512x128.Slices ![0, 0, 0, 0, 0] S2x1x4x512x128
  bcast_S_S2x1x4x512x128 : S_.BroadcastsInDim S2x1x4x512x128 (![] : Fin 0 → Fin S2x1x4x512x128.rank)
  reducesTo_S2x1x4x512x128_S_d0_1_2_3_4 : S2x1x4x512x128.ReducesTo [0, 1, 2, 3, 4] S_
  slices_S2x64_S1x64_0_0 : S2x64.Slices ![0, 0] S1x64
  bcast_S_S1x64 : S_.BroadcastsInDim S1x64 (![] : Fin 0 → Fin S1x64.rank)
  reducesTo_S1x64_S_d0_1 : S1x64.ReducesTo [0, 1] S_

variable [Facts]

def fn_part2 {F : FTy → Type} [FloatOps F] (main_arg6 : FVec F S2x64 .f32) (main_v35 : IVec S_ 1) : IVec S_ 1 :=
  let main_v36 : FVec F S1x64 .f32 := (extractStridedSlice S1x64 ![0, 0] · slices_S2x64_S1x64_0_0) main_arg6
  let main_v37 : FVec F S1x64 .f32 := Host.absf main_v36
  let main_cst_10 : FVec F S_ .f32 := constant S_ .f32 0x7F800000#32
  let main_v38 : FVec F S1x64 .f32 := broadcastInDim S1x64 ![] bcast_S_S1x64 main_cst_10
  let main_v39 : IVec S1x64 1 := cmpf .olt main_v37 main_v38
  let main_c_11 : IVec S_ 1 := constantI S_ 1 1#1
  let main_v40 : IVec S_ 1 := (fun x v => Host.reduce IntOp.andi x v reducesTo_S1x64_S_d0_1 h_S_) main_v39 main_c_11
  let main_v41 : IVec S_ 1 := andi main_v35 main_v40
  main_v41

def fn_part1 {F : FTy → Type} [FloatOps F] (main_arg3 : FVec F S2x64 .f32) (main_arg4 : FVec F S2x64 .f32) (main_arg5 : FVec F S2x64 .f32) (main_arg6 : FVec F S2x64 .f32) (main_v17 : IVec S_ 1) : IVec S_ 1 :=
  let main_v18 : FVec F S1x64 .f32 := (extractStridedSlice S1x64 ![0, 0] · slices_S2x64_S1x64_0_0) main_arg3
  let main_v19 : FVec F S1x64 .f32 := Host.absf main_v18
  let main_cst_4 : FVec F S_ .f32 := constant S_ .f32 0x7F800000#32
  let main_v20 : FVec F S1x64 .f32 := broadcastInDim S1x64 ![] bcast_S_S1x64 main_cst_4
  let main_v21 : IVec S1x64 1 := cmpf .olt main_v19 main_v20
  let main_c_5 : IVec S_ 1 := constantI S_ 1 1#1
  let main_v22 : IVec S_ 1 := (fun x v => Host.reduce IntOp.andi x v reducesTo_S1x64_S_d0_1 h_S_) main_v21 main_c_5
  let main_v23 : IVec S_ 1 := andi main_v17 main_v22
  let main_v24 : FVec F S1x64 .f32 := (extractStridedSlice S1x64 ![0, 0] · slices_S2x64_S1x64_0_0) main_arg4
  let main_v25 : FVec F S1x64 .f32 := Host.absf main_v24
  let main_cst_6 : FVec F S_ .f32 := constant S_ .f32 0x7F800000#32
  let main_v26 : FVec F S1x64 .f32 := broadcastInDim S1x64 ![] bcast_S_S1x64 main_cst_6
  let main_v27 : IVec S1x64 1 := cmpf .olt main_v25 main_v26
  let main_c_7 : IVec S_ 1 := constantI S_ 1 1#1
  let main_v28 : IVec S_ 1 := (fun x v => Host.reduce IntOp.andi x v reducesTo_S1x64_S_d0_1 h_S_) main_v27 main_c_7
  let main_v29 : IVec S_ 1 := andi main_v23 main_v28
  let main_v30 : FVec F S1x64 .f32 := (extractStridedSlice S1x64 ![0, 0] · slices_S2x64_S1x64_0_0) main_arg5
  let main_v31 : FVec F S1x64 .f32 := Host.absf main_v30
  let main_cst_8 : FVec F S_ .f32 := constant S_ .f32 0x7F800000#32
  let main_v32 : FVec F S1x64 .f32 := broadcastInDim S1x64 ![] bcast_S_S1x64 main_cst_8
  let main_v33 : IVec S1x64 1 := cmpf .olt main_v31 main_v32
  let main_c_9 : IVec S_ 1 := constantI S_ 1 1#1
  let main_v34 : IVec S_ 1 := (fun x v => Host.reduce IntOp.andi x v reducesTo_S1x64_S_d0_1 h_S_) main_v33 main_c_9
  let main_v35 : IVec S_ 1 := andi main_v29 main_v34
  fn_part2 (F := F) main_arg6 main_v35

def fn {F : FTy → Type} [FloatOps F] (main_arg0 : FVec F S12288x3072 .bf16) (main_arg1 : FVec F S2x2x4x2x512x64 .f32) (main_arg2 : FVec F S2x2x4x512x128 .f32) (main_arg3 : FVec F S2x64 .f32) (main_arg4 : FVec F S2x64 .f32) (main_arg5 : FVec F S2x64 .f32) (main_arg6 : FVec F S2x64 .f32) (main_arg7 : FVec F S2x128 .f32) : IVec S_ 1 :=
  let main_v0 : FVec F S4096x1536 .bf16 := (extractStridedSlice S4096x1536 ![8192, 768] · slices_S12288x3072_S4096x1536_8192_768) main_arg0
  let main_v1 : FVec F S4096x1536 .f32 := (extf .f32 · bitsLt_bf16_f32) main_v0
  let main_v2 : FVec F S4096x1536 .f32 := Host.absf main_v1
  let main_cst : FVec F S_ .f32 := constant S_ .f32 0x7F800000#32
  let main_v3 : FVec F S4096x1536 .f32 := broadcastInDim S4096x1536 ![] bcast_S_S4096x1536 main_cst
  let main_v4 : IVec S4096x1536 1 := cmpf .olt main_v2 main_v3
  let main_c : IVec S_ 1 := constantI S_ 1 1#1
  let main_v5 : IVec S_ 1 := (fun x v => Host.reduce IntOp.andi x v reducesTo_S4096x1536_S_d0_1 h_S_) main_v4 main_c
  let main_v6 : FVec F S2x1x4x2x512x64 .f32 := (extractStridedSlice S2x1x4x2x512x64 ![0, 0, 0, 0, 0, 0] · slices_S2x2x4x2x512x64_S2x1x4x2x512x64_0_0_0_0_0_0) main_arg1
  let main_v7 : FVec F S2x1x4x2x512x64 .f32 := Host.absf main_v6
  let main_cst_0 : FVec F S_ .f32 := constant S_ .f32 0x7F800000#32
  let main_v8 : FVec F S2x1x4x2x512x64 .f32 := broadcastInDim S2x1x4x2x512x64 ![] bcast_S_S2x1x4x2x512x64 main_cst_0
  let main_v9 : IVec S2x1x4x2x512x64 1 := cmpf .olt main_v7 main_v8
  let main_c_1 : IVec S_ 1 := constantI S_ 1 1#1
  let main_v10 : IVec S_ 1 := (fun x v => Host.reduce IntOp.andi x v reducesTo_S2x1x4x2x512x64_S_d0_1_2_3_4_5 h_S_) main_v9 main_c_1
  let main_v11 : IVec S_ 1 := andi main_v5 main_v10
  let main_v12 : FVec F S2x1x4x512x128 .f32 := (extractStridedSlice S2x1x4x512x128 ![0, 0, 0, 0, 0] · slices_S2x2x4x512x128_S2x1x4x512x128_0_0_0_0_0) main_arg2
  let main_v13 : FVec F S2x1x4x512x128 .f32 := Host.absf main_v12
  let main_cst_2 : FVec F S_ .f32 := constant S_ .f32 0x7F800000#32
  let main_v14 : FVec F S2x1x4x512x128 .f32 := broadcastInDim S2x1x4x512x128 ![] bcast_S_S2x1x4x512x128 main_cst_2
  let main_v15 : IVec S2x1x4x512x128 1 := cmpf .olt main_v13 main_v14
  let main_c_3 : IVec S_ 1 := constantI S_ 1 1#1
  let main_v16 : IVec S_ 1 := (fun x v => Host.reduce IntOp.andi x v reducesTo_S2x1x4x512x128_S_d0_1_2_3_4 h_S_) main_v15 main_c_3
  let main_v17 : IVec S_ 1 := andi main_v11 main_v16
  fn_part1 (F := F) main_arg3 main_arg4 main_arg5 main_arg6 main_v17
-- ==== Pre_finite_prompt.lean ====
abbrev S12288x3072 : Shape := ⟨2, ![12288, 3072]⟩
abbrev S2x64 : Shape := ⟨2, ![2, 64]⟩
abbrev S2x128 : Shape := ⟨2, ![2, 128]⟩
abbrev S8192x512 : Shape := ⟨2, ![8192, 512]⟩
abbrev S_ : Shape := ⟨0, ![]⟩
abbrev S8192x1536 : Shape := ⟨2, ![8192, 1536]⟩
abbrev S1x64 : Shape := ⟨2, ![1, 64]⟩

class Facts : Prop where
  slices_S12288x3072_S8192x512_0_0 : S12288x3072.Slices ![0, 0] S8192x512
  bitsLt_bf16_f32 : FTy.bits .bf16 < FTy.bits .f32
  bcast_S_S8192x512 : S_.BroadcastsInDim S8192x512 (![] : Fin 0 → Fin S8192x512.rank)
  reducesTo_S8192x512_S_d0_1 : S8192x512.ReducesTo [0, 1] S_
  h_S_ : 0 < S_.numel
  slices_S12288x3072_S8192x1536_0_768 : S12288x3072.Slices ![0, 768] S8192x1536
  bcast_S_S8192x1536 : S_.BroadcastsInDim S8192x1536 (![] : Fin 0 → Fin S8192x1536.rank)
  reducesTo_S8192x1536_S_d0_1 : S8192x1536.ReducesTo [0, 1] S_
  slices_S2x64_S1x64_0_0 : S2x64.Slices ![0, 0] S1x64
  bcast_S_S1x64 : S_.BroadcastsInDim S1x64 (![] : Fin 0 → Fin S1x64.rank)
  reducesTo_S1x64_S_d0_1 : S1x64.ReducesTo [0, 1] S_

variable [Facts]

def fn_part2 {F : FTy → Type} [FloatOps F] (main_v30 : IVec S_ 1) (main_v35 : IVec S_ 1) : IVec S_ 1 :=
  let main_v36 : IVec S_ 1 := andi main_v30 main_v35
  main_v36

def fn_part1 {F : FTy → Type} [FloatOps F] (main_arg2 : FVec F S2x64 .f32) (main_arg3 : FVec F S2x64 .f32) (main_arg4 : FVec F S2x64 .f32) (main_v12 : IVec S_ 1) (main_v17 : IVec S_ 1) : IVec S_ 1 :=
  let main_v18 : IVec S_ 1 := andi main_v12 main_v17
  let main_v19 : FVec F S1x64 .f32 := (extractStridedSlice S1x64 ![0, 0] · slices_S2x64_S1x64_0_0) main_arg2
  let main_v20 : FVec F S1x64 .f32 := Host.absf main_v19
  let main_cst_4 : FVec F S_ .f32 := constant S_ .f32 0x7F800000#32
  let main_v21 : FVec F S1x64 .f32 := broadcastInDim S1x64 ![] bcast_S_S1x64 main_cst_4
  let main_v22 : IVec S1x64 1 := cmpf .olt main_v20 main_v21
  let main_c_5 : IVec S_ 1 := constantI S_ 1 1#1
  let main_v23 : IVec S_ 1 := (fun x v => Host.reduce IntOp.andi x v reducesTo_S1x64_S_d0_1 h_S_) main_v22 main_c_5
  let main_v24 : IVec S_ 1 := andi main_v18 main_v23
  let main_v25 : FVec F S1x64 .f32 := (extractStridedSlice S1x64 ![0, 0] · slices_S2x64_S1x64_0_0) main_arg3
  let main_v26 : FVec F S1x64 .f32 := Host.absf main_v25
  let main_cst_6 : FVec F S_ .f32 := constant S_ .f32 0x7F800000#32
  let main_v27 : FVec F S1x64 .f32 := broadcastInDim S1x64 ![] bcast_S_S1x64 main_cst_6
  let main_v28 : IVec S1x64 1 := cmpf .olt main_v26 main_v27
  let main_c_7 : IVec S_ 1 := constantI S_ 1 1#1
  let main_v29 : IVec S_ 1 := (fun x v => Host.reduce IntOp.andi x v reducesTo_S1x64_S_d0_1 h_S_) main_v28 main_c_7
  let main_v30 : IVec S_ 1 := andi main_v24 main_v29
  let main_v31 : FVec F S1x64 .f32 := (extractStridedSlice S1x64 ![0, 0] · slices_S2x64_S1x64_0_0) main_arg4
  let main_v32 : FVec F S1x64 .f32 := Host.absf main_v31
  let main_cst_8 : FVec F S_ .f32 := constant S_ .f32 0x7F800000#32
  let main_v33 : FVec F S1x64 .f32 := broadcastInDim S1x64 ![] bcast_S_S1x64 main_cst_8
  let main_v34 : IVec S1x64 1 := cmpf .olt main_v32 main_v33
  let main_c_9 : IVec S_ 1 := constantI S_ 1 1#1
  let main_v35 : IVec S_ 1 := (fun x v => Host.reduce IntOp.andi x v reducesTo_S1x64_S_d0_1 h_S_) main_v34 main_c_9
  fn_part2 (F := F) main_v30 main_v35

def fn {F : FTy → Type} [FloatOps F] (main_arg0 : FVec F S12288x3072 .bf16) (main_arg1 : FVec F S2x64 .f32) (main_arg2 : FVec F S2x64 .f32) (main_arg3 : FVec F S2x64 .f32) (main_arg4 : FVec F S2x64 .f32) (main_arg5 : FVec F S2x128 .f32) : IVec S_ 1 :=
  let main_v0 : FVec F S8192x512 .bf16 := (extractStridedSlice S8192x512 ![0, 0] · slices_S12288x3072_S8192x512_0_0) main_arg0
  let main_v1 : FVec F S8192x512 .f32 := (extf .f32 · bitsLt_bf16_f32) main_v0
  let main_v2 : FVec F S8192x512 .f32 := Host.absf main_v1
  let main_cst : FVec F S_ .f32 := constant S_ .f32 0x7F800000#32
  let main_v3 : FVec F S8192x512 .f32 := broadcastInDim S8192x512 ![] bcast_S_S8192x512 main_cst
  let main_v4 : IVec S8192x512 1 := cmpf .olt main_v2 main_v3
  let main_c : IVec S_ 1 := constantI S_ 1 1#1
  let main_v5 : IVec S_ 1 := (fun x v => Host.reduce IntOp.andi x v reducesTo_S8192x512_S_d0_1 h_S_) main_v4 main_c
  let main_v6 : FVec F S8192x1536 .bf16 := (extractStridedSlice S8192x1536 ![0, 768] · slices_S12288x3072_S8192x1536_0_768) main_arg0
  let main_v7 : FVec F S8192x1536 .f32 := (extf .f32 · bitsLt_bf16_f32) main_v6
  let main_v8 : FVec F S8192x1536 .f32 := Host.absf main_v7
  let main_cst_0 : FVec F S_ .f32 := constant S_ .f32 0x7F800000#32
  let main_v9 : FVec F S8192x1536 .f32 := broadcastInDim S8192x1536 ![] bcast_S_S8192x1536 main_cst_0
  let main_v10 : IVec S8192x1536 1 := cmpf .olt main_v8 main_v9
  let main_c_1 : IVec S_ 1 := constantI S_ 1 1#1
  let main_v11 : IVec S_ 1 := (fun x v => Host.reduce IntOp.andi x v reducesTo_S8192x1536_S_d0_1 h_S_) main_v10 main_c_1
  let main_v12 : IVec S_ 1 := andi main_v5 main_v11
  let main_v13 : FVec F S1x64 .f32 := (extractStridedSlice S1x64 ![0, 0] · slices_S2x64_S1x64_0_0) main_arg1
  let main_v14 : FVec F S1x64 .f32 := Host.absf main_v13
  let main_cst_2 : FVec F S_ .f32 := constant S_ .f32 0x7F800000#32
  let main_v15 : FVec F S1x64 .f32 := broadcastInDim S1x64 ![] bcast_S_S1x64 main_cst_2
  let main_v16 : IVec S1x64 1 := cmpf .olt main_v14 main_v15
  let main_c_3 : IVec S_ 1 := constantI S_ 1 1#1
  let main_v17 : IVec S_ 1 := (fun x v => Host.reduce IntOp.andi x v reducesTo_S1x64_S_d0_1 h_S_) main_v16 main_c_3
  fn_part1 (F := F) main_arg2 main_arg3 main_arg4 main_v12 main_v17
-- ==== Pre_tables_ok.lean ====
abbrev S33 : Shape := ⟨1, ![33]⟩
abbrev S1 : Shape := ⟨1, ![1]⟩
abbrev S32768x1024 : Shape := ⟨2, ![32768, 1024]⟩
abbrev S1x8x1024x3584 : Shape := ⟨4, ![1, 8, 1024, 3584]⟩
abbrev S1x8x3584x1024 : Shape := ⟨4, ![1, 8, 3584, 1024]⟩
abbrev S_ : Shape := ⟨0, ![]⟩

class Facts : Prop where
  bcast_S_S33 : S_.BroadcastsInDim S33 (![] : Fin 0 → Fin S33.rank)
  reducesTo_S33_S_d0 : S33.ReducesTo [0] S_
  h_S_ : 0 < S_.numel
  bcast_S_S1 : S_.BroadcastsInDim S1 (![] : Fin 0 → Fin S1.rank)
  reducesTo_S1_S_d0 : S1.ReducesTo [0] S_
  shapeCasts_S1_S_ : S1.ShapeCasts S_

variable [Facts]

def fn_part1 {F : FTy → Type} [FloatOps F] (main_arg1 : IVec S1 32) (main_arg2 : IVec S33 32) (main_v12 : IVec S_ 1) (main_v14 : IVec S33 1) (main_v15 : IVec S33 32) : IVec S_ 1 :=
  let main_v16 : IVec S33 1 := cmpi .eq main_arg2 main_v15
  let main_c_7 : IVec S_ 32 := constantI S_ 32 512#32
  let main_v17 : IVec S33 32 := broadcastInDim S33 ![] bcast_S_S33 main_c_7
  let main_v18 : IVec S33 1 := cmpi .eq main_arg2 main_v17
  let main_v19 : IVec S33 1 := ori main_v16 main_v18
  let main_c_8 : IVec S_ 32 := constantI S_ 32 768#32
  let main_v20 : IVec S33 32 := broadcastInDim S33 ![] bcast_S_S33 main_c_8
  let main_v21 : IVec S33 1 := cmpi .eq main_arg2 main_v20
  let main_v22 : IVec S33 1 := ori main_v19 main_v21
  let main_c_9 : IVec S_ 32 := constantI S_ 32 1024#32
  let main_v23 : IVec S33 32 := broadcastInDim S33 ![] bcast_S_S33 main_c_9
  let main_v24 : IVec S33 1 := cmpi .eq main_arg2 main_v23
  let main_v25 : IVec S33 1 := ori main_v22 main_v24
  let main_v26 : IVec S33 32 := iotaInDim S33 32 0
  let main_v27 : IVec S_ 32 := shapeCast S_ main_arg1 shapeCasts_S1_S_
  let main_v28 : IVec S33 32 := broadcastInDim S33 ![] bcast_S_S33 main_v27
  let main_v29 : IVec S33 1 := cmpi .slt main_v26 main_v28
  let main_v30 : IVec S33 1 := andi main_v25 main_v29
  let main_v31 : IVec S33 1 := ori main_v14 main_v30
  let main_c_10 : IVec S_ 1 := constantI S_ 1 1#1
  let main_v32 : IVec S_ 1 := (fun x v => Host.reduce IntOp.andi x v reducesTo_S33_S_d0 h_S_) main_v31 main_c_10
  let main_v33 : IVec S_ 1 := andi main_v12 main_v32
  main_v33

def fn {F : FTy → Type} [FloatOps F] (main_arg0 : IVec S33 32) (main_arg1 : IVec S1 32) (main_arg2 : IVec S33 32) (main_arg3 : FVec F S32768x1024 .bf16) (main_arg4 : FVec F S1x8x1024x3584 .f32) (main_arg5 : FVec F S1x8x1024x3584 .f32) (main_arg6 : FVec F S1x8x3584x1024 .f32) : IVec S_ 1 :=
  let main_c : IVec S_ 32 := constantI S_ 32 0#32
  let main_v0 : IVec S33 32 := broadcastInDim S33 ![] bcast_S_S33 main_c
  let main_v1 : IVec S33 1 := cmpi .sge main_arg0 main_v0
  let main_c_0 : IVec S_ 32 := constantI S_ 32 8#32
  let main_v2 : IVec S33 32 := broadcastInDim S33 ![] bcast_S_S33 main_c_0
  let main_v3 : IVec S33 1 := cmpi .slt main_arg0 main_v2
  let main_v4 : IVec S33 1 := andi main_v1 main_v3
  let main_c_1 : IVec S_ 1 := constantI S_ 1 1#1
  let main_v5 : IVec S_ 1 := (fun x v => Host.reduce IntOp.andi x v reducesTo_S33_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 32 := constantI S_ 32 32#32
  let main_v8 : IVec S1 32 := broadcastInDim S1 ![] bcast_S_S1 main_c_3
  let main_v9 : IVec S1 1 := cmpi .sle main_arg1 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  let main_v12 : IVec S_ 1 := andi main_v5 main_v11
  let main_c_5 : IVec S_ 32 := constantI S_ 32 0#32
  let main_v13 : IVec S33 32 := broadcastInDim S33 ![] bcast_S_S33 main_c_5
  let main_v14 : IVec S33 1 := cmpi .eq main_arg2 main_v13
  let main_c_6 : IVec S_ 32 := constantI S_ 32 256#32
  let main_v15 : IVec S33 32 := broadcastInDim S33 ![] bcast_S_S33 main_c_6
  fn_part1 (F := F) main_arg1 main_arg2 main_v12 main_v14 main_v15
-- ==== Kernel.lean ====
abbrev S12288x3072 : Shape := ⟨2, ![12288, 3072]⟩
abbrev S2x2x4x2x512x64 : Shape := ⟨6, ![2, 2, 4, 2, 512, 64]⟩
abbrev S2x2x4x512x128 : Shape := ⟨5, ![2, 2, 4, 512, 128]⟩
abbrev S2x64 : Shape := ⟨2, ![2, 64]⟩
abbrev S2x128 : Shape := ⟨2, ![2, 128]⟩
abbrev S1x64 : Shape := ⟨2, ![1, 64]⟩
abbrev S64 : Shape := ⟨1, ![64]⟩
abbrev S1x128 : Shape := ⟨2, ![1, 128]⟩
abbrev S128 : Shape := ⟨1, ![128]⟩
abbrev S2048 : Shape := ⟨1, ![2048]⟩
abbrev S_ : Shape := ⟨0, ![]⟩
abbrev S2048x1 : Shape := ⟨2, ![2048, 1]⟩
abbrev S2048x128 : Shape := ⟨2, ![2048, 128]⟩
abbrev S4096x512 : Shape := ⟨2, ![4096, 512]⟩
abbrev S512x128 : Shape := ⟨2, ![512, 128]⟩
abbrev S1x1x1x2x512x64 : Shape := ⟨6, ![1, 1, 1, 2, 512, 64]⟩
abbrev S1x1x1x512x128 : Shape := ⟨5, ![1, 1, 1, 512, 128]⟩
abbrev S2560x64 : Shape := ⟨2, ![2560, 64]⟩
abbrev S2560x128 : Shape := ⟨2, ![2560, 128]⟩
abbrev S2048x64 : Shape := ⟨2, ![2048, 64]⟩
abbrev S1x1x1x1x512x64 : Shape := ⟨6, ![1, 1, 1, 1, 512, 64]⟩
abbrev S512x64 : Shape := ⟨2, ![512, 64]⟩
abbrev S1 : Shape := ⟨1, ![1]⟩
abbrev S1x1 : Shape := ⟨2, ![1, 1]⟩
abbrev S256x128 : Shape := ⟨2, ![256, 128]⟩
abbrev S256x64 : Shape := ⟨2, ![256, 64]⟩
abbrev S256x2560 : Shape := ⟨2, ![256, 2560]⟩
abbrev S256 : Shape := ⟨1, ![256]⟩
abbrev S256x1 : Shape := ⟨2, ![256, 1]⟩

abbrev nBuf : Space → Nat
  | .hbm => 85
  | .vmem => 23
  | .smem => 0
  | _ => 0

abbrev bufTy : (tb : Table) → Fin (tcTables nBuf tb) → BufTy
  | .hbm, ⟨0, _⟩ => ⟨S12288x3072, .bf16⟩
  | .hbm, ⟨1, _⟩ => ⟨S2x2x4x2x512x64, .f32⟩
  | .hbm, ⟨2, _⟩ => ⟨S2x2x4x512x128, .f32⟩
  | .hbm, ⟨3, _⟩ => ⟨S2x64, .f32⟩
  | .hbm, ⟨4, _⟩ => ⟨S2x64, .f32⟩
  | .hbm, ⟨5, _⟩ => ⟨S2x64, .f32⟩
  | .hbm, ⟨6, _⟩ => ⟨S2x64, .f32⟩
  | .hbm, ⟨7, _⟩ => ⟨S2x128, .f32⟩
  | .hbm, ⟨8, _⟩ => ⟨S1x64, .f32⟩
  | .hbm, ⟨9, _⟩ => ⟨S64, .f32⟩
  | .hbm, ⟨10, _⟩ => ⟨S1x64, .f32⟩
  | .hbm, ⟨11, _⟩ => ⟨S1x64, .f32⟩
  | .hbm, ⟨12, _⟩ => ⟨S64, .f32⟩
  | .hbm, ⟨13, _⟩ => ⟨S1x64, .f32⟩
  | .hbm, ⟨14, _⟩ => ⟨S1x64, .f32⟩
  | .hbm, ⟨15, _⟩ => ⟨S64, .f32⟩
  | .hbm, ⟨16, _⟩ => ⟨S1x64, .f32⟩
  | .hbm, ⟨17, _⟩ => ⟨S1x64, .f32⟩
  | .hbm, ⟨18, _⟩ => ⟨S64, .f32⟩
  | .hbm, ⟨19, _⟩ => ⟨S1x64, .f32⟩
  | .hbm, ⟨20, _⟩ => ⟨S1x128, .f32⟩
  | .hbm, ⟨21, _⟩ => ⟨S128, .f32⟩
  | .hbm, ⟨22, _⟩ => ⟨S1x128, .f32⟩
  | .hbm, ⟨23, _⟩ => ⟨S2048, .i32⟩
  | .hbm, ⟨24, _⟩ => ⟨S128, .i32⟩
  | .hbm, ⟨25, _⟩ => ⟨S_, .i32⟩
  | .hbm, ⟨26, _⟩ => ⟨S128, .i32⟩
  | .hbm, ⟨27, _⟩ => ⟨S128, .i32⟩
  | .hbm, ⟨28, _⟩ => ⟨S1x128, .i32⟩
  | .hbm, ⟨29, _⟩ => ⟨S_, .i32⟩
  | .hbm, ⟨30, _⟩ => ⟨S1x128, .i32⟩
  | .hbm, ⟨31, _⟩ => ⟨S1x128, .i1⟩
  | .hbm, ⟨32, _⟩ => ⟨S_, .i32⟩
  | .hbm, ⟨33, _⟩ => ⟨S2048, .i32⟩
  | .hbm, ⟨34, _⟩ => ⟨S2048, .i32⟩
  | .hbm, ⟨35, _⟩ => ⟨S2048x1, .i32⟩
  | .hbm, ⟨36, _⟩ => ⟨S_, .i32⟩
  | .hbm, ⟨37, _⟩ => ⟨S2048, .i32⟩
  | .hbm, ⟨38, _⟩ => ⟨S2048, .i32⟩
  | .hbm, ⟨39, _⟩ => ⟨S2048x1, .i32⟩
  | .hbm, ⟨40, _⟩ => ⟨S2048x128, .i1⟩
  | .hbm, ⟨41, _⟩ => ⟨S2048x128, .i32⟩
  | .hbm, ⟨42, _⟩ => ⟨S2048x128, .i32⟩
  | .hbm, ⟨43, _⟩ => ⟨S2048x128, .i32⟩
  | .hbm, ⟨44, _⟩ => ⟨S2048x128, .f32⟩
  | .hbm, ⟨45, _⟩ => ⟨S_, .i32⟩
  | .hbm, ⟨46, _⟩ => ⟨S128, .i32⟩
  | .hbm, ⟨47, _⟩ => ⟨S128, .i32⟩
  | .hbm, ⟨48, _⟩ => ⟨S128, .f32⟩
  | .hbm, ⟨49, _⟩ => ⟨S128, .f32⟩
  | .hbm, ⟨50, _⟩ => ⟨S_, .f32⟩
  | .hbm, ⟨51, _⟩ => ⟨S128, .f32⟩
  | .hbm, ⟨52, _⟩ => ⟨S128, .f32⟩
  | .hbm, ⟨53, _⟩ => ⟨S_, .f32⟩
  | .hbm, ⟨54, _⟩ => ⟨S128, .f32⟩
  | .hbm, ⟨55, _⟩ => ⟨S128, .f32⟩
  | .hbm, ⟨56, _⟩ => ⟨S_, .f32⟩
  | .hbm, ⟨57, _⟩ => ⟨S128, .f32⟩
  | .hbm, ⟨58, _⟩ => ⟨S128, .f32⟩
  | .hbm, ⟨59, _⟩ => ⟨S1x128, .f32⟩
  | .hbm, ⟨60, _⟩ => ⟨S2048x128, .f32⟩
  | .hbm, ⟨61, _⟩ => ⟨S2048x128, .f32⟩
  | .hbm, ⟨62, _⟩ => ⟨S_, .i32⟩
  | .hbm, ⟨63, _⟩ => ⟨S128, .i32⟩
  | .hbm, ⟨64, _⟩ => ⟨S128, .i32⟩
  | .hbm, ⟨65, _⟩ => ⟨S_, .i32⟩
  | .hbm, ⟨66, _⟩ => ⟨S128, .i32⟩
  | .hbm, ⟨67, _⟩ => ⟨S128, .i1⟩
  | .hbm, ⟨68, _⟩ => ⟨S2048x128, .f32⟩
  | .hbm, ⟨69, _⟩ => ⟨S1x128, .i1⟩
  | .hbm, ⟨70, _⟩ => ⟨S2048x128, .f32⟩
  | .hbm, ⟨71, _⟩ => ⟨S2048x128, .f32⟩
  | .hbm, ⟨72, _⟩ => ⟨S_, .f32⟩
  | .hbm, ⟨73, _⟩ => ⟨S_, .f32⟩
  | .hbm, ⟨74, _⟩ => ⟨S2048x128, .i1⟩
  | .hbm, ⟨75, _⟩ => ⟨S2048x128, .f32⟩
  | .hbm, ⟨76, _⟩ => ⟨S2048x128, .f32⟩
  | .hbm, ⟨77, _⟩ => ⟨S1x128, .i1⟩
  | .hbm, ⟨78, _⟩ => ⟨S2048x128, .f32⟩
  | .hbm, ⟨79, _⟩ => ⟨S_, .f32⟩
  | .hbm, ⟨80, _⟩ => ⟨S_, .f32⟩
  | .hbm, ⟨81, _⟩ => ⟨S2048x128, .i1⟩
  | .hbm, ⟨82, _⟩ => ⟨S2048x128, .f32⟩
  | .hbm, ⟨83, _⟩ => ⟨S2048x128, .f32⟩
  | .hbm, ⟨84, _⟩ => ⟨S4096x512, .bf16⟩
  | .local _ .vmem, ⟨0, _⟩ => ⟨S512x128, .bf16⟩
  | .local _ .vmem, ⟨1, _⟩ => ⟨S512x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S1x1x1x2x512x64, .f32⟩
  | .local _ .vmem, ⟨7, _⟩ => ⟨S1x1x1x2x512x64, .f32⟩
  | .local _ .vmem, ⟨8, _⟩ => ⟨S1x1x1x512x128, .f32⟩
  | .local _ .vmem, ⟨9, _⟩ => ⟨S1x1x1x512x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S1x64, .f32⟩
  | .local _ .vmem, ⟨17, _⟩ => ⟨S1x128, .f32⟩
  | .local _ .vmem, ⟨18, _⟩ => ⟨S512x128, .bf16⟩
  | .local _ .vmem, ⟨19, _⟩ => ⟨S512x128, .bf16⟩
  | .local _ .vmem, ⟨20, _⟩ => ⟨S2560x64, .bf16⟩
  | .local _ .vmem, ⟨21, _⟩ => ⟨S2560x64, .bf16⟩
  | .local _ .vmem, ⟨22, _⟩ => ⟨S2560x128, .bf16⟩
  | _, _ => ⟨S12288x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_0 : Ref sig .tc := ⟨.hbm, 29, rfl⟩
abbrev main_v20 : Ref sig .tc := ⟨.hbm, 30, rfl⟩
abbrev main_v21 : Ref sig .tc := ⟨.hbm, 31, rfl⟩
abbrev main_c_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v28 : Ref sig .tc := ⟨.hbm, 43, rfl⟩
abbrev main_v29 : Ref sig .tc := ⟨.hbm, 44, rfl⟩
abbrev main_c_3 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst : Ref sig .tc := ⟨.hbm, 50, rfl⟩
abbrev main_v34 : Ref sig .tc := ⟨.hbm, 51, rfl⟩
abbrev main_v35 : Ref sig .tc := ⟨.hbm, 52, rfl⟩
abbrev main_cst_4 : Ref sig .tc := ⟨.hbm, 53, rfl⟩
abbrev main_v36 : Ref sig .tc := ⟨.hbm, 54, rfl⟩
abbrev main_v37 : Ref sig .tc := ⟨.hbm, 55, rfl⟩
abbrev main_cst_5 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_c_6 : Ref sig .tc := ⟨.hbm, 62, rfl⟩
abbrev main_v43 : Ref sig .tc := ⟨.hbm, 63, rfl⟩
abbrev main_v44 : Ref sig .tc := ⟨.hbm, 64, rfl⟩
abbrev main_c_7 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_8 : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_9 : Ref sig .tc := ⟨.hbm, 79, rfl⟩
abbrev main_call2_v0 : Ref sig .tc := ⟨.hbm, 80, rfl⟩
abbrev main_call2_v1 : Ref sig .tc := ⟨.hbm, 81, rfl⟩
abbrev main_call2_v2 : Ref sig .tc := ⟨.hbm, 82, rfl⟩
abbrev main_v54 : Ref sig .tc := ⟨.hbm, 83, rfl⟩
abbrev main_v55 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨3, ![2, 4, 4], ![false, false, false]⟩

def k0_mult1 (i : grid0.Coords) : BitVec 32 :=
  let arg2 : BitVec 32 := BitVec.ofNat 32 (i 2).val
  let c512_i32 : BitVec 32 := 512#32
  let v22 : BitVec 32 := Scalar.muli arg2 c512_i32
  let c0_i32_10 : BitVec 32 := 0#32
  let v23 : BitVec 32 := Scalar.addi v22 c0_i32_10
  v23
def k0_off1 (i : grid0.Coords) (c0_i32_10 : BitVec 32) : Fin 2 → Nat :=
  let arg2 : BitVec 32 := BitVec.ofNat 32 (i 2).val
  let c512_i32 : BitVec 32 := 512#32
  let v22 : BitVec 32 := Scalar.muli arg2 c512_i32
  let v23 : BitVec 32 := Scalar.addi v22 c0_i32_10
  let v24 : BitVec 32 := v23
  let v27 : Index := Scalar.indexCast v24
  let c0_13 : Index := 0#32
  ![v27.toNat, 0]
def k0_mult2 (i : grid0.Coords) : BitVec 32 :=
  let arg2 : BitVec 32 := BitVec.ofNat 32 (i 2).val
  let c512_i32_41 : BitVec 32 := 512#32
  let v101 : BitVec 32 := Scalar.muli arg2 c512_i32_41
  let c256_i32 : BitVec 32 := 256#32
  let v102 : BitVec 32 := Scalar.addi v101 c256_i32
  v102
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c16_i32 : BitVec 32 := 16#32
  let v1 : BitVec 32 := Scalar.addi c16_i32 v0
  let v2 : BitVec 32 := Scalar.addi v1 arg2
  let c6_i32 : BitVec 32 := 6#32
  let v3 : BitVec 32 := Scalar.addi c6_i32 arg1
  let c0_i32 : BitVec 32 := 0#32
  ![v2.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c10_i32 : BitVec 32 := 10#32
  let v1 : BitVec 32 := Scalar.addi c10_i32 arg1
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c14_i32 : BitVec 32 := 14#32
  let v1 : BitVec 32 := Scalar.addi c14_i32 arg1
  let c0_i32 : BitVec 32 := 0#32
  ![v0.toNat, v1.toNat]

def cc0_transform_3 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, arg1.toNat, c0_i32_0.toNat, c0_i32_1.toNat, c0_i32_2.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1x2x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false, false]

abbrev stage0_13 : Fin 2 → Memref sig .tc .vmem S512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]
-- ==== ReferenceIdeal.lean ====
abbrev S12288x3072 : Shape := ⟨2, ![12288, 3072]⟩
abbrev S2x2x4x2x512x64 : Shape := ⟨6, ![2, 2, 4, 2, 512, 64]⟩
abbrev S2x2x4x512x128 : Shape := ⟨5, ![2, 2, 4, 512, 128]⟩
abbrev S2x64 : Shape := ⟨2, ![2, 64]⟩
abbrev S2x128 : Shape := ⟨2, ![2, 128]⟩
abbrev S4096x3072 : Shape := ⟨2, ![4096, 3072]⟩
abbrev S2x2048x3072 : Shape := ⟨3, ![2, 2048, 3072]⟩
abbrev S2x2048x512 : Shape := ⟨3, ![2, 2048, 512]⟩
abbrev S2x2048x4x2x64 : Shape := ⟨5, ![2, 2048, 4, 2, 64]⟩
abbrev S2x4x2x2048x64 : Shape := ⟨5, ![2, 4, 2, 2048, 64]⟩
abbrev S2x2048x4x128 : Shape := ⟨4, ![2, 2048, 4, 128]⟩
abbrev S2x4x2048x128 : Shape := ⟨4, ![2, 4, 2048, 128]⟩
abbrev S1x64 : Shape := ⟨2, ![1, 64]⟩
abbrev S64 : Shape := ⟨1, ![64]⟩
abbrev S_ : Shape := ⟨0, ![]⟩
abbrev S2048 : Shape := ⟨1, ![2048]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S2x4x2x2048x32 : Shape := ⟨5, ![2, 4, 2, 2048, 32]⟩
abbrev S2x4x2x2048x16 : Shape := ⟨5, ![2, 4, 2, 2048, 16]⟩
abbrev S1x1x1x2048x32 : Shape := ⟨5, ![1, 1, 1, 2048, 32]⟩
abbrev S2x1x4x2x512x64 : Shape := ⟨6, ![2, 1, 4, 2, 512, 64]⟩
abbrev S2x4x2x512x64 : Shape := ⟨5, ![2, 4, 2, 512, 64]⟩
abbrev S2x4x2x2560x64 : Shape := ⟨5, ![2, 4, 2, 2560, 64]⟩
abbrev S2x1x4x512x128 : Shape := ⟨5, ![2, 1, 4, 512, 128]⟩
abbrev S2x4x512x128 : Shape := ⟨4, ![2, 4, 512, 128]⟩
abbrev S2x4x2560x128 : Shape := ⟨4, ![2, 4, 2560, 128]⟩
abbrev S2x4x2x2048x2560 : Shape := ⟨5, ![2, 4, 2, 2048, 2560]⟩
abbrev S2x4x2x2048 : Shape := ⟨4, ![2, 4, 2, 2048]⟩
abbrev S2x4x2x2048x1 : Shape := ⟨5, ![2, 4, 2, 2048, 1]⟩
abbrev S2x4x1x2048x2560 : Shape := ⟨5, ![2, 4, 1, 2048, 2560]⟩
abbrev S2x4x2048x2560 : Shape := ⟨4, ![2, 4, 2048, 2560]⟩
abbrev S2x4x2048 : Shape := ⟨3, ![2, 4, 2048]⟩
abbrev S2x4x2048x1 : Shape := ⟨4, ![2, 4, 2048, 1]⟩
abbrev S1x128 : Shape := ⟨2, ![1, 128]⟩
abbrev S128 : Shape := ⟨1, ![128]⟩
abbrev S1x1x1x128 : Shape := ⟨4, ![1, 1, 1, 128]⟩
abbrev S4096x512 : Shape := ⟨2, ![4096, 512]⟩

abbrev nBuf : Space → Nat
  | .hbm => 182
  | .vmem => 0
  | .smem => 0
  | _ => 0

abbrev hbmTy0_0 (i : Nat) : BufTy := match i % 128 with
  | 0 => ⟨S12288x3072, .bf16⟩
  | 1 => ⟨S2x2x4x2x512x64, .f32⟩
  | 2 => ⟨S2x2x4x512x128, .f32⟩
  | 3 => ⟨S2x64, .f32⟩
  | 4 => ⟨S2x64, .f32⟩
  | 5 => ⟨S2x64, .f32⟩
  | 6 => ⟨S2x64, .f32⟩
  | 7 => ⟨S2x128, .f32⟩
  | 8 => ⟨S12288x3072, .f32⟩
  | 9 => ⟨S4096x3072, .f32⟩
  | 10 => ⟨S2x2048x3072, .f32⟩
  | 11 => ⟨S2x2048x512, .f32⟩
  | 12 => ⟨S2x2048x4x2x64, .f32⟩
  | 13 => ⟨S2x4x2x2048x64, .f32⟩
  | 14 => ⟨S2x2048x512, .f32⟩
  | 15 => ⟨S2x2048x4x2x64, .f32⟩
  | 16 => ⟨S2x4x2x2048x64, .f32⟩
  | 17 => ⟨S2x2048x512, .f32⟩
  | 18 => ⟨S2x2048x4x128, .f32⟩
  | 19 => ⟨S2x4x2048x128, .f32⟩
  | 20 => ⟨S1x64, .f32⟩
  | 21 => ⟨S64, .f32⟩
  | 22 => ⟨S1x64, .f32⟩
  | 23 => ⟨S64, .f32⟩
  | 24 => ⟨S64, .f32⟩
  | 25 => ⟨S_, .f32⟩
  | 26 => ⟨S_, .f32⟩
  | 27 => ⟨S_, .f32⟩
  | 28 => ⟨S1x64, .f32⟩
  | 29 => ⟨S64, .f32⟩
  | 30 => ⟨S1x64, .f32⟩
  | 31 => ⟨S64, .f32⟩
  | 32 => ⟨S64, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S2048, .i32⟩
  | 40 => ⟨S16, .i32⟩
  | 41 => ⟨S16, .f32⟩
  | 42 => ⟨S16, .f32⟩
  | 43 => ⟨S_, .f32⟩
  | 44 => ⟨S16, .f32⟩
  | 45 => ⟨S16, .f32⟩
  | 46 => ⟨S_, .f32⟩
  | 47 => ⟨S16, .f32⟩
  | 48 => ⟨S16, .f32⟩
  | 49 => ⟨S_, .f32⟩
  | 50 => ⟨S16, .f32⟩
  | 51 => ⟨S16, .f32⟩
  | 52 => ⟨S_, .i32⟩
  | 53 => ⟨S2048, .i32⟩
  | 54 => ⟨S2048, .i32⟩
  | 55 => ⟨S2048, .f32⟩
  | 56 => ⟨S2048x1, .f32⟩
  | 57 => ⟨S1x16, .f32⟩
  | 58 => ⟨S2048x16, .f32⟩
  | 59 => ⟨S2048x16, .f32⟩
  | 60 => ⟨S2048x16, .f32⟩
  | 61 => ⟨S2048x32, .f32⟩
  | 62 => ⟨S2048x32, .f32⟩
  | 63 => ⟨S2048x32, .f32⟩
  | 64 => ⟨S_, .i32⟩
  | 65 => ⟨S2048, .i32⟩
  | 66 => ⟨S2048, .i32⟩
  | 67 => ⟨S2048, .f32⟩
  | 68 => ⟨S2048x1, .f32⟩
  | 69 => ⟨S1x16, .f32⟩
  | 70 => ⟨S2048x16, .f32⟩
  | 71 => ⟨S2048x16, .f32⟩
  | 72 => ⟨S2048x16, .f32⟩
  | 73 => ⟨S2048x32, .f32⟩
  | 74 => ⟨S2048x32, .f32⟩
  | 75 => ⟨S2048x32, .f32⟩
  | 76 => ⟨S2x4x2x2048x32, .f32⟩
  | 77 => ⟨S2x4x2x2048x16, .f32⟩
  | 78 => ⟨S2x4x2x2048x16, .f32⟩
  | 79 => ⟨S2x4x2x2048x16, .f32⟩
  | 80 => ⟨S2x4x2x2048x32, .f32⟩
  | 81 => ⟨S1x1x1x2048x32, .f32⟩
  | 82 => ⟨S2x4x2x2048x32, .f32⟩
  | 83 => ⟨S2x4x2x2048x32, .f32⟩
  | 84 => ⟨S1x1x1x2048x32, .f32⟩
  | 85 => ⟨S2x4x2x2048x32, .f32⟩
  | 86 => ⟨S2x4x2x2048x32, .f32⟩
  | 87 => ⟨S2x4x2x2048x32, .f32⟩
  | 88 => ⟨S2x4x2x2048x32, .f32⟩
  | 89 => ⟨S2x4x2x2048x16, .f32⟩
  | 90 => ⟨S2x4x2x2048x16, .f32⟩
  | 91 => ⟨S2x4x2x2048x16, .f32⟩
  | 92 => ⟨S2x4x2x2048x32, .f32⟩
  | 93 => ⟨S1x1x1x2048x32, .f32⟩
  | 94 => ⟨S2x4x2x2048x32, .f32⟩
  | 95 => ⟨S2x4x2x2048x32, .f32⟩
  | 96 => ⟨S1x1x1x2048x32, .f32⟩
  | 97 => ⟨S2x4x2x2048x32, .f32⟩
  | 98 => ⟨S2x4x2x2048x32, .f32⟩
  | 99 => ⟨S2x4x2x2048x32, .f32⟩
  | 100 => ⟨S2x4x2x2048x64, .f32⟩
  | 101 => ⟨S2x1x4x2x512x64, .f32⟩
  | 102 => ⟨S2x4x2x512x64, .f32⟩
  | 103 => ⟨S2x4x2x2560x64, .f32⟩
  | 104 => ⟨S2x1x4x512x128, .f32⟩
  | 105 => ⟨S2x4x512x128, .f32⟩
  | 106 => ⟨S2x4x2560x128, .f32⟩
  | 107 => ⟨S2x4x2x2048x32, .f32⟩
  | 108 => ⟨S2x4x2x2048x16, .f32⟩
  | 109 => ⟨S2x4x2x2048x16, .f32⟩
  | 110 => ⟨S2x4x2x2048x16, .f32⟩
  | 111 => ⟨S2x4x2x2048x32, .f32⟩
  | 112 => ⟨S1x1x1x2048x32, .f32⟩
  | 113 => ⟨S2x4x2x2048x32, .f32⟩
  | 114 => ⟨S2x4x2x2048x32, .f32⟩
  | 115 => ⟨S1x1x1x2048x32, .f32⟩
  | 116 => ⟨S2x4x2x2048x32, .f32⟩
  | 117 => ⟨S2x4x2x2048x32, .f32⟩
  | 118 => ⟨S2x4x2x2048x32, .f32⟩
  | 119 => ⟨S2x4x2x2048x32, .f32⟩
  | 120 => ⟨S2x4x2x2048x16, .f32⟩
  | 121 => ⟨S2x4x2x2048x16, .f32⟩
  | 122 => ⟨S2x4x2x2048x16, .f32⟩
  | 123 => ⟨S2x4x2x2048x32, .f32⟩
  | 124 => ⟨S1x1x1x2048x32, .f32⟩
  | 125 => ⟨S2x4x2x2048x32, .f32⟩
  | 126 => ⟨S2x4x2x2048x32, .f32⟩
  | 127 => ⟨S1x1x1x2048x32, .f32⟩
  | _ => ⟨S12288x3072, .bf16⟩

abbrev hbmTy0_1 (i : Nat) : BufTy := match i % 128 with
  | 0 => ⟨S2x4x2x2048x32, .f32⟩
  | 1 => ⟨S2x4x2x2048x32, .f32⟩
  | 2 => ⟨S2x4x2x2048x32, .f32⟩
  | 3 => ⟨S2x4x2x2048x64, .f32⟩
  | 4 => ⟨S2x4x2x2048x2560, .f32⟩
  | 5 => ⟨S_, .f32⟩
  | 6 => ⟨S2x4x2x2048x2560, .f32⟩
  | 7 => ⟨S2x4x2x2048x2560, .f32⟩
  | 8 => ⟨S_, .f32⟩
  | 9 => ⟨S2x4x2x2048, .f32⟩
  | 10 => ⟨S_, .f32⟩
  | 11 => ⟨S2x4x2x2048, .f32⟩
  | 12 => ⟨S2x4x2x2048, .f32⟩
  | 13 => ⟨S2x4x2x2048x1, .f32⟩
  | 14 => ⟨S2x4x2x2048x2560, .f32⟩
  | 15 => ⟨S2x4x2x2048x2560, .f32⟩
  | 16 => ⟨S2x4x2x2048x2560, .f32⟩
  | 17 => ⟨S_, .f32⟩
  | 18 => ⟨S2x4x2x2048, .f32⟩
  | 19 => ⟨S2x4x2x2048x1, .f32⟩
  | 20 => ⟨S2x4x2x2048x2560, .f32⟩
  | 21 => ⟨S2x4x2x2048x2560, .f32⟩
  | 22 => ⟨S2x4x1x2048x2560, .f32⟩
  | 23 => ⟨S2x4x2048x2560, .f32⟩
  | 24 => ⟨S2x4x1x2048x2560, .f32⟩
  | 25 => ⟨S2x4x2048x2560, .f32⟩
  | 26 => ⟨S2x4x2048x2560, .f32⟩
  | 27 => ⟨S2x4x2048x2560, .f32⟩
  | 28 => ⟨S2x4x2048x2560, .f32⟩
  | 29 => ⟨S2x4x2048x128, .f32⟩
  | 30 => ⟨S2x4x2048x128, .f32⟩
  | 31 => ⟨S_, .f32⟩
  | 32 => ⟨S2x4x2048, .f32⟩
  | 33 => ⟨S2x4x2048x1, .f32⟩
  | 34 => ⟨S_, .f32⟩
  | 35 => ⟨S2x4x2048x1, .f32⟩
  | 36 => ⟨S2x4x2048x1, .f32⟩
  | 37 => ⟨S_, .f32⟩
  | 38 => ⟨S2x4x2048x1, .f32⟩
  | 39 => ⟨S2x4x2048x1, .f32⟩
  | 40 => ⟨S2x4x2048x1, .f32⟩
  | 41 => ⟨S2x4x2048x128, .f32⟩
  | 42 => ⟨S2x4x2048x128, .f32⟩
  | 43 => ⟨S1x128, .f32⟩
  | 44 => ⟨S128, .f32⟩
  | 45 => ⟨S1x1x1x128, .f32⟩
  | 46 => ⟨S2x4x2048x128, .f32⟩
  | 47 => ⟨S2x4x2048x128, .f32⟩
  | 48 => ⟨S_, .f32⟩
  | 49 => ⟨S2x4x2048x128, .f32⟩
  | 50 => ⟨S2x4x2048x128, .f32⟩
  | 51 => ⟨S2x2048x4x128, .f32⟩
  | 52 => ⟨S4096x512, .f32⟩
  | 53 => ⟨S4096x512, .bf16⟩
  | _ => ⟨S12288x3072, .bf16⟩

abbrev hbmTy (i : Nat) : BufTy := match i / 128 with
  | 0 => hbmTy0_0 i
  | 1 => hbmTy0_1 i
  | _ => ⟨S12288x3072, .bf16⟩

abbrev bufTy : (tb : Table) → Fin (tcTables nBuf tb) → BufTy
  | .hbm, ⟨i, _⟩ => hbmTy i
  | _, _ => ⟨S12288x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_0 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_1 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_2 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_c : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_c_5 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_cst_6 : Ref sig .tc := ⟨.hbm, 133, rfl⟩
abbrev main_v117 : Ref sig .tc := ⟨.hbm, 134, rfl⟩
abbrev main_v118 : Ref sig .tc := ⟨.hbm, 135, rfl⟩
abbrev main_cst_7 : Ref sig .tc := ⟨.hbm, 136, rfl⟩
abbrev main_v119 : Ref sig .tc := ⟨.hbm, 137, rfl⟩
abbrev main_cst_8 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_cst_9 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_cst_10 : Ref sig .tc := ⟨.hbm, 159, rfl⟩
abbrev main_v139 : Ref sig .tc := ⟨.hbm, 160, rfl⟩
abbrev main_v140 : Ref sig .tc := ⟨.hbm, 161, rfl⟩
abbrev main_cst_11 : Ref sig .tc := ⟨.hbm, 162, rfl⟩
abbrev main_v141 : Ref sig .tc := ⟨.hbm, 163, rfl⟩
abbrev main_v142 : Ref sig .tc := ⟨.hbm, 164, rfl⟩
abbrev main_cst_12 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_cst_13 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩

abbrev nD : Nat := 1
abbrev τ : Topo := Topo.v7x

variable {F : FTy → Type} [FloatOps F]
-- ==== Kernel2.lean ====
abbrev S12288x1024 : Shape := ⟨2, ![12288, 1024]⟩
abbrev S2x1024 : Shape := ⟨2, ![2, 1024]⟩
abbrev S2x8x6144 : Shape := ⟨3, ![2, 8, 6144]⟩
abbrev S1x1024x2816 : Shape := ⟨3, ![1, 1024, 2816]⟩
abbrev S1x2816x1024 : Shape := ⟨3, ![1, 2816, 1024]⟩
abbrev S1x8x6144 : Shape := ⟨3, ![1, 8, 6144]⟩
abbrev S8x6144 : Shape := ⟨2, ![8, 6144]⟩
abbrev S8x6x1024 : Shape := ⟨3, ![8, 6, 1024]⟩
abbrev S6x8x1024 : Shape := ⟨3, ![6, 8, 1024]⟩
abbrev S6x8x1x1024 : Shape := ⟨4, ![6, 8, 1, 1024]⟩
abbrev S1x1024 : Shape := ⟨2, ![1, 1024]⟩
abbrev S1024 : Shape := ⟨1, ![1024]⟩
abbrev S2048x1024 : Shape := ⟨2, ![2048, 1024]⟩
abbrev S1x1x1x1024 : Shape := ⟨4, ![1, 1, 1, 1024]⟩
abbrev S1x1024x256 : Shape := ⟨3, ![1, 1024, 256]⟩
abbrev S1x256x1024 : Shape := ⟨3, ![1, 256, 1024]⟩
abbrev S2048 : Shape := ⟨1, ![2048]⟩
abbrev S2048x1 : Shape := ⟨2, ![2048, 1]⟩
abbrev S1024x256 : Shape := ⟨2, ![1024, 256]⟩
abbrev S256x1024 : Shape := ⟨2, ![256, 1024]⟩
abbrev S1024x1024 : Shape := ⟨2, ![1024, 1024]⟩

abbrev nBuf : Space → Nat
  | .hbm => 15
  | .vmem => 18
  | .smem => 0
  | _ => 0

abbrev bufTy : (tb : Table) → Fin (tcTables nBuf tb) → BufTy
  | .hbm, ⟨0, _⟩ => ⟨S12288x1024, .f32⟩
  | .hbm, ⟨1, _⟩ => ⟨S2x1024, .f32⟩
  | .hbm, ⟨2, _⟩ => ⟨S2x8x6144, .f32⟩
  | .hbm, ⟨3, _⟩ => ⟨S1x1024x2816, .f32⟩
  | .hbm, ⟨4, _⟩ => ⟨S1x1024x2816, .f32⟩
  | .hbm, ⟨5, _⟩ => ⟨S1x2816x1024, .f32⟩
  | .hbm, ⟨6, _⟩ => ⟨S1x8x6144, .f32⟩
  | .hbm, ⟨7, _⟩ => ⟨S8x6144, .f32⟩
  | .hbm, ⟨8, _⟩ => ⟨S8x6x1024, .f32⟩
  | .hbm, ⟨9, _⟩ => ⟨S6x8x1024, .f32⟩
  | .hbm, ⟨10, _⟩ => ⟨S6x8x1x1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S12288x1024, .f32⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S1x1x1x1024, .f32⟩
  | .local _ .vmem, ⟨9, _⟩ => ⟨S1x1024x256, .f32⟩
  | .local _ .vmem, ⟨10, _⟩ => ⟨S1x1024x256, .f32⟩
  | .local _ .vmem, ⟨11, _⟩ => ⟨S1x1024x256, .f32⟩
  | .local _ .vmem, ⟨12, _⟩ => ⟨S1x1024x256, .f32⟩
  | .local _ .vmem, ⟨13, _⟩ => ⟨S1x256x1024, .f32⟩
  | .local _ .vmem, ⟨14, _⟩ => ⟨S1x256x1024, .f32⟩
  | .local _ .vmem, ⟨15, _⟩ => ⟨S2048x1024, .f32⟩
  | .local _ .vmem, ⟨16, _⟩ => ⟨S2048x1024, .f32⟩
  | .local _ .vmem, ⟨17, _⟩ => ⟨S2048x1024, .bf16⟩
  | _, _ => ⟨S12288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![6, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c2048_i32 : BitVec 32 := 2048#32
  let v0 : BitVec 32 := Scalar.muli arg0 c2048_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c2048_i32_1 : BitVec 32 := 2048#32
  let v3 : BitVec 32 := Scalar.divsi v2 c2048_i32_1
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c2048_i32_1 c0_i32_3
  let v10 : BitVec 32 := Scalar.extui v9
  let c0_i32_4 : BitVec 32 := 0#32
  let v11 : BitVec 1 := Scalar.cmpi .slt c2048_i32_1 c0_i32_4
  let v12 : BitVec 32 := Scalar.extui v11
  let v13 : BitVec 32 := Scalar.subi v10 v12
  let v14 : BitVec 1 := Scalar.cmpi .ne v8 v13
  let v15 : BitVec 32 := Scalar.remsi v2 c2048_i32_1
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c1_i32_6 : BitVec 32 := 1#32
  let v20 : BitVec 32 := Scalar.addi c1_i32_6 v19
  let c0_i32_7 : BitVec 32 := 0#32
  let v21 : BitVec 32 := Scalar.select v1 c0_i32_7 v20
  let c4_i32 : BitVec 32 := 4#32
  let c0_i32_8 : BitVec 32 := 0#32
  let c0_i32_9 : BitVec 32 := 0#32
  let c0_i32_10 : BitVec 32 := 0#32
  ![c4_i32.toNat, v21.toNat, c0_i32_8.toNat, c0_i32_9.toNat]

def cc0_transform_3 (i : grid0.Coords) : Fin 4 → Nat :=
  let arg0 : BitVec 32 := BitVec.ofNat 32 (i 0).val
  let arg1 : BitVec 32 := BitVec.ofNat 32 (i 1).val
  let c2048_i32 : BitVec 32 := 2048#32
  let v0 : BitVec 32 := Scalar.muli arg0 c2048_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c2048_i32_1 : BitVec 32 := 2048#32
  let v3 : BitVec 32 := Scalar.divsi v2 c2048_i32_1
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c2048_i32_1 c0_i32_3
  let v10 : BitVec 32 := Scalar.extui v9
  let c0_i32_4 : BitVec 32 := 0#32
  let v11 : BitVec 1 := Scalar.cmpi .slt c2048_i32_1 c0_i32_4
  let v12 : BitVec 32 := Scalar.extui v11
  let v13 : BitVec 32 := Scalar.subi v10 v12
  let v14 : BitVec 1 := Scalar.cmpi .ne v8 v13
  let v15 : BitVec 32 := Scalar.remsi v2 c2048_i32_1
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c1_i32_6 : BitVec 32 := 1#32
  let v20 : BitVec 32 := Scalar.addi c1_i32_6 v19
  let c0_i32_7 : BitVec 32 := 0#32
  let v21 : BitVec 32 := Scalar.select v1 c0_i32_7 v20
  let c3_i32 : BitVec 32 := 3#32
  let c0_i32_8 : BitVec 32 := 0#32
  let c0_i32_9 : BitVec 32 := 0#32
  let c0_i32_10 : BitVec 32 := 0#32
  ![c3_i32.toNat, v21.toNat, c0_i32_8.toNat, c0_i32_9.toNat]

def cc0_transform_4 (i : grid0.Coords) : Fin 4 → Nat :=
  let arg0 : BitVec 32 := BitVec.ofNat 32 (i 0).val
  let arg1 : BitVec 32 := BitVec.ofNat 32 (i 1).val
  let c2048_i32 : BitVec 32 := 2048#32
  let v0 : BitVec 32 := Scalar.muli arg0 c2048_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c2048_i32_1 : BitVec 32 := 2048#32
  let v3 : BitVec 32 := Scalar.divsi v2 c2048_i32_1
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c2048_i32_1 c0_i32_3
  let v10 : BitVec 32 := Scalar.extui v9
  let c0_i32_4 : BitVec 32 := 0#32
  let v11 : BitVec 1 := Scalar.cmpi .slt c2048_i32_1 c0_i32_4
  let v12 : BitVec 32 := Scalar.extui v11
  let v13 : BitVec 32 := Scalar.subi v10 v12
  let v14 : BitVec 1 := Scalar.cmpi .ne v8 v13
  let v15 : BitVec 32 := Scalar.remsi v2 c2048_i32_1
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c1_i32_6 : BitVec 32 := 1#32
  let v20 : BitVec 32 := Scalar.addi c1_i32_6 v19
  let c0_i32_7 : BitVec 32 := 0#32
  let v21 : BitVec 32 := Scalar.select v1 c0_i32_7 v20
  let c5_i32 : BitVec 32 := 5#32
  let c0_i32_8 : BitVec 32 := 0#32
  let c0_i32_9 : BitVec 32 := 0#32
  let c0_i32_10 : BitVec 32 := 0#32
  ![c5_i32.toNat, v21.toNat, c0_i32_8.toNat, c0_i32_9.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S2048x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference2Ideal.lean ====
abbrev S12288x1024 : Shape := ⟨2, ![12288, 1024]⟩
abbrev S2x1024 : Shape := ⟨2, ![2, 1024]⟩
abbrev S2x8x6144 : Shape := ⟨3, ![2, 8, 6144]⟩
abbrev S1x1024x2816 : Shape := ⟨3, ![1, 1024, 2816]⟩
abbrev S1x2816x1024 : Shape := ⟨3, ![1, 2816, 1024]⟩
abbrev S8192x1024 : Shape := ⟨2, ![8192, 1024]⟩
abbrev S1x1x6144 : Shape := ⟨3, ![1, 1, 6144]⟩
abbrev S6144 : Shape := ⟨1, ![6144]⟩
abbrev S1x6144 : Shape := ⟨2, ![1, 6144]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x2816 : Shape := ⟨2, ![1024, 2816]⟩
abbrev S2816x1024 : Shape := ⟨2, ![2816, 1024]⟩
abbrev S8192x2816 : Shape := ⟨2, ![8192, 2816]⟩
abbrev S4096x1024 : Shape := ⟨2, ![4096, 1024]⟩
abbrev S2x2048x1024 : Shape := ⟨3, ![2, 2048, 1024]⟩
abbrev S1x2x6144 : Shape := ⟨3, ![1, 2, 6144]⟩
abbrev S2x6144 : Shape := ⟨2, ![2, 6144]⟩
abbrev S2x1x6144 : Shape := ⟨3, ![2, 1, 6144]⟩
abbrev S2x1x1024 : Shape := ⟨3, ![2, 1, 1024]⟩
abbrev S2x2048 : Shape := ⟨2, ![2, 2048]⟩
abbrev S2x2048x1 : Shape := ⟨3, ![2, 2048, 1]⟩
abbrev S1x1x1024 : Shape := ⟨3, ![1, 1, 1024]⟩
abbrev S2x2048x2816 : Shape := ⟨3, ![2, 2048, 2816]⟩

abbrev nBuf : Space → Nat
  | .hbm => 117
  | .vmem => 0
  | .smem => 0
  | _ => 0

abbrev bufTy : (tb : Table) → Fin (tcTables nBuf tb) → BufTy
  | .hbm, ⟨0, _⟩ => ⟨S12288x1024, .f32⟩
  | .hbm, ⟨1, _⟩ => ⟨S2x1024, .f32⟩
  | .hbm, ⟨2, _⟩ => ⟨S2x8x6144, .f32⟩
  | .hbm, ⟨3, _⟩ => ⟨S1x1024x2816, .f32⟩
  | .hbm, ⟨4, _⟩ => ⟨S1x1024x2816, .f32⟩
  | .hbm, ⟨5, _⟩ => ⟨S1x2816x1024, .f32⟩
  | .hbm, ⟨6, _⟩ => ⟨S8192x1024, .f32⟩
  | .hbm, ⟨7, _⟩ => ⟨S1x1x6144, .f32⟩
  | .hbm, ⟨8, _⟩ => ⟨S6144, .f32⟩
  | .hbm, ⟨9, _⟩ => ⟨S1x6144, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1024, .f32⟩
  | .hbm, ⟨18, _⟩ => ⟨S8192x1024, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S1024x2816, .f32⟩
  | .hbm, ⟨42, _⟩ => ⟨S1024x2816, .f32⟩
  | .hbm, ⟨43, _⟩ => ⟨S2816x1024, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S_, .f32⟩
  | .hbm, ⟨48, _⟩ => ⟨S8192x2816, .f32⟩
  | .hbm, ⟨49, _⟩ => ⟨S8192x2816, .f32⟩
  | .hbm, ⟨50, _⟩ => ⟨S_, .f32⟩
  | .hbm, ⟨51, _⟩ => ⟨S8192x2816, .f32⟩
  | .hbm, ⟨52, _⟩ => ⟨S8192x2816, .f32⟩
  | .hbm, ⟨53, _⟩ => ⟨S8192x2816, .f32⟩
  | .hbm, ⟨54, _⟩ => ⟨S8192x2816, .f32⟩
  | .hbm, ⟨55, _⟩ => ⟨S8192x2816, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S4096x1024, .f32⟩
  | .hbm, ⟨61, _⟩ => ⟨S2x2048x1024, .f32⟩
  | .hbm, ⟨62, _⟩ => ⟨S1x2x6144, .f32⟩
  | .hbm, ⟨63, _⟩ => ⟨S2x6144, .f32⟩
  | .hbm, ⟨64, _⟩ => ⟨S2x1x6144, .f32⟩
  | .hbm, ⟨65, _⟩ => ⟨S2x1x1024, .f32⟩
  | .hbm, ⟨66, _⟩ => ⟨S2x1x1024, .f32⟩
  | .hbm, ⟨67, _⟩ => ⟨S2x1x1024, .f32⟩
  | .hbm, ⟨68, _⟩ => ⟨S2x1x1024, .f32⟩
  | .hbm, ⟨69, _⟩ => ⟨S2x1x1024, .f32⟩
  | .hbm, ⟨70, _⟩ => ⟨S2x1x1024, .f32⟩
  | .hbm, ⟨71, _⟩ => ⟨S1x1024, .f32⟩
  | .hbm, ⟨72, _⟩ => ⟨S1024, .f32⟩
  | .hbm, ⟨73, _⟩ => ⟨S2x2048x1024, .f32⟩
  | .hbm, ⟨74, _⟩ => ⟨S_, .f32⟩
  | .hbm, ⟨75, _⟩ => ⟨S2x2048, .f32⟩
  | .hbm, ⟨76, _⟩ => ⟨S2x2048x1, .f32⟩
  | .hbm, ⟨77, _⟩ => ⟨S_, .f32⟩
  | .hbm, ⟨78, _⟩ => ⟨S2x2048x1, .f32⟩
  | .hbm, ⟨79, _⟩ => ⟨S2x2048x1, .f32⟩
  | .hbm, ⟨80, _⟩ => ⟨S_, .f32⟩
  | .hbm, ⟨81, _⟩ => ⟨S2x2048x1, .f32⟩
  | .hbm, ⟨82, _⟩ => ⟨S2x2048x1, .f32⟩
  | .hbm, ⟨83, _⟩ => ⟨S2x2048x1, .f32⟩
  | .hbm, ⟨84, _⟩ => ⟨S2x2048x1024, .f32⟩
  | .hbm, ⟨85, _⟩ => ⟨S2x2048x1024, .f32⟩
  | .hbm, ⟨86, _⟩ => ⟨S1x1x1024, .f32⟩
  | .hbm, ⟨87, _⟩ => ⟨S2x2048x1024, .f32⟩
  | .hbm, ⟨88, _⟩ => ⟨S2x2048x1024, .f32⟩
  | .hbm, ⟨89, _⟩ => ⟨S_, .f32⟩
  | .hbm, ⟨90, _⟩ => ⟨S2x1x1024, .f32⟩
  | .hbm, ⟨91, _⟩ => ⟨S2x1x1024, .f32⟩
  | .hbm, ⟨92, _⟩ => ⟨S2x2048x1024, .f32⟩
  | .hbm, ⟨93, _⟩ => ⟨S2x2048x1024, .f32⟩
  | .hbm, ⟨94, _⟩ => ⟨S2x2048x1024, .f32⟩
  | .hbm, ⟨95, _⟩ => ⟨S2x2048x1024, .f32⟩
  | .hbm, ⟨96, _⟩ => ⟨S1024x2816, .f32⟩
  | .hbm, ⟨97, _⟩ => ⟨S1024x2816, .f32⟩
  | .hbm, ⟨98, _⟩ => ⟨S2816x1024, .f32⟩
  | .hbm, ⟨99, _⟩ => ⟨S2x2048x2816, .f32⟩
  | .hbm, ⟨100, _⟩ => ⟨S2x2048x2816, .f32⟩
  | .hbm, ⟨101, _⟩ => ⟨S2x2048x2816, .f32⟩
  | .hbm, ⟨102, _⟩ => ⟨S_, .f32⟩
  | .hbm, ⟨103, _⟩ => ⟨S2x2048x2816, .f32⟩
  | .hbm, ⟨104, _⟩ => ⟨S2x2048x2816, .f32⟩
  | .hbm, ⟨105, _⟩ => ⟨S_, .f32⟩
  | .hbm, ⟨106, _⟩ => ⟨S2x2048x2816, .f32⟩
  | .hbm, ⟨107, _⟩ => ⟨S2x2048x2816, .f32⟩
  | .hbm, ⟨108, _⟩ => ⟨S2x2048x2816, .f32⟩
  | .hbm, ⟨109, _⟩ => ⟨S2x2048x2816, .f32⟩
  | .hbm, ⟨110, _⟩ => ⟨S2x2048x2816, .f32⟩
  | .hbm, ⟨111, _⟩ => ⟨S2x2048x1024, .f32⟩
  | .hbm, ⟨112, _⟩ => ⟨S2x2048x1024, .f32⟩
  | .hbm, ⟨113, _⟩ => ⟨S2x2048x1024, .f32⟩
  | .hbm, ⟨114, _⟩ => ⟨S2x2048x1024, .f32⟩
  | .hbm, ⟨115, _⟩ => ⟨S4096x1024, .f32⟩
  | .hbm, ⟨116, _⟩ => ⟨S12288x1024, .f32⟩
  | _, _ => ⟨S12288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_3 : Ref sig .tc := ⟨.hbm, 74, rfl⟩
abbrev main_v56 : Ref sig .tc := ⟨.hbm, 75, rfl⟩
abbrev main_v57 : Ref sig .tc := ⟨.hbm, 76, rfl⟩
abbrev main_cst_4 : Ref sig .tc := ⟨.hbm, 77, rfl⟩
abbrev main_v58 : Ref sig .tc := ⟨.hbm, 78, rfl⟩
abbrev main_v59 : Ref sig .tc := ⟨.hbm, 79, rfl⟩
abbrev main_cst_5 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_6 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_call1_v0 : Ref sig .tc := ⟨.hbm, 100, rfl⟩
abbrev main_call1_v1 : Ref sig .tc := ⟨.hbm, 101, rfl⟩
abbrev main_call1_cst : Ref sig .tc := ⟨.hbm, 102, rfl⟩
abbrev main_call1_v2 : Ref sig .tc := ⟨.hbm, 103, rfl⟩
abbrev main_call1_v3 : Ref sig .tc := ⟨.hbm, 104, rfl⟩
abbrev main_call1_cst_0 : Ref sig .tc := ⟨.hbm, 105, rfl⟩
abbrev main_call1_v4 : Ref sig .tc := ⟨.hbm, 106, rfl⟩
abbrev main_call1_v5 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩

abbrev nD : Nat := 1
abbrev τ : Topo := Topo.v7x

variable {F : FTy → Type} [FloatOps F]
-- ==== Kernel3.lean ====
abbrev S33 : Shape := ⟨1, ![33]⟩
abbrev S1 : Shape := ⟨1, ![1]⟩
abbrev S32768x1024 : Shape := ⟨2, ![32768, 1024]⟩
abbrev S1x8x1024x3584 : Shape := ⟨4, ![1, 8, 1024, 3584]⟩
abbrev S1x8x3584x1024 : Shape := ⟨4, ![1, 8, 3584, 1024]⟩
abbrev S33792x1024 : Shape := ⟨2, ![33792, 1024]⟩
abbrev S1024x1024 : Shape := ⟨2, ![1024, 1024]⟩
abbrev S1x1x1024x512 : Shape := ⟨4, ![1, 1, 1024, 512]⟩
abbrev S1x1x512x1024 : Shape := ⟨4, ![1, 1, 512, 1024]⟩
abbrev S256x1024 : Shape := ⟨2, ![256, 1024]⟩
abbrev S1024x512 : Shape := ⟨2, ![1024, 512]⟩
abbrev S256x512 : Shape := ⟨2, ![256, 512]⟩
abbrev S512x1024 : Shape := ⟨2, ![512, 1024]⟩
abbrev S512x512 : Shape := ⟨2, ![512, 512]⟩
abbrev S768x1024 : Shape := ⟨2, ![768, 1024]⟩
abbrev S768x512 : Shape := ⟨2, ![768, 512]⟩

abbrev nBuf : Space → Nat
  | .hbm => 5
  | .vmem => 11
  | .smem => 3
  | _ => 0

abbrev bufTy : (tb : Table) → Fin (tcTables nBuf tb) → BufTy
  | .hbm, ⟨0, _⟩ => ⟨S32768x1024, .bf16⟩
  | .hbm, ⟨1, _⟩ => ⟨S1x8x1024x3584, .f32⟩
  | .hbm, ⟨2, _⟩ => ⟨S1x8x1024x3584, .f32⟩
  | .hbm, ⟨3, _⟩ => ⟨S1x8x3584x1024, .f32⟩
  | .hbm, ⟨4, _⟩ => ⟨S33792x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .smem, ⟨0, _⟩ => ⟨S33, .i32⟩
  | .local _ .smem, ⟨1, _⟩ => ⟨S1, .i32⟩
  | .local _ .smem, ⟨2, _⟩ => ⟨S33, .i32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![33, 7], ![false, false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond6 (i : grid0.Coords) : BitVec 1 :=
  let arg1 : BitVec 32 := BitVec.ofNat 32 (i 1).val
  let c6_i32 : BitVec 32 := 6#32
  let v17 : BitVec 1 := Scalar.cmpi .eq arg1 c6_i32
  let v18 : BitVec 32 := Scalar.extui v17
  let c0_i32_5 : BitVec 32 := 0#32
  let v19 : BitVec 1 := Scalar.cmpi .ne v18 c0_i32_5
  v19

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S33.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S33) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  let c0_i32_1 : BitVec 32 := 0#32
  ![c0_i32.toNat, v1.toNat, c0_i32_0.toNat, v4.toNat]

def cc0_transform_2 (k0_off1_inb : ∀ i : grid0.Coords, ∀ a, (k0_off1 i) a + S1.size a ≤ S33.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S33) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  let c0_i32_1 : BitVec 32 := 0#32
  ![c0_i32.toNat, v1.toNat, c0_i32_0.toNat, v4.toNat]

def cc0_transform_3 (k0_off1_inb : ∀ i : grid0.Coords, ∀ a, (k0_off1 i) a + S1.size a ≤ S33.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S33) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  let c0_i32_1 : BitVec 32 := 0#32
  ![c0_i32.toNat, v1.toNat, v4.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference3Ideal.lean ====
abbrev S33 : Shape := ⟨1, ![33]⟩
abbrev S1 : Shape := ⟨1, ![1]⟩
abbrev S32768x1024 : Shape := ⟨2, ![32768, 1024]⟩
abbrev S1x8x1024x3584 : Shape := ⟨4, ![1, 8, 1024, 3584]⟩
abbrev S1x8x3584x1024 : Shape := ⟨4, ![1, 8, 3584, 1024]⟩
abbrev S32768 : Shape := ⟨1, ![32768]⟩
abbrev S_ : Shape := ⟨0, ![]⟩
abbrev S32 : Shape := ⟨1, ![32]⟩
abbrev S32x1 : Shape := ⟨2, ![32, 1]⟩
abbrev S32x1024 : Shape := ⟨2, ![32, 1024]⟩
abbrev S32768x1 : Shape := ⟨2, ![32768, 1]⟩
abbrev S8 : Shape := ⟨1, ![8]⟩
abbrev S1x8 : Shape := ⟨2, ![1, 8]⟩
abbrev S32768x8 : Shape := ⟨2, ![32768, 8]⟩
abbrev S8x1024x3584 : Shape := ⟨3, ![8, 1024, 3584]⟩
abbrev S32768x8x3584 : Shape := ⟨3, ![32768, 8, 3584]⟩
abbrev S8x3584x1024 : Shape := ⟨3, ![8, 3584, 1024]⟩
abbrev S8x32768x1024 : Shape := ⟨3, ![8, 32768, 1024]⟩
abbrev S8x32768 : Shape := ⟨2, ![8, 32768]⟩
abbrev S8x32768x1 : Shape := ⟨3, ![8, 32768, 1]⟩
abbrev S1024x1024 : Shape := ⟨2, ![1024, 1024]⟩
abbrev S33792x1024 : Shape := ⟨2, ![33792, 1024]⟩

abbrev nBuf : Space → Nat
  | .hbm => 62
  | .vmem => 0
  | .smem => 0
  | _ => 0

abbrev bufTy : (tb : Table) → Fin (tcTables nBuf tb) → BufTy
  | .hbm, ⟨0, _⟩ => ⟨S33, .i32⟩
  | .hbm, ⟨1, _⟩ => ⟨S1, .i32⟩
  | .hbm, ⟨2, _⟩ => ⟨S33, .i32⟩
  | .hbm, ⟨3, _⟩ => ⟨S32768x1024, .bf16⟩
  | .hbm, ⟨4, _⟩ => ⟨S1x8x1024x3584, .f32⟩
  | .hbm, ⟨5, _⟩ => ⟨S1x8x1024x3584, .f32⟩
  | .hbm, ⟨6, _⟩ => ⟨S1x8x3584x1024, .f32⟩
  | .hbm, ⟨7, _⟩ => ⟨S32768, .i32⟩
  | .hbm, ⟨8, _⟩ => ⟨S_, .i32⟩
  | .hbm, ⟨9, _⟩ => ⟨S32768, .i32⟩
  | .hbm, ⟨10, _⟩ => ⟨S32768, .i32⟩
  | .hbm, ⟨11, _⟩ => ⟨S32, .i32⟩
  | .hbm, ⟨12, _⟩ => ⟨S32x1, .i32⟩
  | .hbm, ⟨13, _⟩ => ⟨S32x1024, .i32⟩
  | .hbm, ⟨14, _⟩ => ⟨S32768, .i32⟩
  | .hbm, ⟨15, _⟩ => ⟨S32768, .i1⟩
  | .hbm, ⟨16, _⟩ => ⟨S32, .i32⟩
  | .hbm, ⟨17, _⟩ => ⟨S32x1, .i32⟩
  | .hbm, ⟨18, _⟩ => ⟨S32x1024, .i32⟩
  | .hbm, ⟨19, _⟩ => ⟨S32768, .i32⟩
  | .hbm, ⟨20, _⟩ => ⟨S32768x1, .i32⟩
  | .hbm, ⟨21, _⟩ => ⟨S8, .i32⟩
  | .hbm, ⟨22, _⟩ => ⟨S1x8, .i32⟩
  | .hbm, ⟨23, _⟩ => ⟨S32768x8, .i32⟩
  | .hbm, ⟨24, _⟩ => ⟨S32768x8, .i32⟩
  | .hbm, ⟨25, _⟩ => ⟨S32768x8, .i1⟩
  | .hbm, ⟨26, _⟩ => ⟨S32768x1, .i1⟩
  | .hbm, ⟨27, _⟩ => ⟨S32768x8, .i1⟩
  | .hbm, ⟨28, _⟩ => ⟨S32768x8, .i1⟩
  | .hbm, ⟨29, _⟩ => ⟨S_, .f32⟩
  | .hbm, ⟨30, _⟩ => ⟨S_, .f32⟩
  | .hbm, ⟨31, _⟩ => ⟨S32768x8, .f32⟩
  | .hbm, ⟨32, _⟩ => ⟨S32768x8, .f32⟩
  | .hbm, ⟨33, _⟩ => ⟨S32768x8, .f32⟩
  | .hbm, ⟨34, _⟩ => ⟨S32768x1024, .f32⟩
  | .hbm, ⟨35, _⟩ => ⟨S8x1024x3584, .f32⟩
  | .hbm, ⟨36, _⟩ => ⟨S32768x8x3584, .f32⟩
  | .hbm, ⟨37, _⟩ => ⟨S32768x8x3584, .f32⟩
  | .hbm, ⟨38, _⟩ => ⟨S32768x8x3584, .f32⟩
  | .hbm, ⟨39, _⟩ => ⟨S_, .f32⟩
  | .hbm, ⟨40, _⟩ => ⟨S32768x8x3584, .f32⟩
  | .hbm, ⟨41, _⟩ => ⟨S32768x8x3584, .f32⟩
  | .hbm, ⟨42, _⟩ => ⟨S_, .f32⟩
  | .hbm, ⟨43, _⟩ => ⟨S32768x8x3584, .f32⟩
  | .hbm, ⟨44, _⟩ => ⟨S32768x8x3584, .f32⟩
  | .hbm, ⟨45, _⟩ => ⟨S32768x8x3584, .f32⟩
  | .hbm, ⟨46, _⟩ => ⟨S8x1024x3584, .f32⟩
  | .hbm, ⟨47, _⟩ => ⟨S32768x8x3584, .f32⟩
  | .hbm, ⟨48, _⟩ => ⟨S32768x8x3584, .f32⟩
  | .hbm, ⟨49, _⟩ => ⟨S8x3584x1024, .f32⟩
  | .hbm, ⟨50, _⟩ => ⟨S8x32768x1024, .f32⟩
  | .hbm, ⟨51, _⟩ => ⟨S8x32768, .f32⟩
  | .hbm, ⟨52, _⟩ => ⟨S8x32768x1, .f32⟩
  | .hbm, ⟨53, _⟩ => ⟨S8x32768x1, .f32⟩
  | .hbm, ⟨54, _⟩ => ⟨S8x32768x1024, .f32⟩
  | .hbm, ⟨55, _⟩ => ⟨S8x32768x1024, .f32⟩
  | .hbm, ⟨56, _⟩ => ⟨S_, .f32⟩
  | .hbm, ⟨57, _⟩ => ⟨S32768x1024, .f32⟩
  | .hbm, ⟨58, _⟩ => ⟨S32768x1024, .bf16⟩
  | .hbm, ⟨59, _⟩ => ⟨S_, .bf16⟩
  | .hbm, ⟨60, _⟩ => ⟨S1024x1024, .bf16⟩
  | .hbm, ⟨61, _⟩ => ⟨S33792x1024, .bf16⟩
  | _, _ => ⟨S33, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_cst_0 : Ref sig .tc := ⟨.hbm, 30, rfl⟩
abbrev main_call0_v0 : Ref sig .tc := ⟨.hbm, 31, rfl⟩
abbrev main_call0_v1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_call1_v0 : Ref sig .tc := ⟨.hbm, 37, rfl⟩
abbrev main_call1_v1 : Ref sig .tc := ⟨.hbm, 38, rfl⟩
abbrev main_call1_cst : Ref sig .tc := ⟨.hbm, 39, rfl⟩
abbrev main_call1_v2 : Ref sig .tc := ⟨.hbm, 40, rfl⟩
abbrev main_call1_v3 : Ref sig .tc := ⟨.hbm, 41, rfl⟩
abbrev main_call1_cst_0 : Ref sig .tc := ⟨.hbm, 42, rfl⟩
abbrev main_call1_v4 : Ref sig .tc := ⟨.hbm, 43, rfl⟩
abbrev main_call1_v5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_1 : Ref sig .tc := ⟨.hbm, 56, rfl⟩
abbrev main_v36 : Ref sig .tc := ⟨.hbm, 57, rfl⟩
abbrev main_v37 : Ref sig .tc := ⟨.hbm, 58, rfl⟩
abbrev main_cst_2 : Ref sig .tc := ⟨.hbm, 59, rfl⟩
abbrev main_v38 : Ref sig .tc := ⟨.hbm, 60, rfl⟩
abbrev main_v39 : Ref sig .tc := ⟨.hbm, 61, rfl⟩

abbrev nD : Nat := 1
abbrev τ : Topo := Topo.v7x

variable {F : FTy → Type} [FloatOps F]
-- ==== Kernel4.lean ====
abbrev S8192x1024 : Shape := ⟨2, ![8192, 1024]⟩
abbrev S4096x1024 : Shape := ⟨2, ![4096, 1024]⟩
abbrev S8192x768 : Shape := ⟨2, ![8192, 768]⟩
abbrev S8192x256 : Shape := ⟨2, ![8192, 256]⟩
abbrev S4096x256 : Shape := ⟨2, ![4096, 256]⟩
abbrev S4096x512 : Shape := ⟨2, ![4096, 512]⟩
abbrev S2x8x6144 : Shape := ⟨3, ![2, 8, 6144]⟩
abbrev S2x1024x1024 : Shape := ⟨3, ![2, 1024, 1024]⟩
abbrev S1x8x6144 : Shape := ⟨3, ![1, 8, 6144]⟩
abbrev S8x6144 : Shape := ⟨2, ![8, 6144]⟩
abbrev S8x6x1024 : Shape := ⟨3, ![8, 6, 1024]⟩
abbrev S6x8x1024 : Shape := ⟨3, ![6, 8, 1024]⟩
abbrev S6x8x1x1024 : Shape := ⟨4, ![6, 8, 1, 1024]⟩
abbrev S12288x1024 : Shape := ⟨2, ![12288, 1024]⟩
abbrev S1024x1024 : Shape := ⟨2, ![1024, 1024]⟩
abbrev S1024x768 : Shape := ⟨2, ![1024, 768]⟩
abbrev S1024x256 : Shape := ⟨2, ![1024, 256]⟩
abbrev S1024x512 : Shape := ⟨2, ![1024, 512]⟩
abbrev S1x1x1x1024 : Shape := ⟨4, ![1, 1, 1, 1024]⟩
abbrev S1x1024x1024 : Shape := ⟨3, ![1, 1024, 1024]⟩
abbrev S1x768x1024 : Shape := ⟨3, ![1, 768, 1024]⟩
abbrev S768x1024 : Shape := ⟨2, ![768, 1024]⟩
abbrev S1x256x1024 : Shape := ⟨3, ![1, 256, 1024]⟩
abbrev S256x1024 : Shape := ⟨2, ![256, 1024]⟩
abbrev S1x1024 : Shape := ⟨2, ![1, 1024]⟩
abbrev S1x512x1024 : Shape := ⟨3, ![1, 512, 1024]⟩
abbrev S512x1024 : Shape := ⟨2, ![512, 1024]⟩

abbrev nBuf : Space → Nat
  | .hbm => 15
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S4096x1024, .f32⟩
  | .hbm, ⟨2, _⟩ => ⟨S8192x768, .bf16⟩
  | .hbm, ⟨3, _⟩ => ⟨S8192x256, .bf16⟩
  | .hbm, ⟨4, _⟩ => ⟨S4096x256, .bf16⟩
  | .hbm, ⟨5, _⟩ => ⟨S4096x512, .bf16⟩
  | .hbm, ⟨6, _⟩ => ⟨S4096x256, .bf16⟩
  | .hbm, ⟨7, _⟩ => ⟨S2x8x6144, .f32⟩
  | .hbm, ⟨8, _⟩ => ⟨S2x1024x1024, .f32⟩
  | .hbm, ⟨9, _⟩ => ⟨S1x8x6144, .f32⟩
  | .hbm, ⟨10, _⟩ => ⟨S8x6144, .f32⟩
  | .hbm, ⟨11, _⟩ => ⟨S8x6x1024, .f32⟩
  | .hbm, ⟨12, _⟩ => ⟨S6x8x1024, .f32⟩
  | .hbm, ⟨13, _⟩ => ⟨S6x8x1x1024, .f32⟩
  | .hbm, ⟨14, _⟩ => ⟨S12288x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x768, .bf16⟩
  | .local _ .vmem, ⟨5, _⟩ => ⟨S1024x768, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S1024x512, .bf16⟩
  | .local _ .vmem, ⟨11, _⟩ => ⟨S1024x512, .bf16⟩
  | .local _ .vmem, ⟨12, _⟩ => ⟨S1024x256, .bf16⟩
  | .local _ .vmem, ⟨13, _⟩ => ⟨S1024x256, .bf16⟩
  | .local _ .vmem, ⟨14, _⟩ => ⟨S1x1x1x1024, .f32⟩
  | .local _ .vmem, ⟨15, _⟩ => ⟨S1x1x1x1024, .f32⟩
  | .local _ .vmem, ⟨16, _⟩ => ⟨S1x1024x1024, .f32⟩
  | .local _ .vmem, ⟨17, _⟩ => ⟨S1024x1024, .f32⟩
  | .local _ .vmem, ⟨18, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![12], ![false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c8_i32_0 : BitVec 32 := 8#32
  let v3 : BitVec 1 := Scalar.cmpi .sge arg0 c8_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let v2 : BitVec 32 := Scalar.addi v1 c0_i32_0
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 4 → Nat :=
  let arg0 : BitVec 32 := BitVec.ofNat 32 (i 0).val
  let c1024_i32 : BitVec 32 := 1024#32
  let v0 : BitVec 32 := Scalar.muli arg0 c1024_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c2_i32 : BitVec 32 := 2#32
  let c0_i32_7 : BitVec 32 := 0#32
  let c0_i32_8 : BitVec 32 := 0#32
  let c0_i32_9 : BitVec 32 := 0#32
  ![c2_i32.toNat, v21.toNat, c0_i32_7.toNat, c0_i32_8.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S8192x1024 : Shape := ⟨2, ![8192, 1024]⟩
abbrev S4096x1024 : Shape := ⟨2, ![4096, 1024]⟩
abbrev S8192x768 : Shape := ⟨2, ![8192, 768]⟩
abbrev S8192x256 : Shape := ⟨2, ![8192, 256]⟩
abbrev S4096x256 : Shape := ⟨2, ![4096, 256]⟩
abbrev S4096x512 : Shape := ⟨2, ![4096, 512]⟩
abbrev S2x8x6144 : Shape := ⟨3, ![2, 8, 6144]⟩
abbrev S2x1024x1024 : Shape := ⟨3, ![2, 1024, 1024]⟩
abbrev S1x1x6144 : Shape := ⟨3, ![1, 1, 6144]⟩
abbrev S6144 : Shape := ⟨1, ![6144]⟩
abbrev S1x6144 : Shape := ⟨2, ![1, 6144]⟩
abbrev S1x1024 : Shape := ⟨2, ![1, 1024]⟩
abbrev S1x1024x1024 : Shape := ⟨3, ![1, 1024, 1024]⟩
abbrev S1024x1024 : Shape := ⟨2, ![1024, 1024]⟩
abbrev S2x2048x1024 : Shape := ⟨3, ![2, 2048, 1024]⟩
abbrev S2x2048x256 : Shape := ⟨3, ![2, 2048, 256]⟩
abbrev S2x2048x512 : Shape := ⟨3, ![2, 2048, 512]⟩
abbrev S1x2x6144 : Shape := ⟨3, ![1, 2, 6144]⟩
abbrev S2x6144 : Shape := ⟨2, ![2, 6144]⟩
abbrev S2x1x6144 : Shape := ⟨3, ![2, 1, 6144]⟩
abbrev S2x1x1024 : Shape := ⟨3, ![2, 1, 1024]⟩
abbrev S12288x1024 : Shape := ⟨2, ![12288, 1024]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4096x1024, .f32⟩
  | .hbm, ⟨2, _⟩ => ⟨S8192x768, .bf16⟩
  | .hbm, ⟨3, _⟩ => ⟨S8192x256, .bf16⟩
  | .hbm, ⟨4, _⟩ => ⟨S4096x256, .bf16⟩
  | .hbm, ⟨5, _⟩ => ⟨S4096x512, .bf16⟩
  | .hbm, ⟨6, _⟩ => ⟨S4096x256, .bf16⟩
  | .hbm, ⟨7, _⟩ => ⟨S2x8x6144, .f32⟩
  | .hbm, ⟨8, _⟩ => ⟨S2x1024x1024, .f32⟩
  | .hbm, ⟨9, _⟩ => ⟨S8192x768, .f32⟩
  | .hbm, ⟨10, _⟩ => ⟨S8192x256, .f32⟩
  | .hbm, ⟨11, _⟩ => ⟨S1x1x6144, .f32⟩
  | .hbm, ⟨12, _⟩ => ⟨S6144, .f32⟩
  | .hbm, ⟨13, _⟩ => ⟨S1x6144, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S8192x1024, .f32⟩
  | .hbm, ⟨21, _⟩ => ⟨S1x1024x1024, .f32⟩
  | .hbm, ⟨22, _⟩ => ⟨S1024x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S2x2048x1024, .f32⟩
  | .hbm, ⟨28, _⟩ => ⟨S4096x256, .f32⟩
  | .hbm, ⟨29, _⟩ => ⟨S2x2048x256, .f32⟩
  | .hbm, ⟨30, _⟩ => ⟨S4096x512, .f32⟩
  | .hbm, ⟨31, _⟩ => ⟨S2x2048x512, .f32⟩
  | .hbm, ⟨32, _⟩ => ⟨S4096x256, .f32⟩
  | .hbm, ⟨33, _⟩ => ⟨S2x2048x256, .f32⟩
  | .hbm, ⟨34, _⟩ => ⟨S1x2x6144, .f32⟩
  | .hbm, ⟨35, _⟩ => ⟨S2x6144, .f32⟩
  | .hbm, ⟨36, _⟩ => ⟨S2x1x6144, .f32⟩
  | .hbm, ⟨37, _⟩ => ⟨S2x1x1024, .f32⟩
  | .hbm, ⟨38, _⟩ => ⟨S2x1x1024, .f32⟩
  | .hbm, ⟨39, _⟩ => ⟨S2x1x1024, .f32⟩
  | .hbm, ⟨40, _⟩ => ⟨S2x1x1024, .f32⟩
  | .hbm, ⟨41, _⟩ => ⟨S2x1x1024, .f32⟩
  | .hbm, ⟨42, _⟩ => ⟨S2x1x1024, .f32⟩
  | .hbm, ⟨43, _⟩ => ⟨S2x2048x1024, .f32⟩
  | .hbm, ⟨44, _⟩ => ⟨S1x1024x1024, .f32⟩
  | .hbm, ⟨45, _⟩ => ⟨S1024x1024, .f32⟩
  | .hbm, ⟨46, _⟩ => ⟨S2x2048x1024, .f32⟩
  | .hbm, ⟨47, _⟩ => ⟨S2x2048x1024, .f32⟩
  | .hbm, ⟨48, _⟩ => ⟨S2x2048x1024, .f32⟩
  | .hbm, ⟨49, _⟩ => ⟨S2x2048x1024, .f32⟩
  | .hbm, ⟨50, _⟩ => ⟨S4096x1024, .f32⟩
  | .hbm, ⟨51, _⟩ => ⟨S12288x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩

abbrev nD : Nat := 1
abbrev τ : Topo := Topo.v7x

variable {F : FTy → Type} [FloatOps F]
-- ==== Kernel5.lean ====
abbrev S12288x3072 : Shape := ⟨2, ![12288, 3072]⟩
abbrev S2x64 : Shape := ⟨2, ![2, 64]⟩
abbrev S2x128 : Shape := ⟨2, ![2, 128]⟩
abbrev S1x64 : Shape := ⟨2, ![1, 64]⟩
abbrev S64 : Shape := ⟨1, ![64]⟩
abbrev S1x128 : Shape := ⟨2, ![1, 128]⟩
abbrev S128 : Shape := ⟨1, ![128]⟩
abbrev S8192x768 : Shape := ⟨2, ![8192, 768]⟩
abbrev S256x768 : Shape := ⟨2, ![256, 768]⟩
abbrev S1 : Shape := ⟨1, ![1]⟩
abbrev S1x1 : Shape := ⟨2, ![1, 1]⟩
abbrev S256x64 : Shape := ⟨2, ![256, 64]⟩
abbrev S256x256 : Shape := ⟨2, ![256, 256]⟩
abbrev S256 : Shape := ⟨1, ![256]⟩
abbrev S256x1 : Shape := ⟨2, ![256, 1]⟩
abbrev S256x128 : Shape := ⟨2, ![256, 128]⟩

abbrev nBuf : Space → Nat
  | .hbm => 22
  | .vmem => 13
  | .smem => 0
  | _ => 0

abbrev bufTy : (tb : Table) → Fin (tcTables nBuf tb) → BufTy
  | .hbm, ⟨0, _⟩ => ⟨S12288x3072, .bf16⟩
  | .hbm, ⟨1, _⟩ => ⟨S2x64, .f32⟩
  | .hbm, ⟨2, _⟩ => ⟨S2x64, .f32⟩
  | .hbm, ⟨3, _⟩ => ⟨S2x64, .f32⟩
  | .hbm, ⟨4, _⟩ => ⟨S2x64, .f32⟩
  | .hbm, ⟨5, _⟩ => ⟨S2x128, .f32⟩
  | .hbm, ⟨6, _⟩ => ⟨S1x64, .f32⟩
  | .hbm, ⟨7, _⟩ => ⟨S64, .f32⟩
  | .hbm, ⟨8, _⟩ => ⟨S1x64, .f32⟩
  | .hbm, ⟨9, _⟩ => ⟨S1x64, .f32⟩
  | .hbm, ⟨10, _⟩ => ⟨S64, .f32⟩
  | .hbm, ⟨11, _⟩ => ⟨S1x64, .f32⟩
  | .hbm, ⟨12, _⟩ => ⟨S1x64, .f32⟩
  | .hbm, ⟨13, _⟩ => ⟨S64, .f32⟩
  | .hbm, ⟨14, _⟩ => ⟨S1x64, .f32⟩
  | .hbm, ⟨15, _⟩ => ⟨S1x64, .f32⟩
  | .hbm, ⟨16, _⟩ => ⟨S64, .f32⟩
  | .hbm, ⟨17, _⟩ => ⟨S1x64, .f32⟩
  | .hbm, ⟨18, _⟩ => ⟨S1x128, .f32⟩
  | .hbm, ⟨19, _⟩ => ⟨S128, .f32⟩
  | .hbm, ⟨20, _⟩ => ⟨S1x128, .f32⟩
  | .hbm, ⟨21, _⟩ => ⟨S8192x768, .bf16⟩
  | .local _ .vmem, ⟨0, _⟩ => ⟨S256x768, .bf16⟩
  | .local _ .vmem, ⟨1, _⟩ => ⟨S256x768, .bf16⟩
  | .local _ .vmem, ⟨2, _⟩ => ⟨S256x768, .bf16⟩
  | .local _ .vmem, ⟨3, _⟩ => ⟨S256x768, .bf16⟩
  | .local _ .vmem, ⟨4, _⟩ => ⟨S256x768, .bf16⟩
  | .local _ .vmem, ⟨5, _⟩ => ⟨S256x768, .bf16⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x128, .f32⟩
  | .local _ .vmem, ⟨11, _⟩ => ⟨S256x768, .bf16⟩
  | .local _ .vmem, ⟨12, _⟩ => ⟨S256x768, .bf16⟩
  | _, _ => ⟨S12288x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference5Ideal.lean ====
abbrev S12288x3072 : Shape := ⟨2, ![12288, 3072]⟩
abbrev S2x64 : Shape := ⟨2, ![2, 64]⟩
abbrev S2x128 : Shape := ⟨2, ![2, 128]⟩
abbrev S8192x3072 : Shape := ⟨2, ![8192, 3072]⟩
abbrev S32x256x3072 : Shape := ⟨3, ![32, 256, 3072]⟩
abbrev S32x256x256 : Shape := ⟨3, ![32, 256, 256]⟩
abbrev S32x256x4x64 : Shape := ⟨4, ![32, 256, 4, 64]⟩
abbrev S32x4x256x64 : Shape := ⟨4, ![32, 4, 256, 64]⟩
abbrev S32x256x512 : Shape := ⟨3, ![32, 256, 512]⟩
abbrev S32x256x4x2x64 : Shape := ⟨5, ![32, 256, 4, 2, 64]⟩
abbrev S32x4x2x256x64 : Shape := ⟨5, ![32, 4, 2, 256, 64]⟩
abbrev S32x256x4x128 : Shape := ⟨4, ![32, 256, 4, 128]⟩
abbrev S32x4x256x128 : Shape := ⟨4, ![32, 4, 256, 128]⟩
abbrev S32x4x256x256 : Shape := ⟨4, ![32, 4, 256, 256]⟩
abbrev S_ : Shape := ⟨0, ![]⟩
abbrev S32x4x256 : Shape := ⟨3, ![32, 4, 256]⟩
abbrev S32x4x256x1 : Shape := ⟨4, ![32, 4, 256, 1]⟩
abbrev S1x64 : Shape := ⟨2, ![1, 64]⟩
abbrev S64 : Shape := ⟨1, ![64]⟩
abbrev S32x4x2x256x256 : Shape := ⟨5, ![32, 4, 2, 256, 256]⟩
abbrev S32x4x2x256 : Shape := ⟨4, ![32, 4, 2, 256]⟩
abbrev S32x4x2x256x1 : Shape := ⟨5, ![32, 4, 2, 256, 1]⟩
abbrev S32x4x1x256x256 : Shape := ⟨5, ![32, 4, 1, 256, 256]⟩
abbrev S1x128 : Shape := ⟨2, ![1, 128]⟩
abbrev S128 : Shape := ⟨1, ![128]⟩
abbrev S1x1x1x128 : Shape := ⟨4, ![1, 1, 1, 128]⟩
abbrev S32x256x768 : Shape := ⟨3, ![32, 256, 768]⟩
abbrev S8192x768 : Shape := ⟨2, ![8192, 768]⟩

abbrev nBuf : Space → Nat
  | .hbm => 119
  | .vmem => 0
  | .smem => 0
  | _ => 0

abbrev bufTy : (tb : Table) → Fin (tcTables nBuf tb) → BufTy
  | .hbm, ⟨0, _⟩ => ⟨S12288x3072, .bf16⟩
  | .hbm, ⟨1, _⟩ => ⟨S2x64, .f32⟩
  | .hbm, ⟨2, _⟩ => ⟨S2x64, .f32⟩
  | .hbm, ⟨3, _⟩ => ⟨S2x64, .f32⟩
  | .hbm, ⟨4, _⟩ => ⟨S2x64, .f32⟩
  | .hbm, ⟨5, _⟩ => ⟨S2x128, .f32⟩
  | .hbm, ⟨6, _⟩ => ⟨S12288x3072, .f32⟩
  | .hbm, ⟨7, _⟩ => ⟨S8192x3072, .f32⟩
  | .hbm, ⟨8, _⟩ => ⟨S32x256x3072, .f32⟩
  | .hbm, ⟨9, _⟩ => ⟨S32x256x256, .f32⟩
  | .hbm, ⟨10, _⟩ => ⟨S32x256x4x64, .f32⟩
  | .hbm, ⟨11, _⟩ => ⟨S32x4x256x64, .f32⟩
  | .hbm, ⟨12, _⟩ => ⟨S32x256x256, .f32⟩
  | .hbm, ⟨13, _⟩ => ⟨S32x256x4x64, .f32⟩
  | .hbm, ⟨14, _⟩ => ⟨S32x4x256x64, .f32⟩
  | .hbm, ⟨15, _⟩ => ⟨S32x256x256, .f32⟩
  | .hbm, ⟨16, _⟩ => ⟨S32x256x4x64, .f32⟩
  | .hbm, ⟨17, _⟩ => ⟨S32x4x256x64, .f32⟩
  | .hbm, ⟨18, _⟩ => ⟨S32x256x512, .f32⟩
  | .hbm, ⟨19, _⟩ => ⟨S32x256x4x2x64, .f32⟩
  | .hbm, ⟨20, _⟩ => ⟨S32x4x2x256x64, .f32⟩
  | .hbm, ⟨21, _⟩ => ⟨S32x256x512, .f32⟩
  | .hbm, ⟨22, _⟩ => ⟨S32x256x4x2x64, .f32⟩
  | .hbm, ⟨23, _⟩ => ⟨S32x4x2x256x64, .f32⟩
  | .hbm, ⟨24, _⟩ => ⟨S32x256x512, .f32⟩
  | .hbm, ⟨25, _⟩ => ⟨S32x256x4x128, .f32⟩
  | .hbm, ⟨26, _⟩ => ⟨S32x4x256x128, .f32⟩
  | .hbm, ⟨27, _⟩ => ⟨S32x4x256x256, .f32⟩
  | .hbm, ⟨28, _⟩ => ⟨S_, .f32⟩
  | .hbm, ⟨29, _⟩ => ⟨S32x4x256x256, .f32⟩
  | .hbm, ⟨30, _⟩ => ⟨S32x4x256x256, .f32⟩
  | .hbm, ⟨31, _⟩ => ⟨S_, .f32⟩
  | .hbm, ⟨32, _⟩ => ⟨S32x4x256, .f32⟩
  | .hbm, ⟨33, _⟩ => ⟨S_, .f32⟩
  | .hbm, ⟨34, _⟩ => ⟨S32x4x256, .f32⟩
  | .hbm, ⟨35, _⟩ => ⟨S32x4x256, .f32⟩
  | .hbm, ⟨36, _⟩ => ⟨S32x4x256x1, .f32⟩
  | .hbm, ⟨37, _⟩ => ⟨S32x4x256x256, .f32⟩
  | .hbm, ⟨38, _⟩ => ⟨S32x4x256x256, .f32⟩
  | .hbm, ⟨39, _⟩ => ⟨S32x4x256x256, .f32⟩
  | .hbm, ⟨40, _⟩ => ⟨S_, .f32⟩
  | .hbm, ⟨41, _⟩ => ⟨S32x4x256, .f32⟩
  | .hbm, ⟨42, _⟩ => ⟨S32x4x256x1, .f32⟩
  | .hbm, ⟨43, _⟩ => ⟨S32x4x256x256, .f32⟩
  | .hbm, ⟨44, _⟩ => ⟨S32x4x256x256, .f32⟩
  | .hbm, ⟨45, _⟩ => ⟨S32x4x256x64, .f32⟩
  | .hbm, ⟨46, _⟩ => ⟨S1x64, .f32⟩
  | .hbm, ⟨47, _⟩ => ⟨S64, .f32⟩
  | .hbm, ⟨48, _⟩ => ⟨S1x64, .f32⟩
  | .hbm, ⟨49, _⟩ => ⟨S64, .f32⟩
  | .hbm, ⟨50, _⟩ => ⟨S64, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S1x64, .f32⟩
  | .hbm, ⟨55, _⟩ => ⟨S64, .f32⟩
  | .hbm, ⟨56, _⟩ => ⟨S1x64, .f32⟩
  | .hbm, ⟨57, _⟩ => ⟨S64, .f32⟩
  | .hbm, ⟨58, _⟩ => ⟨S64, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S32x4x2x256x256, .f32⟩
  | .hbm, ⟨66, _⟩ => ⟨S_, .f32⟩
  | .hbm, ⟨67, _⟩ => ⟨S32x4x2x256x256, .f32⟩
  | .hbm, ⟨68, _⟩ => ⟨S32x4x2x256x256, .f32⟩
  | .hbm, ⟨69, _⟩ => ⟨S_, .f32⟩
  | .hbm, ⟨70, _⟩ => ⟨S32x4x2x256, .f32⟩
  | .hbm, ⟨71, _⟩ => ⟨S_, .f32⟩
  | .hbm, ⟨72, _⟩ => ⟨S32x4x2x256, .f32⟩
  | .hbm, ⟨73, _⟩ => ⟨S32x4x2x256, .f32⟩
  | .hbm, ⟨74, _⟩ => ⟨S32x4x2x256x1, .f32⟩
  | .hbm, ⟨75, _⟩ => ⟨S32x4x2x256x256, .f32⟩
  | .hbm, ⟨76, _⟩ => ⟨S32x4x2x256x256, .f32⟩
  | .hbm, ⟨77, _⟩ => ⟨S32x4x2x256x256, .f32⟩
  | .hbm, ⟨78, _⟩ => ⟨S_, .f32⟩
  | .hbm, ⟨79, _⟩ => ⟨S32x4x2x256, .f32⟩
  | .hbm, ⟨80, _⟩ => ⟨S32x4x2x256x1, .f32⟩
  | .hbm, ⟨81, _⟩ => ⟨S32x4x2x256x256, .f32⟩
  | .hbm, ⟨82, _⟩ => ⟨S32x4x2x256x256, .f32⟩
  | .hbm, ⟨83, _⟩ => ⟨S32x4x1x256x256, .f32⟩
  | .hbm, ⟨84, _⟩ => ⟨S32x4x256x256, .f32⟩
  | .hbm, ⟨85, _⟩ => ⟨S32x4x1x256x256, .f32⟩
  | .hbm, ⟨86, _⟩ => ⟨S32x4x256x256, .f32⟩
  | .hbm, ⟨87, _⟩ => ⟨S32x4x256x256, .f32⟩
  | .hbm, ⟨88, _⟩ => ⟨S32x4x256x256, .f32⟩
  | .hbm, ⟨89, _⟩ => ⟨S32x4x256x256, .f32⟩
  | .hbm, ⟨90, _⟩ => ⟨S32x4x256x128, .f32⟩
  | .hbm, ⟨91, _⟩ => ⟨S32x4x256x128, .f32⟩
  | .hbm, ⟨92, _⟩ => ⟨S_, .f32⟩
  | .hbm, ⟨93, _⟩ => ⟨S32x4x256, .f32⟩
  | .hbm, ⟨94, _⟩ => ⟨S32x4x256x1, .f32⟩
  | .hbm, ⟨95, _⟩ => ⟨S_, .f32⟩
  | .hbm, ⟨96, _⟩ => ⟨S32x4x256x1, .f32⟩
  | .hbm, ⟨97, _⟩ => ⟨S32x4x256x1, .f32⟩
  | .hbm, ⟨98, _⟩ => ⟨S_, .f32⟩
  | .hbm, ⟨99, _⟩ => ⟨S32x4x256x1, .f32⟩
  | .hbm, ⟨100, _⟩ => ⟨S32x4x256x1, .f32⟩
  | .hbm, ⟨101, _⟩ => ⟨S32x4x256x1, .f32⟩
  | .hbm, ⟨102, _⟩ => ⟨S32x4x256x128, .f32⟩
  | .hbm, ⟨103, _⟩ => ⟨S32x4x256x128, .f32⟩
  | .hbm, ⟨104, _⟩ => ⟨S1x128, .f32⟩
  | .hbm, ⟨105, _⟩ => ⟨S128, .f32⟩
  | .hbm, ⟨106, _⟩ => ⟨S1x1x1x128, .f32⟩
  | .hbm, ⟨107, _⟩ => ⟨S32x4x256x128, .f32⟩
  | .hbm, ⟨108, _⟩ => ⟨S32x4x256x128, .f32⟩
  | .hbm, ⟨109, _⟩ => ⟨S_, .f32⟩
  | .hbm, ⟨110, _⟩ => ⟨S32x4x256x128, .f32⟩
  | .hbm, ⟨111, _⟩ => ⟨S32x4x256x128, .f32⟩
  | .hbm, ⟨112, _⟩ => ⟨S32x256x4x64, .f32⟩
  | .hbm, ⟨113, _⟩ => ⟨S32x256x256, .f32⟩
  | .hbm, ⟨114, _⟩ => ⟨S32x256x4x128, .f32⟩
  | .hbm, ⟨115, _⟩ => ⟨S32x256x512, .f32⟩
  | .hbm, ⟨116, _⟩ => ⟨S32x256x768, .f32⟩
  | .hbm, ⟨117, _⟩ => ⟨S8192x768, .f32⟩
  | .hbm, ⟨118, _⟩ => ⟨S8192x768, .bf16⟩
  | _, _ => ⟨S12288x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst : Ref sig .tc := ⟨.hbm, 28, rfl⟩
abbrev main_v22 : Ref sig .tc := ⟨.hbm, 29, rfl⟩
abbrev main_v23 : Ref sig .tc := ⟨.hbm, 30, rfl⟩
abbrev main_cst_0 : Ref sig .tc := ⟨.hbm, 31, rfl⟩
abbrev main_v24 : Ref sig .tc := ⟨.hbm, 32, rfl⟩
abbrev main_cst_1 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_3 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_4 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_5 : Ref sig .tc := ⟨.hbm, 63, rfl⟩
abbrev main_v51 : Ref sig .tc := ⟨.hbm, 64, rfl⟩
abbrev main_v52 : Ref sig .tc := ⟨.hbm, 65, rfl⟩
abbrev main_cst_6 : Ref sig .tc := ⟨.hbm, 66, rfl⟩
abbrev main_v53 : Ref sig .tc := ⟨.hbm, 67, rfl⟩
abbrev main_v54 : Ref sig .tc := ⟨.hbm, 68, rfl⟩
abbrev main_cst_7 : Ref sig .tc := ⟨.hbm, 69, rfl⟩
abbrev main_v55 : Ref sig .tc := ⟨.hbm, 70, rfl⟩
abbrev main_cst_8 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_9 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_cst_10 : Ref sig .tc := ⟨.hbm, 92, rfl⟩
abbrev main_v75 : Ref sig .tc := ⟨.hbm, 93, rfl⟩
abbrev main_v76 : Ref sig .tc := ⟨.hbm, 94, rfl⟩
abbrev main_cst_11 : Ref sig .tc := ⟨.hbm, 95, rfl⟩
abbrev main_v77 : Ref sig .tc := ⟨.hbm, 96, rfl⟩
abbrev main_v78 : Ref sig .tc := ⟨.hbm, 97, rfl⟩
abbrev main_cst_12 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_cst_13 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩

abbrev nD : Nat := 1
abbrev τ : Topo := Topo.v7x

variable {F : FTy → Type} [FloatOps F]
-- ==== Kernel6.lean ====
abbrev S2x1024 : Shape := ⟨2, ![2, 1024]⟩
abbrev S1024 : Shape := ⟨1, ![1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S5x1024 : Shape := ⟨2, ![5, 1024]⟩
abbrev S8x1024 : Shape := ⟨2, ![8, 1024]⟩
abbrev S2x1x6144 : Shape := ⟨3, ![2, 1, 6144]⟩
abbrev S2x8x6144 : Shape := ⟨3, ![2, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 10
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S5x1024, .f32⟩
  | .hbm, ⟨7, _⟩ => ⟨S8x1024, .f32⟩
  | .hbm, ⟨8, _⟩ => ⟨S2x1x6144, .f32⟩
  | .hbm, ⟨9, _⟩ => ⟨S2x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S2x1024 : Shape := ⟨2, ![2, 1024]⟩
abbrev S1024 : Shape := ⟨1, ![1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S5x1024 : Shape := ⟨2, ![5, 1024]⟩
abbrev S8x1024 : Shape := ⟨2, ![8, 1024]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩
abbrev S1x8x6144 : Shape := ⟨3, ![1, 8, 6144]⟩
abbrev S2x8x6144 : Shape := ⟨3, ![2, 8, 6144]⟩

abbrev nBuf : Space → Nat
  | .hbm => 45
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S5x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S1x1024x6144, .f32⟩
  | .hbm, ⟨18, _⟩ => ⟨S1024x6144, .f32⟩
  | .hbm, ⟨19, _⟩ => ⟨S8x6144, .f32⟩
  | .hbm, ⟨20, _⟩ => ⟨S1x6144, .f32⟩
  | .hbm, ⟨21, _⟩ => ⟨S6144, .f32⟩
  | .hbm, ⟨22, _⟩ => ⟨S1x6144, .f32⟩
  | .hbm, ⟨23, _⟩ => ⟨S8x6144, .f32⟩
  | .hbm, ⟨24, _⟩ => ⟨S8x6144, .f32⟩
  | .hbm, ⟨25, _⟩ => ⟨S8x1024, .f32⟩
  | .hbm, ⟨26, _⟩ => ⟨S8x1024, .f32⟩
  | .hbm, ⟨27, _⟩ => ⟨S_, .f32⟩
  | .hbm, ⟨28, _⟩ => ⟨S8x1024, .f32⟩
  | .hbm, ⟨29, _⟩ => ⟨S8x1024, .f32⟩
  | .hbm, ⟨30, _⟩ => ⟨S_, .f32⟩
  | .hbm, ⟨31, _⟩ => ⟨S8x1024, .f32⟩
  | .hbm, ⟨32, _⟩ => ⟨S8x1024, .f32⟩
  | .hbm, ⟨33, _⟩ => ⟨S8x1024, .f32⟩
  | .hbm, ⟨34, _⟩ => ⟨S1x1024x6144, .f32⟩
  | .hbm, ⟨35, _⟩ => ⟨S1024x6144, .f32⟩
  | .hbm, ⟨36, _⟩ => ⟨S8x6144, .f32⟩
  | .hbm, ⟨37, _⟩ => ⟨S1x6144, .f32⟩
  | .hbm, ⟨38, _⟩ => ⟨S6144, .f32⟩
  | .hbm, ⟨39, _⟩ => ⟨S1x6144, .f32⟩
  | .hbm, ⟨40, _⟩ => ⟨S8x6144, .f32⟩
  | .hbm, ⟨41, _⟩ => ⟨S8x6144, .f32⟩
  | .hbm, ⟨42, _⟩ => ⟨S1x8x6144, .f32⟩
  | .hbm, ⟨43, _⟩ => ⟨S1x8x6144, .f32⟩
  | .hbm, ⟨44, _⟩ => ⟨S2x8x6144, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_call1_v5 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩

abbrev nD : Nat := 1
abbrev τ : Topo := Topo.v7x

variable {F : FTy → Type} [FloatOps F]
-- ==== Proof.Terms.lean ====
/- The scalar formulas of one row of one head of the latent tokens' differential attention, as the kernel computes them:
   the rotation of a row of 128 lanes (two maps of 64 lanes side by side), the softmax weights before their division, the
   two weighted sums of values taken apart and divided afterwards, and the normalised row. -/
module

public import Idealize.ShloMosaic.Lib.Pointwise

@[expose] public section

noncomputable section

namespace Cert.Attn

open Idealize.ShloMosaic

/-- A row of 128 lanes rotated: every lane times its cosine, plus the lane 16 above and the lane 16 below (cyclically),
    each times its own signed sine. -/
def rot (x c u d : Fin 128 → EReal) (j : Fin 128) : EReal :=
  x j * c j + x ⟨(j.val + 128 - 112) % 128, Nat.mod_lt _ (by omega)⟩ * u j
    + x ⟨(j.val + 128 - 16) % 128, Nat.mod_lt _ (by omega)⟩ * d j

/-- The scores of one query row against every key. -/
def scores (q : Fin 64 → EReal) (K : Fin 2560 → Fin 64 → EReal) (n : Fin 2560) : EReal := ∑ d : Fin 64, q d * K n d

/-- The exponential of a score less the row's greatest score. -/
def wt (s : Fin 2560 → EReal) (n : Fin 2560) : EReal :=
  Ideal.exp (s n - Finset.univ.fold max (Ideal.ofBits FTy.f32 0xFF800000#32) s)

/-- The kernel's difference of the two maps' weighted values, each divided by its own sum after the product. -/
def diffK (s1 s2 : Fin 2560 → EReal) (V : Fin 2560 → Fin 128 → EReal) (lam : EReal) (j : Fin 128) : EReal :=
  (∑ n, wt s1 n * V n j) * Ideal.div 1 (∑ n, wt s1 n)
    - (∑ n, wt s2 n * V n j) * (lam * Ideal.div 1 (∑ n, wt s2 n))

/-- The reference's: the two softmaxes divided first, subtracted, then multiplied into the values. -/
def diffR (s1 s2 : Fin 2560 → EReal) (V : Fin 2560 → Fin 128 → EReal) (lam : EReal) (j : Fin 128) : EReal :=
  ∑ n, (Ideal.div (wt s1 n) (∑ n, wt s1 n) - lam * Ideal.div (wt s2 n) (∑ n, wt s2 n)) * V n j

/-- A row divided by its root mean square, scaled lane by lane and by the constant 0.8. -/
def normed (o g : Fin 128 → EReal) (j : Fin 128) : EReal :=
  o j * Ideal.rsqrt (Ideal.div (∑ x, o x * o x) (Ideal.ofBits FTy.f32 0x43000000#32) + Ideal.ofBits FTy.f32 0x358637BD#32)
    * g j * Ideal.ofBits FTy.f32 0x3F4CCCCD#32

/-- The learned weight of the second map. -/
def lamOf (a b c d : Fin 64 → EReal) : EReal :=
  Ideal.exp (∑ x, a x * b x) - Ideal.exp (∑ x, c x * d x) + Ideal.ofBits FTy.f32 0x3E4CCCCD#32

/-- The kernel's scores: half a rotated query row (lanes `off …`) scaled by 1/8, against the keys. -/
def scoresK (off : Nat) (hoff : off + 64 ≤ 128) (x c u d : Fin 128 → EReal) (K : Fin 2560 → Fin 64 → EReal) : Fin 2560 → EReal :=
  scores (fun k => rot x c u d ⟨off + k.val, by omega⟩ * Ideal.ofBits FTy.f32 0x3E000000#32) K

/-- One row of the kernel's result. -/
def rowK (x c u d : Fin 128 → EReal) (K1 K2 : Fin 2560 → Fin 64 → EReal) (V : Fin 2560 → Fin 128 → EReal) (lam : EReal)
    (g : Fin 128 → EReal) : Fin 128 → EReal :=
  normed (diffK (scoresK 0 (by omega) x c u d K1) (scoresK 64 (by omega) x c u d K2) V lam) g

end Cert.Attn
-- ==== Proof.Blocks.lean ====
/- The windows' blocks of the attention call at a symbolic grid point: which entries of the arguments a block holds. Grid
   point `t` is (batch `t / 16`, head `t / 4 % 4`, query block `t % 4`). -/
module

public import proofs.«01_k».proof.Proof.Gen.KernelIdeal.Value
public import proofs.«01_k».proof.Proof.Terms
public import Idealize.ShloMosaic.Lib.Pipeline.ValueKit
public import Idealize.ShloMosaic.Lib.Pipeline.ValueKit.Held

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)
open Cert.Attn

variable (m : (ℓ : Loc nD τ sig) → Buf (Elt Ideal) ℓ)

/-- The block index of every window at every grid point, decided over the 32 points. -/
theorem idx : ∀ t : Fin cfg0.N,
    win0_0.index t = ![16 + t.val / 16 * 4 + t.val % 4, 6 + t.val / 4 % 4]
    ∧ win0_1.index t = ![4 + t.val / 16, 10 + t.val / 4 % 4]
    ∧ win0_2.index t = ![4 + t.val / 16, 14 + t.val / 4 % 4]
    ∧ win0_3.index t = ![t.val / 16, 0, t.val / 4 % 4, 0, 0, 0]
    ∧ win0_4.index t = ![t.val / 16, 0, t.val / 4 % 4, 0, 0]
    ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_12.index t = ![0, 0]
    ∧ win0_13.index t = ![t.val / 16 * 4 + t.val % 4, t.val / 4 % 4] :=
  (by decide +kernel : ∀ t : Fin grid0.N, _)

/-- The query rows' coordinate of the grid, decided. -/
theorem coord2 : ∀ t : Fin cfg0.N, ((grid0.coords t) 2).val = t.val % 4 := (by decide +kernel : ∀ t : Fin grid0.N, _)

/-- A point's batch, head and query block are in range. -/
theorem point_lt (t : Fin cfg0.N) : t.val / 16 < 2 ∧ t.val / 4 % 4 < 4 ∧ t.val % 4 < 4 := by
  have := lt_of_lt_of_eq t.isLt N_0
  omega

/-- The query block's row `r`, lane `j`. -/
theorem blk_q (c : Dev nD) (t : Fin cfg0.N) (r : Fin 512) (j : Fin 128) :
    (iblk m c 0 t : FVec Ideal S512x128 .bf16) (ix2 r j)
      = (m ((c : Thread nD τ).loc main_arg0) : FVec Ideal S12288x3072 .bf16)
          (ix2 ⟨8192 + t.val / 16 * 2048 + (t.val % 4 * 512 + r.val), by have := point_lt t; omega⟩
            ⟨768 + t.val / 4 % 4 * 128 + j.val, by have := point_lt t; omega⟩) := by
  blk_ext [iblk, V, idx t]

/-- The key block's row `n`, lane `j`. -/
theorem blk_k (c : Dev nD) (t : Fin cfg0.N) (n : Fin 2048) (j : Fin 128) :
    (iblk m c 1 t : FVec Ideal S2048x128 .bf16) (ix2 n j)
      = (m ((c : Thread nD τ).loc main_arg0) : FVec Ideal S12288x3072 .bf16)
          (ix2 ⟨8192 + t.val / 16 * 2048 + n.val, by have := point_lt t; omega⟩
            ⟨1280 + t.val / 4 % 4 * 128 + j.val, by have := point_lt t; omega⟩) := by
  blk_ext [iblk, V, idx t]

/-- The value block's row `n`, lane `j`. -/
theorem blk_v (c : Dev nD) (t : Fin cfg0.N) (n : Fin 2048) (j : Fin 128) :
    (iblk m c 2 t : FVec Ideal S2048x128 .bf16) (ix2 n j)
      = (m ((c : Thread nD τ).loc main_arg0) : FVec Ideal S12288x3072 .bf16)
          (ix2 ⟨8192 + t.val / 16 * 2048 + n.val, by have := point_lt t; omega⟩
            ⟨1792 + t.val / 4 % 4 * 128 + j.val, by have := point_lt t; omega⟩) := by
  blk_ext [iblk, V, idx t]

/-- The cached keys' block: map `i`, row `n`, lane `k`. -/
theorem blk_ck (c : Dev nD) (t : Fin cfg0.N) (i : Fin 2) (n : Fin 512) (k : Fin 64) :
    (iblk m c 3 t : FVec Ideal S1x1x1x2x512x64 .f32) (ix6 0 0 0 i n k)
      = (m ((c : Thread nD τ).loc main_arg1) : FVec Ideal S2x2x4x2x512x64 .f32)
          (ix6 ⟨t.val / 16, (point_lt t).1⟩ 0 ⟨t.val / 4 % 4, (point_lt t).2.1⟩ i n k) := by
  blk_ext [iblk, V, idx t]

/-- The cached values' block: row `n`, lane `k`. -/
theorem blk_cv (c : Dev nD) (t : Fin cfg0.N) (n : Fin 512) (k : Fin 128) :
    (iblk m c 4 t : FVec Ideal S1x1x1x512x128 .f32) (ix5 0 0 0 n k)
      = (m ((c : Thread nD τ).loc main_arg2) : FVec Ideal S2x2x4x512x128 .f32)
          (ix5 ⟨t.val / 16, (point_lt t).1⟩ 0 ⟨t.val / 4 % 4, (point_lt t).2.1⟩ n k) := by
  blk_ext [iblk, V, idx t]

theorem blk_cos (c : Dev nD) (t : Fin cfg0.N) (n : Fin 2048) (j : Fin 128) :
    (iblk m c 5 t : FVec Ideal S2048x128 .f32) (ix2 n j) = (V m c main_v47 : FVec Ideal S2048x128 .f32) (ix2 n j) := by
  blk_ext [iblk, idx t]

end Cert.KernelIdeal.Value
-- ==== Proof.Payload.lean ====
/- What the kernel's body stores, entry by entry, over the blocks it read: the rotated keys, and for each half of a query
   block the finished rows. -/
module

public import proofs.«01_k».proof.Proof.Gen.KernelIdeal.Skeleton
public import proofs.«01_k».proof.Proof.Terms

@[expose] public section

set_option maxRecDepth 16384

noncomputable section

namespace Cert.KernelIdeal.Value

open Cert.KernelIdeal Cert.KernelIdeal.Gen Idealize.ShloMosaic Idealize.ShloMosaic.TcCoe Idealize.SL.Sem
open Cert.Attn

/-- The weight of the second map, read off the four vectors. -/
theorem lam_at (a b c d : Vec Ideal S1x64 .f32) (r j : Fin 1) :
    k0_pay9 a b c d (ix2 r j) = lamOf (fun x => a (ix2 0 x)) (fun x => b (ix2 0 x)) (fun x => c (ix2 0 x)) (fun x => d (ix2 0 x)) := by
  pointwise [k0_pay9, lamOf]

/-- The first map's rotated keys: lanes 0 … 63. -/
theorem key1_at (x : Vec Ideal S2048x128 .bf16) (c u d : Vec Ideal S2048x128 .f32) (n : Fin 2048) (k : Fin 64) :
    k0_pay3 x c u d (ix2 n k)
      = rot (fun j => x (ix2 n j)) (fun j => c (ix2 n j)) (fun j => u (ix2 n j)) (fun j => d (ix2 n j)) ⟨0 + k.val, by omega⟩ := by
  pointwise [k0_pay3, k0_pay2, rot]

/-- The second map's rotated keys: lanes 64 … 127. -/
theorem key2_at (x : Vec Ideal S2048x128 .bf16) (c u d : Vec Ideal S2048x128 .f32) (n : Fin 2048) (k : Fin 64) :
    k0_pay4 x c u d (ix2 n k)
      = rot (fun j => x (ix2 n j)) (fun j => c (ix2 n j)) (fun j => u (ix2 n j)) (fun j => d (ix2 n j)) ⟨64 + k.val, by omega⟩ := by
  pointwise [k0_pay4, k0_pay2, rot]

/-- The first half's rotated, scaled queries. -/
theorem query_at (q : Vec Ideal S256x128 .bf16) (c u d : Vec Ideal S256x128 .f32) (r : Fin 256) (j : Fin 128) :
    k0_pay14 (k0_pay10 q) (k0_pay11 c) (k0_pay12 u) (k0_pay13 d) (ix2 r j)
      = rot (fun j => q (ix2 r j)) (fun j => c (ix2 r j)) (fun j => u (ix2 r j)) (fun j => d (ix2 r j)) j
        * Ideal.ofBits FTy.f32 0x3E000000#32 := by
  pointwise [k0_pay14, k0_pay10, k0_pay11, k0_pay12, k0_pay13, rot]

/-- The first half of a query block: the finished row `r`. -/
theorem half0_at (q : Vec Ideal S256x128 .bf16) (c u d : Vec Ideal S256x128 .f32) (K1 K2 : Vec Ideal S2560x64 .bf16)
    (V : Vec Ideal S2560x128 .bf16) (g : Vec Ideal S1x128 .f32) (lam : FVec Ideal S1x1 .f32) (r : Fin 256) (j : Fin 128) :
    k0_pay20 lam V (k0_pay15 g) (k0_pay17 (k0_pay10 q) (k0_pay11 c) (k0_pay12 u) (k0_pay13 d) K2)
        (k0_pay18 (k0_pay10 q) (k0_pay11 c) (k0_pay12 u) (k0_pay13 d) K1 V)
        (k0_pay19 (k0_pay10 q) (k0_pay11 c) (k0_pay12 u) (k0_pay13 d) K2) (ix2 r j)
      = rowK (fun j => q (ix2 r j)) (fun j => c (ix2 r j)) (fun j => u (ix2 r j)) (fun j => d (ix2 r j))
          (fun n k => K1 (ix2 n k)) (fun n k => K2 (ix2 n k)) (fun n k => V (ix2 n k)) (lam (ix2 0 0)) (fun j => g (ix2 0 j)) j := by
  pointwise [k0_pay20, k0_pay15, k0_pay17, k0_pay18, k0_pay19, k0_pay16, k0_pay14, k0_pay10, k0_pay11, k0_pay12, k0_pay13,
    rowK, normed, diffK, scoresK, scores, wt, rot, Nat.zero_add]

/-- The second half of a query block: the finished row `r`. -/
theorem half1_at (q : Vec Ideal S256x128 .bf16) (c u d : Vec Ideal S256x128 .f32) (K1 K2 : Vec Ideal S2560x64 .bf16)
    (V : Vec Ideal S2560x128 .bf16) (g : Vec Ideal S1x128 .f32) (lam : FVec Ideal S1x1 .f32) (r : Fin 256) (j : Fin 128) :
    k0_pay1 (k0_pay25 g) (k0_pay27 (k0_pay21 q) (k0_pay22 d) (k0_pay23 q c u) 16#32 K1 V)
        (k0_pay28 (k0_pay21 q) (k0_pay22 d) (k0_pay23 q c u) 16#32 K2 V)
        (k0_pay29 (k0_pay21 q) (k0_pay22 d) (k0_pay23 q c u) 16#32 K2) (k0_pay30 lam) (ix2 r j)
      = rowK (fun j => q (ix2 r j)) (fun j => c (ix2 r j)) (fun j => u (ix2 r j)) (fun j => d (ix2 r j))
          (fun n k => K1 (ix2 n k)) (fun n k => K2 (ix2 n k)) (fun n k => V (ix2 n k)) (lam (ix2 0 0)) (fun j => g (ix2 0 j)) j := by
  pointwise [k0_pay1, k0_pay21, k0_pay22, k0_pay23, k0_pay24, k0_pay25, k0_pay26, k0_pay27, k0_pay28, k0_pay29, k0_pay30,
    rowK, normed, diffK, scoresK, scores, wt, rot, Nat.zero_add]

end Cert.KernelIdeal.Value
-- ==== Proof.Core.lean ====
/- The arithmetic that joins the two forms of the attention, over real numbers: scaling the query before the product or the
   product after it, and dividing each map's weighted sum or its weights. -/
module

public import proofs.«01_k».proof.Proof.Terms

@[expose] public section

noncomputable section

namespace Cert.Attn

open Idealize.ShloMosaic

/-- A finite sum of reals, read in the extended reals, is the real sum. -/
theorem coe_sum_real {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The greatest of finitely many (at least one) real numbers, taken from −∞, is a real number. -/
theorem max_real (s : Fin 2560 → ℝ) :
    ∃ M : ℝ, Finset.univ.fold max (Ideal.ofBits FTy.f32 0xFF800000#32) (fun n => ((s n : ℝ) : EReal)) = ((M : ℝ) : EReal) := by
  have hb : Ideal.ofBits FTy.f32 0xFF800000#32 = (⊥ : EReal) := by simp [Ideal.ofBits, Ideal.ieee]
  rw [hb]
  obtain ⟨i, -, hi⟩ := Finset.exists_mem_eq_sup (Finset.univ : Finset (Fin 2560)) ⟨0, Finset.mem_univ _⟩ (fun n => ((s n : ℝ) : EReal))
  exact ⟨s i, hi⟩

/-- The weights of real scores are positive reals. -/
theorem wt_real (s : Fin 2560 → ℝ) : ∃ e : Fin 2560 → ℝ, (∀ n, 0 < e n) ∧ wt (fun n => ((s n : ℝ) : EReal)) = fun n => ((e n : ℝ) : EReal) := by
  obtain ⟨M, hM⟩ := max_real s
  refine ⟨fun n => Real.exp (s n - M), fun n => Real.exp_pos _, ?_⟩
  funext n
  unfold wt
  rw [hM, ← EReal.coe_sub, Ideal.exp_coe]

/-- Dividing the two weighted sums afterwards is dividing the weights first. -/
theorem diff_eq (s1 s2 : Fin 2560 → ℝ) (V : Fin 2560 → Fin 128 → ℝ) (lam : ℝ) (j : Fin 128) :
    diffK (fun n => ((s1 n : ℝ) : EReal)) (fun n => ((s2 n : ℝ) : EReal)) (fun n k => ((V n k : ℝ) : EReal)) lam j
      = diffR (fun n => ((s1 n : ℝ) : EReal)) (fun n => ((s2 n : ℝ) : EReal)) (fun n k => ((V n k : ℝ) : EReal)) lam j := by
  obtain ⟨e1, p1, h1⟩ := wt_real s1
  obtain ⟨e2, p2, h2⟩ := wt_real s2
  have l1 : (∑ n, e1 n) ≠ 0 := ne_of_gt (Finset.sum_pos (fun n _ => p1 n) ⟨0, Finset.mem_univ _⟩)
  have l2 : (∑ n, e2 n) ≠ 0 := ne_of_gt (Finset.sum_pos (fun n _ => p2 n) ⟨0, Finset.mem_univ _⟩)
  unfold diffK diffR
  simp only [h1, h2, ← EReal.coe_mul, coe_sum_real, Ideal.div_coe l1, Ideal.div_coe l2, ← EReal.coe_sub]
  rw [← EReal.coe_one]
  simp only [← EReal.coe_mul, ← EReal.coe_sub, coe_sum_real]
  congr 1
  rw [Finset.sum_mul, Finset.sum_mul, ← Finset.sum_sub_distrib]
  refine Finset.sum_congr rfl fun n _ => ?_
  ring

/-- Scaling the query row by 1/8 before the products is scaling the scores. -/
theorem scores_scale (q : Fin 64 → ℝ) (K : Fin 2560 → Fin 64 → ℝ) (n : Fin 2560) :
    scores (fun k => ((q k : ℝ) : EReal) * Ideal.ofBits FTy.f32 0x3E000000#32) (fun n k => ((K n k : ℝ) : EReal)) n
      = scores (fun k => ((q k : ℝ) : EReal)) (fun n k => ((K n k : ℝ) : EReal)) n * Ideal.ofBits FTy.f32 0x3E000000#32 := by
  have hb : Ideal.ofBits FTy.f32 0x3E000000#32 = ((1 / 8 : ℝ) : EReal) := by
    simp [Ideal.ofBits, Ideal.ieee, -EReal.coe_mul]; norm_num
  unfold scores
  simp only [hb, ← EReal.coe_mul, coe_sum_real]
  congr 1
  rw [Finset.sum_mul]
  exact Finset.sum_congr rfl fun k _ => by ring

/-! ## Real values -/

/-- The value is a real number (neither infinity). -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, by rw [EReal.coe_add]⟩
theorem IsReal.sub {x y : EReal} (hx : IsReal x) (hy : IsReal y) : IsReal (x - y) := by
  obtain ⟨a, rfl⟩ := hx; obtain ⟨b, rfl⟩ := hy; exact ⟨a - b, by rw [EReal.coe_sub]⟩
theorem IsReal.mul {x y : EReal} (hx : IsReal x) (hy : IsReal y) : IsReal (x * y) := by
  obtain ⟨a, rfl⟩ := hx; obtain ⟨b, rfl⟩ := hy; exact ⟨a * b, by rw [EReal.coe_mul]⟩
theorem IsReal.neg {x : EReal} (hx : IsReal x) : IsReal (-x) := by
  obtain ⟨a, rfl⟩ := hx; exact ⟨-a, by rw [EReal.coe_neg]⟩
theorem IsReal.zero : IsReal 0 := ⟨0, by simp⟩
theorem IsReal.exp {x : EReal} (hx : IsReal x) : IsReal (Ideal.exp x) := by
  obtain ⟨a, rfl⟩ := hx; exact ⟨Real.exp a, Ideal.exp_coe a⟩
theorem IsReal.cos {x : EReal} (hx : IsReal x) : IsReal (Ideal.cos x) := by
  obtain ⟨a, rfl⟩ := hx; exact ⟨Real.cos a, Ideal.cos_coe a⟩
theorem IsReal.sin {x : EReal} (hx : IsReal x) : IsReal (Ideal.sin x) := by
  obtain ⟨a, rfl⟩ := hx; exact ⟨Real.sin a, Ideal.sin_coe a⟩
theorem IsReal.sum {ι : Type} (s : Finset ι) {f : ι → EReal} (hf : ∀ i, IsReal (f i)) : IsReal (∑ i ∈ s, f i) := by
  choose g hg using hf
  refine ⟨∑ i ∈ s, g i, ?_⟩
  rw [← coe_sum_real]
  exact Finset.sum_congr rfl fun i _ => hg i

/-- A rotated row of real lanes is real. -/
theorem rot_real {x c u d : Fin 128 → EReal} (hx : ∀ j, IsReal (x j)) (hc : ∀ j, IsReal (c j)) (hu : ∀ j, IsReal (u j))
    (hd : ∀ j, IsReal (d j)) (j : Fin 128) : IsReal (rot x c u d j) :=
  (((hx _).mul (hc _)).add ((hx _).mul (hu _))).add ((hx _).mul (hd _))

/-- The second map's weight is real when its four vectors are. -/
theorem lamOf_real {a b c d : Fin 64 → EReal} (ha : ∀ j, IsReal (a j)) (hb : ∀ j, IsReal (b j)) (hc : ∀ j, IsReal (c j))
    (hd : ∀ j, IsReal (d j)) : IsReal (lamOf a b c d) := by
  refine ((IsReal.sum _ fun i => (ha i).mul (hb i)).exp.sub (IsReal.sum _ fun i => (hc i).mul (hd i)).exp).add ?_
  exact ⟨13421773 / 67108864, by simp [Ideal.ofBits, Ideal.ieee, -EReal.coe_mul]; norm_num⟩

/-- The reference's scores: the products of the rotated rows, scaled by 1/8 afterwards. -/
def scoresR (off : Nat) (hoff : off + 64 ≤ 128) (x c u d : Fin 128 → EReal) (K : Fin 2560 → Fin 64 → EReal) (n : Fin 2560) : EReal :=
  scores (fun k => rot x c u d ⟨off + k.val, by omega⟩) K n * Ideal.ofBits FTy.f32 0x3E000000#32

/-- One row of the reference's result, over the same rotated rows. -/
def rowR (x c u d : Fin 128 → EReal) (K1 K2 : Fin 2560 → Fin 64 → EReal) (V : Fin 2560 → Fin 128 → EReal) (lam : EReal)
    (g : Fin 128 → EReal) : Fin 128 → EReal :=
  normed (diffR (scoresR 0 (by omega) x c u d K1) (scoresR 64 (by omega) x c u d K2) V lam) g

/-- Over real queries, keys, values and tables, the two forms of a row are one. -/
theorem row_eq {x c u d : Fin 128 → EReal} {K1 K2 : Fin 2560 → Fin 64 → EReal} {V : Fin 2560 → Fin 128 → EReal} {lam : EReal}
    (g : Fin 128 → EReal) (hx : ∀ j, IsReal (x j)) (hc : ∀ j, IsReal (c j)) (hu : ∀ j, IsReal (u j)) (hd : ∀ j, IsReal (d j))
    (h1 : ∀ n k, IsReal (K1 n k)) (h2 : ∀ n k, IsReal (K2 n k)) (hV : ∀ n k, IsReal (V n k)) (hl : IsReal lam) :
    rowK x c u d K1 K2 V lam g = rowR x c u d K1 K2 V lam g := by
  choose r hr using fun j => rot_real hx hc hu hd j
  choose k1 hk1 using h1
  choose k2 hk2 using h2
  choose v hv using hV
  obtain ⟨l, rfl⟩ := hl
  obtain rfl : K1 = fun n k => ((k1 n k : ℝ) : EReal) := funext fun n => funext fun k => hk1 n k
  obtain rfl : K2 = fun n k => ((k2 n k : ℝ) : EReal) := funext fun n => funext fun k => hk2 n k
  obtain rfl : V = fun n k => ((v n k : ℝ) : EReal) := funext fun n => funext fun k => hv n k
  have side (off : Nat) (hoff : off + 64 ≤ 128) (k : Fin 2560 → Fin 64 → ℝ) :
      ∃ s : Fin 2560 → ℝ, scoresK off hoff x c u d (fun n i => ((k n i : ℝ) : EReal)) = (fun n => ((s n : ℝ) : EReal))
        ∧ scoresR off hoff x c u d (fun n i => ((k n i : ℝ) : EReal)) = (fun n => ((s n : ℝ) : EReal)) := by
    have e : ∀ n, scoresK off hoff x c u d (fun n i => ((k n i : ℝ) : EReal)) n = scoresR off hoff x c u d (fun n i => ((k n i : ℝ) : EReal)) n := by
      intro n
      unfold scoresK scoresR
      simp only [hr]
      exact scores_scale (fun i => r ⟨off + i.val, by omega⟩) k n
    have re : ∀ n, IsReal (scoresR off hoff x c u d (fun n i => ((k n i : ℝ) : EReal)) n) := by
      intro n
      unfold scoresR scores
      refine (IsReal.sum _ fun i => ?_).mul ⟨1 / 8, ?_⟩
      · simp only [hr]; exact IsReal.mul ⟨_, rfl⟩ ⟨_, rfl⟩
      · simp [Ideal.ofBits, Ideal.ieee, -EReal.coe_mul]; norm_num
    choose s hs using re
    exact ⟨s, funext fun n => (e n).trans (hs n), funext hs⟩
  obtain ⟨s1, a1, b1⟩ := side 0 (by omega) k1
  obtain ⟨s2, a2, b2⟩ := side 64 (by omega) k2
  unfold rowK rowR
  rw [a1, a2, b1, b2]
  exact congrArg (fun o => normed o g) (funext fun j => diff_eq s1 s2 v l j)

end Cert.Attn
-- ==== Proof.Tables.lean ====
/- The rotation tables of the latent tokens, as scalars: token `s` stands at row `s / 64`, column `s mod 64` of its image;
   each map's 64 lanes turn by the row in the first 32 and by the column in the last 32, with sixteen frequencies. -/
module

public import proofs.«01_k».proof.Proof.Core

@[expose] public section

set_option maxRecDepth 16384

noncomputable section

namespace Cert.Attn

open Idealize.ShloMosaic

/-- The angle of integer position `p` at integer frequency index `w`: `p * 10000 ^ (-w * 2 / 32)`. -/
def angOf (p w : BitVec 32) : EReal :=
  (FloatOps.sitofp FTy.f32 p : Ideal FTy.f32)
    * Ideal.pow (Ideal.ofBits FTy.f32 0x461C4000#32)
        (Ideal.div (-(FloatOps.sitofp FTy.f32 w : Ideal FTy.f32) * Ideal.ofBits FTy.f32 0x40000000#32) (Ideal.ofBits FTy.f32 0x42000000#32))

/-- A token's row and column. -/
def tokRow (s : Nat) : BitVec 32 := IntOp.divsi ArithUnit.host (BitVec.ofNat 32 s) 64#32
def tokCol (s : Nat) : BitVec 32 := IntOp.remsi ArithUnit.host (BitVec.ofNat 32 s) 64#32

/-- The angle of token `s` at lane `l`. -/
def ang (s : Nat) (l : Fin 128) : EReal :=
  angOf (if (l : Nat) % 64 < 32 then tokRow s else tokCol s) (BitVec.ofNat 32 ((l : Nat) % 16))

/-- The three tables: the cosine, the signed sine that meets the lane sixteen above, the one that meets the lane sixteen below. -/
def cosT (s : Nat) (l : Fin 128) : EReal := Ideal.cos (ang s l)
def upT (s : Nat) (l : Fin 128) : EReal := if (l : Nat) % 32 < 16 then -Ideal.sin (ang s l) else 0
def dnT (s : Nat) (l : Fin 128) : EReal := if (l : Nat) % 32 < 16 then 0 else Ideal.sin (ang s l)

/-- Every angle is a real number. -/
theorem angOf_real (p w : BitVec 32) : IsReal (angOf p w) := by
  have e2 : Ideal.ofBits FTy.f32 0x40000000#32 = ((2 : ℝ) : EReal) := by
    simp [Ideal.ofBits, Ideal.ieee, -EReal.coe_mul]; norm_num
  have e32 : Ideal.ofBits FTy.f32 0x42000000#32 = ((32 : ℝ) : EReal) := by
    simp [Ideal.ofBits, Ideal.ieee, -EReal.coe_mul]; norm_num
  have eb : Ideal.ofBits FTy.f32 0x461C4000#32 = ((10000 : ℝ) : EReal) := by
    simp [Ideal.ofBits, Ideal.ieee, -EReal.coe_mul]; norm_num
  have ew : ∀ v : BitVec 32, (FloatOps.sitofp FTy.f32 v : Ideal FTy.f32) = ((v.toInt : ℝ) : EReal) := fun _ => rfl
  unfold angOf
  rw [e2, e32, eb, ew, ew, Ideal.div_coe (by norm_num), ← EReal.coe_neg, ← EReal.coe_mul, ← EReal.coe_mul, Ideal.pow_coe_coe]
  exact ⟨_, (EReal.coe_mul _ _).symm⟩

theorem cosT_real (s : Nat) (l : Fin 128) : IsReal (cosT s l) := (angOf_real _ _).cos
theorem upT_real (s : Nat) (l : Fin 128) : IsReal (upT s l) := by
  unfold upT; split
  · exact (angOf_real _ _).sin.neg
  · exact IsReal.zero
theorem dnT_real (s : Nat) (l : Fin 128) : IsReal (dnT s l) := by
  unfold dnT; split
  · exact IsReal.zero
  · exact (angOf_real _ _).sin

end Cert.Attn

end
-- ==== Proof.KTab.lean ====
/- The three tables the kernel's host line prepares, read at a token and a lane. -/
module

public import proofs.«01_k».proof.Proof.Gen.KernelIdeal.Value
public import proofs.«01_k».proof.Proof.Tables
public import Idealize.ShloMosaic.Lib.Pipeline.ValueKit
public import Idealize.ShloMosaic.Lib.Claim

@[expose] public section

set_option maxRecDepth 16384

noncomputable section

namespace Cert.KernelIdeal.Value

open Cert.KernelIdeal Cert.KernelIdeal.Gen Idealize.ShloMosaic Idealize.ShloMosaic.TcCoe Idealize.SL.Sem Cert.Attn
open Idealize.ShloMosaic.Pipeline (Dat)

variable (m : (ℓ : Loc nD τ sig) → Buf (Elt Ideal) ℓ)

/-- A lane's place in its map, its frequency index, and the two choices by lane, in words. -/
theorem lane_freq (l : Fin 128) : IntOp.remsi ArithUnit.host (IntOp.remsi ArithUnit.host (BitVec.ofNat 32 ↑l) 64#32) 16#32 = BitVec.ofNat 32 (↑l % 16) := by
  revert l; decide +kernel
theorem lane_axis (l : Fin 128) : IntOp.cmpi CmpIPredicate.slt (IntOp.remsi ArithUnit.host (BitVec.ofNat 32 ↑l) 64#32) 32#32
    = if (l : Nat) % 64 < 32 then 1#1 else 0#1 := by
  revert l; decide +kernel
theorem lane_half (l : Fin 128) : IntOp.cmpi CmpIPredicate.slt (IntOp.remsi ArithUnit.host (IntOp.remsi ArithUnit.host (BitVec.ofNat 32 ↑l) 64#32) 32#32) 16#32
    = if (l : Nat) % 32 < 16 then 1#1 else 0#1 := by
  revert l; decide +kernel
theorem pick {α : Type} (p : Prop) [Decidable p] (a b : α) : Scalar.select (if p then 1#1 else 0#1) a b = if p then a else b := by
  split <;> rfl

set_option maxHeartbeats 1000000 in
/-- The cosine table. -/
theorem tab_cos (c : Dev nD) (s : Fin 2048) (l : Fin 128) :
    (V m c main_v47 : FVec Ideal S2048x128 .f32) (ix2 s l) = cosT s l := by
  unfold V
  simp only [hostOps0, hostOps0_1, hostOps0_2, hostOps0_3, hostOps0_4, hostOps0_5, List.flatten_cons, List.flatten_nil, List.append_nil, List.cons_append, List.nil_append]
  entry_read
  simp only [StableHlo.TRef.toBuf, StableHlo.TRef.ofBuf, cast_cast, cast_eq]
  pointwise
  rw [lane_freq, lane_axis, pick]
  rfl

set_option maxHeartbeats 1000000 in
/-- The signed sines that meet the lane above. -/
theorem tab_up (c : Dev nD) (s : Fin 2048) (l : Fin 128) :
    (V m c main_v51 : FVec Ideal S2048x128 .f32) (ix2 s l) = upT s l := by
  unfold V
  simp only [hostOps0, hostOps0_1, hostOps0_2, hostOps0_3, hostOps0_4, hostOps0_5, List.flatten_cons, List.flatten_nil, List.append_nil, List.cons_append, List.nil_append]
  entry_read
  simp only [StableHlo.TRef.toBuf, StableHlo.TRef.ofBuf, cast_cast, cast_eq]
  pointwise
  rw [lane_freq, lane_axis, lane_half, pick, pick]
  rfl

set_option maxHeartbeats 1000000 in
/-- The sines that meet the lane below. -/
theorem tab_dn (c : Dev nD) (s : Fin 2048) (l : Fin 128) :
    (V m c main_v54 : FVec Ideal S2048x128 .f32) (ix2 s l) = dnT s l := by
  unfold V
  simp only [hostOps0, hostOps0_1, hostOps0_2, hostOps0_3, hostOps0_4, hostOps0_5, List.flatten_cons, List.flatten_nil, List.append_nil, List.cons_append, List.nil_append]
  entry_read
  simp only [StableHlo.TRef.toBuf, StableHlo.TRef.ofBuf, cast_cast, cast_eq]
  pointwise
  rw [lane_freq, lane_axis, lane_half, pick, pick]
  rfl

set_option maxHeartbeats 1000000 in
/-- The four parameter rows and the scale row the region finds. -/
theorem ent_lq1 (c : Dev nD) (l : Fin 64) : (V m c main_v2 : FVec Ideal S1x64 .f32) (ix2 0 l) = (m ((c : Thread nD τ).loc main_arg3) : FVec Ideal S2x64 .f32) (ix2 0 l) := by
  unfold V
  simp only [hostOps0, hostOps0_1, hostOps0_2, hostOps0_3, hostOps0_4, hostOps0_5, List.flatten_cons, List.flatten_nil, List.append_nil, List.cons_append, List.nil_append]
  entry_read
  pointwise
theorem ent_lk1 (c : Dev nD) (l : Fin 64) : (V m c main_v5 : FVec Ideal S1x64 .f32) (ix2 0 l) = (m ((c : Thread nD τ).loc main_arg4) : FVec Ideal S2x64 .f32) (ix2 0 l) := by
  unfold V
  simp only [hostOps0, hostOps0_1, hostOps0_2, hostOps0_3, hostOps0_4, hostOps0_5, List.flatten_cons, List.flatten_nil, List.append_nil, List.cons_append, List.nil_append]
  entry_read
  pointwise
theorem ent_lq2 (c : Dev nD) (l : Fin 64) : (V m c main_v8 : FVec Ideal S1x64 .f32) (ix2 0 l) = (m ((c : Thread nD τ).loc main_arg5) : FVec Ideal S2x64 .f32) (ix2 0 l) := by
  unfold V
  simp only [hostOps0, hostOps0_1, hostOps0_2, hostOps0_3, hostOps0_4, hostOps0_5, List.flatten_cons, List.flatten_nil, List.append_nil, List.cons_append, List.nil_append]
  entry_read
  pointwise
theorem ent_lk2 (c : Dev nD) (l : Fin 64) : (V m c main_v11 : FVec Ideal S1x64 .f32) (ix2 0 l) = (m ((c : Thread nD τ).loc main_arg6) : FVec Ideal S2x64 .f32) (ix2 0 l) := by
  unfold V
  simp only [hostOps0, hostOps0_1, hostOps0_2, hostOps0_3, hostOps0_4, hostOps0_5, List.flatten_cons, List.flatten_nil, List.append_nil, List.cons_append, List.nil_append]
  entry_read
  pointwise
theorem ent_g (c : Dev nD) (l : Fin 128) : (V m c main_v14 : FVec Ideal S1x128 .f32) (ix2 0 l) = (m ((c : Thread nD τ).loc main_arg7) : FVec Ideal S2x128 .f32) (ix2 0 l) := by
  unfold V
  simp only [hostOps0, hostOps0_1, hostOps0_2, hostOps0_3, hostOps0_4, hostOps0_5, List.flatten_cons, List.flatten_nil, List.append_nil, List.cons_append, List.nil_append]
  entry_read
  pointwise

end Cert.KernelIdeal.Value

end
-- ==== Proof.Rows.lean ====
/- Both sides' result at one entry, over the arrays as functions of their coordinates: image `b`, head `h`, token `n`, lane `j`. -/
module

public import proofs.«01_k».proof.Proof.Tables

@[expose] public section

set_option maxRecDepth 16384

noncomputable section

namespace Cert.Attn

open Idealize.ShloMosaic

/-- Entry `j` of a token's projected row, from column `off` and by head. -/
def part (off : Nat) (hoff : off ≤ 2560) (p : Fin 12288 → Fin 3072 → EReal) (b : Fin 2) (h : Fin 4) (n : Fin 2048) (j : Fin 128) : EReal :=
  p ⟨8192 + (b.val * 2048 + n.val), by omega⟩ ⟨off + (h.val * 128 + j.val), by omega⟩

/-- The keys of map `i`: the 2048 latent tokens, rotated, then the 512 cached ones as they are. -/
def keyAt (p : Fin 12288 → Fin 3072 → EReal) (ck : Fin 2 → Fin 4 → Fin 2 → Fin 512 → Fin 64 → EReal) (b : Fin 2) (h : Fin 4) (i : Fin 2)
    (n : Fin 2560) (k : Fin 64) : EReal :=
  if hn : n.val < 2048 then rot (part 1280 (by omega) p b h ⟨n.val, hn⟩) (cosT n) (upT n) (dnT n) ⟨i.val * 64 + k.val, by omega⟩
  else ck b h i ⟨n.val - 2048, by omega⟩ k

/-- The values: the latent tokens' own, then the cached ones. -/
def valAt (p : Fin 12288 → Fin 3072 → EReal) (cv : Fin 2 → Fin 4 → Fin 512 → Fin 128 → EReal) (b : Fin 2) (h : Fin 4) (n : Fin 2560) (j : Fin 128) : EReal :=
  if hn : n.val < 2048 then part 1792 (by omega) p b h ⟨n.val, hn⟩ j else cv b h ⟨n.val - 2048, by omega⟩ j

/-- The kernel's result at an entry, and the reference's. -/
def outK (p : Fin 12288 → Fin 3072 → EReal) (ck : Fin 2 → Fin 4 → Fin 2 → Fin 512 → Fin 64 → EReal) (cv : Fin 2 → Fin 4 → Fin 512 → Fin 128 → EReal)
    (a1 a2 a3 a4 : Fin 64 → EReal) (g : Fin 128 → EReal) (b : Fin 2) (h : Fin 4) (n : Fin 2048) : Fin 128 → EReal :=
  rowK (part 768 (by omega) p b h n) (cosT n) (upT n) (dnT n) (keyAt p ck b h 0) (keyAt p ck b h 1) (valAt p cv b h) (lamOf a1 a2 a3 a4) g
def outR (p : Fin 12288 → Fin 3072 → EReal) (ck : Fin 2 → Fin 4 → Fin 2 → Fin 512 → Fin 64 → EReal) (cv : Fin 2 → Fin 4 → Fin 512 → Fin 128 → EReal)
    (a1 a2 a3 a4 : Fin 64 → EReal) (g : Fin 128 → EReal) (b : Fin 2) (h : Fin 4) (n : Fin 2048) : Fin 128 → EReal :=
  rowR (part 768 (by omega) p b h n) (cosT n) (upT n) (dnT n) (keyAt p ck b h 0) (keyAt p ck b h 1) (valAt p cv b h) (lamOf a1 a2 a3 a4) g

/-- The parts of a latent token's row lie in rows from 8192 on and columns from 768 to 2304, so they are real where these are. -/
theorem part_real {p : Fin 12288 → Fin 3072 → EReal} (hp : ∀ i j, 8192 ≤ i.val → 768 ≤ j.val → j.val < 2304 → IsReal (p i j))
    (off : Nat) (hoff : off ≤ 2560) (h0 : 768 ≤ off) (h1 : off ≤ 1792) (b : Fin 2) (h : Fin 4) (n : Fin 2048) (j : Fin 128) :
    IsReal (part off hoff p b h n j) :=
  hp _ _ (Nat.le_add_right _ _) (show 768 ≤ off + (h.val * 128 + j.val) by omega) (show off + (h.val * 128 + j.val) < 2304 by omega)

/-- The two results agree where the inputs are real numbers. -/
theorem out_eq {p : Fin 12288 → Fin 3072 → EReal} {ck : Fin 2 → Fin 4 → Fin 2 → Fin 512 → Fin 64 → EReal} {cv : Fin 2 → Fin 4 → Fin 512 → Fin 128 → EReal}
    {a1 a2 a3 a4 : Fin 64 → EReal} (g : Fin 128 → EReal) (hp : ∀ i j, 8192 ≤ i.val → 768 ≤ j.val → j.val < 2304 → IsReal (p i j)) (hk : ∀ b h i n k, IsReal (ck b h i n k))
    (hv : ∀ b h n k, IsReal (cv b h n k)) (h1 : ∀ j, IsReal (a1 j)) (h2 : ∀ j, IsReal (a2 j)) (h3 : ∀ j, IsReal (a3 j)) (h4 : ∀ j, IsReal (a4 j))
    (b : Fin 2) (h : Fin 4) (n : Fin 2048) : outK p ck cv a1 a2 a3 a4 g b h n = outR p ck cv a1 a2 a3 a4 g b h n := by
  have hK : ∀ i n k, IsReal (keyAt p ck b h i n k) := fun i n k => by
    unfold keyAt; split
    · exact rot_real (fun _ => part_real hp _ _ (by omega) (by omega) _ _ _ _) (fun _ => cosT_real _ _) (fun _ => upT_real _ _) (fun _ => dnT_real _ _) _
    · exact hk _ _ _ _ _
  exact row_eq g (fun _ => part_real hp _ _ (by omega) (by omega) _ _ _ _) (fun _ => cosT_real _ _) (fun _ => upT_real _ _) (fun _ => dnT_real _ _) (hK 0) (hK 1)
    (fun n k => by unfold valAt; split; exacts [part_real hp _ _ (by omega) (by omega) _ _ _ _, hv _ _ _ _]) (lamOf_real h1 h2 h3 h4)

end Cert.Attn

end
-- ==== Proof.Scratch.lean ====
/- The kernel's carried buffers: what the first point of a head's four leaves in the two key buffers and the value buffer,
   and that the other three points find and leave the same. -/
module

public import proofs.«01_k».proof.Proof.Blocks
public import proofs.«01_k».proof.Proof.Payload
public import proofs.«01_k».proof.Proof.KTab
public import proofs.«01_k».proof.Proof.Rows

@[expose] public section

set_option maxRecDepth 16384

noncomputable section

namespace Cert.KernelIdeal.Value

open Cert.KernelIdeal Cert.KernelIdeal.Gen Idealize.ShloMosaic Idealize.ShloMosaic.TcCoe Idealize.SL.Sem Cert.Attn
open Idealize.ShloMosaic.Pipeline (Dat)

variable (m : (ℓ : Loc nD τ sig) → Buf (Elt Ideal) ℓ)

/-- The launched arrays as functions of their coordinates (layer 0 of the caches). -/
def pIn (c : Dev nD) : Fin 12288 → Fin 3072 → EReal := fun i j => (m ((c : Thread nD τ).loc main_arg0) : FVec Ideal S12288x3072 .bf16) (ix2 i j)
def ckIn (c : Dev nD) : Fin 2 → Fin 4 → Fin 2 → Fin 512 → Fin 64 → EReal := fun b h i n k =>
  (m ((c : Thread nD τ).loc main_arg1) : FVec Ideal S2x2x4x2x512x64 .f32) (ix6 b 0 h i n k)
def cvIn (c : Dev nD) : Fin 2 → Fin 4 → Fin 512 → Fin 128 → EReal := fun b h n k =>
  (m ((c : Thread nD τ).loc main_arg2) : FVec Ideal S2x2x4x512x128 .f32) (ix5 b 0 h n k)

/-- A point's image and head. -/
def imgOf (t : Fin cfg0.N) : Fin 2 := ⟨t.val / 16, (point_lt t).1⟩
def headOf (t : Fin cfg0.N) : Fin 4 := ⟨t.val / 4 % 4, (point_lt t).2.1⟩

/-- The three tables' blocks. -/
theorem row_cos (c : Dev nD) (t : Fin cfg0.N) (n : Fin 2048) (j : Fin 128) :
    (iblk m c 5 t : FVec Ideal S2048x128 .f32) (ix2 n j) = cosT n j := (blk_cos m c t n j).trans (tab_cos m c n j)
theorem row_up (c : Dev nD) (t : Fin cfg0.N) (n : Fin 2048) (j : Fin 128) :
    (iblk m c 6 t : FVec Ideal S2048x128 .f32) (ix2 n j) = upT n j := by
  refine Eq.trans (b := (V m c main_v51 : FVec Ideal S2048x128 .f32) (ix2 n j)) ?_ (tab_up m c n j)
  blk_ext [iblk, idx t]
theorem row_dn (c : Dev nD) (t : Fin cfg0.N) (n : Fin 2048) (j : Fin 128) :
    (iblk m c 7 t : FVec Ideal S2048x128 .f32) (ix2 n j) = dnT n j := by
  refine Eq.trans (b := (V m c main_v54 : FVec Ideal S2048x128 .f32) (ix2 n j)) ?_ (tab_dn m c n j)
  blk_ext [iblk, idx t]

/-- The key block's and the value block's rows. -/
theorem row_k (c : Dev nD) (t : Fin cfg0.N) (n : Fin 2048) (j : Fin 128) :
    (iblk m c 1 t : FVec Ideal S2048x128 .bf16) (ix2 n j) = part 1280 (by omega) (pIn m c) (imgOf t) (headOf t) n j := by
  rw [blk_k]
  unfold part pIn imgOf headOf
  congr 2 <;> exact Fin.ext (by dsimp only; omega)
theorem row_v (c : Dev nD) (t : Fin cfg0.N) (n : Fin 2048) (j : Fin 128) :
    (iblk m c 2 t : FVec Ideal S2048x128 .bf16) (ix2 n j) = part 1792 (by omega) (pIn m c) (imgOf t) (headOf t) n j := by
  rw [blk_v]
  unfold part pIn imgOf headOf
  congr 2 <;> exact Fin.ext (by dsimp only; omega)

/-- The first map's keys of the latent tokens, and the cached ones, as stored. -/
theorem store_k0 (c : Dev nD) (t : Fin cfg0.N) (r : Fin 2048) (k : Fin 64) :
    k0_pay3 (iblk m c 1 t) (iblk m c 5 t) (iblk m c 6 t) (iblk m c 7 t) (ix2 r k)
      = keyAt (pIn m c) (ckIn m c) (imgOf t) (headOf t) 0 ⟨r.val, by omega⟩ k := by
  refine (key1_at _ _ _ _ r k).trans ?_
  simp only [row_k, row_cos, row_up, row_dn]
  unfold keyAt
  rw [dif_pos r.isLt]
  rfl
theorem store_k1 (c : Dev nD) (t : Fin cfg0.N) (r : Fin 2048) (k : Fin 64) :
    k0_pay4 (iblk m c 1 t) (iblk m c 5 t) (iblk m c 6 t) (iblk m c 7 t) (ix2 r k)
      = keyAt (pIn m c) (ckIn m c) (imgOf t) (headOf t) 1 ⟨r.val, by omega⟩ k := by
  refine (key2_at _ _ _ _ r k).trans ?_
  simp only [row_k, row_cos, row_up, row_dn]
  unfold keyAt
  rw [dif_pos r.isLt]
  rfl
theorem store_c0 (c : Dev nD) (t : Fin cfg0.N) (r : Fin 512) (k : Fin 64) :
    k0_pay5 (View.ld (iblk m c 3 t) (Rect.unit ![0, 0, 0, 0, 0, 0] ![1, 1, 1, 1, 512, 64] inb_S1x1x1x2x512x64_S1x1x1x1x512x64_0_0_0_0_0_0)) (ix2 r k)
      = keyAt (pIn m c) (ckIn m c) (imgOf t) (headOf t) 0 ⟨2048 + r.val, by omega⟩ k := by
  have e : k0_pay5 (View.ld (iblk m c 3 t) (Rect.unit ![0, 0, 0, 0, 0, 0] ![1, 1, 1, 1, 512, 64] inb_S1x1x1x2x512x64_S1x1x1x1x512x64_0_0_0_0_0_0)) (ix2 r k)
      = (iblk m c 3 t : FVec Ideal S1x1x1x2x512x64 .f32) (ix6 0 0 0 0 r k) := by
    pointwise [k0_pay5]
  rw [e, blk_ck]
  unfold keyAt
  rw [dif_neg (by dsimp only; omega)]
  exact congrArg (fun z => ckIn m c (imgOf t) (headOf t) 0 z k) (Fin.ext (by dsimp only; omega))
theorem store_c1 (c : Dev nD) (t : Fin cfg0.N) (r : Fin 512) (k : Fin 64) :
    k0_pay6 (View.ld (iblk m c 3 t) (Rect.unit ![0, 0, 0, 1, 0, 0] ![1, 1, 1, 1, 512, 64] inb_S1x1x1x2x512x64_S1x1x1x1x512x64_0_0_0_1_0_0)) (ix2 r k)
      = keyAt (pIn m c) (ckIn m c) (imgOf t) (headOf t) 1 ⟨2048 + r.val, by omega⟩ k := by
  have e : k0_pay6 (View.ld (iblk m c 3 t) (Rect.unit ![0, 0, 0, 1, 0, 0] ![1, 1, 1, 1, 512, 64] inb_S1x1x1x2x512x64_S1x1x1x1x512x64_0_0_0_1_0_0)) (ix2 r k)
      = (iblk m c 3 t : FVec Ideal S1x1x1x2x512x64 .f32) (ix6 0 0 0 1 r k) := by
    pointwise [k0_pay6]
  rw [e, blk_ck]
  unfold keyAt
  rw [dif_neg (by dsimp only; omega)]
  exact congrArg (fun z => ckIn m c (imgOf t) (headOf t) 1 z k) (Fin.ext (by dsimp only; omega))

/-- The values, as stored. -/
theorem store_v (c : Dev nD) (t : Fin cfg0.N) (r : Fin 2048) (j : Fin 128) :
    (iblk m c 2 t : FVec Ideal S2048x128 .bf16) (ix2 r j) = valAt (pIn m c) (cvIn m c) (imgOf t) (headOf t) ⟨r.val, by omega⟩ j := by
  rw [row_v]
  unfold valAt
  rw [dif_pos r.isLt]
theorem store_cv (c : Dev nD) (t : Fin cfg0.N) (r : Fin 512) (j : Fin 128) :
    (iblk m c 4 t : FVec Ideal S1x1x1x512x128 .f32) (ix5 0 0 0 r j) = valAt (pIn m c) (cvIn m c) (imgOf t) (headOf t) ⟨2048 + r.val, by omega⟩ j := by
  rw [blk_cv]
  unfold valAt
  rw [dif_neg (by dsimp only; omega)]
  exact congrArg (fun z => cvIn m c (imgOf t) (headOf t) z j) (Fin.ext (by dsimp only; omega))

/-- The three buffers after the first of a head's four points. -/
theorem fill0 (c : Dev nD) (t : Fin cfg0.N) (h0 : t.val % 4 = 0) (n : Fin 2560) (k : Fin 64) :
    ((outsAt0 m c t.val t.isLt).2.1 : FVec Ideal S2560x64 .bf16) (ix2 n k) = keyAt (pIn m c) (ckIn m c) (imgOf t) (headOf t) 0 n k := by
  rw [outsAt0_A m c t h0]
  frame_out
  clear h0
  canon_tiles x hh using (View.cover_of_tiledBy _ ![512, 64] (by sl_kernel_rfl) _)
  · idx_vars x
    rw [show n = ⟨2048 + x0.val, by omega⟩ from Fin.ext hh0, show k = x1 from Fin.ext hh1]
    exact store_c0 m c t x0 x1
  · idx_vars x
    rw [show n = ⟨x0.val, by omega⟩ from Fin.ext hh0, show k = x1 from Fin.ext hh1]
    exact store_k0 m c t x0 x1
theorem fill1 (c : Dev nD) (t : Fin cfg0.N) (h0 : t.val % 4 = 0) (n : Fin 2560) (k : Fin 64) :
    ((outsAt0 m c t.val t.isLt).2.2.1 : FVec Ideal S2560x64 .bf16) (ix2 n k) = keyAt (pIn m c) (ckIn m c) (imgOf t) (headOf t) 1 n k := by
  rw [outsAt0_A m c t h0]
  frame_out
  clear h0
  canon_tiles x hh using (View.cover_of_tiledBy _ ![512, 64] (by sl_kernel_rfl) _)
  · idx_vars x
    rw [show n = ⟨2048 + x0.val, by omega⟩ from Fin.ext hh0, show k = x1 from Fin.ext hh1]
    exact store_c1 m c t x0 x1
  · idx_vars x
    rw [show n = ⟨x0.val, by omega⟩ from Fin.ext hh0, show k = x1 from Fin.ext hh1]
    exact store_k1 m c t x0 x1
theorem fill2 (c : Dev nD) (t : Fin cfg0.N) (h0 : t.val % 4 = 0) (n : Fin 2560) (k : Fin 128) :
    ((outsAt0 m c t.val t.isLt).2.2.2 : FVec Ideal S2560x128 .bf16) (ix2 n k) = valAt (pIn m c) (cvIn m c) (imgOf t) (headOf t) n k := by
  rw [outsAt0_A m c t h0]
  frame_out
  clear h0
  canon_tiles x hh using (View.cover_of_tiledBy _ ![512, 128] (by sl_kernel_rfl) _)
  · idx_vars x
    rw [show n = ⟨2048 + x0.val, by omega⟩ from Fin.ext hh0, show k = x1 from Fin.ext hh1]
    refine Eq.trans ?_ (store_cv m c t x0 x1)
    pointwise [k0_pay8]
  · idx_vars x
    rw [show n = ⟨x0.val, by omega⟩ from Fin.ext hh0, show k = x1 from Fin.ext hh1]
    refine Eq.trans ?_ (store_v m c t x0 x1)
    pointwise [k0_pay7]

/-- The other three points leave the buffers as they find them. -/
theorem keep0 (c : Dev nD) (t : Fin cfg0.N) (h0 : ¬t.val % 4 = 0) :
    (outsAt0 m c t.val t.isLt).2.1 = (outsAt0 m c (t.val - 1) (lt_of_le_of_lt (Nat.sub_le _ _) t.isLt)).2.1 := by
  rw [outsAt0_B m c t h0]
  rfl
theorem keep1 (c : Dev nD) (t : Fin cfg0.N) (h0 : ¬t.val % 4 = 0) :
    (outsAt0 m c t.val t.isLt).2.2.1 = (outsAt0 m c (t.val - 1) (lt_of_le_of_lt (Nat.sub_le _ _) t.isLt)).2.2.1 := by
  rw [outsAt0_B m c t h0]
  rfl
theorem keep2 (c : Dev nD) (t : Fin cfg0.N) (h0 : ¬t.val % 4 = 0) :
    (outsAt0 m c t.val t.isLt).2.2.2 = (outsAt0 m c (t.val - 1) (lt_of_le_of_lt (Nat.sub_le _ _) t.isLt)).2.2.2 := by
  rw [outsAt0_B m c t h0]
  rfl

/-- A point that is not its head's first has the image and the head of the point before. -/
theorem img_pred (t : Fin cfg0.N) (h0 : ¬t.val % 4 = 0) : imgOf ⟨t.val - 1, lt_of_le_of_lt (Nat.sub_le _ _) t.isLt⟩ = imgOf t :=
  Fin.ext (by show (t.val - 1) / 16 = t.val / 16; omega)
theorem head_pred (t : Fin cfg0.N) (h0 : ¬t.val % 4 = 0) : headOf ⟨t.val - 1, lt_of_le_of_lt (Nat.sub_le _ _) t.isLt⟩ = headOf t :=
  Fin.ext (by show (t.val - 1) / 4 % 4 = t.val / 4 % 4; omega)

/-- So after every point the buffers hold its head's keys and values. -/
theorem held0 (c : Dev nD) : ∀ (s : Nat) (hs : s < cfg0.N) (n : Fin 2560) (k : Fin 64),
    ((outsAt0 m c s hs).2.1 : FVec Ideal S2560x64 .bf16) (ix2 n k) = keyAt (pIn m c) (ckIn m c) (imgOf ⟨s, hs⟩) (headOf ⟨s, hs⟩) 0 n k := by
  intro s
  induction s with
  | zero => exact fun hs n k => fill0 m c ⟨0, hs⟩ rfl n k
  | succ s ih =>
    intro hs n k
    by_cases h0 : (s + 1) % 4 = 0
    · exact fill0 m c ⟨s + 1, hs⟩ h0 n k
    · rw [keep0 m c ⟨s + 1, hs⟩ h0, ← img_pred ⟨s + 1, hs⟩ h0, ← head_pred ⟨s + 1, hs⟩ h0]
      exact ih _ n k
theorem held1 (c : Dev nD) : ∀ (s : Nat) (hs : s < cfg0.N) (n : Fin 2560) (k : Fin 64),
    ((outsAt0 m c s hs).2.2.1 : FVec Ideal S2560x64 .bf16) (ix2 n k) = keyAt (pIn m c) (ckIn m c) (imgOf ⟨s, hs⟩) (headOf ⟨s, hs⟩) 1 n k := by
  intro s
  induction s with
  | zero => exact fun hs n k => fill1 m c ⟨0, hs⟩ rfl n k
  | succ s ih =>
    intro hs n k
    by_cases h0 : (s + 1) % 4 = 0
    · exact fill1 m c ⟨s + 1, hs⟩ h0 n k
    · rw [keep1 m c ⟨s + 1, hs⟩ h0, ← img_pred ⟨s + 1, hs⟩ h0, ← head_pred ⟨s + 1, hs⟩ h0]
      exact ih _ n k
theorem held2 (c : Dev nD) : ∀ (s : Nat) (hs : s < cfg0.N) (n : Fin 2560) (k : Fin 128),
    ((outsAt0 m c s hs).2.2.2 : FVec Ideal S2560x128 .bf16) (ix2 n k) = valAt (pIn m c) (cvIn m c) (imgOf ⟨s, hs⟩) (headOf ⟨s, hs⟩) n k := by
  intro s
  induction s with
  | zero => exact fun hs n k => fill2 m c ⟨0, hs⟩ rfl n k
  | succ s ih =>
    intro hs n k
    by_cases h0 : (s + 1) % 4 = 0
    · exact fill2 m c ⟨s + 1, hs⟩ h0 n k
    · rw [keep2 m c ⟨s + 1, hs⟩ h0, ← img_pred ⟨s + 1, hs⟩ h0, ← head_pred ⟨s + 1, hs⟩ h0]
      exact ih _ n k

end Cert.KernelIdeal.Value

end
-- ==== Proof.Output.lean ====
/- The kernel's result block: both halves of a point's 512 rows, from the rows of the query block, the tables and the carried buffers. -/
module

public import proofs.«01_k».proof.Proof.Scratch
public import Idealize.ShloMosaic.Lib.Pipeline.ReadBack

@[expose] public section

set_option maxRecDepth 16384

noncomputable section

namespace Cert.KernelIdeal.Value

open Cert.KernelIdeal Cert.KernelIdeal.Gen Idealize.ShloMosaic Idealize.ShloMosaic.TcCoe Idealize.SL.Sem Cert.Attn
open Idealize.ShloMosaic.Pipeline (Dat)

variable (m : (ℓ : Loc nD τ sig) → Buf (Elt Ideal) ℓ)

/-- The parameter rows of layer 0 as launched. -/
def a1In (c : Dev nD) : Fin 64 → EReal := fun j => (m ((c : Thread nD τ).loc main_arg3) : FVec Ideal S2x64 .f32) (ix2 0 j)
def a2In (c : Dev nD) : Fin 64 → EReal := fun j => (m ((c : Thread nD τ).loc main_arg4) : FVec Ideal S2x64 .f32) (ix2 0 j)
def a3In (c : Dev nD) : Fin 64 → EReal := fun j => (m ((c : Thread nD τ).loc main_arg5) : FVec Ideal S2x64 .f32) (ix2 0 j)
def a4In (c : Dev nD) : Fin 64 → EReal := fun j => (m ((c : Thread nD τ).loc main_arg6) : FVec Ideal S2x64 .f32) (ix2 0 j)
def gIn (c : Dev nD) : Fin 128 → EReal := fun j => (m ((c : Thread nD τ).loc main_arg7) : FVec Ideal S2x128 .f32) (ix2 0 j)

theorem row_a1 (c : Dev nD) (t : Fin cfg0.N) (j : Fin 64) : (iblk m c 8 t : FVec Ideal S1x64 .f32) (ix2 0 j) = a1In m c j := by
  refine Eq.trans (b := (V m c main_v2 : FVec Ideal S1x64 .f32) (ix2 0 j)) ?_ (ent_lq1 m c j)
  blk_ext [iblk, idx t]
theorem row_a2 (c : Dev nD) (t : Fin cfg0.N) (j : Fin 64) : (iblk m c 9 t : FVec Ideal S1x64 .f32) (ix2 0 j) = a2In m c j := by
  refine Eq.trans (b := (V m c main_v5 : FVec Ideal S1x64 .f32) (ix2 0 j)) ?_ (ent_lk1 m c j)
  blk_ext [iblk, idx t]
theorem row_a3 (c : Dev nD) (t : Fin cfg0.N) (j : Fin 64) : (iblk m c 10 t : FVec Ideal S1x64 .f32) (ix2 0 j) = a3In m c j := by
  refine Eq.trans (b := (V m c main_v8 : FVec Ideal S1x64 .f32) (ix2 0 j)) ?_ (ent_lq2 m c j)
  blk_ext [iblk, idx t]
theorem row_a4 (c : Dev nD) (t : Fin cfg0.N) (j : Fin 64) : (iblk m c 11 t : FVec Ideal S1x64 .f32) (ix2 0 j) = a4In m c j := by
  refine Eq.trans (b := (V m c main_v11 : FVec Ideal S1x64 .f32) (ix2 0 j)) ?_ (ent_lk2 m c j)
  blk_ext [iblk, idx t]
theorem row_g (c : Dev nD) (t : Fin cfg0.N) (j : Fin 128) : (iblk m c 12 t : FVec Ideal S1x128 .f32) (ix2 0 j) = gIn m c j := by
  refine Eq.trans (b := (V m c main_v14 : FVec Ideal S1x128 .f32) (ix2 0 j)) ?_ (ent_g m c j)
  blk_ext [iblk, idx t]

/-- Where a half's table rows begin. -/
theorem off_first : ∀ t : Fin cfg0.N, k0_off1 (grid0.coords t) 0#32 = ![t.val % 4 * 512, 0] := (by decide +kernel : ∀ t : Fin grid0.N, _)
theorem off_second : ∀ t : Fin cfg0.N, k0_off1 (grid0.coords t) 256#32 = ![t.val % 4 * 512 + 256, 0] := (by decide +kernel : ∀ t : Fin grid0.N, _)

/-- 256 rows of a table from row `a`. -/
theorem ld_rows (X : FVec Ideal S2048x128 .f32) (off : Fin 2 → Nat) (a : Nat) (ha : a + 256 ≤ 2048) (h : off = ![a, 0])
    (inb : ∀ i : Fin S2048x128.rank, off i + (![256, 128] : Fin 2 → Nat) i ≤ S2048x128.size i) (r : Fin 256) (j : Fin 128) :
    (View.ld (Val := Elt Ideal) (e' := .f32) X (Rect.unit (s := S2048x128) off ![256, 128] inb) : FVec Ideal S256x128 .f32) (ix2 r j) = X (ix2 ⟨a + r.val, by omega⟩ j) := by
  subst h
  pointwise

/-- 256 rows of the query block, from row 0 and from row 256. -/
theorem ld_q0 (c : Dev nD) (t : Fin cfg0.N) (r : Fin 256) (j : Fin 128) :
    (View.ld (iblk m c 0 t) (Rect.unit ![0, 0] ![256, 128] inb_S512x128_S256x128_0_0) : FVec Ideal S256x128 .bf16) (ix2 r j)
      = part 768 (by omega) (pIn m c) (imgOf t) (headOf t) ⟨t.val % 4 * 512 + r.val, by omega⟩ j := by
  have e : (View.ld (iblk m c 0 t) (Rect.unit ![0, 0] ![256, 128] inb_S512x128_S256x128_0_0) : FVec Ideal S256x128 .bf16) (ix2 r j)
      = (iblk m c 0 t : FVec Ideal S512x128 .bf16) (ix2 ⟨r.val, by omega⟩ j) := by pointwise
  rw [e, blk_q]
  unfold part pIn imgOf headOf
  congr 2 <;> exact Fin.ext (by dsimp only; omega)
theorem ld_q1 (c : Dev nD) (t : Fin cfg0.N) (r : Fin 256) (j : Fin 128) :
    (View.ld (iblk m c 0 t) (Rect.unit ![256, 0] ![256, 128] inb_S512x128_S256x128_256_0) : FVec Ideal S256x128 .bf16) (ix2 r j)
      = part 768 (by omega) (pIn m c) (imgOf t) (headOf t) ⟨t.val % 4 * 512 + 256 + r.val, by omega⟩ j := by
  have e : (View.ld (iblk m c 0 t) (Rect.unit ![256, 0] ![256, 128] inb_S512x128_S256x128_256_0) : FVec Ideal S256x128 .bf16) (ix2 r j)
      = (iblk m c 0 t : FVec Ideal S512x128 .bf16) (ix2 ⟨256 + r.val, by omega⟩ j) := by pointwise
  rw [e, blk_q]
  unfold part pIn imgOf headOf
  congr 2 <;> exact Fin.ext (by dsimp only; omega)

/-- The kernel's result row. -/
def rowOut (c : Dev nD) (t : Fin cfg0.N) (n : Fin 2048) : Fin 128 → EReal :=
  outK (pIn m c) (ckIn m c) (cvIn m c) (a1In m c) (a2In m c) (a3In m c) (a4In m c) (gIn m c) (imgOf t) (headOf t) n

/-- The first half's payload over any buffers that hold the head's keys and values. -/
theorem half0 (c : Dev nD) (t : Fin cfg0.N) (K1 K2 : Vec Ideal S2560x64 .bf16) (W : Vec Ideal S2560x128 .bf16)
    (h1 : ∀ n k, K1 (ix2 n k) = keyAt (pIn m c) (ckIn m c) (imgOf t) (headOf t) 0 n k)
    (h2 : ∀ n k, K2 (ix2 n k) = keyAt (pIn m c) (ckIn m c) (imgOf t) (headOf t) 1 n k)
    (hW : ∀ n k, W (ix2 n k) = valAt (pIn m c) (cvIn m c) (imgOf t) (headOf t) n k)
    (i5 i6 i7 : ∀ i : Fin S2048x128.rank, k0_off1 (grid0.coords t) 0#32 i + (![256, 128] : Fin 2 → Nat) i ≤ S2048x128.size i) (r : Fin 256) (j : Fin 128) :
    k0_pay20 (k0_pay9 (iblk m c 8 t) (iblk m c 9 t) (iblk m c 10 t) (iblk m c 11 t)) W (k0_pay15 (iblk m c 12 t))
      (k0_pay17 (k0_pay10 (View.ld (iblk m c 0 t) (Rect.unit ![0, 0] ![256, 128] inb_S512x128_S256x128_0_0)))
        (k0_pay11 (View.ld (iblk m c 5 t) (Rect.unit (k0_off1 (grid0.coords t) 0#32) ![256, 128] i5)))
        (k0_pay12 (View.ld (iblk m c 6 t) (Rect.unit (k0_off1 (grid0.coords t) 0#32) ![256, 128] i6)))
        (k0_pay13 (View.ld (iblk m c 7 t) (Rect.unit (k0_off1 (grid0.coords t) 0#32) ![256, 128] i7))) K2)
      (k0_pay18 (k0_pay10 (View.ld (iblk m c 0 t) (Rect.unit ![0, 0] ![256, 128] inb_S512x128_S256x128_0_0)))
        (k0_pay11 (View.ld (iblk m c 5 t) (Rect.unit (k0_off1 (grid0.coords t) 0#32) ![256, 128] i5)))
        (k0_pay12 (View.ld (iblk m c 6 t) (Rect.unit (k0_off1 (grid0.coords t) 0#32) ![256, 128] i6)))
        (k0_pay13 (View.ld (iblk m c 7 t) (Rect.unit (k0_off1 (grid0.coords t) 0#32) ![256, 128] i7))) K1 W)
      (k0_pay19 (k0_pay10 (View.ld (iblk m c 0 t) (Rect.unit ![0, 0] ![256, 128] inb_S512x128_S256x128_0_0)))
        (k0_pay11 (View.ld (iblk m c 5 t) (Rect.unit (k0_off1 (grid0.coords t) 0#32) ![256, 128] i5)))
        (k0_pay12 (View.ld (iblk m c 6 t) (Rect.unit (k0_off1 (grid0.coords t) 0#32) ![256, 128] i6)))
        (k0_pay13 (View.ld (iblk m c 7 t) (Rect.unit (k0_off1 (grid0.coords t) 0#32) ![256, 128] i7))) K2) (ix2 r j)
    = rowOut m c t ⟨t.val % 4 * 512 + r.val, by omega⟩ j := by
  refine (half0_at _ _ _ _ K1 K2 W _ _ r j).trans ?_
  unfold rowOut outK
  have e5 : ∀ j, (View.ld (iblk m c 5 t) (Rect.unit (k0_off1 (grid0.coords t) 0#32) ![256, 128] i5) : FVec Ideal S256x128 .f32) (ix2 r j)
      = cosT (t.val % 4 * 512 + r.val) j := fun j => (ld_rows _ _ _ (by omega) (off_first t) i5 r j).trans (row_cos m c t _ j)
  have e6 : ∀ j, (View.ld (iblk m c 6 t) (Rect.unit (k0_off1 (grid0.coords t) 0#32) ![256, 128] i6) : FVec Ideal S256x128 .f32) (ix2 r j)
      = upT (t.val % 4 * 512 + r.val) j := fun j => (ld_rows _ _ _ (by omega) (off_first t) i6 r j).trans (row_up m c t _ j)
  have e7 : ∀ j, (View.ld (iblk m c 7 t) (Rect.unit (k0_off1 (grid0.coords t) 0#32) ![256, 128] i7) : FVec Ideal S256x128 .f32) (ix2 r j)
      = dnT (t.val % 4 * 512 + r.val) j := fun j => (ld_rows _ _ _ (by omega) (off_first t) i7 r j).trans (row_dn m c t _ j)
  have el := lam_at (iblk m c 8 t) (iblk m c 9 t) (iblk m c 10 t) (iblk m c 11 t) 0 0
  simp only [row_a1, row_a2, row_a3, row_a4] at el
  rw [el]
  simp only [ld_q0, e5, e6, e7, h1, h2, hW, row_g]

/-- The second half's. -/
theorem half1 (c : Dev nD) (t : Fin cfg0.N) (K1 K2 : Vec Ideal S2560x64 .bf16) (W : Vec Ideal S2560x128 .bf16)
    (h1 : ∀ n k, K1 (ix2 n k) = keyAt (pIn m c) (ckIn m c) (imgOf t) (headOf t) 0 n k)
    (h2 : ∀ n k, K2 (ix2 n k) = keyAt (pIn m c) (ckIn m c) (imgOf t) (headOf t) 1 n k)
    (hW : ∀ n k, W (ix2 n k) = valAt (pIn m c) (cvIn m c) (imgOf t) (headOf t) n k)
    (i5 i6 i7 : ∀ i : Fin S2048x128.rank, k0_off1 (grid0.coords t) 256#32 i + (![256, 128] : Fin 2 → Nat) i ≤ S2048x128.size i) (r : Fin 256) (j : Fin 128) :
    k0_pay1 (k0_pay25 (iblk m c 12 t))
      (k0_pay27 (k0_pay21 (View.ld (iblk m c 0 t) (Rect.unit ![256, 0] ![256, 128] inb_S512x128_S256x128_256_0)))
        (k0_pay22 (View.ld (iblk m c 7 t) (Rect.unit (k0_off1 (grid0.coords t) 256#32) ![256, 128] i7)))
        (k0_pay23 (View.ld (iblk m c 0 t) (Rect.unit ![256, 0] ![256, 128] inb_S512x128_S256x128_256_0))
          (View.ld (iblk m c 5 t) (Rect.unit (k0_off1 (grid0.coords t) 256#32) ![256, 128] i5))
          (View.ld (iblk m c 6 t) (Rect.unit (k0_off1 (grid0.coords t) 256#32) ![256, 128] i6))) 16#32 K1 W)
      (k0_pay28 (k0_pay21 (View.ld (iblk m c 0 t) (Rect.unit ![256, 0] ![256, 128] inb_S512x128_S256x128_256_0)))
        (k0_pay22 (View.ld (iblk m c 7 t) (Rect.unit (k0_off1 (grid0.coords t) 256#32) ![256, 128] i7)))
        (k0_pay23 (View.ld (iblk m c 0 t) (Rect.unit ![256, 0] ![256, 128] inb_S512x128_S256x128_256_0))
          (View.ld (iblk m c 5 t) (Rect.unit (k0_off1 (grid0.coords t) 256#32) ![256, 128] i5))
          (View.ld (iblk m c 6 t) (Rect.unit (k0_off1 (grid0.coords t) 256#32) ![256, 128] i6))) 16#32 K2 W)
      (k0_pay29 (k0_pay21 (View.ld (iblk m c 0 t) (Rect.unit ![256, 0] ![256, 128] inb_S512x128_S256x128_256_0)))
        (k0_pay22 (View.ld (iblk m c 7 t) (Rect.unit (k0_off1 (grid0.coords t) 256#32) ![256, 128] i7)))
        (k0_pay23 (View.ld (iblk m c 0 t) (Rect.unit ![256, 0] ![256, 128] inb_S512x128_S256x128_256_0))
          (View.ld (iblk m c 5 t) (Rect.unit (k0_off1 (grid0.coords t) 256#32) ![256, 128] i5))
          (View.ld (iblk m c 6 t) (Rect.unit (k0_off1 (grid0.coords t) 256#32) ![256, 128] i6))) 16#32 K2)
      (k0_pay30 (k0_pay9 (iblk m c 8 t) (iblk m c 9 t) (iblk m c 10 t) (iblk m c 11 t))) (ix2 r j)
    = rowOut m c t ⟨t.val % 4 * 512 + 256 + r.val, by omega⟩ j := by
  refine (half1_at _ _ _ _ K1 K2 W _ _ r j).trans ?_
  unfold rowOut outK
  have e5 : ∀ j, (View.ld (iblk m c 5 t) (Rect.unit (k0_off1 (grid0.coords t) 256#32) ![256, 128] i5) : FVec Ideal S256x128 .f32) (ix2 r j)
      = cosT (t.val % 4 * 512 + 256 + r.val) j := fun j => (ld_rows _ _ _ (by omega) (off_second t) i5 r j).trans (row_cos m c t _ j)
  have e6 : ∀ j, (View.ld (iblk m c 6 t) (Rect.unit (k0_off1 (grid0.coords t) 256#32) ![256, 128] i6) : FVec Ideal S256x128 .f32) (ix2 r j)
      = upT (t.val % 4 * 512 + 256 + r.val) j := fun j => (ld_rows _ _ _ (by omega) (off_second t) i6 r j).trans (row_up m c t _ j)
  have e7 : ∀ j, (View.ld (iblk m c 7 t) (Rect.unit (k0_off1 (grid0.coords t) 256#32) ![256, 128] i7) : FVec Ideal S256x128 .f32) (ix2 r j)
      = dnT (t.val % 4 * 512 + 256 + r.val) j := fun j => (ld_rows _ _ _ (by omega) (off_second t) i7 r j).trans (row_dn m c t _ j)
  have el := lam_at (iblk m c 8 t) (iblk m c 9 t) (iblk m c 10 t) (iblk m c 11 t) 0 0
  simp only [row_a1, row_a2, row_a3, row_a4] at el
  rw [el]
  simp only [ld_q1, e5, e6, e7, h1, h2, hW, row_g]

/-- A block's row is a row of the image. -/
theorem q_lt (t : Fin cfg0.N) (r : Fin 512) : t.val % 4 * 512 + r.val < 2048 := by omega

/-- The whole block's index is its own. -/
theorem whole_idx (s : Shape) (off : Fin s.rank → Nat) (h : ∀ a, off a = 0) (inb : ∀ a, off a + s.size a ≤ s.size a) (y : s.Idx) :
    (Rect.unit off s.size inb).toLoadRect.idx y = y :=
  funext fun a => Fin.ext (by
    show off a + 1 * (y a).val = (y a).val
    rw [h a]; omega)

/-- A point's result block. -/
theorem block_B (c : Dev nD) (t : Fin cfg0.N) (h0 : ¬t.val % 4 = 0) (r : Fin 512) (j : Fin 128) :
    ((outsAt0 m c t.val t.isLt).1 : FVec Ideal S512x128 .bf16) (ix2 r j) = rowOut m c t ⟨t.val % 4 * 512 + r.val, q_lt t r⟩ j := by
  have k1 := held0 m c (t.val - 1) (lt_of_le_of_lt (Nat.sub_le _ _) t.isLt)
  have k2 := held1 m c (t.val - 1) (lt_of_le_of_lt (Nat.sub_le _ _) t.isLt)
  have kv := held2 m c (t.val - 1) (lt_of_le_of_lt (Nat.sub_le _ _) t.isLt)
  rw [img_pred t h0, head_pred t h0] at k1 k2 kv
  rw [outsAt0_B m c t h0]
  frame_out
  clear h0
  canon_tiles x hh using (View.cover_of_tiledBy _ ![256, 128] (by sl_kernel_rfl) _)
  · idx_vars x
    rw [show r = ⟨256 + x0.val, by have := x0.isLt; omega⟩ from Fin.ext hh0, show j = x1 from Fin.ext hh1]
    refine (half1 m c t _ _ _ ?_ ?_ ?_ _ _ _ x0 x1).trans ?_
    · intro n k; rw [read_unread_whole]; exact k1 n k
    · intro n k; rw [read_unread_whole]; exact k2 n k
    · intro n k; rw [read_unread_whole]; exact kv n k
    · exact congrArg (fun z => rowOut m c t z x1) (Fin.ext (by dsimp only; omega))
  · idx_vars x
    rw [show r = ⟨x0.val, by have := x0.isLt; omega⟩ from Fin.ext hh0, show j = x1 from Fin.ext hh1]
    refine (half0 m c t _ _ _ ?_ ?_ ?_ _ _ _ x0 x1)
    · intro n k; rw [read_unread_whole]; exact k1 n k
    · intro n k; rw [read_unread_whole]; exact k2 n k
    · intro n k; rw [read_unread_whole]; exact kv n k

/-- What the first point of a head stores in the key and value buffers, read at an entry. -/
theorem canon0 (c : Dev nD) (t : Fin cfg0.N) (h0 : t.val % 4 = 0) (n : Fin 2560) (k : Fin 64) :
    (View.canon (Val := Elt Ideal) (e := .bf16) [⟨Rect.unit (s := S2560x64) ![2048, 0] ![512, 64] inb_S2560x64_S512x64_2048_0,
        k0_pay5 (View.ld (iblk m c 3 t) (Rect.unit ![0, 0, 0, 0, 0, 0] ![1, 1, 1, 1, 512, 64] inb_S1x1x1x2x512x64_S1x1x1x1x512x64_0_0_0_0_0_0))⟩,
      ⟨Rect.unit ![0, 0] ![2048, 64] inb_S2560x64_S2048x64_0_0, k0_pay3 (iblk m c 1 t) (iblk m c 5 t) (iblk m c 6 t) (iblk m c 7 t)⟩] : FVec Ideal S2560x64 .bf16) (ix2 n k)
      = keyAt (pIn m c) (ckIn m c) (imgOf t) (headOf t) 0 n k := by
  have h := fill0 m c t h0 n k
  rw [outsAt0_A m c t h0] at h
  frame_out at h
  exact h
theorem canon1 (c : Dev nD) (t : Fin cfg0.N) (h0 : t.val % 4 = 0) (n : Fin 2560) (k : Fin 64) :
    (View.canon (Val := Elt Ideal) (e := .bf16) [⟨Rect.unit (s := S2560x64) ![2048, 0] ![512, 64] inb_S2560x64_S512x64_2048_0,
        k0_pay6 (View.ld (iblk m c 3 t) (Rect.unit ![0, 0, 0, 1, 0, 0] ![1, 1, 1, 1, 512, 64] inb_S1x1x1x2x512x64_S1x1x1x1x512x64_0_0_0_1_0_0))⟩,
      ⟨Rect.unit ![0, 0] ![2048, 64] inb_S2560x64_S2048x64_0_0, k0_pay4 (iblk m c 1 t) (iblk m c 5 t) (iblk m c 6 t) (iblk m c 7 t)⟩] : FVec Ideal S2560x64 .bf16) (ix2 n k)
      = keyAt (pIn m c) (ckIn m c) (imgOf t) (headOf t) 1 n k := by
  have h := fill1 m c t h0 n k
  rw [outsAt0_A m c t h0] at h
  frame_out at h
  exact h
theorem canon2 (c : Dev nD) (t : Fin cfg0.N) (h0 : t.val % 4 = 0) (n : Fin 2560) (k : Fin 128) :
    (View.canon (Val := Elt Ideal) (e := .bf16) [⟨Rect.unit (s := S2560x128) ![2048, 0] ![512, 128] inb_S2560x128_S512x128_2048_0, k0_pay8 (iblk m c 4 t)⟩,
      ⟨Rect.unit ![0, 0] ![2048, 128] inb_S2560x128_S2048x128_0_0, k0_pay7 (iblk m c 2 t)⟩] : FVec Ideal S2560x128 .bf16) (ix2 n k)
      = valAt (pIn m c) (cvIn m c) (imgOf t) (headOf t) n k := by
  have h := fill2 m c t h0 n k
  rw [outsAt0_A m c t h0] at h
  frame_out at h
  exact h

/-- The result block of a head's first point. -/
theorem block_A (c : Dev nD) (t : Fin cfg0.N) (h0 : t.val % 4 = 0) (r : Fin 512) (j : Fin 128) :
    ((outsAt0 m c t.val t.isLt).1 : FVec Ideal S512x128 .bf16) (ix2 r j) = rowOut m c t ⟨t.val % 4 * 512 + r.val, q_lt t r⟩ j := by
  have k1 := canon0 m c t h0
  have k2 := canon1 m c t h0
  have kv := canon2 m c t h0
  rw [outsAt0_A m c t h0]
  frame_out
  clear h0
  canon_tiles x hh using (View.cover_of_tiledBy _ ![256, 128] (by sl_kernel_rfl) _)
  · idx_vars x
    rw [show r = ⟨256 + x0.val, by have := x0.isLt; omega⟩ from Fin.ext hh0, show j = x1 from Fin.ext hh1]
    refine (half1 m c t _ _ _ ?_ ?_ ?_ _ _ _ x0 x1).trans ?_
    · intro n k; rw [View.readCov_eq_canon']; exact (congrArg _ (whole_idx S2560x64 _ (by decide) _ _)).trans (k1 n k)
    · intro n k; rw [View.readCov_eq_canon']; exact (congrArg _ (whole_idx S2560x64 _ (by decide) _ _)).trans (k2 n k)
    · intro n k; rw [View.readCov_eq_canon']; exact (congrArg _ (whole_idx S2560x128 _ (by decide) _ _)).trans (kv n k)
    · exact congrArg (fun z => rowOut m c t z x1) (Fin.ext (by dsimp only; omega))
  · idx_vars x
    rw [show r = ⟨x0.val, by have := x0.isLt; omega⟩ from Fin.ext hh0, show j = x1 from Fin.ext hh1]
    refine (half0 m c t _ _ _ ?_ ?_ ?_ _ _ _ x0 x1)
    · intro n k; rw [View.readCov_eq_canon']; exact (congrArg _ (whole_idx S2560x64 _ (by decide) _ _)).trans (k1 n k)
    · intro n k; rw [View.readCov_eq_canon']; exact (congrArg _ (whole_idx S2560x64 _ (by decide) _ _)).trans (k2 n k)
    · intro n k; rw [View.readCov_eq_canon']; exact (congrArg _ (whole_idx S2560x128 _ (by decide) _ _)).trans (kv n k)

theorem block (c : Dev nD) (t : Fin cfg0.N) (r : Fin 512) (j : Fin 128) :
    ((outsAt0 m c t.val t.isLt).1 : FVec Ideal S512x128 .bf16) (ix2 r j) = rowOut m c t ⟨t.val % 4 * 512 + r.val, by omega⟩ j := by
  by_cases h0 : t.val % 4 = 0
  · exact block_A m c t h0 r j
  · exact block_B m c t h0 r j

/-- The specification of the whole result: row `b·2048 + n`, column `h·128 + j`. -/
def outArr (c : Dev nD) : Vec Ideal S4096x512 .bf16 := fun y =>
  outK (pIn m c) (ckIn m c) (cvIn m c) (a1In m c) (a2In m c) (a3In m c) (a4In m c) (gIn m c)
    ⟨(y 0).val / 2048, by have : (y 0).val < 4096 := (y 0).isLt; omega⟩ ⟨(y 1).val / 128, by have : (y 1).val < 512 := (y 1).isLt; omega⟩
    ⟨(y 0).val % 2048, by omega⟩ ⟨(y 1).val % 128, by omega⟩

/-- The result array when every point has flushed. -/
theorem arr_out (c : Dev nD) : (dats m 0 c).arrAt 13 cfg0.N = outArr m c := by
  refine (dats m 0 c).arrAt_eq_of_covers 13 (outArr m c) (by decide +kernel) fun t hf y => ?_
  blk_simp
  rw [after0_13]
  idx_vars y
  rw [block m c t y0 y1]
  have ht := point_lt t
  have e : ((View.whole main_v55).slice (win0_13.rect t)).emb (ix2 y0 y1)
      = (ix2 ⟨t.val / 16 * 2048 + (t.val % 4 * 512 + y0.val), by omega⟩ ⟨t.val / 4 % 4 * 128 + y1.val, by omega⟩ : S4096x512.Idx) := by
    blk_ext [idx t]
  rw [e]
  have q : ∀ (b b' : Fin 2) (h h' : Fin 4) (n n' : Fin 2048) (v v' : Fin 128), b = b' → h = h' → n = n' → v = v' →
      outK (pIn m c) (ckIn m c) (cvIn m c) (a1In m c) (a2In m c) (a3In m c) (a4In m c) (gIn m c) b h n v
        = outK (pIn m c) (ckIn m c) (cvIn m c) (a1In m c) (a2In m c) (a3In m c) (a4In m c) (gIn m c) b' h' n' v' := by
    rintro b _ h _ n _ v _ rfl rfl rfl rfl; rfl
  refine q _ _ _ _ _ _ _ _ ?_ ?_ ?_ ?_
  · exact Fin.ext (show t.val / 16 = (t.val / 16 * 2048 + (t.val % 4 * 512 + y0.val)) / 2048 by omega)
  · exact Fin.ext (show t.val / 4 % 4 = (t.val / 4 % 4 * 128 + y1.val) / 128 by omega)
  · exact Fin.ext (show t.val % 4 * 512 + y0.val = (t.val / 16 * 2048 + (t.val % 4 * 512 + y0.val)) % 2048 by omega)
  · exact Fin.ext (show y1.val = (t.val / 4 % 4 * 128 + y1.val) % 128 by omega)

end Cert.KernelIdeal.Value

end
-- ==== Proof.RefRot.lean ====
module

public import proofs.«01_k».proof.Proof.Gen.ReferenceIdeal.Read
public import proofs.«01_k».proof.Proof.Terms
public import Idealize.ShloMosaic.Lib.Pointwise

@[expose] public section

set_option maxRecDepth 16384

noncomputable section

namespace Cert.ReferenceIdeal.Read

open Cert.ReferenceIdeal Cert.ReferenceIdeal.Gen Idealize.ShloMosaic Idealize.ShloMosaic.TcCoe Idealize.SL.Sem

variable (x0 : FVec Ideal S12288x3072 .bf16)

/-- Two pieces of sixteen lanes side by side, read at a lane. -/
theorem join16_at (y z : FVec Ideal S2x4x2x2048x16 .f32) (b : Fin 2) (h : Fin 4) (i : Fin 2) (n : Fin 2048) (k : Fin 32) :
    concatenate S2x4x2x2048x32 4 [⟨S2x4x2x2048x16, y⟩, ⟨S2x4x2x2048x16, z⟩] concatenates_S2x4x2x2048x16_S2x4x2x2048x16_S2x4x2x2048x32_d4 (ix5 b h i n k)
      = if h' : (k : Nat) < 16 then y (ix5 b h i n ⟨k, h'⟩) else z (ix5 b h i n ⟨k - 16, by omega⟩) := by
  pointwise

/-- Two pieces of 32 lanes side by side, read at a lane. -/
theorem join32_at (y z : FVec Ideal S2x4x2x2048x32 .f32) (b : Fin 2) (h : Fin 4) (i : Fin 2) (n : Fin 2048) (k : Fin 64) :
    concatenate S2x4x2x2048x64 4 [⟨S2x4x2x2048x32, y⟩, ⟨S2x4x2x2048x32, z⟩] concatenates_S2x4x2x2048x32_S2x4x2x2048x32_S2x4x2x2048x64_d4 (ix5 b h i n k)
      = if h' : (k : Nat) < 32 then y (ix5 b h i n ⟨k, h'⟩) else z (ix5 b h i n ⟨k - 32, by omega⟩) := by
  pointwise

/-- What the reference's rotation of a 64-lane row `y` leaves at lane `k`, from its four tables: the row position turns lanes 0–31 and the
    column position turns lanes 32–63, each in the two halves of sixteen lanes. -/
def turned (y : Fin 64 → EReal) (cr sr cc sc : Fin 32 → EReal) (k : Fin 64) : EReal :=
  if h : (k : Nat) < 32 then
    y k * cr ⟨k, h⟩ + (if h' : (k : Nat) < 16 then -y ⟨16 + k, by omega⟩ else y ⟨k - 16, by omega⟩) * sr ⟨k, h⟩
  else
    y k * cc ⟨k - 32, by omega⟩
      + (if h' : (k : Nat) - 32 < 16 then -y ⟨32 + (16 + (k - 32)), by omega⟩ else y ⟨32 + (k - 32 - 16), by omega⟩) * sc ⟨k - 32, by omega⟩

/-- The half-swapped row lanes of the key. -/
theorem key_swap_row (b : Fin 2) (h : Fin 4) (i : Fin 2) (n : Fin 2048) (k : Fin 32) : val_main_v64 (F := Ideal) x0 (ix5 b h i n k) =
    if h' : (k : Nat) < 16 then -val_main_v8 (F := Ideal) x0 (ix5 b h i n ⟨16 + k, by omega⟩) else val_main_v8 (F := Ideal) x0 (ix5 b h i n ⟨k - 16, by omega⟩) := by
  unfold val_main_v64
  refine (join16_at _ _ b h i n k).trans ?_
  split
  · rename_i hk
    rw [val_main_v62_apply, val_main_v61_apply, val_main_v60_apply]
    have e : idx_main_v60 (idx_main_v61 (ix5 b h i n ⟨k, hk⟩)) = ix5 b h i n ⟨16 + k, by omega⟩ := by
      funext a; fin_cases a <;> first | rfl | exact Fin.ext (Nat.zero_add _)
    rw [e]
    rfl
  · rename_i hk
    rw [val_main_v63_apply, val_main_v60_apply]
    have e : idx_main_v60 (idx_main_v63 (ix5 b h i n ⟨k - 16, by omega⟩)) = ix5 b h i n ⟨k - 16, by omega⟩ := by
      funext a; fin_cases a <;> first | rfl | exact Fin.ext (Nat.zero_add _)
    rw [e]

/-- The turned row lanes of the key. -/
theorem key_row (b : Fin 2) (h : Fin 4) (i : Fin 2) (n : Fin 2048) (k : Fin 32) : val_main_v71 (F := Ideal) x0 (ix5 b h i n k) =
    val_main_v8 (F := Ideal) x0 (ix5 b h i n ⟨k, by omega⟩) * val_main_v47 (F := Ideal) (ix2 n k)
      + val_main_v64 (F := Ideal) x0 (ix5 b h i n k) * val_main_v48 (F := Ideal) (ix2 n k) := by
  rw [val_main_v71_apply, val_main_v67_apply, val_main_v70_apply, val_main_v66_apply, val_main_v69_apply, val_main_v65_apply, val_main_v68_apply, val_main_v60_apply]
  have e0 : idx_main_v60 (ix5 b h i n k) = ix5 b h i n ⟨k, by omega⟩ := by
    funext a; fin_cases a <;> first | rfl | exact Fin.ext (Nat.zero_add _)
  have e1 : idx_main_v65 (idx_main_v66 (ix5 b h i n k)) = ix2 n k := by
    funext a; fin_cases a <;> first | rfl | exact Fin.ext (Nat.zero_add _)
  have e2 : idx_main_v68 (idx_main_v69 (ix5 b h i n k)) = ix2 n k := by
    funext a; fin_cases a <;> first | rfl | exact Fin.ext (Nat.zero_add _)
  rw [e0, e1, e2]
  rfl

/-- The half-swapped column lanes of the key. -/
theorem key_swap_col (b : Fin 2) (h : Fin 4) (i : Fin 2) (n : Fin 2048) (k : Fin 32) : val_main_v76 (F := Ideal) x0 (ix5 b h i n k) =
    if h' : (k : Nat) < 16 then -val_main_v8 (F := Ideal) x0 (ix5 b h i n ⟨32 + (16 + k), by omega⟩) else val_main_v8 (F := Ideal) x0 (ix5 b h i n ⟨32 + (k - 16), by omega⟩) := by
  unfold val_main_v76
  refine (join16_at _ _ b h i n k).trans ?_
  split
  · rename_i hk
    rw [val_main_v74_apply, val_main_v73_apply, val_main_v72_apply]
    have e : idx_main_v72 (idx_main_v73 (ix5 b h i n ⟨k, hk⟩)) = ix5 b h i n ⟨32 + (16 + k), by omega⟩ := by
      funext a; fin_cases a <;> first | rfl | exact Fin.ext (Nat.zero_add _)
    rw [e]
    rfl
  · rename_i hk
    rw [val_main_v75_apply, val_main_v72_apply]
    have e : idx_main_v72 (idx_main_v75 (ix5 b h i n ⟨k - 16, by omega⟩)) = ix5 b h i n ⟨32 + (k - 16), by omega⟩ := by
      funext a; fin_cases a <;> first | rfl | exact Fin.ext (Nat.zero_add _)
    rw [e]

/-- The turned column lanes of the key. -/
theorem key_col (b : Fin 2) (h : Fin 4) (i : Fin 2) (n : Fin 2048) (k : Fin 32) : val_main_v83 (F := Ideal) x0 (ix5 b h i n k) =
    val_main_v8 (F := Ideal) x0 (ix5 b h i n ⟨32 + k, by omega⟩) * val_main_v58 (F := Ideal) (ix2 n k)
      + val_main_v76 (F := Ideal) x0 (ix5 b h i n k) * val_main_v59 (F := Ideal) (ix2 n k) := by
  rw [val_main_v83_apply, val_main_v79_apply, val_main_v82_apply, val_main_v78_apply, val_main_v81_apply, val_main_v77_apply, val_main_v80_apply, val_main_v72_apply]
  have e0 : idx_main_v72 (ix5 b h i n k) = ix5 b h i n ⟨32 + k, by omega⟩ := by
    funext a; fin_cases a <;> first | rfl | exact Fin.ext (Nat.zero_add _)
  have e1 : idx_main_v77 (idx_main_v78 (ix5 b h i n k)) = ix2 n k := by
    funext a; fin_cases a <;> first | rfl | exact Fin.ext (Nat.zero_add _)
  have e2 : idx_main_v80 (idx_main_v81 (ix5 b h i n k)) = ix2 n k := by
    funext a; fin_cases a <;> first | rfl | exact Fin.ext (Nat.zero_add _)
  rw [e0, e1, e2]
  rfl

/-- The key row turned by its token's two positions. -/
theorem key_turned (b : Fin 2) (h : Fin 4) (i : Fin 2) (n : Fin 2048) (k : Fin 64) : val_main_v84 (F := Ideal) x0 (ix5 b h i n k) =
    turned (fun k => val_main_v8 (F := Ideal) x0 (ix5 b h i n k)) (fun k => val_main_v47 (F := Ideal) (ix2 n k)) (fun k => val_main_v48 (F := Ideal) (ix2 n k))
      (fun k => val_main_v58 (F := Ideal) (ix2 n k)) (fun k => val_main_v59 (F := Ideal) (ix2 n k)) k := by
  unfold val_main_v84
  refine (join32_at _ _ b h i n k).trans ?_
  unfold turned
  split
  · rw [key_row, key_swap_row]
  · rename_i hk
    rw [key_col, key_swap_col]
    have e : (⟨32 + ((k : Nat) - 32), by omega⟩ : Fin 64) = k := Fin.ext (by show 32 + ((k : Nat) - 32) = k; omega)
    rw [e]

/-- The half-swapped row lanes of the query. -/
theorem query_swap_row (b : Fin 2) (h : Fin 4) (i : Fin 2) (n : Fin 2048) (k : Fin 32) : val_main_v95 (F := Ideal) x0 (ix5 b h i n k) =
    if h' : (k : Nat) < 16 then -val_main_v5 (F := Ideal) x0 (ix5 b h i n ⟨16 + k, by omega⟩) else val_main_v5 (F := Ideal) x0 (ix5 b h i n ⟨k - 16, by omega⟩) := by
  unfold val_main_v95
  refine (join16_at _ _ b h i n k).trans ?_
  split
  · rename_i hk
    rw [val_main_v93_apply, val_main_v92_apply, val_main_v91_apply]
    have e : idx_main_v91 (idx_main_v92 (ix5 b h i n ⟨k, hk⟩)) = ix5 b h i n ⟨16 + k, by omega⟩ := by
      funext a; fin_cases a <;> first | rfl | exact Fin.ext (Nat.zero_add _)
    rw [e]
    rfl
  · rename_i hk
    rw [val_main_v94_apply, val_main_v91_apply]
    have e : idx_main_v91 (idx_main_v94 (ix5 b h i n ⟨k - 16, by omega⟩)) = ix5 b h i n ⟨k - 16, by omega⟩ := by
      funext a; fin_cases a <;> first | rfl | exact Fin.ext (Nat.zero_add _)
    rw [e]

/-- The turned row lanes of the query. -/
theorem query_row (b : Fin 2) (h : Fin 4) (i : Fin 2) (n : Fin 2048) (k : Fin 32) : val_main_v102 (F := Ideal) x0 (ix5 b h i n k) =
    val_main_v5 (F := Ideal) x0 (ix5 b h i n ⟨k, by omega⟩) * val_main_v47 (F := Ideal) (ix2 n k)
      + val_main_v95 (F := Ideal) x0 (ix5 b h i n k) * val_main_v48 (F := Ideal) (ix2 n k) := by
  rw [val_main_v102_apply, val_main_v98_apply, val_main_v101_apply, val_main_v97_apply, val_main_v100_apply, val_main_v96_apply, val_main_v99_apply, val_main_v91_apply]
  have e0 : idx_main_v91 (ix5 b h i n k) = ix5 b h i n ⟨k, by omega⟩ := by
    funext a; fin_cases a <;> first | rfl | exact Fin.ext (Nat.zero_add _)
  have e1 : idx_main_v96 (idx_main_v97 (ix5 b h i n k)) = ix2 n k := by
    funext a; fin_cases a <;> first | rfl | exact Fin.ext (Nat.zero_add _)
  have e2 : idx_main_v99 (idx_main_v100 (ix5 b h i n k)) = ix2 n k := by
    funext a; fin_cases a <;> first | rfl | exact Fin.ext (Nat.zero_add _)
  rw [e0, e1, e2]
  rfl

/-- The half-swapped column lanes of the query. -/
theorem query_swap_col (b : Fin 2) (h : Fin 4) (i : Fin 2) (n : Fin 2048) (k : Fin 32) : val_main_v107 (F := Ideal) x0 (ix5 b h i n k) =
    if h' : (k : Nat) < 16 then -val_main_v5 (F := Ideal) x0 (ix5 b h i n ⟨32 + (16 + k), by omega⟩) else val_main_v5 (F := Ideal) x0 (ix5 b h i n ⟨32 + (k - 16), by omega⟩) := by
  unfold val_main_v107
  refine (join16_at _ _ b h i n k).trans ?_
  split
  · rename_i hk
    rw [val_main_v105_apply, val_main_v104_apply, val_main_v103_apply]
    have e : idx_main_v103 (idx_main_v104 (ix5 b h i n ⟨k, hk⟩)) = ix5 b h i n ⟨32 + (16 + k), by omega⟩ := by
      funext a; fin_cases a <;> first | rfl | exact Fin.ext (Nat.zero_add _)
    rw [e]
    rfl
  · rename_i hk
    rw [val_main_v106_apply, val_main_v103_apply]
    have e : idx_main_v103 (idx_main_v106 (ix5 b h i n ⟨k - 16, by omega⟩)) = ix5 b h i n ⟨32 + (k - 16), by omega⟩ := by
      funext a; fin_cases a <;> first | rfl | exact Fin.ext (Nat.zero_add _)
    rw [e]

/-- The turned column lanes of the query. -/
theorem query_col (b : Fin 2) (h : Fin 4) (i : Fin 2) (n : Fin 2048) (k : Fin 32) : val_main_v114 (F := Ideal) x0 (ix5 b h i n k) =
    val_main_v5 (F := Ideal) x0 (ix5 b h i n ⟨32 + k, by omega⟩) * val_main_v58 (F := Ideal) (ix2 n k)
      + val_main_v107 (F := Ideal) x0 (ix5 b h i n k) * val_main_v59 (F := Ideal) (ix2 n k) := by
  rw [val_main_v114_apply, val_main_v110_apply, val_main_v113_apply, val_main_v109_apply, val_main_v112_apply, val_main_v108_apply, val_main_v111_apply, val_main_v103_apply]
  have e0 : idx_main_v103 (ix5 b h i n k) = ix5 b h i n ⟨32 + k, by omega⟩ := by
    funext a; fin_cases a <;> first | rfl | exact Fin.ext (Nat.zero_add _)
  have e1 : idx_main_v108 (idx_main_v109 (ix5 b h i n k)) = ix2 n k := by
    funext a; fin_cases a <;> first | rfl | exact Fin.ext (Nat.zero_add _)
  have e2 : idx_main_v111 (idx_main_v112 (ix5 b h i n k)) = ix2 n k := by
    funext a; fin_cases a <;> first | rfl | exact Fin.ext (Nat.zero_add _)
  rw [e0, e1, e2]
  rfl

/-- The query row turned by its token's two positions. -/
theorem query_turned (b : Fin 2) (h : Fin 4) (i : Fin 2) (n : Fin 2048) (k : Fin 64) : val_main_v115 (F := Ideal) x0 (ix5 b h i n k) =
    turned (fun k => val_main_v5 (F := Ideal) x0 (ix5 b h i n k)) (fun k => val_main_v47 (F := Ideal) (ix2 n k)) (fun k => val_main_v48 (F := Ideal) (ix2 n k))
      (fun k => val_main_v58 (F := Ideal) (ix2 n k)) (fun k => val_main_v59 (F := Ideal) (ix2 n k)) k := by
  unfold val_main_v115
  refine (join32_at _ _ b h i n k).trans ?_
  unfold turned
  split
  · rw [query_row, query_swap_row]
  · rename_i hk
    rw [query_col, query_swap_col]
    have e : (⟨32 + ((k : Nat) - 32), by omega⟩ : Fin 64) = k := Fin.ext (by show 32 + ((k : Nat) - 32) = k; omega)
    rw [e]

end Cert.ReferenceIdeal.Read

end
-- ==== Proof.RefTab.lean ====
/- The reference's rotation tables, read at a token and a lane. -/
module

public import proofs.«01_k».proof.Proof.Gen.ReferenceIdeal.Read
public import proofs.«01_k».proof.Proof.Tables
public import Idealize.ShloMosaic.Lib.Pointwise

@[expose] public section

set_option maxRecDepth 16384

noncomputable section

namespace Cert.ReferenceIdeal.Read

open Cert.ReferenceIdeal Cert.ReferenceIdeal.Gen Idealize.ShloMosaic Idealize.ShloMosaic.TcCoe Idealize.SL.Sem Cert.Attn

/-- Sixteen angles twice side by side, read at a lane. -/
theorem twice_at (y : FVec Ideal S2048x16 .f32) (n : Fin 2048) (k : Fin 32) :
    concatenate S2048x32 1 [⟨S2048x16, y⟩, ⟨S2048x16, y⟩] concatenates_S2048x16_S2048x16_S2048x32_d1 (ix2 n k)
      = y (ix2 n ⟨k % 16, by omega⟩) := by
  have e : concatenate S2048x32 1 [⟨S2048x16, y⟩, ⟨S2048x16, y⟩] concatenates_S2048x16_S2048x16_S2048x32_d1 (ix2 n k)
      = if h' : (k : Nat) < 16 then y (ix2 n ⟨k, h'⟩) else y (ix2 n ⟨k - 16, by omega⟩) := by pointwise
  rw [e]
  split
  · exact congrArg (fun z => y (ix2 n z)) (Fin.ext (by show (k : Nat) = k % 16; omega))
  · exact congrArg (fun z => y (ix2 n z)) (Fin.ext (by show (k : Nat) - 16 = k % 16; omega))

/-- The row angles. -/
theorem row_angle (n : Fin 2048) (k : Fin 16) : val_main_v45 (F := Ideal) (ix2 n k) = angOf (tokRow n) (BitVec.ofNat 32 k) := by
  rw [val_main_v45_apply, val_main_v43_apply, val_main_v44_apply, val_main_v41_apply, val_main_v42_apply, val_main_v40_apply, val_main_v39_apply,
    val_main_v38_apply, val_main_v37_apply, val_main_v36_apply, val_main_v35_apply, val_main_v34_apply, val_main_v33_apply, val_main_v32_apply,
    val_main_v31_apply, val_main_v30_apply, val_main_v29_apply, val_main_v28_apply, val_main_c_apply, val_main_cst_4_apply, val_main_cst_3_apply, val_main_cst_2_apply]
  rfl

/-- The column angles. -/
theorem col_angle (n : Fin 2048) (k : Fin 16) : val_main_v56 (F := Ideal) (ix2 n k) = angOf (tokCol n) (BitVec.ofNat 32 k) := by
  rw [val_main_v56_apply, val_main_v54_apply, val_main_v55_apply, val_main_v52_apply, val_main_v53_apply, val_main_v51_apply, val_main_v50_apply,
    val_main_v49_apply, val_main_v37_apply, val_main_v36_apply, val_main_v35_apply, val_main_v34_apply, val_main_v33_apply, val_main_v32_apply,
    val_main_v31_apply, val_main_v30_apply, val_main_v29_apply, val_main_v28_apply, val_main_c_5_apply, val_main_cst_4_apply, val_main_cst_3_apply, val_main_cst_2_apply]
  rfl

/-- The four tables. -/
theorem row_cos (n : Fin 2048) (k : Fin 32) : val_main_v47 (F := Ideal) (ix2 n k) = Ideal.cos (angOf (tokRow n) (BitVec.ofNat 32 (k % 16))) := by
  rw [val_main_v47_apply]
  exact congrArg Ideal.cos ((twice_at _ n k).trans (row_angle n _))
theorem row_sin (n : Fin 2048) (k : Fin 32) : val_main_v48 (F := Ideal) (ix2 n k) = Ideal.sin (angOf (tokRow n) (BitVec.ofNat 32 (k % 16))) := by
  rw [val_main_v48_apply]
  exact congrArg Ideal.sin ((twice_at _ n k).trans (row_angle n _))
theorem col_cos (n : Fin 2048) (k : Fin 32) : val_main_v58 (F := Ideal) (ix2 n k) = Ideal.cos (angOf (tokCol n) (BitVec.ofNat 32 (k % 16))) := by
  rw [val_main_v58_apply]
  exact congrArg Ideal.cos ((twice_at _ n k).trans (col_angle n _))
theorem col_sin (n : Fin 2048) (k : Fin 32) : val_main_v59 (F := Ideal) (ix2 n k) = Ideal.sin (angOf (tokCol n) (BitVec.ofNat 32 (k % 16))) := by
  rw [val_main_v59_apply]
  exact congrArg Ideal.sin ((twice_at _ n k).trans (col_angle n _))

end Cert.ReferenceIdeal.Read

end
-- ==== Proof.RefKeys.lean ====
/- What the reference holds as queries, keys, values and the second map's weight. -/
module

public import proofs.«01_k».proof.Proof.RefRot
public import proofs.«01_k».proof.Proof.RefTab
public import proofs.«01_k».proof.Proof.Rows

@[expose] public section

set_option maxRecDepth 16384

noncomputable section

namespace Cert.ReferenceIdeal.Read

open Cert.ReferenceIdeal Cert.ReferenceIdeal.Gen Idealize.ShloMosaic Idealize.ShloMosaic.TcCoe Idealize.SL.Sem Cert.Attn

variable (x0 : FVec Ideal S12288x3072 .bf16) (x1 : FVec Ideal S2x2x4x2x512x64 .f32) (x2 : FVec Ideal S2x2x4x512x128 .f32)

/-- The arrays as functions of their coordinates (layer 0 of the caches). -/
def pOf : Fin 12288 → Fin 3072 → EReal := fun i j => x0 (ix2 i j)
def ckOf : Fin 2 → Fin 4 → Fin 2 → Fin 512 → Fin 64 → EReal := fun b h i n k => x1 (ix6 b 0 h i n k)
def cvOf : Fin 2 → Fin 4 → Fin 512 → Fin 128 → EReal := fun b h n k => x2 (ix5 b 0 h n k)

/-- A map's 64 turned lanes are 64 lanes of the rotated row of 128: a missing neighbour there is multiplied by zero. -/
theorem turned_rot (x : Fin 128 → EReal) (n : Fin 2048) (i : Fin 2) (k : Fin 64) :
    turned (fun k => x ⟨i.val * 64 + k.val, by omega⟩) (fun k => val_main_v47 (F := Ideal) (ix2 n k)) (fun k => val_main_v48 (F := Ideal) (ix2 n k))
      (fun k => val_main_v58 (F := Ideal) (ix2 n k)) (fun k => val_main_v59 (F := Ideal) (ix2 n k)) k
    = rot x (cosT n) (upT n) (dnT n) ⟨i.val * 64 + k.val, by omega⟩ := by
  have hi := i.isLt
  have hk := k.isLt
  unfold turned rot cosT upT dnT ang
  simp only [row_cos, row_sin, col_cos, col_sin]
  by_cases h32 : (k : Nat) < 32
  · rw [dif_pos h32, if_pos (show (i.val * 64 + k.val) % 64 < 32 by omega)]
    rw [show (i.val * 64 + k.val) % 16 = k.val % 16 by omega]
    by_cases h16 : (k : Nat) < 16
    · rw [dif_pos h16, if_pos (show (i.val * 64 + k.val) % 32 < 16 by omega), if_pos (show (i.val * 64 + k.val) % 32 < 16 by omega)]
      simp only [mul_zero, add_zero, neg_mul, mul_neg]
      have e : x ⟨i.val * 64 + (16 + k.val), by omega⟩ = x ⟨(i.val * 64 + k.val + 128 - 112) % 128, by omega⟩ :=
        congrArg x (Fin.ext (by show i.val * 64 + (16 + k.val) = (i.val * 64 + k.val + 128 - 112) % 128; omega))
      rw [e]
    · rw [dif_neg h16, if_neg (show ¬(i.val * 64 + k.val) % 32 < 16 by omega), if_neg (show ¬(i.val * 64 + k.val) % 32 < 16 by omega)]
      simp only [mul_zero, add_zero]
      congr 2
      exact congrArg x (Fin.ext (by show i.val * 64 + (k.val - 16) = (i.val * 64 + k.val + 128 - 16) % 128; omega))
  · rw [dif_neg h32, if_neg (show ¬(i.val * 64 + k.val) % 64 < 32 by omega)]
    rw [show (i.val * 64 + k.val) % 16 = (k.val - 32) % 16 by omega]
    by_cases h16 : (k : Nat) - 32 < 16
    · rw [dif_pos h16, if_pos (show (i.val * 64 + k.val) % 32 < 16 by omega), if_pos (show (i.val * 64 + k.val) % 32 < 16 by omega)]
      simp only [mul_zero, add_zero, neg_mul, mul_neg]
      have e : x ⟨i.val * 64 + (32 + (16 + (k.val - 32))), by omega⟩ = x ⟨(i.val * 64 + k.val + 128 - 112) % 128, by omega⟩ :=
        congrArg x (Fin.ext (by show i.val * 64 + (32 + (16 + (k.val - 32))) = (i.val * 64 + k.val + 128 - 112) % 128; omega))
      rw [e]
    · rw [dif_neg h16, if_neg (show ¬(i.val * 64 + k.val) % 32 < 16 by omega), if_neg (show ¬(i.val * 64 + k.val) % 32 < 16 by omega)]
      simp only [mul_zero, add_zero]
      congr 2
      exact congrArg x (Fin.ext (by show i.val * 64 + (32 + (k.val - 32 - 16)) = (i.val * 64 + k.val + 128 - 16) % 128; omega))

/-- The raw query, key and value lanes. -/
theorem query_raw (b : Fin 2) (h : Fin 4) (i : Fin 2) (n : Fin 2048) (k : Fin 64) :
    val_main_v5 (F := Ideal) x0 (ix5 b h i n k) = part 768 (by omega) (pOf x0) b h n ⟨i.val * 64 + k.val, by omega⟩ := by
  have e : val_main_v5 (F := Ideal) x0 (ix5 b h i n k) = x0 (ix2 ⟨8192 + (b.val * 2048 + n.val), by omega⟩ ⟨768 + (h.val * 128 + i.val * 64 + k.val), by omega⟩) := by
    pointwise [val_main_v0, val_main_v1, val_main_v2, val_main_v3, val_main_v4, val_main_v5]
  rw [e]
  exact congrArg (fun z => x0 (ix2 _ z)) (Fin.ext (by show 768 + (h.val * 128 + i.val * 64 + k.val) = 768 + (h.val * 128 + (i.val * 64 + k.val)); omega))
theorem key_raw (b : Fin 2) (h : Fin 4) (i : Fin 2) (n : Fin 2048) (k : Fin 64) :
    val_main_v8 (F := Ideal) x0 (ix5 b h i n k) = part 1280 (by omega) (pOf x0) b h n ⟨i.val * 64 + k.val, by omega⟩ := by
  have e : val_main_v8 (F := Ideal) x0 (ix5 b h i n k) = x0 (ix2 ⟨8192 + (b.val * 2048 + n.val), by omega⟩ ⟨1280 + (h.val * 128 + i.val * 64 + k.val), by omega⟩) := by
    pointwise [val_main_v0, val_main_v1, val_main_v2, val_main_v6, val_main_v7, val_main_v8]
  rw [e]
  exact congrArg (fun z => x0 (ix2 _ z)) (Fin.ext (by show 1280 + (h.val * 128 + i.val * 64 + k.val) = 1280 + (h.val * 128 + (i.val * 64 + k.val)); omega))
theorem value_raw (b : Fin 2) (h : Fin 4) (n : Fin 2048) (j : Fin 128) :
    val_main_v11 (F := Ideal) x0 (ix4 b h n j) = part 1792 (by omega) (pOf x0) b h n j := by
  have e : val_main_v11 (F := Ideal) x0 (ix4 b h n j) = x0 (ix2 ⟨8192 + (b.val * 2048 + n.val), by omega⟩ ⟨1792 + (h.val * 128 + j.val), by omega⟩) := by
    pointwise [val_main_v0, val_main_v1, val_main_v2, val_main_v9, val_main_v10, val_main_v11]
  rw [e]
  rfl

/-- A cached key, and a cached value, of layer 0. -/
theorem cached_key (b : Fin 2) (h : Fin 4) (i : Fin 2) (n : Fin 512) (k : Fin 64) :
    val_main_v86 (F := Ideal) x1 (ix5 b h i n k) = ckOf x1 b h i n k := by
  have e : val_main_v86 (F := Ideal) x1 (ix5 b h i n k) = x1 (ix6 b 0 h i n k) := by
    pointwise [val_main_v85, val_main_v86]
  exact e
theorem cached_value (b : Fin 2) (h : Fin 4) (n : Fin 512) (k : Fin 128) :
    val_main_v89 (F := Ideal) x2 (ix4 b h n k) = cvOf x2 b h n k := by
  have e : val_main_v89 (F := Ideal) x2 (ix4 b h n k) = x2 (ix5 b 0 h n k) := by
    pointwise [val_main_v88, val_main_v89]
  exact e

/-- The latent tokens and the cached ones one after the other, read at a key. -/
theorem join_keys (y : FVec Ideal S2x4x2x2048x64 .f32) (z : FVec Ideal S2x4x2x512x64 .f32) (b : Fin 2) (h : Fin 4) (i : Fin 2) (n : Fin 2560) (k : Fin 64) :
    concatenate S2x4x2x2560x64 3 [⟨S2x4x2x2048x64, y⟩, ⟨S2x4x2x512x64, z⟩] concatenates_S2x4x2x2048x64_S2x4x2x512x64_S2x4x2x2560x64_d3 (ix5 b h i n k)
      = if h' : (n : Nat) < 2048 then y (ix5 b h i ⟨n, h'⟩ k) else z (ix5 b h i ⟨n - 2048, by omega⟩ k) := by
  pointwise
theorem join_values (y : FVec Ideal S2x4x2048x128 .f32) (z : FVec Ideal S2x4x512x128 .f32) (b : Fin 2) (h : Fin 4) (n : Fin 2560) (k : Fin 128) :
    concatenate S2x4x2560x128 2 [⟨S2x4x2048x128, y⟩, ⟨S2x4x512x128, z⟩] concatenates_S2x4x2048x128_S2x4x512x128_S2x4x2560x128_d2 (ix4 b h n k)
      = if h' : (n : Nat) < 2048 then y (ix4 b h ⟨n, h'⟩ k) else z (ix4 b h ⟨n - 2048, by omega⟩ k) := by
  pointwise

/-- The reference's queries, keys and values. -/
theorem query_at (b : Fin 2) (h : Fin 4) (i : Fin 2) (n : Fin 2048) (k : Fin 64) : val_main_v115 (F := Ideal) x0 (ix5 b h i n k) =
    rot (part 768 (by omega) (pOf x0) b h n) (cosT n) (upT n) (dnT n) ⟨i.val * 64 + k.val, by omega⟩ := by
  rw [query_turned, ← turned_rot]
  simp only [query_raw]
theorem key_at (b : Fin 2) (h : Fin 4) (i : Fin 2) (n : Fin 2560) (k : Fin 64) : val_main_v87 (F := Ideal) x0 x1 (ix5 b h i n k) =
    keyAt (pOf x0) (ckOf x1) b h i n k := by
  unfold val_main_v87
  refine (join_keys _ _ b h i n k).trans ?_
  unfold keyAt
  split
  · rename_i hn
    rw [key_turned]
    simp only [key_raw]
    exact turned_rot _ ⟨n.val, hn⟩ i k
  · exact cached_key x1 b h i _ k
theorem value_at (b : Fin 2) (h : Fin 4) (n : Fin 2560) (k : Fin 128) : val_main_v90 (F := Ideal) x0 x2 (ix4 b h n k) =
    valAt (pOf x0) (cvOf x2) b h n k := by
  unfold val_main_v90
  refine (join_values _ _ b h n k).trans ?_
  unfold valAt
  split
  · exact value_raw x0 b h _ k
  · exact cached_value x2 b h _ k

variable (x3 x4 x5 x6 : FVec Ideal S2x64 .f32)

/-- The second map's weight. -/
theorem lam_at : val_main_v27 (F := Ideal) x3 x4 x5 x6 ix0 =
    lamOf (fun k => x3 (ix2 0 k)) (fun k => x4 (ix2 0 k)) (fun k => x5 (ix2 0 k)) (fun k => x6 (ix2 0 k)) := by
  pointwise [lamOf, val_main_v12, val_main_v13, val_main_v14, val_main_v15, val_main_v16, val_main_v17, val_main_v18, val_main_v19, val_main_v20,
    val_main_v21, val_main_v22, val_main_v23, val_main_v24, val_main_v25, val_main_v26, val_main_v27, val_main_cst, val_main_cst_0, val_main_cst_1]

end Cert.ReferenceIdeal.Read

end
-- ==== Proof.RefOut.lean ====
/- The reference's result at an entry. -/
module

public import proofs.«01_k».proof.Proof.RefKeys

@[expose] public section

set_option maxRecDepth 16384

noncomputable section

namespace Cert.ReferenceIdeal.Read

open Cert.ReferenceIdeal Cert.ReferenceIdeal.Gen Idealize.ShloMosaic Idealize.ShloMosaic.TcCoe Idealize.SL.Sem Cert.Attn

variable (x0 : FVec Ideal S12288x3072 .bf16) (x1 : FVec Ideal S2x2x4x2x512x64 .f32) (x2 : FVec Ideal S2x2x4x512x128 .f32) (x3 x4 x5 x6 : FVec Ideal S2x64 .f32) (x7 : FVec Ideal S2x128 .f32)

/-- The scaled scores of map `i`. -/
def sc (b : Fin 2) (h : Fin 4) (i : Fin 2) (n : Fin 2048) (k : Fin 2560) : EReal := val_main_v118 (F := Ideal) x0 x1 (ix5 b h i n k)

theorem sc_eq (b : Fin 2) (h : Fin 4) (i : Fin 2) (n : Fin 2048) : sc x0 x1 b h i n =
    scoresR (i.val * 64) (by omega) (part 768 (by omega) (pOf x0) b h n) (cosT n) (upT n) (dnT n) (keyAt (pOf x0) (ckOf x1) b h i) := by
  funext k
  unfold sc scoresR scores
  rw [val_main_v118_apply, val_main_v117_apply, val_main_v116_apply, val_main_cst_6_apply]
  have el : ∀ d : Fin 64, lidx_main_v116 (ix5 b h i n k) d = ix5 b h i n d := fun d => by
    funext a; fin_cases a <;> rfl
  have er : ∀ d : Fin 64, ridx_main_v116 (ix5 b h i n k) d = ix5 b h i k d := fun d => by
    funext a; fin_cases a <;> rfl
  simp only [el, er, query_at, key_at]
  rfl

/-- The greatest score of a row. -/
theorem top_at (b : Fin 2) (h : Fin 4) (i : Fin 2) (n : Fin 2048) : val_main_v119 (F := Ideal) x0 x1 (ix4 b h i n) =
    Finset.univ.fold max (Ideal.ofBits FTy.f32 0xFF800000#32) (sc x0 x1 b h i n) := by
  unfold val_main_v119 sc
  generalize val_main_v118 (F := Ideal) x0 x1 = y
  pointwise [val_main_cst_7]

/-- The exponential weights. -/
theorem wt_at (b : Fin 2) (h : Fin 4) (i : Fin 2) (n : Fin 2048) (k : Fin 2560) : val_main_v125 (F := Ideal) x0 x1 (ix5 b h i n k) =
    wt (sc x0 x1 b h i n) k := by
  have hb : Ideal.ofBits FTy.f32 0xFF800000#32 = ⊥ := by simp [Ideal.ofBits, Ideal.ieee]
  rw [val_main_v125_apply, val_main_v124_apply, val_main_v123_apply, val_main_v122_apply, val_main_v121_apply, val_main_v120_apply, val_main_cst_8_apply]
  have e : idx_main_v122 (idx_main_v123 (ix5 b h i n k)) = ix4 b h i n := by
    funext a; fin_cases a <;> rfl
  rw [e, top_at]
  show Ideal.exp (sc x0 x1 b h i n k - max (Ideal.ofBits FTy.f32 0xFF800000#32) _) = _
  rw [max_eq_right (by rw [hb]; exact bot_le)]
  rfl

/-- The divided weights. -/
theorem soft_at (b : Fin 2) (h : Fin 4) (i : Fin 2) (n : Fin 2048) (k : Fin 2560) : val_main_v129 (F := Ideal) x0 x1 (ix5 b h i n k) =
    Ideal.div (wt (sc x0 x1 b h i n) k) (∑ k, wt (sc x0 x1 b h i n) k) := by
  rw [val_main_v129_apply, val_main_v128_apply, val_main_v127_apply, val_main_v126_apply, val_main_cst_9_apply]
  have e : ∀ k' : Fin 2560, idx_main_v126 (idx_main_v127 (idx_main_v128 (ix5 b h i n k))) k' = ix5 b h i n k' := fun k' => by
    funext a; fin_cases a <;> rfl
  simp only [e, wt_at]
  show Ideal.div _ (Ideal.ofBits FTy.f32 0#32 + _) = _
  rw [show Ideal.ofBits FTy.f32 0#32 = 0 by simp [Ideal.ofBits, Ideal.ieee], zero_add]

/-- The difference of the two maps. -/
theorem diff_at (b : Fin 2) (h : Fin 4) (n : Fin 2048) (k : Fin 2560) : val_main_v136 (F := Ideal) x0 x1 x3 x4 x5 x6 (ix4 b h n k) =
    Ideal.div (wt (sc x0 x1 b h 0 n) k) (∑ k, wt (sc x0 x1 b h 0 n) k)
      - lamOf (fun k => x3 (ix2 0 k)) (fun k => x4 (ix2 0 k)) (fun k => x5 (ix2 0 k)) (fun k => x6 (ix2 0 k))
        * Ideal.div (wt (sc x0 x1 b h 1 n) k) (∑ k, wt (sc x0 x1 b h 1 n) k) := by
  rw [val_main_v136_apply, val_main_v135_apply, val_main_v134_apply, val_main_v133_apply, val_main_v132_apply, val_main_v131_apply, val_main_v130_apply]
  have e0 : idx_main_v130 (idx_main_v131 (ix4 b h n k)) = ix5 b h 0 n k := by
    have hb := b.isLt; have hh := h.isLt; have hn := n.isLt; have hk := k.isLt
    funext a; fin_cases a <;> refine Fin.ext ?_ <;> simp <;> omega
  have e1 : idx_main_v132 (idx_main_v133 (ix4 b h n k)) = ix5 b h 1 n k := by
    have hb := b.isLt; have hh := h.isLt; have hn := n.isLt; have hk := k.isLt
    funext a; fin_cases a <;> refine Fin.ext ?_ <;> simp <;> omega
  have e2 : idx_main_v134 (ix4 b h n k) = ix0 := by
    funext a; exact a.elim0
  rw [e0, e1, e2, soft_at, soft_at, lam_at]
  rfl

/-- The weighted values. -/
theorem mix_at (b : Fin 2) (h : Fin 4) (n : Fin 2048) (j : Fin 128) : val_main_v137 (F := Ideal) x0 x1 x2 x3 x4 x5 x6 (ix4 b h n j) =
    diffR (sc x0 x1 b h 0 n) (sc x0 x1 b h 1 n) (valAt (pOf x0) (cvOf x2) b h)
      (lamOf (fun k => x3 (ix2 0 k)) (fun k => x4 (ix2 0 k)) (fun k => x5 (ix2 0 k)) (fun k => x6 (ix2 0 k))) j := by
  unfold diffR
  rw [val_main_v137_apply]
  have el : ∀ k : Fin 2560, lidx_main_v137 (ix4 b h n j) k = ix4 b h n k := fun k => by
    funext a; fin_cases a <;> rfl
  have er : ∀ k : Fin 2560, ridx_main_v137 (ix4 b h n j) k = ix4 b h k j := fun k => by
    funext a; fin_cases a <;> rfl
  simp only [el, er, diff_at, value_at]

/-- The reciprocal root mean square of a row. -/
theorem scale_at (b : Fin 2) (h : Fin 4) (n : Fin 2048) (j : Fin 128) (o : Fin 128 → EReal)
    (ho : ∀ x, val_main_v137 (F := Ideal) x0 x1 x2 x3 x4 x5 x6 (ix4 b h n x) = o x) : val_main_v146 (F := Ideal) x0 x1 x2 x3 x4 x5 x6 (ix4 b h n j) =
    Ideal.rsqrt (Ideal.div (∑ x, o x * o x) (Ideal.ofBits FTy.f32 0x43000000#32) + Ideal.ofBits FTy.f32 0x358637BD#32) := by
  have e : ∀ k : Fin 128, idx_main_v139 (idx_main_v140 (idx_main_v146 (ix4 b h n j))) k = ix4 b h n k := fun k => by
    funext a; fin_cases a <;> rfl
  have hs : val_main_v139 (F := Ideal) x0 x1 x2 x3 x4 x5 x6 (idx_main_v140 (idx_main_v146 (ix4 b h n j))) = ∑ x, o x * o x := by
    rw [val_main_v139_apply, val_main_cst_10_apply]
    refine (congrArg (fun z : EReal => z + _) (show Ideal.ofBits FTy.f32 0#32 = 0 by simp [Ideal.ofBits, Ideal.ieee])).trans ((zero_add _).trans ?_)
    refine Finset.sum_congr rfl fun k _ => ?_
    rw [e, val_main_v138_apply, ho]
    rfl
  rw [val_main_v146_apply, val_main_v145_apply, val_main_v144_apply, val_main_v143_apply, val_main_v142_apply, val_main_v141_apply,
    val_main_v140_apply, val_main_cst_12_apply, val_main_cst_11_apply, hs]
  rfl

/-- The normalised rows. -/
theorem norm_at (b : Fin 2) (h : Fin 4) (n : Fin 2048) (j : Fin 128) : val_main_v154 (F := Ideal) x0 x1 x2 x3 x4 x5 x6 x7 (ix4 b h n j) =
    outR (pOf x0) (ckOf x1) (cvOf x2) (fun k => x3 (ix2 0 k)) (fun k => x4 (ix2 0 k)) (fun k => x5 (ix2 0 k)) (fun k => x6 (ix2 0 k)) (fun k => x7 (ix2 0 k)) b h n j := by
  have h0 := sc_eq x0 x1 b h 0 n
  have h1 := sc_eq x0 x1 b h 1 n
  have ho := fun x => mix_at x0 x1 x2 x3 x4 x5 x6 b h n x
  rw [h0, h1] at ho
  have eg : idx_main_v148 (idx_main_v149 (idx_main_v150 (idx_main_v151 (ix4 b h n j)))) = ix2 0 j := by
    have hj := j.isLt
    funext a; fin_cases a <;> refine Fin.ext ?_ <;> simp <;> omega
  rw [val_main_v154_apply, val_main_v153_apply, val_main_v152_apply, val_main_v151_apply, val_main_v150_apply, val_main_v149_apply, val_main_v148_apply,
    val_main_v147_apply, val_main_cst_13_apply, eg, scale_at x0 x1 x2 x3 x4 x5 x6 b h n j _ ho, ho]
  rfl

/-- The reference's result array at a row and a column. -/
theorem out_at (r : Fin 4096) (j : Fin 512) : val_main_v157 (F := Ideal) x0 x1 x2 x3 x4 x5 x6 x7 (ix2 r j) =
    outR (pOf x0) (ckOf x1) (cvOf x2) (fun k => x3 (ix2 0 k)) (fun k => x4 (ix2 0 k)) (fun k => x5 (ix2 0 k)) (fun k => x6 (ix2 0 k)) (fun k => x7 (ix2 0 k))
      ⟨r.val / 2048, by omega⟩ ⟨j.val / 128, by omega⟩ ⟨r.val % 2048, by omega⟩ ⟨j.val % 128, by omega⟩ := by
  rw [val_main_v157_apply, val_main_v156_apply, val_main_v155_apply]
  have e : idx_main_v155 (idx_main_v156 (ix2 r j)) = ix4 ⟨r.val / 2048, by omega⟩ ⟨j.val / 128, by omega⟩ ⟨r.val % 2048, by omega⟩ ⟨j.val % 128, by omega⟩ := by
    have hr := r.isLt; have hj := j.isLt
    funext a; fin_cases a <;> refine Fin.ext ?_ <;> simp <;> omega
  rw [e]
  exact norm_at x0 x1 x2 x3 x4 x5 x6 x7 _ _ _ _

end Cert.ReferenceIdeal.Read

end
-- ==== Proof.Pre.lean ====
/- The precondition read: every entry of the named arguments is a real number. -/
module

public import proofs.«01_k».proof.Pre_finite_inputs
public import proofs.«01_k».proof.Proof.Core
public import Idealize.ShloMosaic.Lib.ReduceAll
public import Idealize.ShloMosaic.PureOps.Ideal
public import Idealize.ShloMosaic.Lib.Affine

@[expose] public section

noncomputable section

namespace Cert.Attn

open Idealize.ShloMosaic Cert.Pre_finite_inputs

/-- A value below `+∞` in magnitude is a real number. -/
theorem real_of_abs {x : EReal} (h : max x (-x) < ⊤) : IsReal x := by
  induction x using EReal.rec with
  | bot => simp at h
  | top => simp at h
  | coe r => exact ⟨r, rfl⟩

/-- One array's test: all of its entries compare below the word of `+∞`. -/
theorem real_of_test {s : Shape} (x : FVec Ideal s .f32) (hb : S_.BroadcastsInDim s (![] : Fin 0 → Fin s.rank)) (i : s.Idx)
    (h : cmpf .olt (Host.absf x) (broadcastInDim s ![] hb (constant S_ .f32 0x7F800000#32)) i = 1#1) : IsReal (x i) := by
  apply real_of_abs
  have h2 : (BitVec.ofBool (decide (max (x i) (-(x i)) < Ideal.ofBits .f32 0x7F800000#32))) = 1#1 := h
  have ht : Ideal.ofBits .f32 0x7F800000#32 = ⊤ := by simp [Ideal.ofBits, Ideal.ieee]
  rw [ht] at h2
  by_contra hc
  rw [decide_eq_false hc] at h2
  exact absurd h2 (by decide)

/-- A test over all entries, read at one. -/
theorem real_of_all {s : Shape} {axes : List (Fin s.rank)} [Facts] (x : FVec Ideal s .f32) (hb : S_.BroadcastsInDim s (![] : Fin 0 → Fin s.rank))
    (hr : s.ReducesTo axes S_) (hu : 0 < S_.numel) (j : S_.Idx)
    (h : Host.reduce IntOp.andi (cmpf .olt (Host.absf x) (broadcastInDim s ![] hb (constant S_ .f32 0x7F800000#32))) (constantI S_ 1 1#1) hr hu j = 1#1)
    (i : s.Idx) : IsReal (x i) :=
  real_of_test x hb i (Host.reduce_andi_all _ _ _ _ j h i)

/-- The precondition's meaning: real are the latent tokens' queries, keys and values of the differential heads, the first layer's caches and
its four vectors of the second weight. -/
theorem real_of_pre [Facts] (x0 : FVec Ideal S12288x3072 .bf16) (x1 : FVec Ideal S2x2x4x2x512x64 .f32) (x2 : FVec Ideal S2x2x4x512x128 .f32)
    (x3 x4 x5 x6 : FVec Ideal S2x64 .f32) (x7 : FVec Ideal S2x128 .f32) (h : fn (F := Ideal) x0 x1 x2 x3 x4 x5 x6 x7 = fun _ => 1#1) :
    (∀ (i : Fin 12288) (j : Fin 3072), 8192 ≤ i.val → 768 ≤ j.val → j.val < 2304 → IsReal (x0 (ix2 i j)))
      ∧ (∀ (b : Fin 2) (h : Fin 4) (i : Fin 2) (n : Fin 512) (k : Fin 64), IsReal (x1 (ix6 b 0 h i n k)))
      ∧ (∀ (b : Fin 2) (h : Fin 4) (n : Fin 512) (k : Fin 128), IsReal (x2 (ix5 b 0 h n k)))
      ∧ (∀ j : Fin 64, IsReal (x3 (ix2 0 j))) ∧ (∀ j : Fin 64, IsReal (x4 (ix2 0 j))) ∧ (∀ j : Fin 64, IsReal (x5 (ix2 0 j)))
      ∧ (∀ j : Fin 64, IsReal (x6 (ix2 0 j))) := by
  have h := congrFun h (fun a => a.elim0)
  obtain ⟨h, r6⟩ := IntOp.andi_eq_one.1 h
  obtain ⟨h, r5⟩ := IntOp.andi_eq_one.1 h
  obtain ⟨h, r4⟩ := IntOp.andi_eq_one.1 h
  obtain ⟨h, r3⟩ := IntOp.andi_eq_one.1 h
  obtain ⟨h, r2⟩ := IntOp.andi_eq_one.1 h
  obtain ⟨r0, r1⟩ := IntOp.andi_eq_one.1 h
  clear * - r0 r1 r2 r3 r4 r5 r6
  beta_reduce at r0 r1 r2 r3 r4 r5 r6
  replace r0 := real_of_all _ _ _ _ _ r0
  replace r1 := real_of_all _ _ _ _ _ r1
  replace r2 := real_of_all _ _ _ _ _ r2
  replace r3 := real_of_all _ _ _ _ _ r3
  replace r4 := real_of_all _ _ _ _ _ r4
  replace r5 := real_of_all _ _ _ _ _ r5
  replace r6 := real_of_all _ _ _ _ _ r6
  refine ⟨fun i j hi h0 h1 => ?_, fun b h i n k => ?_, fun b h n k => ?_, fun j => ?_, fun j => ?_, fun j => ?_, fun j => ?_⟩
  · have e : extractStridedSlice S4096x1536 ![8192, 768] x0 Facts.slices_S12288x3072_S4096x1536_8192_768
        (ix2 ⟨i.val - 8192, by omega⟩ ⟨j.val - 768, by omega⟩) = x0 (ix2 i j) := by
      refine congrArg x0 ?_
      funext a; fin_cases a <;> refine Fin.ext ?_ <;> simp <;> omega
    refine Eq.mp (congrArg IsReal e) ?_
    exact r0 (ix2 ⟨i.val - 8192, by omega⟩ ⟨j.val - 768, by omega⟩)
  · have e : extractStridedSlice S2x1x4x2x512x64 ![0, 0, 0, 0, 0, 0] x1 Facts.slices_S2x2x4x2x512x64_S2x1x4x2x512x64_0_0_0_0_0_0 (ix6 b 0 h i n k)
        = x1 (ix6 b 0 h i n k) := by
      refine congrArg x1 ?_
      funext a; fin_cases a <;> refine Fin.ext ?_ <;> simp
    refine Eq.mp (congrArg IsReal e) ?_
    exact r1 (ix6 b 0 h i n k)
  · have e : extractStridedSlice S2x1x4x512x128 ![0, 0, 0, 0, 0] x2 Facts.slices_S2x2x4x512x128_S2x1x4x512x128_0_0_0_0_0 (ix5 b 0 h n k)
        = x2 (ix5 b 0 h n k) := by
      refine congrArg x2 ?_
      funext a; fin_cases a <;> refine Fin.ext ?_ <;> simp
    refine Eq.mp (congrArg IsReal e) ?_
    exact r2 (ix5 b 0 h n k)
  · have e : extractStridedSlice S1x64 ![0, 0] x3 Facts.slices_S2x64_S1x64_0_0 (ix2 0 j) = x3 (ix2 0 j) := by
      refine congrArg x3 ?_
      funext a; fin_cases a <;> refine Fin.ext ?_ <;> simp
    refine Eq.mp (congrArg IsReal e) ?_
    exact r3 (ix2 0 j)
  · have e : extractStridedSlice S1x64 ![0, 0] x4 Facts.slices_S2x64_S1x64_0_0 (ix2 0 j) = x4 (ix2 0 j) := by
      refine congrArg x4 ?_
      funext a; fin_cases a <;> refine Fin.ext ?_ <;> simp
    refine Eq.mp (congrArg IsReal e) ?_
    exact r4 (ix2 0 j)
  · have e : extractStridedSlice S1x64 ![0, 0] x5 Facts.slices_S2x64_S1x64_0_0 (ix2 0 j) = x5 (ix2 0 j) := by
      refine congrArg x5 ?_
      funext a; fin_cases a <;> refine Fin.ext ?_ <;> simp
    refine Eq.mp (congrArg IsReal e) ?_
    exact r5 (ix2 0 j)
  · have e : extractStridedSlice S1x64 ![0, 0] x6 Facts.slices_S2x64_S1x64_0_0 (ix2 0 j) = x6 (ix2 0 j) := by
      refine congrArg x6 ?_
      funext a; fin_cases a <;> refine Fin.ext ?_ <;> simp
    refine Eq.mp (congrArg IsReal e) ?_
    exact r6 (ix2 0 j)

end Cert.Attn

end
-- ==== Proof.Final.lean ====
/- The two programs' results as arrays: equal wherever the arguments are real. -/
module

public import proofs.«01_k».proof.Proof.Output
public import proofs.«01_k».proof.Proof.RefOut
public import proofs.«01_k».proof.Proof.Pre
public import proofs.«01_k».proof.Proof.Rows
public import proofs.«01_k».proof.Proof.Gen.ReferenceIdeal.Run

@[expose] public section

set_option maxRecDepth 16384

noncomputable section

namespace Cert.KernelIdeal.Value

open Cert.KernelIdeal Cert.KernelIdeal.Gen Idealize.ShloMosaic Idealize.ShloMosaic.TcCoe Idealize.SL.Sem Cert.Attn

variable (m : (ℓ : Loc nD τ sig) → Buf (Elt Ideal) ℓ)

/-- The kernel's result array is the reference's term over the same arguments, where these are real. -/
theorem result [Cert.Pre_finite_inputs.Facts] (c : Dev nD)
    (h : Cert.Pre_finite_inputs.fn (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) = fun _ => 1#1) :
    Cert.ReferenceIdeal.Read.val_main_v157 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) = outArr m c := by
  obtain ⟨r0, r1, r2, r3, r4, r5, r6⟩ := real_of_pre _ _ _ _ _ _ _ _ h
  clear h
  funext y
  idx_vars y
  refine (Cert.ReferenceIdeal.Read.out_at _ _ _ _ _ _ _ _ y0 y1).trans ?_
  exact congrFun (out_eq (gIn m c) r0 r1 r2 r3 r4 r5 r6 _ _ _).symm _

end Cert.KernelIdeal.Value

namespace Cert.ReferenceIdeal.Read

open Cert.ReferenceIdeal Cert.ReferenceIdeal.Gen Idealize.ShloMosaic Idealize.ShloMosaic.TcCoe Idealize.SL.Sem

/-- The reference's run, its result named as one term over the arguments. -/
theorem run_named (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v157) = val_main_v157 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (val_main_v157_eq _), (h c).2⟩) (Cert.ReferenceIdeal.Value.run m ρ)

end Cert.ReferenceIdeal.Read

end
-- ==== Proof.ExpKit.lean ====
/- The experts call's set-up at any contents of its three prefetched tables: the grid's points, the tables as the
   body is handed them, the windows' blocks, where each branch of the body that depends on the grid alone is taken,
   where the result's window is idle. Over any float values. -/
module

public import proofs.«01_k».proof.Proof.Gen.Kernel3Ideal
public import proofs.«01_k».proof.Proof.Gen.Kernel3Ideal.Launch
public import proofs.«01_k».proof.Proof.Gen.Kernel3Ideal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Window 4 (result 0 (%0)) is written back at the points ≡ 6 (mod 7), at any contents of the tables (its index map reads none). -/
theorem flush0_4 (a : (pcfg0 (F := F)).Adm) : ∀ t : Fin (cfg0 a).N, ((cfg0 a).win 4).flush t = true ↔ t.val % 7 = 6 :=
  (fun t => Pipeline.Window.flushOf_reads cc0_transform_4 reads0_4 hreads0_4 0 (by decide) (by decide) (Pipeline.Window.sep_of_coord cc0_transform_4 0 0 (fun _ => rfl) (by decide)) (P := 7) (m := 6) (by decide) rfl t : ∀ t : Fin grid0.N, Pipeline.Window.flushOf grid0 true cc0_transform_4 t = true ↔ t.val % 7 = 6)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0__experts_kernel (grid0.coords t) (Memref.whole main_arg0) (Memref.isWhole_whole _) (Memref.whole main_arg1) (Memref.isWhole_whole _) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (Memref.whole cc0_scratch0) (Memref.isWhole_whole _)

variable (m : (ℓ : Loc nD τ sig) → Buf (Elt F) ℓ) (ρ : Dev nD → PrngReg)

/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 3) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S33 .i32 := Memref.whole main_arg0
abbrev htbM0_0 : tbM0_0.IsWhole := Memref.isWhole_whole _
abbrev tbM0_1 : Memref sig .tc .smem S1 .i32 := Memref.whole main_arg1
abbrev htbM0_1 : tbM0_1.IsWhole := Memref.isWhole_whole _
abbrev tbM0_2 : Memref sig .tc .smem S33 .i32 := Memref.whole main_arg2
abbrev htbM0_2 : tbM0_2.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's staging buffer holds its block at every point, fetched there or not. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel3Ideal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).1 0).trans (((dats 0 c).arrAt_in 0 rfl _).trans ((hA c 0).trans (V_main_arg3 m c))),
      ((h c).1 1).trans (((dats 0 c).arrAt_in 1 rfl _).trans ((hA c 1).trans (V_main_arg4 m c))),
      ((h c).1 2).trans (((dats 0 c).arrAt_in 2 rfl _).trans ((hA c 2).trans (V_main_arg5 m c))),
      ((h c).1 3).trans (((dats 0 c).arrAt_in 3 rfl _).trans ((hA c 3).trans (V_main_arg6 m c)))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 7) — by arithmetic of the point. -/
theorem hcond0_0 : ∀ t : Fin grid0.N, cond0_0 (grid0.coords t) ↔ t.val % 7 = 0 :=
  (fun t => by
    have ht : t.val < 231 := Nat.lt_of_lt_of_eq t.isLt N_0
    have e0 : (grid0.coords t 0).val = t.val / 7 % 33 := Pipeline.Grid.coords_val t 0 (by decide) rfl
    have e1 : (grid0.coords t 1).val = t.val / 1 % 7 := Pipeline.Grid.coords_val t 1 (by decide) rfl
    simp only [cond0_0, e0, e1]
    word_cmp
   : ∀ t : Fin grid0.N, cond0_0 (grid0.coords t) ↔ t.val % 7 = 0)

/-- The condition of the body's `scf.if` 1 (`k0_h6`), from the grid coordinates (the skeleton's scalar
    chain substituted). -/
abbrev cond0_1 (i : grid0.Coords) : Prop := k0_cond6 i = 1#1
/-- It holds at the points ≡ 6 (mod 7) — by arithmetic of the point. -/
theorem hcond0_1 : ∀ t : Fin grid0.N, cond0_1 (grid0.coords t) ↔ t.val % 7 = 6 :=
  (fun t => by
    have ht : t.val < 231 := Nat.lt_of_lt_of_eq t.isLt N_0
    have e0 : (grid0.coords t 0).val = t.val / 7 % 33 := Pipeline.Grid.coords_val t 0 (by decide) rfl
    have e1 : (grid0.coords t 1).val = t.val / 1 % 7 := Pipeline.Grid.coords_val t 1 (by decide) rfl
    simp only [cond0_1, k0_cond6, e0, e1]
    word_cmp
   : ∀ t : Fin grid0.N, cond0_1 (grid0.coords t) ↔ t.val % 7 = 6)

/-! ## Where the windows are idle (the printed configuration's table `Cfg.idle`) -/

/-- Window 0 is never idle (an input). -/
theorem liveAt0_0 (hO : Ok m) : ∀ t : Fin (cfgM m hO).N, (cfgM m hO).idle 0 (grid0.coords t) = false :=
  (fun _ => rfl : ∀ t : Fin grid0.N, idle0 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 2 (grid0.coords t) = false)
/-- Window 3 is never idle (an input). -/
theorem liveAt0_3 (hO : Ok m) : ∀ t : Fin (cfgM m hO).N, (cfgM m hO).idle 3 (grid0.coords t) = false :=
  (fun _ => rfl : ∀ t : Fin grid0.N, idle0 3 (grid0.coords t) = false)
/-- At the points of case A the printed configuration (`Cfg.idle`) calls output 4 idle: the case stores nothing into it. -/
theorem idleAt0_4_A (hO : Ok m) : ∀ t : Fin (cfgM m hO).N, cond0_0 (grid0.coords t) → ¬cond0_1 (grid0.coords t) → (cfgM m hO).idle 4 (grid0.coords t) = true :=
  (by decide +kernel : ∀ t : Fin grid0.N, cond0_0 (grid0.coords t) → ¬cond0_1 (grid0.coords t) → idle0 4 (grid0.coords t) = true)
/-- At the points of case A the pipeline does not write output 4's block back. -/
theorem noFlush0_4_A (hO : Ok m) : ∀ t : Fin (cfgM m hO).N, cond0_0 (grid0.coords t) → ¬cond0_1 (grid0.coords t) → ((cfgM m hO).win 4).flush t = false :=
  (by decide +kernel : ∀ t : Fin grid0.N, cond0_0 (grid0.coords t) → ¬cond0_1 (grid0.coords t) → Pipeline.Window.flushOf grid0 true cc0_transform_4 t = false)
/-- At the points of case B the printed configuration (`Cfg.idle`) calls output 4 idle: the case stores nothing into it. -/
theorem idleAt0_4_B (hO : Ok m) : ∀ t : Fin (cfgM m hO).N, ¬cond0_0 (grid0.coords t) → ¬cond0_1 (grid0.coords t) → (cfgM m hO).idle 4 (grid0.coords t) = true :=
  (by decide +kernel : ∀ t : Fin grid0.N, ¬cond0_0 (grid0.coords t) → ¬cond0_1 (grid0.coords t) → idle0 4 (grid0.coords t) = true)
/-- At the points of case B the pipeline does not write output 4's block back. -/
theorem noFlush0_4_B (hO : Ok m) : ∀ t : Fin (cfgM m hO).N, ¬cond0_0 (grid0.coords t) → ¬cond0_1 (grid0.coords t) → ((cfgM m hO).win 4).flush t = false :=
  (by decide +kernel : ∀ t : Fin grid0.N, ¬cond0_0 (grid0.coords t) → ¬cond0_1 (grid0.coords t) → Pipeline.Window.flushOf grid0 true cc0_transform_4 t = false)
/-- At the points of case C the printed configuration (`Cfg.idle`) calls output 4 live: the case stores into it. -/
theorem liveAt0_4_C (hO : Ok m) : ∀ t : Fin (cfgM m hO).N, ¬cond0_0 (grid0.coords t) → cond0_1 (grid0.coords t) → (cfgM m hO).idle 4 (grid0.coords t) = false :=
  (by decide +kernel : ∀ t : Fin grid0.N, ¬cond0_0 (grid0.coords t) → cond0_1 (grid0.coords t) → idle0 4 (grid0.coords t) = false)

/-! ## The kernel body on any staging memrefs: a subtype the run finds -/

/-- One staging buffer of output window 4, through which its contents are stated (`View.read_writes_of_cover`: the
    choice does not matter). -/
abbrev VO0_4 : View sig .tc .vmem S1024x1024 .bf16 := (Memref.whole cc0_stg4_0 : Memref sig .tc .vmem S1024x1024 .bf16).view
/-- Each window's current staging memref at point `t`, spelled as the pipeline passes it (`bodyAt0`), and its wholeness. -/
abbrev ms0_0 (hO : Ok m) (t : Fin (cfgM m hO).N) : Memref sig .tc .vmem S1024x1024 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x1024x512 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x1024x512 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x512x1024 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1024x1024 .bf16 := spec0_4.stage ((cfgM m hO).slots t 4)
abbrev hs0_4 (hO : Ok m) (t : Fin (cfgM m hO).N) : (ms0_4 m hO t).IsWhole := hstage0_4 (((cfgM m hO).slots t 4).cast nbuf0_4)
/-- The scratch operands: whole scoped buffers of the kernel's own, passed beside the windows. -/
abbrev scM0_0 : Memref sig .tc .vmem S1024x1024 .f32 := Memref.whole cc0_scratch0
/-- The scratch `arg10` the kernel carries between points, as a view: what it holds is stated through it. -/
abbrev VS0_0 : View sig .tc .vmem S1024x1024 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel3Ideal.Gen

end
-- ==== Proof.ExpRun.lean ====
/- The experts kernel's body at any grid point, run once: what it leaves in the accumulator and in the result's block, as
   a function of the point's blocks, of the tile's number of rows (a word of the third table) and of what the
   accumulator held. -/
module

public import proofs.«01_k».proof.Proof.ExpKit
public import Idealize.ShloMosaic.Lib.VecWindow

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Reads of a buffer that some branch stored into -/

section Reads

variable {κ : Kind} {sp : Space} {s : Shape} {e : EltTy} {Val : EltTy → Type}

/-- A load reads a window of what the view reads. -/
theorem readAt_win (v : View sig κ sp s e) (f : v.ty.Contents Val) {off size : Fin s.rank → ℕ} (inb : ∀ a, off a + size a ≤ s.size a) :
    v.readAt Val (Rect.unit off size inb).toLoadRect f = VecWindow.window (v.read Val f) off size inb := rfl

/-- A load stated over the stores before it alone. -/
theorem readCov_win [∀ e, Nonempty (Val e)] (v : View sig κ sp s e) (L : List (View.Piece Val s e)) {off size : Fin s.rank → ℕ}
    (inb : ∀ a, off a + size a ≤ s.size a) :
    v.readCov L (Rect.unit off size inb).toLoadRect = VecWindow.window (v.read Val (v.writes Val v.junk L)) off size inb := rfl

/-- What a buffer reads after a branch that stores one rectangle. -/
theorem read_branch (v : View sig κ sp s e) (c : Prop) [Decidable c] (f : v.ty.Contents Val) {off size : Fin s.rank → ℕ}
    (inb : ∀ a, off a + size a ≤ s.size a) (w : (Rect.unit off size inb).shape.Idx → Val e) :
    v.read Val (if _h : c then v.writes Val f [⟨Rect.unit off size inb, w⟩] else f)
      = if c then VecWindow.put (v.read Val f) off size w else v.read Val f := by
  by_cases h : c
  · rw [dif_pos h, if_pos h, View.read_writes_cons_put v f inb w [] rfl]; rfl
  · rw [dif_neg h, if_neg h]

/-- The same, other stores before the branch. -/
theorem read_branch_cons (v : View sig κ sp s e) (c : Prop) [Decidable c] (f : v.ty.Contents Val) (L : List (View.Piece Val s e)) {off size : Fin s.rank → ℕ}
    (inb : ∀ a, off a + size a ≤ s.size a) (w : (Rect.unit off size inb).shape.Idx → Val e) :
    v.read Val (if _h : c then v.writes Val f (⟨Rect.unit off size inb, w⟩ :: L) else v.writes Val f L)
      = if c then VecWindow.put (v.read Val (v.writes Val f L)) off size w else v.read Val (v.writes Val f L) := by
  by_cases h : c
  · rw [dif_pos h, if_pos h, View.read_writes_cons_put v f inb w L rfl]
  · rw [dif_neg h, if_neg h]

end Reads

/-! ## The accumulator -/

/-- A branch of the body is taken where the tile's number of rows is `n`. -/
abbrev rowsAre (w n : BitVec 32) : Prop := Scalar.cmpi .ne (Scalar.extui (Scalar.cmpi .eq w n)) 0#32 = 1#1

/-- The leading rows of the point's blocks and of the accumulator, as the body loads them. -/
abbrev win {e : EltTy} {off size : Fin 2 → ℕ} (x : Vec F S1024x1024 e) (inb : ∀ a, off a + size a ≤ S1024x1024.size a) :=
  VecWindow.window x off size inb
abbrev winUp (x : Vec F S1x1x1024x512 .f32) := VecWindow.window x ![0, 0, 0, 0] S1x1x1024x512.size inb_S1x1x1024x512_S1x1x1024x512_0_0_0_0
abbrev winDown (x : Vec F S1x1x512x1024 .f32) := VecWindow.window x ![0, 0, 0, 0] S1x1x512x1024.size inb_S1x1x512x1024_S1x1x512x1024_0_0_0_0

/-- The accumulator after the branch for 256 rows: its first 256 rows have the point's term added. -/
def add256 (w : BitVec 32) (x0 : Vec F S1024x1024 .bf16) (x1 x2 : Vec F S1x1x1024x512 .f32) (x3 : Vec F S1x1x512x1024 .f32) (a : Vec F S1024x1024 .f32) : Vec F S1024x1024 .f32 :=
  if rowsAre w 256#32 then
    VecWindow.put a ![0, 0] S256x1024.size
      (k0_pay2 (win x0 inb_S1024x1024_S256x1024_0_0) (winUp x1) (winUp x2) (win a inb_S1024x1024_S256x1024_0_0) (winDown x3))
  else a
/-- The accumulator after the branch for 512 rows: its first 512 rows have the point's term added. -/
def add512 (w : BitVec 32) (x0 : Vec F S1024x1024 .bf16) (x1 x2 : Vec F S1x1x1024x512 .f32) (x3 : Vec F S1x1x512x1024 .f32) (a : Vec F S1024x1024 .f32) : Vec F S1024x1024 .f32 :=
  if rowsAre w 512#32 then
    VecWindow.put a ![0, 0] S512x1024.size
      (k0_pay3 (win x0 inb_S1024x1024_S512x1024_0_0) (winUp x1) (winUp x2) (win a inb_S1024x1024_S512x1024_0_0) (winDown x3))
  else a
/-- The accumulator after the branch for 768 rows: its first 768 rows have the point's term added. -/
def add768 (w : BitVec 32) (x0 : Vec F S1024x1024 .bf16) (x1 x2 : Vec F S1x1x1024x512 .f32) (x3 : Vec F S1x1x512x1024 .f32) (a : Vec F S1024x1024 .f32) : Vec F S1024x1024 .f32 :=
  if rowsAre w 768#32 then
    VecWindow.put a ![0, 0] S768x1024.size
      (k0_pay4 (win x0 inb_S1024x1024_S768x1024_0_0) (winUp x1) (winUp x2) (win a inb_S1024x1024_S768x1024_0_0) (winDown x3))
  else a
/-- The accumulator after the branch for 1024 rows: its first 1024 rows have the point's term added. -/
def add1024 (w : BitVec 32) (x0 : Vec F S1024x1024 .bf16) (x1 x2 : Vec F S1x1x1024x512 .f32) (x3 : Vec F S1x1x512x1024 .f32) (a : Vec F S1024x1024 .f32) : Vec F S1024x1024 .f32 :=
  if rowsAre w 1024#32 then
    VecWindow.put a ![0, 0] S1024x1024.size
      (k0_pay5 (win x0 inb_S1024x1024_S1024x1024_0_0) (winUp x1) (winUp x2) (win a inb_S1024x1024_S1024x1024_0_0) (winDown x3))
  else a
/-- The accumulator after a point, `a` before the point's term. -/
def accStep (w : BitVec 32) (x0 : Vec F S1024x1024 .bf16) (x1 x2 : Vec F S1x1x1024x512 .f32) (x3 : Vec F S1x1x512x1024 .f32) (a : Vec F S1024x1024 .f32) : Vec F S1024x1024 .f32 :=
  add1024 w x0 x1 x2 x3 (add768 w x0 x1 x2 x3 (add512 w x0 x1 x2 x3 (add256 w x0 x1 x2 x3 a)))
/-- The accumulator a point starts from: zeros on a tile's first stretch of hidden units, else what it held. -/
def start (i : grid0.Coords) (a : Vec F S1024x1024 .f32) : Vec F S1024x1024 .f32 := if cond0_0 i then k0_pay1 else a

/-- A tile's number of rows, as the body loads it from the third table. -/
def rowsOf (c : Dev nD) (i : grid0.Coords) (xt2 : TbBuf0 (F := F) c tbM0_2) : BitVec 32 :=
  View.readAt (Elt F) tbM0_2.view (Rect.unit (s := S33) (k0_off1 i) S1.size (k0_off1_inb i)).toLoadRect xt2 (Shape.Idx.first (numel1_S1.symm ▸ Nat.one_pos))

/-! ## The accumulator's buffer, branch by branch -/

section Buffers

variable (w : BitVec 32) (i : grid0.Coords) (arg5 : Memref sig .tc .vmem S1024x1024 .bf16) (harg5 : arg5.IsWhole) (arg6 : Memref sig .tc .vmem S1x1x1024x512 .f32) (harg6 : arg6.IsWhole) (arg7 : Memref sig .tc .vmem S1x1x1024x512 .f32) (harg7 : arg7.IsWhole) (arg8 : Memref sig .tc .vmem S1x1x512x1024 .f32) (harg8 : arg8.IsWhole) (arg10 : Memref sig .tc .vmem S1024x1024 .f32) (harg10 : arg10.IsWhole)
    (x0 : Vec F S1024x1024 .bf16) (x1 x2 : Vec F S1x1x1024x512 .f32) (x3 : Vec F S1x1x512x1024 .f32) (xs0 : Vec F S1024x1024 .f32)

/-- After the first branch, which clears it. -/
def buf0 : arg10.view.ty.Contents (Elt F) :=
  if hc : cond0_0 i then arg10.view.writes (Elt F) (harg10.unread xs0) [⟨Rect.unit (s := S1024x1024) ![0, 0] S1024x1024.size inb_S1024x1024_S1024x1024_0_0, k0_pay1⟩]
  else harg10.unread xs0

theorem read_buf0 : arg10.view.read (Elt F) (buf0 i arg10 harg10 xs0) = start i xs0 := by
  unfold buf0 start
  by_cases h : cond0_0 i
  · rw [dif_pos h, if_pos h, View.read_writes_full]
  · rw [dif_neg h, if_neg h, harg10.read_unread]

/-- After the branch for 256 rows, from any contents `f`. -/
def buf1 (f : arg10.view.ty.Contents (Elt F)) : arg10.view.ty.Contents (Elt F) :=
  if hc : rowsAre w 256#32 then arg10.view.writes (Elt F) f [⟨Rect.unit (s := S1024x1024) ![0, 0] S256x1024.size inb_S1024x1024_S256x1024_0_0,
    k0_pay2 (View.readAt (Elt F) arg5.view (Rect.unit (s := S1024x1024) ![0, 0] S256x1024.size inb_S1024x1024_S256x1024_0_0).toLoadRect (harg5.unread x0))
      (View.readAt (Elt F) arg6.view (Rect.unit (s := S1x1x1024x512) ![0, 0, 0, 0] S1x1x1024x512.size inb_S1x1x1024x512_S1x1x1024x512_0_0_0_0).toLoadRect (harg6.unread x1))
      (View.readAt (Elt F) arg7.view (Rect.unit (s := S1x1x1024x512) ![0, 0, 0, 0] S1x1x1024x512.size inb_S1x1x1024x512_S1x1x1024x512_0_0_0_0).toLoadRect (harg7.unread x2))
      (View.readAt (Elt F) arg10.view (Rect.unit (s := S1024x1024) ![0, 0] S256x1024.size inb_S1024x1024_S256x1024_0_0).toLoadRect f)
      (View.readAt (Elt F) arg8.view (Rect.unit (s := S1x1x512x1024) ![0, 0, 0, 0] S1x1x512x1024.size inb_S1x1x512x1024_S1x1x512x1024_0_0_0_0).toLoadRect (harg8.unread x3))⟩]
  else f

theorem read_buf1 (f : arg10.view.ty.Contents (Elt F)) :
    arg10.view.read (Elt F) (buf1 w arg5 harg5 arg6 harg6 arg7 harg7 arg8 harg8 arg10 x0 x1 x2 x3 f)
      = add256 w x0 x1 x2 x3 (arg10.view.read (Elt F) f) := by
  unfold buf1 add256
  rw [read_branch]
  simp only [readAt_win, Memref.IsWhole.read_unread]

/-- After the branch for 512 rows, from any contents `f`. -/
def buf2 (f : arg10.view.ty.Contents (Elt F)) : arg10.view.ty.Contents (Elt F) :=
  if hc : rowsAre w 512#32 then arg10.view.writes (Elt F) f [⟨Rect.unit (s := S1024x1024) ![0, 0] S512x1024.size inb_S1024x1024_S512x1024_0_0,
    k0_pay3 (View.readAt (Elt F) arg5.view (Rect.unit (s := S1024x1024) ![0, 0] S512x1024.size inb_S1024x1024_S512x1024_0_0).toLoadRect (harg5.unread x0))
      (View.readAt (Elt F) arg6.view (Rect.unit (s := S1x1x1024x512) ![0, 0, 0, 0] S1x1x1024x512.size inb_S1x1x1024x512_S1x1x1024x512_0_0_0_0).toLoadRect (harg6.unread x1))
      (View.readAt (Elt F) arg7.view (Rect.unit (s := S1x1x1024x512) ![0, 0, 0, 0] S1x1x1024x512.size inb_S1x1x1024x512_S1x1x1024x512_0_0_0_0).toLoadRect (harg7.unread x2))
      (View.readAt (Elt F) arg10.view (Rect.unit (s := S1024x1024) ![0, 0] S512x1024.size inb_S1024x1024_S512x1024_0_0).toLoadRect f)
      (View.readAt (Elt F) arg8.view (Rect.unit (s := S1x1x512x1024) ![0, 0, 0, 0] S1x1x512x1024.size inb_S1x1x512x1024_S1x1x512x1024_0_0_0_0).toLoadRect (harg8.unread x3))⟩]
  else f

theorem read_buf2 (f : arg10.view.ty.Contents (Elt F)) :
    arg10.view.read (Elt F) (buf2 w arg5 harg5 arg6 harg6 arg7 harg7 arg8 harg8 arg10 x0 x1 x2 x3 f)
      = add512 w x0 x1 x2 x3 (arg10.view.read (Elt F) f) := by
  unfold buf2 add512
  rw [read_branch]
  simp only [readAt_win, Memref.IsWhole.read_unread]

/-- After the branch for 768 rows, from any contents `f`. -/
def buf3 (f : arg10.view.ty.Contents (Elt F)) : arg10.view.ty.Contents (Elt F) :=
  if hc : rowsAre w 768#32 then arg10.view.writes (Elt F) f [⟨Rect.unit (s := S1024x1024) ![0, 0] S768x1024.size inb_S1024x1024_S768x1024_0_0,
    k0_pay4 (View.readAt (Elt F) arg5.view (Rect.unit (s := S1024x1024) ![0, 0] S768x1024.size inb_S1024x1024_S768x1024_0_0).toLoadRect (harg5.unread x0))
      (View.readAt (Elt F) arg6.view (Rect.unit (s := S1x1x1024x512) ![0, 0, 0, 0] S1x1x1024x512.size inb_S1x1x1024x512_S1x1x1024x512_0_0_0_0).toLoadRect (harg6.unread x1))
      (View.readAt (Elt F) arg7.view (Rect.unit (s := S1x1x1024x512) ![0, 0, 0, 0] S1x1x1024x512.size inb_S1x1x1024x512_S1x1x1024x512_0_0_0_0).toLoadRect (harg7.unread x2))
      (View.readAt (Elt F) arg10.view (Rect.unit (s := S1024x1024) ![0, 0] S768x1024.size inb_S1024x1024_S768x1024_0_0).toLoadRect f)
      (View.readAt (Elt F) arg8.view (Rect.unit (s := S1x1x512x1024) ![0, 0, 0, 0] S1x1x512x1024.size inb_S1x1x512x1024_S1x1x512x1024_0_0_0_0).toLoadRect (harg8.unread x3))⟩]
  else f

theorem read_buf3 (f : arg10.view.ty.Contents (Elt F)) :
    arg10.view.read (Elt F) (buf3 w arg5 harg5 arg6 harg6 arg7 harg7 arg8 harg8 arg10 x0 x1 x2 x3 f)
      = add768 w x0 x1 x2 x3 (arg10.view.read (Elt F) f) := by
  unfold buf3 add768
  rw [read_branch]
  simp only [readAt_win, Memref.IsWhole.read_unread]

/-- After the branch for 1024 rows, from any contents `f`. -/
def buf4 (f : arg10.view.ty.Contents (Elt F)) : arg10.view.ty.Contents (Elt F) :=
  if hc : rowsAre w 1024#32 then arg10.view.writes (Elt F) f [⟨Rect.unit (s := S1024x1024) ![0, 0] S1024x1024.size inb_S1024x1024_S1024x1024_0_0,
    k0_pay5 (View.readAt (Elt F) arg5.view (Rect.unit (s := S1024x1024) ![0, 0] S1024x1024.size inb_S1024x1024_S1024x1024_0_0).toLoadRect (harg5.unread x0))
      (View.readAt (Elt F) arg6.view (Rect.unit (s := S1x1x1024x512) ![0, 0, 0, 0] S1x1x1024x512.size inb_S1x1x1024x512_S1x1x1024x512_0_0_0_0).toLoadRect (harg6.unread x1))
      (View.readAt (Elt F) arg7.view (Rect.unit (s := S1x1x1024x512) ![0, 0, 0, 0] S1x1x1024x512.size inb_S1x1x1024x512_S1x1x1024x512_0_0_0_0).toLoadRect (harg7.unread x2))
      (View.readAt (Elt F) arg10.view (Rect.unit (s := S1024x1024) ![0, 0] S1024x1024.size inb_S1024x1024_S1024x1024_0_0).toLoadRect f)
      (View.readAt (Elt F) arg8.view (Rect.unit (s := S1x1x512x1024) ![0, 0, 0, 0] S1x1x512x1024.size inb_S1x1x512x1024_S1x1x512x1024_0_0_0_0).toLoadRect (harg8.unread x3))⟩]
  else f

theorem read_buf4 (f : arg10.view.ty.Contents (Elt F)) :
    arg10.view.read (Elt F) (buf4 w arg5 harg5 arg6 harg6 arg7 harg7 arg8 harg8 arg10 x0 x1 x2 x3 f)
      = add1024 w x0 x1 x2 x3 (arg10.view.read (Elt F) f) := by
  unfold buf4 add1024
  rw [read_branch]
  simp only [readAt_win, Memref.IsWhole.read_unread]

/-- After the body. -/
def bufEnd : arg10.view.ty.Contents (Elt F) :=
  buf4 w arg5 harg5 arg6 harg6 arg7 harg7 arg8 harg8 arg10 x0 x1 x2 x3
    (buf3 w arg5 harg5 arg6 harg6 arg7 harg7 arg8 harg8 arg10 x0 x1 x2 x3
      (buf2 w arg5 harg5 arg6 harg6 arg7 harg7 arg8 harg8 arg10 x0 x1 x2 x3
        (buf1 w arg5 harg5 arg6 harg6 arg7 harg7 arg8 harg8 arg10 x0 x1 x2 x3 (buf0 i arg10 harg10 xs0))))

theorem read_bufEnd :
    arg10.view.read (Elt F) (bufEnd w i arg5 harg5 arg6 harg6 arg7 harg7 arg8 harg8 arg10 harg10 x0 x1 x2 x3 xs0)
      = accStep w x0 x1 x2 x3 (start i xs0) := by
  unfold bufEnd accStep
  rw [read_buf4, read_buf3, read_buf2, read_buf1, read_buf0]

/-- The result's block after the body, the accumulator stored into it on a tile's last stretch. -/
theorem read_out (arg9 : Memref sig .tc .vmem S1024x1024 .bf16) (harg9 : arg9.IsWhole) (xi4 : Vec F S1024x1024 .bf16) :
    arg9.view.read (Elt F) (if hc : cond0_1 i then arg9.view.writes (Elt F) (harg9.unread xi4) [⟨Rect.unit (s := S1024x1024) ![0, 0] S1024x1024.size inb_S1024x1024_S1024x1024_0_0,
        k0_pay6 (View.readAt (Elt F) arg10.view (Rect.unit (s := S1024x1024) ![0, 0] S1024x1024.size inb_S1024x1024_S1024x1024_0_0).toLoadRect
          (bufEnd w i arg5 harg5 arg6 harg6 arg7 harg7 arg8 harg8 arg10 harg10 x0 x1 x2 x3 xs0))⟩] else harg9.unread xi4)
      = if cond0_1 i then k0_pay6 (accStep w x0 x1 x2 x3 (start i xs0)) else xi4 := by
  by_cases h : cond0_1 i
  · rw [dif_pos h, if_pos h, View.read_writes_full, View.readAt_full, read_bufEnd]
  · rw [dif_neg h, if_neg h, harg9.read_unread]

end Buffers

/-- The body at any grid point: the inputs' blocks and the tables are kept, the accumulator holds the point's result
    (`accStep`), the result's block is stored on a tile's last stretch and else kept. -/
theorem run (c : Dev nD) (i : grid0.Coords) (arg5 : Memref sig .tc .vmem S1024x1024 .bf16) (harg5 : arg5.IsWhole) (arg6 : Memref sig .tc .vmem S1x1x1024x512 .f32) (harg6 : arg6.IsWhole) (arg7 : Memref sig .tc .vmem S1x1x1024x512 .f32) (harg7 : arg7.IsWhole) (arg8 : Memref sig .tc .vmem S1x1x512x1024 .f32) (harg8 : arg8.IsWhole) (arg9 : Memref sig .tc .vmem S1024x1024 .bf16) (harg9 : arg9.IsWhole) (arg10 : Memref sig .tc .vmem S1024x1024 .f32) (harg10 : arg10.IsWhole)
    (x0 : Vec F S1024x1024 .bf16) (x1 x2 : Vec F S1x1x1024x512 .f32) (x3 : Vec F S1x1x512x1024 .f32) (xt0 : TbBuf0 (F := F) c tbM0_0) (xt1 : TbBuf0 (F := F) c tbM0_1) (xt2 : TbBuf0 (F := F) c tbM0_2) (xs0 : Vec F S1024x1024 .f32)
    (xi4 : Vec F S1024x1024 .bf16) (E : Set ℕ) (K : PUnit → sProp 𝕄) :
    iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare xi4 ∗ owns (c : Thread nD τ) arg10 fullShare xs0 ∗ tbPt0 c tbM0_0 xt0 ∗ tbPt0 c tbM0_1 xt1 ∗ tbPt0 c tbM0_2 xt2
        ∗ (iprop(owns (c : Thread nD τ) arg5 fullShare x0 ∗ owns (c : Thread nD τ) arg6 fullShare x1 ∗ owns (c : Thread nD τ) arg7 fullShare x2 ∗ owns (c : Thread nD τ) arg8 fullShare x3
            ∗ owns (c : Thread nD τ) arg9 fullShare (if cond0_1 i then k0_pay6 (accStep (rowsOf c i xt2) x0 x1 x2 x3 (start i xs0)) else xi4)
            ∗ owns (c : Thread nD τ) arg10 fullShare (accStep (rowsOf c i xt2) x0 x1 x2 x3 (start i xs0)) ∗ tbPt0 c tbM0_0 xt0 ∗ tbPt0 c tbM0_1 xt1 ∗ tbPt0 c tbM0_2 xt2) -∗ K ⟨⟩))
      ⊢ wp frame (wpE (defs₀ (F := F)) Variants.none c none) E (cc0__experts_kernel i tbM0_0 htbM0_0 tbM0_1 htbM0_1 tbM0_2 htbM0_2 arg5 harg5 arg6 harg6 arg7 harg7 arg8 harg8 arg9 harg9 arg10 harg10) K := by
  simp only [cc0__experts_kernel_eq_skeleton]; unfold cc0__experts_kernel_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, HT0, HT1, HT2, Hk⟩
  obtain rfl := harg5.eq_unread hf0; obtain rfl := harg6.eq_unread hf1; obtain rfl := harg7.eq_unread hf2; obtain rfl := harg8.eq_unread hf3; obtain rfl := harg9.eq_unread hf4; obtain rfl := harg10.eq_unread hfs0
  sl_exec
  sl_step
  iapply Hk
  isplitl [H0]
  · iexists _; isplitr; · ipureintro; exact harg5.read_unread _
    iexact H0
  isplitl [H1]
  · iexists _; isplitr; · ipureintro; exact harg6.read_unread _
    iexact H1
  isplitl [H2]
  · iexists _; isplitr; · ipureintro; exact harg7.read_unread _
    iexact H2
  isplitl [H3]
  · iexists _; isplitr; · ipureintro; exact harg8.read_unread _
    iexact H3
  isplitl [H4]
  · iexists _; isplitr
    swap; · iexact H4
    ipureintro
    exact read_out (rowsOf c i xt2) i arg5 harg5 arg6 harg6 arg7 harg7 arg8 harg8 arg10 harg10 x0 x1 x2 x3 xs0 arg9 harg9 xi4
  isplitl [HS0]
  · iexists _; isplitr
    swap; · iexact HS0
    ipureintro
    exact read_bufEnd (rowsOf c i xt2) i arg5 harg5 arg6 harg6 arg7 harg7 arg8 harg8 arg10 harg10 x0 x1 x2 x3 xs0
  isplitl [HT0]; · iexact HT0
  isplitl [HT1]; · iexact HT1
  iexact HT2

end Cert.Kernel3Ideal.Gen

end
-- ==== Proof.ExpFrame.lean ====
/- The experts call runs: what its accumulator and its result's block hold after each grid point, the pipeline's proof
   data, the body's obligation at every point, the launch and the frame. Over any float values and any contents of the
   prefetched tables whose blocks are in range. -/
module

public import proofs.«01_k».proof.Proof.ExpRun
public import Idealize.ShloMosaic.Lib.Claim

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the accumulator holds after each point -/

/-- A point's step on the accumulator: its tile's number of rows, its blocks. -/
def stepAt (hO : Ok m) (c : Dev nD) (t : Fin (cfgM m hO).N) (a : Vec F S1024x1024 .f32) : Vec F S1024x1024 .f32 :=
  accStep (rowsOf c (grid0.coords t) (tbl m 2)) (iblk m hO c 0 t) (iblk m hO c 1 t) (iblk m hO c 2 t) (iblk m hO c 3 t) a

/-- The accumulator after the body at position `n`: the first point clears it, a later one starts from what the point
    before left, or clears it. -/
def accAt (hO : Ok m) (c : Dev nD) : (n : ℕ) → n < (cfgM m hO).N → Vec F S1024x1024 .f32
  | 0, hn => stepAt m hO c ⟨0, hn⟩ k0_pay1
  | n + 1, hn => stepAt m hO c ⟨n + 1, hn⟩ (start (grid0.coords ⟨n + 1, hn⟩) (accAt hO c n (Nat.lt_of_succ_lt hn)))

/-- At the first point whatever the accumulator held is cleared. -/
theorem accAt_zero (hO : Ok m) (c : Dev nD) (t : Fin (cfgM m hO).N) (hz : t.val = 0) (x : Vec F S1024x1024 .f32) :
    accAt m hO c t.val t.isLt = stepAt m hO c t (start (grid0.coords t) x) := by
  obtain ⟨n, hn⟩ := t
  obtain rfl : n = 0 := hz
  unfold start
  rw [if_pos ((hcond0_0 ⟨0, hn⟩).mpr (Nat.zero_mod _))]
  rfl

/-- At a later point it continues from what the point before left. -/
theorem accAt_pos (hO : Ok m) (c : Dev nD) (t : Fin (cfgM m hO).N) (hz : t.val ≠ 0) :
    accAt m hO c t.val t.isLt = stepAt m hO c t (start (grid0.coords t) (accAt m hO c (t.val - 1) (by omega))) := by
  obtain ⟨n, hn⟩ := t
  cases n with
  | zero => exact absurd rfl hz
  | succ n => rfl

/-- The invariant before position `n`: before the first point the scratch at anything, afterwards at what the point
    before left; the generator's register and the tables beside it. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare (accAt m hO c n hn)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare (accAt m hO c n hn)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare (accAt m hO c (n - 1) (by omega))) ∗ (∃ r, prngReg c r)) ∗ Pipeline.ΦT pre0 (tbl m) c) := by
  cases n with
  | zero => exact absurd rfl hz
  | succ n => rfl

/-! ## The pipeline's proof data -/

/-- The proof data on core `c`: the arrays as the region finds them; after the body each input's buffer at its block,
    the result's at the accumulator, rounded; nothing owed; full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => k0_pay6 (accAt m hO c t.val t.isLt)
  Φ t := PhiS m hO c t.val (Nat.le_of_lt_succ t.isLt)
  q _ := fullShare
  owed _ := 0

/-- The proof data's arrays are the contents the region finds. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = k0_pay6 (accAt m hO c t.val t.isLt) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t)

/-- The invariant before a point gives the scratch at some contents, from which the point's step gives what it leaves. -/
theorem PhiS_open (hO : Ok m) (c : Dev nD) (t : Fin (cfgM m hO).N) :
    PhiS m hO c t.val (Nat.le_of_lt t.isLt) ⊢
      iprop(∃ x, ⌜stepAt m hO c t (start (grid0.coords t) x) = accAt m hO c t.val t.isLt⌝ ∗ owns (c : Thread nD τ) scM0_0 fullShare x
        ∗ (∃ r, prngReg c r) ∗ Pipeline.ΦT pre0 (tbl m) c) := by
  by_cases hz : t.val = 0
  · rw [PhiS_zero m hO c _ _ hz, PhiA0_eq]
    iintro ⟨⟨⟨%x, HS⟩, Hg⟩, HT⟩
    iexists x
    isplitr; · ipureintro; exact (accAt_zero m hO c t hz x).symm
    isplitl [HS]; · iexact HS
    isplitl [Hg]; · iexact Hg
    iexact HT
  · rw [PhiS_pos m hO c _ _ hz]
    iintro ⟨⟨HS, Hg⟩, HT⟩
    iexists _
    isplitr; · ipureintro; exact (accAt_pos m hO c t hz).symm
    isplitl [HS]; · iexact HS
    isplitl [Hg]; · iexact Hg
    iexact HT

/-- Where the body does not store the result's block, it hands it back as it was. -/
theorem leaves_idle (hO : Ok m) (c : Dev nD) (t : Fin (cfgM m hO).N) (h1 : ¬ cond0_1 (grid0.coords t)) (d) :
    owns (c : Thread nD τ) (ms0_4 m hO t) fullShare ((dats m hO 0 c).before 4 t d) ⊢ (dats m hO 0 c).leavesExact 4 t := by
  have hi : (cfgM m hO).idle 4 (grid0.coords t) = true := by
    by_cases h0 : cond0_0 (grid0.coords t)
    · exact idleAt0_4_A m hO t h0 h1
    · exact idleAt0_4_B m hO t h0 h1
  have hf : ((cfgM m hO).win 4).flush t = false := by
    by_cases h0 : cond0_0 (grid0.coords t)
    · exact noFlush0_4_A m hO t h0 h1
    · exact noFlush0_4_B m hO t h0 h1
  rw [Dat.leavesExact_idle (dats m hO 0 c) 4 t hi hf]
  iintro H
  iexists _; iexact H

/-- Where it does, the block holds the accumulator. -/
theorem leaves_live (hO : Ok m) (c : Dev nD) (t : Fin (cfgM m hO).N) (h1 : cond0_1 (grid0.coords t)) :
    (dats m hO 0 c).leavesExact 4 t = owns (c : Thread nD τ) (ms0_4 m hO t) fullShare (k0_pay6 (accAt m hO c t.val t.isLt)) := by
  have h0 : ¬ cond0_0 (grid0.coords t) := fun h => by
    have a := (hcond0_0 t).mp h; have b := (hcond0_1 t).mp h1; omega
  rw [show (dats m hO 0 c).leavesExact 4 t = owns (c : Thread nD τ) (ms0_4 m hO t) fullShare ((dats m hO 0 c).after 4 t) from by
    unfold Dat.leavesExact; rw [liveAt0_4_C m hO t h0 h1]; try rfl, after0_4]

/-- Both cases together. -/
theorem leaves_result (hO : Ok m) (c : Dev nD) (t : Fin (cfgM m hO).N) (d) :
    owns (c : Thread nD τ) (ms0_4 m hO t) fullShare (if cond0_1 (grid0.coords t) then k0_pay6 (accAt m hO c t.val t.isLt) else (dats m hO 0 c).before 4 t d)
      ⊢ (dats m hO 0 c).leavesExact 4 t := by
  by_cases h1 : cond0_1 (grid0.coords t)
  · rw [leaves_live m hO c t h1, show (if cond0_1 (grid0.coords t) then k0_pay6 (accAt m hO c t.val t.isLt) else (dats m hO 0 c).before 4 t d) = k0_pay6 (accAt m hO c t.val t.isLt) from if_pos h1]
  · rw [show (if cond0_1 (grid0.coords t) then k0_pay6 (accAt m hO c t.val t.isLt) else (dats m hO 0 c).before 4 t d) = (dats m hO 0 c).before 4 t d from if_neg h1]
    exact leaves_idle m hO c t h1 d

set_option maxHeartbeats 1600000 in
/-- The body at any point. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).owesAt () t.succ = (dats m hO 0 c).owesAt () t.castSucc from rfl]
  rw [show (dats m hO 0 c).Φ t.succ = PhiS m hO c (t.val + 1) t.isLt from rfl, PhiS_succ]
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  rw [show (dats m hO 0 c).leavesExact 3 t = owns (c : Thread nD τ) (ms0_3 m hO t) fullShare ((dats m hO 0 c).after 3 t) from by
    unfold Dat.leavesExact; rw [liveAt0_3 m hO t]; try rfl, after0_3]
  rw [PhiS_castSucc m hO c t]
  refine (sep_mono_left (PhiS_open m hO c t)).trans ?_
  rw [PhiT0_eq]
  iintro ⟨⟨%x, %hx, HS0, Hg, ⟨HT0, HT1, HT2⟩⟩, Ho, ⟨%d0, H0⟩, ⟨%d1, H1⟩, ⟨%d2, H2⟩, ⟨%d3, H3⟩, ⟨%d4, H4⟩⟩
  iapply (run c (grid0.coords t) _ _ _ _ _ _ _ _ _ _ _ _ (iblk m hO c 0 t) (iblk m hO c 1 t) (iblk m hO c 2 t) (iblk m hO c 3 t) (tbl m 0) (tbl m 1) (tbl m 2) x _ Set.univ _)
  isplitl [H0]; · iexact H0
  isplitl [H1]; · iexact H1
  isplitl [H2]; · iexact H2
  isplitl [H3]; · iexact H3
  isplitl [H4]; · iexact H4
  isplitl [HS0]; · iexact HS0
  isplitl [HT0]; · iexact HT0
  isplitl [HT1]; · iexact HT1
  isplitl [HT2]; · iexact HT2
  rw [show accStep (rowsOf c (grid0.coords t) (tbl m 2)) (iblk m hO c 0 t) (iblk m hO c 1 t) (iblk m hO c 2 t) (iblk m hO c 3 t) (start (grid0.coords t) x)
    = accAt m hO c t.val t.isLt from hx]
  iintro ⟨H0, H1, H2, H3, H4, HS0, HT0, HT1, HT2⟩
  isplitl [HS0 Hg HT0 HT1 HT2]
  · isplitl [HS0 Hg]
    · isplitl [HS0]; · iexact HS0
      iexact Hg
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  iapply (leaves_result m hO c t d4)
  iexact H4

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨HS0, Hg⟩, -⟩
  isplitl [HS0]
  · iexists _; iexact HS0
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 231 := N_0; omega)

/-! ## The run and the frame -/

set_option backward.isDefEq.respectTransparency.types false in
/-- The launch: every array of the pipeline ends at what the proof data say, every counter at zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- The same without the counters. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (dats m hO) (A_eq m hO) (run_main m ρ hO)

/-- The frame: every execution terminates, the arguments unchanged, the counters at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO) ((θ_run defs _ _).mono (fun _ h => h.2) (run_main_quiescent m ρ hO))

end Cert.Kernel3Ideal.Gen

end
-- ==== Proof.ExpTables.lean ====
/- The experts call's three tables: what the precondition says of them, and the blocks the index maps read through them. -/
module

public import proofs.«01_k».proof.Pre_tables_ok
public import proofs.«01_k».proof.Proof.ExpKit
public import Idealize.ShloMosaic.Lib.ReduceAll
public import Idealize.ShloMosaic.Lib.Affine
public import Idealize.ShloMosaic.Lib.Pointwise

@[expose] public section

set_option maxRecDepth 16384

noncomputable section

namespace Cert.Exp

open Idealize.ShloMosaic

/-- What the precondition says of the tables: experts below 8, from 1 to 32 tiles in use, and a tile's number of rows
    one of the four the kernel has a branch for, or none past the tiles in use. -/
structure Good (te : Fin 33 → BitVec 32) (used : BitVec 32) (rows : Fin 33 → BitVec 32) : Prop where
  expert : ∀ k, (te k).toNat < 8
  pos : 1 ≤ used.toNat
  le : used.toNat ≤ 32
  rows : ∀ k, rows k = 0#32 ∨ ((rows k = 256#32 ∨ rows k = 512#32 ∨ rows k = 768#32 ∨ rows k = 1024#32) ∧ k.val < used.toNat)

/-- A signed comparison's word. -/
theorem ofBool_one {b : Bool} (h : BitVec.ofBool b = 1#1) : b = true := by cases b <;> first | rfl | exact absurd h (by decide)

/-- A word between two small ones, signed, is between them. -/
theorem toNat_of_sle {x lo : BitVec 32} (hlo : lo.toNat < 2 ^ 31) (h : lo.sle x = true) : lo.toNat ≤ x.toNat ∧ x.toNat < 2 ^ 31 := by
  have h := BitVec.sle_iff_toInt_le.1 h
  have := x.isLt
  rw [BitVec.toInt_eq_toNat_cond, BitVec.toInt_eq_toNat_cond] at h
  split_ifs at h <;> omega
theorem toNat_of_slt {x y : BitVec 32} (hy : y.toNat < 2 ^ 31) (hx : x.toNat < 2 ^ 31) (h : x.slt y = true) : x.toNat < y.toNat := by
  have h := BitVec.slt_iff_toInt_lt.1 h
  rw [BitVec.toInt_eq_toNat_cond, BitVec.toInt_eq_toNat_cond] at h
  split_ifs at h <;> omega

section Pre
open Cert.Pre_tables_ok

/-- The precondition's meaning. -/
theorem good_of_pre {F : FTy → Type} [FloatOps F] [Facts] (x0 : IVec S33 32) (x1 : IVec S1 32) (x2 : IVec S33 32) (x3 : FVec F S32768x1024 .bf16)
    (x4 x5 : FVec F S1x8x1024x3584 .f32) (x6 : FVec F S1x8x3584x1024 .f32) (h : fn (F := F) x0 x1 x2 x3 x4 x5 x6 = fun _ => 1#1) :
    Good (fun k => x0 (ix1 k)) (x1 (ix1 0)) (fun k => x2 (ix1 k)) := by
  have h := congrFun h (fun a => a.elim0)
  obtain ⟨h, r3⟩ := IntOp.andi_eq_one.1 h
  obtain ⟨r1, r2⟩ := IntOp.andi_eq_one.1 h
  clear h
  have r2 := Host.reduce_andi_all _ _ _ _ _ r2 (ix1 0)
  obtain ⟨r2a, r2b⟩ := IntOp.andi_eq_one.1 r2
  have u1 : (1#32).sle (x1 (ix1 0)) = true := ofBool_one r2a
  have u2 : (x1 (ix1 0)).sle 32#32 = true := ofBool_one r2b
  have u1 := toNat_of_sle (by decide) u1
  have u2 : (x1 (ix1 0)).toNat ≤ 32 := by
    have h := BitVec.sle_iff_toInt_le.1 u2
    rw [BitVec.toInt_eq_toNat_cond, BitVec.toInt_eq_toNat_cond] at h
    have e : (32#32).toNat = 32 := rfl
    rw [e] at h
    split_ifs at h <;> omega
  refine ⟨fun k => ?_, u1.1, u2, fun k => ?_⟩
  · have r := Host.reduce_andi_all _ _ _ _ _ r1 (ix1 k)
    obtain ⟨ra, rb⟩ := IntOp.andi_eq_one.1 r
    have a : (0#32).sle (x0 (ix1 k)) = true := ofBool_one ra
    have b : (x0 (ix1 k)).slt 8#32 = true := ofBool_one rb
    exact toNat_of_slt (by decide) (toNat_of_sle (by decide) a).2 b
  · have r := Host.reduce_andi_all _ _ _ _ _ r3 (ix1 k)
    rcases IntOp.ori_eq_one.1 r with r | r
    · exact .inl (beq_iff_eq.1 (ofBool_one r))
    · obtain ⟨r, rk⟩ := IntOp.andi_eq_one.1 r
      have e1 : ∀ j, shapeCast S_ x1 Facts.shapeCasts_S1_S_ j = x1 (ix1 0) := fun j =>
        congrArg x1 (funext fun (a : Fin 1) => by
          obtain rfl : a = 0 := Subsingleton.elim _ _
          exact Subsingleton.elim (α := Fin 1) _ _)
      have rk : BitVec.ofBool ((BitVec.ofNat 32 k.val).slt (shapeCast S_ x1 Facts.shapeCasts_S1_S_ _)) = 1#1 := rk
      rw [e1] at rk
      have hk : (BitVec.ofNat 32 k.val).slt (x1 (ix1 0)) = true := ofBool_one rk
      have ek : (BitVec.ofNat 32 k.val).toNat = k.val := by
        rw [BitVec.toNat_ofNat]; exact Nat.mod_eq_of_lt (by have := k.isLt; omega)
      have hk := toNat_of_slt (by omega) (by rw [ek]; have := k.isLt; omega) hk
      rw [ek] at hk
      refine .inr ⟨?_, hk⟩
      rcases IntOp.ori_eq_one.1 r with r | r
      · rcases IntOp.ori_eq_one.1 r with r | r
        · rcases IntOp.ori_eq_one.1 r with r | r
          · exact .inl (beq_iff_eq.1 (ofBool_one r))
          · exact .inr (.inl (beq_iff_eq.1 (ofBool_one r)))
        · exact .inr (.inr (.inl (beq_iff_eq.1 (ofBool_one r))))
      · exact .inr (.inr (.inr (beq_iff_eq.1 (ofBool_one r))))

end Pre

open Cert.Kernel3Ideal Cert.Kernel3Ideal.Gen Idealize.ShloMosaic.TcCoe

variable {F : FTy → Type} [FloatOps F]

/-- The tables' entries. -/
def teW (pf : pre0.Contents (Elt F)) (k : Fin 33) : BitVec 32 := (pf 0 : IVec S33 32) (ix1 k)
def usedW (pf : pre0.Contents (Elt F)) : BitVec 32 := (pf 1 : IVec S1 32) (ix1 0)
def rowsW (pf : pre0.Contents (Elt F)) (k : Fin 33) : BitVec 32 := (pf 2 : IVec S33 32) (ix1 k)

/-- The rectangles of one entry name it. -/
theorem idx33 (k : Fin 33) (off : Fin 1 → ℕ) (h : ∀ a, off a + S1.size a ≤ S33.size a) (ho : off 0 = k.val) (h1 : 0 < S1.numel) :
    ((Rect.unit (s := S33) off S1.size h).emb (Shape.Idx.first h1) : S33.Idx) = ix1 k :=
  funext fun (a : Fin 1) => Fin.ext (by
    obtain rfl : a = 0 := Subsingleton.elim _ _
    show off 0 + 1 * 0 = k.val
    omega)
theorem idx1 (h1 : 0 < S1.numel) : ((Rect.unit (s := S1) ![0] S1.size inb_S1_S1_0).emb (Shape.Idx.first h1) : S1.Idx) = ix1 0 :=
  funext fun (a : Fin 1) => Fin.ext (by
    obtain rfl : a = 0 := Subsingleton.elim _ _
    rfl)
/-- The loads of the index maps are those entries. -/
theorem at_te (pf : pre0.Contents (Elt F)) (i : grid0.Coords) (off : Fin 1 → ℕ) (h : ∀ a, off a + S1.size a ≤ S33.size a) (ho : off 0 = (i 0).val) :
    pf.at 0 (Rect.unit (s := S33) off S1.size h) numel1_S1 = teW pf (i 0) :=
  congrArg (pf 0 : IVec S33 32) (idx33 (i 0) off h ho _)
theorem at_used (pf : pre0.Contents (Elt F)) :
    pf.at 1 (Rect.unit (s := S1) ![0] S1.size inb_S1_S1_0) numel1_S1 = usedW pf :=
  congrArg (pf 1 : IVec S1 32) (idx1 _)
theorem off_i (i : grid0.Coords) : k0_off1 i 0 = (i 0).val := by
  have h : (i 0).val < 33 := (i 0).isLt
  show (BitVec.ofNat 32 (i 0).val).toNat = _
  rw [BitVec.toNat_ofNat]; omega

/-- The chunk of hidden units a point reads: its own, or the last where the tile is not in use. -/
def chunkW (pf : pre0.Contents (Elt F)) (i : grid0.Coords) : BitVec 32 :=
  Scalar.select (Scalar.cmpi .slt (BitVec.ofNat 32 (i 0).val) (usedW pf)) (BitVec.ofNat 32 (i 1).val) 6#32

/-- The index maps. -/
theorem map0 (pf : pre0.Contents (Elt F)) (i : grid0.Coords) :
    cc0_transform_0 inb_S1_S1_0 numel1_S1 pf i = ![(Scalar.minsi (BitVec.ofNat 32 (i 0).val) (Scalar.subi (usedW pf) 1#32)).toNat, 0] :=
  congrArg (fun u : BitVec 32 => ![(Scalar.minsi (BitVec.ofNat 32 (i 0).val) (Scalar.subi u 1#32)).toNat, 0]) (at_used pf)
theorem map1 (pf : pre0.Contents (Elt F)) (i : grid0.Coords) :
    cc0_transform_1 k0_off1_inb numel1_S1 inb_S1_S1_0 pf i = ![0, (teW pf (i 0)).toNat, 0, (chunkW pf i).toNat] :=
  (congrArg (fun u : BitVec 32 => ![0, (pf.at 0 (Rect.unit (s := S33) (k0_off1 i) S1.size (k0_off1_inb i)) numel1_S1 : BitVec 32).toNat, 0,
      (Scalar.select (Scalar.cmpi .slt (BitVec.ofNat 32 (i 0).val) u) (BitVec.ofNat 32 (i 1).val) 6#32).toNat]) (at_used pf)).trans
    (congrArg (fun e : BitVec 32 => ![0, e.toNat, 0, (chunkW pf i).toNat]) (at_te pf i _ _ (off_i i)))
theorem map2 (pf : pre0.Contents (Elt F)) (i : grid0.Coords) :
    cc0_transform_2 k0_off1_inb numel1_S1 inb_S1_S1_0 pf i = ![0, (teW pf (i 0)).toNat, 0, (chunkW pf i).toNat] := map1 pf i
theorem map3 (pf : pre0.Contents (Elt F)) (i : grid0.Coords) :
    cc0_transform_3 k0_off1_inb numel1_S1 inb_S1_S1_0 pf i = ![0, (teW pf (i 0)).toNat, (chunkW pf i).toNat, 0] :=
  (congrArg (fun u : BitVec 32 => ![0, (pf.at 0 (Rect.unit (s := S33) (k0_off1 i) S1.size (k0_off1_inb i)) numel1_S1 : BitVec 32).toNat,
      (Scalar.select (Scalar.cmpi .slt (BitVec.ofNat 32 (i 0).val) u) (BitVec.ofNat 32 (i 1).val) 6#32).toNat, 0]) (at_used pf)).trans
    (congrArg (fun e : BitVec 32 => ![0, e.toNat, (chunkW pf i).toNat, 0]) (at_te pf i _ _ (off_i i)))

/-- A signed comparison of small words. -/
theorem slt_small {x y : BitVec 32} (hx : x.toNat < 2 ^ 31) (hy : y.toNat < 2 ^ 31) : x.slt y = decide (x.toNat < y.toNat) := by
  rw [BitVec.slt_eq_decide, BitVec.toInt_eq_toNat_cond, BitVec.toInt_eq_toNat_cond, if_pos (by omega), if_pos (by omega)]
  exact decide_eq_decide.2 Int.ofNat_lt
/-- A grid coordinate's word. -/
theorem word_lt {n : ℕ} (h : n < 64) : (BitVec.ofNat 32 n).toNat = n := by rw [BitVec.toNat_ofNat]; omega

/-- Under the precondition the row block is the tile's, or the last in use. -/
theorem block_eq (pf : pre0.Contents (Elt F)) (hg : Good (teW pf) (usedW pf) (rowsW pf)) (i : grid0.Coords) :
    (Scalar.minsi (BitVec.ofNat 32 (i 0).val) (Scalar.subi (usedW pf) 1#32)).toNat = min (i 0).val ((usedW pf).toNat - 1) := by
  have h : (i 0).val < 33 := (i 0).isLt
  have ho := hg.pos
  have hl := hg.le
  have e1 := word_lt (n := (i 0).val) (by omega)
  have e2 : (Scalar.subi (usedW pf) 1#32).toNat = (usedW pf).toNat - 1 := by
    show (usedW pf - 1#32).toNat = _
    rw [BitVec.toNat_sub]; have : (1#32).toNat = 1 := rfl; omega
  show (if (BitVec.ofNat 32 (i 0).val).slt (Scalar.subi (usedW pf) 1#32) then _ else _ : BitVec 32).toNat = _
  rw [slt_small (by omega) (by omega), e1, e2]
  by_cases h : (i 0).val < (usedW pf).toNat - 1
  · rw [if_pos (decide_eq_true h), e1]; omega
  · rw [if_neg (by simpa using h), e2]; omega
/-- The chunk of a point of a tile in use is its own. -/
theorem chunk_eq (pf : pre0.Contents (Elt F)) (hg : Good (teW pf) (usedW pf) (rowsW pf)) (i : grid0.Coords) (h : (i 0).val < (usedW pf).toNat) :
    (chunkW pf i).toNat = (i 1).val := by
  have h0 : (i 0).val < 33 := (i 0).isLt
  have h1 : (i 1).val < 7 := (i 1).isLt
  have hl := hg.le
  have e1 := word_lt (n := (i 0).val) (by omega)
  show (if BitVec.ofBool ((BitVec.ofNat 32 (i 0).val).slt (usedW pf)) = 1 then _ else _ : BitVec 32).toNat = _
  rw [slt_small (by omega) (by omega), e1, decide_eq_true h, if_pos (show BitVec.ofBool true = 1 from rfl), word_lt (by omega)]
theorem chunk_le (pf : pre0.Contents (Elt F)) (i : grid0.Coords) : (chunkW pf i).toNat ≤ 6 := by
  have h1 : (i 1).val < 7 := (i 1).isLt
  unfold chunkW Scalar.select
  split_ifs
  · rw [word_lt (by omega)]; omega
  · decide

/-- So every block is inside its array. -/
theorem ok_of_good (pf : pre0.Contents (Elt F)) (hg : Good (teW pf) (usedW pf) (rowsW pf)) : ok0 pf := by
  have hb := fun i => block_eq pf hg i
  have hl := hg.le
  refine ⟨fun i => ⟨?_, .inr (Affine.block_words_dvd (of_decide_eq_true rfl) (by decide))⟩, fun i => ⟨?_, .inl rfl⟩,
    fun i => ⟨?_, .inl rfl⟩, fun i => ⟨?_, .inl rfl⟩⟩
  · rw [map0]
    intro a
    have := hb i
    fin_cases a
    · show ((Scalar.minsi _ _).toNat + 1) * 1024 ≤ 32768
      omega
    · show (0 + 1) * 1024 ≤ 1024
      omega
  · rw [map1]
    intro a
    have := chunk_le pf i
    have := hg.expert (i 0)
    fin_cases a
    · show (0 + 1) * 1 ≤ 1
      omega
    · show ((teW pf (i 0)).toNat + 1) * 1 ≤ 8
      omega
    · show (0 + 1) * 1024 ≤ 1024
      omega
    · show ((chunkW pf i).toNat + 1) * 512 ≤ 3584
      omega
  · rw [map2]
    intro a
    have := chunk_le pf i
    have := hg.expert (i 0)
    fin_cases a
    · show (0 + 1) * 1 ≤ 1
      omega
    · show ((teW pf (i 0)).toNat + 1) * 1 ≤ 8
      omega
    · show (0 + 1) * 1024 ≤ 1024
      omega
    · show ((chunkW pf i).toNat + 1) * 512 ≤ 3584
      omega
  · rw [map3]
    intro a
    have := chunk_le pf i
    have := hg.expert (i 0)
    fin_cases a
    · show (0 + 1) * 1 ≤ 1
      omega
    · show ((teW pf (i 0)).toNat + 1) * 1 ≤ 8
      omega
    · show ((chunkW pf i).toNat + 1) * 512 ≤ 3584
      omega
    · show (0 + 1) * 1024 ≤ 1024
      omega

end Cert.Exp

end
-- ==== Proof.FfnTerms.lean ====
/- The scalar formulas of one row of the dense feed-forward network: the normalised and modulated row, the gated hidden
   unit, the row's result, and the hidden units summed in stretches of 256. -/
module

public import Idealize.ShloMosaic.Lib.Pointwise
public import Idealize.ShloMosaic.Lib.Pipeline.ValueKit.Acc

@[expose] public section

noncomputable section

namespace Cert.Ffn

open Idealize.ShloMosaic

/-- A row divided by its root mean square, scaled by `g`, then scaled by `1 + sc` and shifted by `sh`. -/
def hid (x g sc sh : Fin 1024 → EReal) (d : Fin 1024) : EReal :=
  x d * Ideal.rsqrt (Ideal.div (∑ k, x k * x k) (Ideal.ofBits FTy.f32 0x44800000#32) + Ideal.ofBits FTy.f32 0x358637BD#32)
    * g d * (1 + sc d) + sh d

/-- The sigmoid-weighted unit as the kernel divides it. -/
def silu (y : EReal) : EReal := Ideal.div y (1 + Ideal.exp (-y))

/-- One hidden unit: the gate's unit times the up projection. -/
def act (h wg wu : Fin 1024 → EReal) : EReal := silu (∑ d, h d * wg d) * ∑ d, h d * wu d

/-- One hidden unit's share of the result. -/
def term (h : Fin 1024 → EReal) (Wg Wu : Fin 1024 → Fin 2816 → EReal) (Wd : Fin 2816 → Fin 1024 → EReal) (n : Fin 1024)
    (f : Fin 2816) : EReal :=
  act h (fun d => Wg d f) (fun d => Wu d f) * Wd f n

/-- The row's result: the row plus the gate times the network's output. -/
def ffnRow (x gate h : Fin 1024 → EReal) (Wg Wu : Fin 1024 → Fin 2816 → EReal) (Wd : Fin 2816 → Fin 1024 → EReal)
    (n : Fin 1024) : EReal :=
  x n + gate n * ∑ f, term h Wg Wu Wd n f

/-- The sum of the first `q` stretches of 256 terms (a stretch past the end adds nothing). -/
def upTo (g : Fin 2816 → EReal) (q : Nat) : EReal :=
  ∑ s ∈ Finset.range q, ∑ k : Fin 256, if h : s * 256 + k.val < 2816 then g ⟨s * 256 + k.val, h⟩ else 0

/-- No stretch sums to zero. -/
theorem upTo_zero (g : Fin 2816 → EReal) : upTo g 0 = 0 := rfl

/-- One more stretch. -/
theorem upTo_succ (g : Fin 2816 → EReal) (q : Nat) (hq : q < 11) :
    upTo g (q + 1) = upTo g q + ∑ k : Fin 256, g ⟨q * 256 + k.val, by omega⟩ := by
  unfold upTo
  rw [Finset.sum_range_succ]
  congr 1
  exact Finset.sum_congr rfl fun k _ => dif_pos (by omega)

/-- Eleven stretches are the whole sum. -/
theorem upTo_all (g : Fin 2816 → EReal) : upTo g 11 = ∑ f, g f := by
  unfold upTo
  rw [Finset.sum_range]
  refine Fin.sum_mul_add_congr fun s k hl => ?_
  exact dif_pos hl

/-- `1 + e^(-y)` is not zero. -/
theorem one_add_exp_ne (y : EReal) : (1 : EReal) + Ideal.exp y ≠ 0 := by
  have h : 0 ≤ Ideal.exp y := by
    induction y using EReal.rec with
    | bot => exact le_rfl
    | top => exact le_top
    | coe r => exact EReal.coe_nonneg.2 (Real.exp_nonneg r)
  have h1 : (0 : EReal) < 1 := by exact_mod_cast one_pos
  exact ne_of_gt (lt_of_lt_of_le h1 (le_add_of_nonneg_right h))

/-- The reference multiplies by the reciprocal. -/
theorem silu_eq (y : EReal) : y * Ideal.div 1 (1 + Ideal.exp (-y)) = silu y := by
  have h := one_add_exp_ne (-y)
  unfold silu Ideal.div
  rw [if_neg h, if_neg h, one_mul]

end Cert.Ffn
-- ==== Proof.ExpPayload.lean ====
/- What the experts kernel's body adds at a grid point, entry by entry, in each of its four branches on the tile's
   number of rows, and the hidden units summed in stretches of 512. -/
module

public import proofs.«01_k».proof.Proof.ExpRun
public import proofs.«01_k».proof.Proof.FfnTerms

@[expose] public section

set_option maxRecDepth 16384

noncomputable section

namespace Cert.Exp

open Cert.Kernel3Ideal Cert.Kernel3Ideal.Gen Idealize.ShloMosaic Idealize.ShloMosaic.TcCoe Cert.Ffn

/-- The sum of the first `q` stretches of 512 terms (a stretch past the end adds nothing). -/
def upTo (g : Fin 3584 → EReal) (q : Nat) : EReal :=
  ∑ s ∈ Finset.range q, ∑ k : Fin 512, if h : s * 512 + k.val < 3584 then g ⟨s * 512 + k.val, h⟩ else 0

/-- One more stretch. -/
theorem upTo_succ (g : Fin 3584 → EReal) (q : Nat) (hq : q < 7) :
    upTo g (q + 1) = upTo g q + ∑ k : Fin 512, g ⟨q * 512 + k.val, by omega⟩ := by
  unfold upTo
  rw [Finset.sum_range_succ]
  congr 1
  exact Finset.sum_congr rfl fun k _ => dif_pos (by omega)

/-- Seven stretches are the whole sum. -/
theorem upTo_all (g : Fin 3584 → EReal) : upTo g 7 = ∑ f, g f := by
  unfold upTo
  rw [Finset.sum_range]
  refine Fin.sum_mul_add_congr fun s k hl => ?_
  exact dif_pos hl

/-- A stretch's share of one entry: the row's gated hidden units against the down projection's rows. -/
def part (h : Fin 1024 → EReal) (wg wu : Vec Ideal S1x1x1024x512 .f32) (wd : Vec Ideal S1x1x512x1024 .f32) (n : Fin 1024) : EReal :=
  ∑ k : Fin 512, act h (fun d => wg (ix4 0 0 d k)) (fun d => wu (ix4 0 0 d k)) * wd (ix4 0 0 k n)

/-- The branch for 256 rows, at one entry. -/
theorem pay256_at (h : Vec Ideal S256x1024 .bf16) (wg wu : Vec Ideal S1x1x1024x512 .f32) (wd : Vec Ideal S1x1x512x1024 .f32)
    (a : Vec Ideal S256x1024 .f32) (r : Fin 256) (n : Fin 1024) :
    k0_pay2 h wg wu a wd (ix2 r n) = a (ix2 r n) + part (fun d => h (ix2 r d)) wg wu wd n := by
  pointwise [k0_pay2, part, act, silu, zero_sub]

/-- The branch for 512 rows, at one entry. -/
theorem pay512_at (h : Vec Ideal S512x1024 .bf16) (wg wu : Vec Ideal S1x1x1024x512 .f32) (wd : Vec Ideal S1x1x512x1024 .f32)
    (a : Vec Ideal S512x1024 .f32) (r : Fin 512) (n : Fin 1024) :
    k0_pay3 h wg wu a wd (ix2 r n) = a (ix2 r n) + part (fun d => h (ix2 r d)) wg wu wd n := by
  pointwise [k0_pay3, part, act, silu, zero_sub]

/-- The branch for 768 rows, at one entry. -/
theorem pay768_at (h : Vec Ideal S768x1024 .bf16) (wg wu : Vec Ideal S1x1x1024x512 .f32) (wd : Vec Ideal S1x1x512x1024 .f32)
    (a : Vec Ideal S768x1024 .f32) (r : Fin 768) (n : Fin 1024) :
    k0_pay4 h wg wu a wd (ix2 r n) = a (ix2 r n) + part (fun d => h (ix2 r d)) wg wu wd n := by
  pointwise [k0_pay4, part, act, silu, zero_sub]

/-- The branch for 1024 rows, at one entry. -/
theorem pay1024_at (h : Vec Ideal S1024x1024 .bf16) (wg wu : Vec Ideal S1x1x1024x512 .f32) (wd : Vec Ideal S1x1x512x1024 .f32)
    (a : Vec Ideal S1024x1024 .f32) (r : Fin 1024) (n : Fin 1024) :
    k0_pay5 h wg wu a wd (ix2 r n) = a (ix2 r n) + part (fun d => h (ix2 r d)) wg wu wd n := by
  pointwise [k0_pay5, part, act, silu, zero_sub]

/-- The zeros a tile starts from. -/
theorem zeros_at (r n : Fin 1024) : (k0_pay1 (F := Ideal)) (ix2 r n) = 0 := by
  pointwise [k0_pay1]

/-- A window of the whole shape is the contents. -/
theorem window_full {s : Shape} {α : Type} (x : s.Idx → α) (off : Fin s.rank → ℕ) (h : ∀ a, off a = 0) (inb : ∀ a, off a + s.size a ≤ s.size a) :
    VecWindow.window x off s.size inb = x :=
  funext fun y => congrArg x (funext fun a => Fin.ext (by
    show off a + 1 * (y a).val = (y a).val
    rw [h a]; omega))
theorem winUp_eq (x : Vec Ideal S1x1x1024x512 .f32) : winUp x = x := window_full x _ (by decide) _
theorem winDown_eq (x : Vec Ideal S1x1x512x1024 .f32) : winDown x = x := window_full x _ (by decide) _

/-- The leading `P` rows of a block of 1024, read and written at one entry. -/
theorem window_rows {P : ℕ} {α : Type} (x : S1024x1024.Idx → α) (hP : P ≤ 1024) (inb : ∀ a, (![0, 0] : Fin 2 → ℕ) a + (⟨2, ![P, 1024]⟩ : Shape).size a ≤ S1024x1024.size a)
    (r : Fin P) (n : Fin 1024) :
    VecWindow.window x ![0, 0] (⟨2, ![P, 1024]⟩ : Shape).size inb (ix2 r n : (⟨2, ![P, 1024]⟩ : Shape).Idx) = x (ix2 ⟨r.val, by omega⟩ n) :=
  congrArg x (funext fun (a : Fin 2) => Fin.ext (by
    fin_cases a
    · show 0 + 1 * r.val = r.val
      omega
    · show 0 + 1 * n.val = n.val
      omega))
theorem put_rows {P : ℕ} {α : Type} (x : S1024x1024.Idx → α) (W : (⟨2, ![P, 1024]⟩ : Shape).Idx → α) (r n : Fin 1024) :
    VecWindow.put x ![0, 0] (⟨2, ![P, 1024]⟩ : Shape).size W (ix2 r n) = if h : r.val < P then W (ix2 ⟨r.val, h⟩ n) else x (ix2 r n) := by
  unfold VecWindow.put
  by_cases h : r.val < P
  · have hc : ∀ a : Fin 2, (![0, 0] : Fin 2 → ℕ) a ≤ ((ix2 r n : S1024x1024.Idx) a).val
        ∧ ((ix2 r n : S1024x1024.Idx) a).val < (![0, 0] : Fin 2 → ℕ) a + (⟨2, ![P, 1024]⟩ : Shape).size a := fun a => by
      fin_cases a
      · exact ⟨Nat.zero_le _, by show r.val < 0 + P; omega⟩
      · exact ⟨Nat.zero_le _, by show n.val < 0 + 1024; omega⟩
    rw [dif_pos hc, dif_pos h]
    refine congrArg W (funext fun (a : Fin 2) => Fin.ext ?_)
    fin_cases a
    · show r.val - 0 = r.val
      omega
    · show n.val - 0 = n.val
      omega
  · rw [dif_neg h, dif_neg]
    intro hc
    have h0 := (hc (0 : Fin 2)).2
    have h1 : r.val < 0 + P := h0
    omega

/-- A branch is taken exactly at its number of rows. -/
theorem rowsAre_iff (w n : BitVec 32) : rowsAre w n ↔ w = n := by
  by_cases h : w = n
  · subst h
    have e : Scalar.cmpi .eq w w = 1#1 := by show BitVec.ofBool (w == w) = 1#1; rw [beq_self_eq_true]; rfl
    unfold rowsAre
    rw [e]
    exact ⟨fun _ => rfl, fun _ => by decide⟩
  · have e : Scalar.cmpi .eq w n = 0#1 := by show BitVec.ofBool (w == n) = 0#1; rw [beq_eq_false_iff_ne.2 h]; rfl
    unfold rowsAre
    rw [e]
    exact ⟨fun h => absurd h (by decide), fun h' => absurd h' h⟩

/-- The accumulator after a branch for `P` rows, at one entry: `W` is what the branch stores. -/
theorem branch_at {P : ℕ} (N w : BitVec 32) (x0 : Vec Ideal S1024x1024 .bf16) (x1 x2 : Vec Ideal S1x1x1024x512 .f32) (x3 : Vec Ideal S1x1x512x1024 .f32)
    (a : Vec Ideal S1024x1024 .f32) (hP : P ≤ 1024) (inb : ∀ a, (![0, 0] : Fin 2 → ℕ) a + (⟨2, ![P, 1024]⟩ : Shape).size a ≤ S1024x1024.size a)
    (W : Vec Ideal ⟨2, ![P, 1024]⟩ .f32)
    (hW : ∀ r n, W (ix2 r n) = VecWindow.window a ![0, 0] (⟨2, ![P, 1024]⟩ : Shape).size inb (ix2 r n : (⟨2, ![P, 1024]⟩ : Shape).Idx)
      + part (fun d => VecWindow.window x0 ![0, 0] (⟨2, ![P, 1024]⟩ : Shape).size inb (ix2 r d : (⟨2, ![P, 1024]⟩ : Shape).Idx)) (winUp x1) (winUp x2) (winDown x3) n)
    (r n : Fin 1024) :
    (if rowsAre w N then VecWindow.put a ![0, 0] (⟨2, ![P, 1024]⟩ : Shape).size W else a) (ix2 r n)
      = if w = N ∧ r.val < P then a (ix2 r n) + part (fun d => x0 (ix2 r d)) x1 x2 x3 n else a (ix2 r n) := by
  by_cases hw : w = N
  · rw [if_pos ((rowsAre_iff w N).2 hw), put_rows]
    by_cases h : r.val < P
    · rw [dif_pos h, if_pos ⟨hw, h⟩, hW, window_rows a hP, winUp_eq, winUp_eq, winDown_eq]
      refine congrArg (fun z => a (ix2 r n) + part z x1 x2 x3 n) (funext fun d => ?_)
      exact window_rows x0 hP inb _ _
    · rw [dif_neg h, if_neg (fun c => h c.2)]
  · rw [if_neg (fun c => hw ((rowsAre_iff w N).1 c)), if_neg (fun c => hw c.1)]

/-- The accumulator after a point, at one entry: a row below the tile's number of rows has the stretch's share added. -/
theorem accStep_at (w : BitVec 32) (hw : w = 0#32 ∨ w = 256#32 ∨ w = 512#32 ∨ w = 768#32 ∨ w = 1024#32)
    (x0 : Vec Ideal S1024x1024 .bf16) (x1 x2 : Vec Ideal S1x1x1024x512 .f32) (x3 : Vec Ideal S1x1x512x1024 .f32)
    (a : Vec Ideal S1024x1024 .f32) (r n : Fin 1024) :
    accStep w x0 x1 x2 x3 a (ix2 r n)
      = if r.val < w.toNat then a (ix2 r n) + part (fun d => x0 (ix2 r d)) x1 x2 x3 n else a (ix2 r n) := by
  have h1 := fun b => branch_at 256#32 w x0 x1 x2 x3 b (by decide) inb_S1024x1024_S256x1024_0_0 _ (pay256_at _ _ _ _ _) r n
  have h2 := fun b => branch_at 512#32 w x0 x1 x2 x3 b (by decide) inb_S1024x1024_S512x1024_0_0 _ (pay512_at _ _ _ _ _) r n
  have h3 := fun b => branch_at 768#32 w x0 x1 x2 x3 b (by decide) inb_S1024x1024_S768x1024_0_0 _ (pay768_at _ _ _ _ _) r n
  have h4 := fun b => branch_at 1024#32 w x0 x1 x2 x3 b (by decide) inb_S1024x1024_S1024x1024_0_0 _ (pay1024_at _ _ _ _ _) r n
  have e1 : ∀ b, add256 w x0 x1 x2 x3 b (ix2 r n) = _ := h1
  have e2 : ∀ b, add512 w x0 x1 x2 x3 b (ix2 r n) = _ := h2
  have e3 : ∀ b, add768 w x0 x1 x2 x3 b (ix2 r n) = _ := h3
  have e4 : ∀ b, add1024 w x0 x1 x2 x3 b (ix2 r n) = _ := h4
  unfold accStep
  rw [e4, e3, e2, e1]
  rcases hw with rfl | rfl | rfl | rfl | rfl <;> simp

end Cert.Exp

end
-- ==== Proof.ExpSpec.lean ====
/- The experts call's specification: one hidden unit's share of an entry, and the whole entry, of the row sorted into
   its tile by the prepared tables. -/
module

public import proofs.«01_k».proof.Proof.FfnTerms

@[expose] public section

set_option maxRecDepth 16384

noncomputable section

namespace Cert.Exp

open Idealize.ShloMosaic Cert.Ffn

/-- The expert a table's word names. -/
def expertOf (w : BitVec 32) : Fin 8 := ⟨w.toNat % 8, Nat.mod_lt _ (by decide)⟩
/-- Row `r` of tile `i`. -/
def rowOf (i : Fin 33) (r : Fin 1024) : Fin 32768 := ⟨(i.val * 1024 + r.val) % 32768, Nat.mod_lt _ (by decide)⟩

/-- Hidden unit `f`'s share of entry `n` of row `a` through expert `e`. -/
def term (xs : FVec Ideal ⟨2, ![32768, 1024]⟩ .bf16) (wg wu : FVec Ideal ⟨4, ![1, 8, 1024, 3584]⟩ .f32) (wd : FVec Ideal ⟨4, ![1, 8, 3584, 1024]⟩ .f32)
    (a : Fin 32768) (e : Fin 8) (n : Fin 1024) (f : Fin 3584) : EReal :=
  act (fun d => xs (ix2 a d)) (fun d => wg (ix4 0 e d f)) (fun d => wu (ix4 0 e d f)) * wd (ix4 0 e f n)

/-- Entry `n` of row `r` of tile `i`: the row through the tile's expert if it is below the tile's number of rows, else zero. -/
def entry (te rows : Fin 33 → BitVec 32) (xs : FVec Ideal ⟨2, ![32768, 1024]⟩ .bf16) (wg wu : FVec Ideal ⟨4, ![1, 8, 1024, 3584]⟩ .f32)
    (wd : FVec Ideal ⟨4, ![1, 8, 3584, 1024]⟩ .f32) (i : Fin 33) (r n : Fin 1024) : EReal :=
  if r.val < (rows i).toNat then ∑ f, term xs wg wu wd (rowOf i r) (expertOf (te i)) n f else 0

end Cert.Exp

end
-- ==== Proof.ExpBlocks.lean ====
/- The experts call's blocks at a grid point of a tile in use: which entries of the arguments each holds, and what the
   point adds to the accumulator. Grid point `t` is (tile `t / 7`, stretch of hidden units `t % 7`). -/
module

public import proofs.«01_k».proof.Proof.ExpFrame
public import proofs.«01_k».proof.Proof.ExpTables
public import proofs.«01_k».proof.Proof.ExpPayload
public import proofs.«01_k».proof.Proof.ExpSpec
public import Idealize.ShloMosaic.Lib.Pipeline.Value
public import Idealize.ShloMosaic.Lib.Pipeline.ValueKit

@[expose] public section

set_option maxRecDepth 16384

noncomputable section

namespace Cert.Exp

open Cert.Kernel3Ideal Cert.Kernel3Ideal.Gen Idealize.ShloMosaic Idealize.ShloMosaic.TcCoe Idealize.SL.Sem Cert.Ffn

variable (m : (ℓ : Loc nD τ sig) → Buf (Elt Ideal) ℓ)

/-- What the precondition says of the tables in memory. -/
abbrev Tables : Prop := Good (teW (tbl m)) (usedW (tbl m)) (rowsW (tbl m))

/-- A point's coordinates. -/
theorem coords0 (t : Fin grid0.N) : (grid0.coords t 0).val = t.val / 7 := by
  have ht : t.val < 231 := Nat.lt_of_lt_of_eq t.isLt N_0
  have e : (grid0.coords t 0).val = t.val / 7 % 33 := Pipeline.Grid.coords_val t 0 (by decide) rfl
  omega
theorem coords1 (t : Fin grid0.N) : (grid0.coords t 1).val = t.val % 7 := by
  have e : (grid0.coords t 1).val = t.val / 1 % 7 := Pipeline.Grid.coords_val t 1 (by decide) rfl
  omega

/-- A point's tile. -/
def tileOf (t : Fin grid0.N) : Fin 33 := ⟨t.val / 7, by
  have ht : t.val < 231 := Nat.lt_of_lt_of_eq t.isLt N_0
  omega⟩
theorem coords_tile (t : Fin grid0.N) : grid0.coords t 0 = tileOf t := Fin.ext (coords0 t)

/-- The number of rows the body reads is the tile's. -/
theorem rows_eq (c : Dev nD) (t : Fin grid0.N) : rowsOf c (grid0.coords t) (tbl m 2) = rowsW (tbl m) (tileOf t) :=
  congrArg (tbl m 2 : IVec S33 32) (idx33 (tileOf t) _ (k0_off1_inb _) ((off_i _).trans (coords0 t)) _)

/-- The windows' block indices at a point of a tile in use. -/
theorem idx0 (hO : Ok m) (hg : Tables m) (t : Fin grid0.N) (hk : t.val / 7 < (usedW (tbl m)).toNat) :
    ((cfgM m hO).win 0).index t = ![t.val / 7, 0] := by
  refine (map0 (tbl m) (grid0.coords t)).trans ?_
  rw [block_eq (tbl m) hg (grid0.coords t), coords0, show min (t.val / 7) ((usedW (tbl m)).toNat - 1) = t.val / 7 by omega]
theorem idx1w (hO : Ok m) (hg : Tables m) (t : Fin grid0.N) (hk : t.val / 7 < (usedW (tbl m)).toNat) :
    ((cfgM m hO).win 1).index t = ![0, (teW (tbl m) (tileOf t)).toNat, 0, t.val % 7] := by
  refine (map1 (tbl m) (grid0.coords t)).trans ?_
  rw [chunk_eq (tbl m) hg (grid0.coords t) (by rw [coords0]; exact hk), coords1, coords_tile]
theorem idx2w (hO : Ok m) (hg : Tables m) (t : Fin grid0.N) (hk : t.val / 7 < (usedW (tbl m)).toNat) :
    ((cfgM m hO).win 2).index t = ![0, (teW (tbl m) (tileOf t)).toNat, 0, t.val % 7] := idx1w m hO hg t hk
theorem idx3w (hO : Ok m) (hg : Tables m) (t : Fin grid0.N) (hk : t.val / 7 < (usedW (tbl m)).toNat) :
    ((cfgM m hO).win 3).index t = ![0, (teW (tbl m) (tileOf t)).toNat, t.val % 7, 0] := by
  refine (map3 (tbl m) (grid0.coords t)).trans ?_
  rw [chunk_eq (tbl m) hg (grid0.coords t) (by rw [coords0]; exact hk), coords1, coords_tile]

/-- The arguments' arrays. -/
abbrev xsA (c : Dev nD) : FVec Ideal S32768x1024 .bf16 := m ((c : Thread nD τ).loc main_arg3)
abbrev wgA (c : Dev nD) : FVec Ideal S1x8x1024x3584 .f32 := m ((c : Thread nD τ).loc main_arg4)
abbrev wuA (c : Dev nD) : FVec Ideal S1x8x1024x3584 .f32 := m ((c : Thread nD τ).loc main_arg5)
abbrev wdA (c : Dev nD) : FVec Ideal S1x8x3584x1024 .f32 := m ((c : Thread nD τ).loc main_arg6)

/-- Hidden unit `k` of a point's stretch. -/
def unitOf (t : Fin grid0.N) (k : Fin 512) : Fin 3584 := ⟨t.val % 7 * 512 + k.val, by omega⟩

/-- The rows' block. -/
theorem blk_x (hO : Ok m) (hg : Tables m) (c : Dev nD) (t : Fin grid0.N) (hk : t.val / 7 < (usedW (tbl m)).toNat) (r d : Fin 1024) :
    (iblk m hO c 0 t : FVec Ideal S1024x1024 .bf16) (ix2 r d) = xsA m c (ix2 (rowOf (tileOf t) r) d) := by
  have hl := hg.le
  refine congrArg (xsA m c) (funext fun a => Fin.ext ((Pipeline.Window.rect_emb_val ((cfgM m hO).win 0) t (ix2 r d) a).trans ?_))
  rw [idx0 m hO hg t hk]
  fin_cases a
  · show t.val / 7 * 1024 + r.val = (t.val / 7 * 1024 + r.val) % 32768
    omega
  · show 0 * 1024 + d.val = d.val
    omega
/-- The weights' blocks. -/
theorem blk_wg (hO : Ok m) (hg : Tables m) (c : Dev nD) (t : Fin grid0.N) (hk : t.val / 7 < (usedW (tbl m)).toNat) (d : Fin 1024) (k : Fin 512) :
    (iblk m hO c 1 t : FVec Ideal S1x1x1024x512 .f32) (ix4 0 0 d k) = wgA m c (ix4 0 (expertOf (teW (tbl m) (tileOf t))) d (unitOf t k)) := by
  have he := hg.expert (tileOf t)
  refine congrArg (wgA m c) (funext fun a => Fin.ext ((Pipeline.Window.rect_emb_val ((cfgM m hO).win 1) t (ix4 0 0 d k) a).trans ?_))
  rw [idx1w m hO hg t hk]
  fin_cases a
  · rfl
  · show (teW (tbl m) (tileOf t)).toNat * 1 + 0 = (teW (tbl m) (tileOf t)).toNat % 8
    omega
  · show 0 * 1024 + d.val = d.val
    omega
  · rfl
theorem blk_wu (hO : Ok m) (hg : Tables m) (c : Dev nD) (t : Fin grid0.N) (hk : t.val / 7 < (usedW (tbl m)).toNat) (d : Fin 1024) (k : Fin 512) :
    (iblk m hO c 2 t : FVec Ideal S1x1x1024x512 .f32) (ix4 0 0 d k) = wuA m c (ix4 0 (expertOf (teW (tbl m) (tileOf t))) d (unitOf t k)) := by
  have he := hg.expert (tileOf t)
  refine congrArg (wuA m c) (funext fun a => Fin.ext ((Pipeline.Window.rect_emb_val ((cfgM m hO).win 2) t (ix4 0 0 d k) a).trans ?_))
  rw [idx2w m hO hg t hk]
  fin_cases a
  · rfl
  · show (teW (tbl m) (tileOf t)).toNat * 1 + 0 = (teW (tbl m) (tileOf t)).toNat % 8
    omega
  · show 0 * 1024 + d.val = d.val
    omega
  · rfl
theorem blk_wd (hO : Ok m) (hg : Tables m) (c : Dev nD) (t : Fin grid0.N) (hk : t.val / 7 < (usedW (tbl m)).toNat) (k : Fin 512) (n : Fin 1024) :
    (iblk m hO c 3 t : FVec Ideal S1x1x512x1024 .f32) (ix4 0 0 k n) = wdA m c (ix4 0 (expertOf (teW (tbl m) (tileOf t))) (unitOf t k) n) := by
  have he := hg.expert (tileOf t)
  refine congrArg (wdA m c) (funext fun a => Fin.ext ((Pipeline.Window.rect_emb_val ((cfgM m hO).win 3) t (ix4 0 0 k n) a).trans ?_))
  rw [idx3w m hO hg t hk]
  fin_cases a
  · rfl
  · show (teW (tbl m) (tileOf t)).toNat * 1 + 0 = (teW (tbl m) (tileOf t)).toNat % 8
    omega
  · rfl
  · show 0 * 1024 + n.val = n.val
    omega

/-- The terms of one entry's sum over the hidden units. -/
def terms (c : Dev nD) (i : Fin 33) (r n : Fin 1024) : Fin 3584 → EReal :=
  term (xsA m c) (wgA m c) (wuA m c) (wdA m c) (rowOf i r) (expertOf (teW (tbl m) i)) n

/-- A tile's number of rows is one of five. -/
theorem rows_five (hg : Tables m) (i : Fin 33) : rowsW (tbl m) i = 0#32 ∨ rowsW (tbl m) i = 256#32 ∨ rowsW (tbl m) i = 512#32
    ∨ rowsW (tbl m) i = 768#32 ∨ rowsW (tbl m) i = 1024#32 := by
  rcases hg.rows i with h | ⟨h, -⟩
  · exact .inl h
  · exact .inr h

/-- A tile with a row is in use. -/
theorem in_use (hg : Tables m) (i : Fin 33) (r : ℕ) (h : r < (rowsW (tbl m) i).toNat) : i.val < (usedW (tbl m)).toNat := by
  rcases hg.rows i with h0 | ⟨-, h0⟩
  · rw [h0] at h
    exact absurd h (Nat.not_lt_zero _)
  · exact h0

/-- A point adds its stretch to the rows its tile has. -/
theorem step_at (hO : Ok m) (hg : Tables m) (c : Dev nD) (t : Fin grid0.N) (a : Vec Ideal S1024x1024 .f32) (r n : Fin 1024) :
    stepAt m hO c t a (ix2 r n)
      = if r.val < (rowsW (tbl m) (tileOf t)).toNat then a (ix2 r n) + ∑ k : Fin 512, terms m c (tileOf t) r n (unitOf t k) else a (ix2 r n) := by
  unfold stepAt
  rw [rows_eq]
  refine (accStep_at _ (rows_five m hg _) _ _ _ _ a r n).trans ?_
  by_cases h : r.val < (rowsW (tbl m) (tileOf t)).toNat
  · rw [if_pos h, if_pos h]
    have hk : t.val / 7 < (usedW (tbl m)).toNat := in_use m hg (tileOf t) _ h
    refine congrArg (a (ix2 r n) + ·) (Finset.sum_congr rfl fun k _ => ?_)
    simp only [blk_x m hO hg c t hk, blk_wg m hO hg c t hk, blk_wu m hO hg c t hk, blk_wd m hO hg c t hk]
    rfl
  · rw [if_neg h, if_neg h]

end Cert.Exp

end
-- ==== Proof.ExpPoints.lean ====
/- What the experts call's accumulator holds after each grid point, the result array, and the run with it named. -/
module

public import proofs.«01_k».proof.Proof.ExpBlocks
public import Idealize.ShloMosaic.Lib.Pipeline.ReadBack

@[expose] public section

set_option maxRecDepth 16384

noncomputable section

namespace Cert.Exp

open Cert.Kernel3Ideal Cert.Kernel3Ideal.Gen Idealize.ShloMosaic Idealize.ShloMosaic.TcCoe Idealize.SL.Sem Cert.Ffn
open Idealize.ShloMosaic.Pipeline (Dat)

variable (m : (ℓ : Loc nD τ sig) → Buf (Elt Ideal) ℓ)

/-- The accumulator at a tile's first point, whatever it held: one stretch, in the rows the tile has. -/
theorem first_at (hO : Ok m) (hg : Tables m) (c : Dev nD) (t : Fin grid0.N) (h0 : t.val % 7 = 0) (r n : Fin 1024) :
    stepAt m hO c t (k0_pay1 (F := Ideal)) (ix2 r n)
      = if r.val < (rowsW (tbl m) (tileOf t)).toNat then upTo (terms m c (tileOf t) r n) (t.val % 7 + 1) else 0 := by
  have hz : upTo (terms m c (tileOf t) r n) (t.val % 7) = 0 := by
    rw [h0]
    unfold upTo
    exact Finset.sum_range_zero _
  rw [step_at m hO hg c t, zeros_at, zero_add, upTo_succ _ _ (by omega), hz, zero_add]
  rfl

/-- After each point the accumulator holds, in the rows its tile has, the stretches so far; zero in the others. -/
theorem sums (hO : Ok m) (hg : Tables m) (c : Dev nD) : ∀ (s : ℕ) (hs : s < grid0.N) (r n : Fin 1024),
    accAt m hO c s hs (ix2 r n)
      = if r.val < (rowsW (tbl m) (tileOf ⟨s, hs⟩)).toNat then upTo (terms m c (tileOf ⟨s, hs⟩) r n) (s % 7 + 1) else 0 := by
  intro s
  induction s with
  | zero => exact fun hs r n => first_at m hO hg c ⟨0, hs⟩ rfl r n
  | succ s ih =>
    intro hs r n
    show stepAt m hO c ⟨s + 1, hs⟩ (start (grid0.coords ⟨s + 1, hs⟩) (accAt m hO c s (Nat.lt_of_succ_lt hs))) (ix2 r n) = _
    unfold start
    by_cases h0 : (s + 1) % 7 = 0
    · rw [if_pos ((hcond0_0 ⟨s + 1, hs⟩).mpr h0)]
      exact first_at m hO hg c ⟨s + 1, hs⟩ h0 r n
    · rw [if_neg (fun h => h0 ((hcond0_0 ⟨s + 1, hs⟩).mp h)), step_at m hO hg c ⟨s + 1, hs⟩]
      have e : tileOf ⟨s, Nat.lt_of_succ_lt hs⟩ = tileOf ⟨s + 1, hs⟩ := Fin.ext (by show s / 7 = (s + 1) / 7; omega)
      have ih := ih (Nat.lt_of_succ_lt hs) r n
      rw [e, show s % 7 + 1 = (s + 1) % 7 by omega] at ih
      rw [ih]
      by_cases hr : r.val < (rowsW (tbl m) (tileOf ⟨s + 1, hs⟩)).toNat
      · rw [if_pos hr, if_pos hr, if_pos hr, upTo_succ _ _ (by omega)]
        rfl
      · rw [if_neg hr, if_neg hr, if_neg hr]

/-- The specification of the whole result. -/
def outArr (c : Dev nD) : Vec Ideal S33792x1024 .bf16 := fun y =>
  entry (teW (tbl m)) (rowsW (tbl m)) (xsA m c) (wgA m c) (wuA m c) (wdA m c)
    ⟨(y 0).val / 1024, by have : (y 0).val < 33792 := (y 0).isLt; omega⟩ ⟨(y 0).val % 1024, by omega⟩ (y 1)

/-- After a tile's last point the accumulator holds the tile's rows of it. -/
theorem finished (hO : Ok m) (hg : Tables m) (c : Dev nD) (t : Fin grid0.N) (h1 : t.val % 7 = 6) (r n : Fin 1024) :
    k0_pay6 (accAt m hO c t.val t.isLt) (ix2 r n) = entry (teW (tbl m)) (rowsW (tbl m)) (xsA m c) (wgA m c) (wuA m c) (wdA m c) (tileOf t) r n := by
  refine (show k0_pay6 (accAt m hO c t.val t.isLt) (ix2 r n) = accAt m hO c t.val t.isLt (ix2 r n) from rfl).trans ?_
  rw [sums m hO hg c t.val t.isLt, h1, upTo_all]
  rfl

/-- A tile's index is a row and a column. -/
theorem is_pair (y : S1024x1024.Idx) : ∃ r n : Fin 1024, y = ix2 r n :=
  ⟨y 0, y 1, funext fun (a : Fin 2) => by fin_cases a <;> rfl⟩

/-- The result window's block is its tile. -/
theorem idx4 (hO : Ok m) (t : Fin grid0.N) : ((cfgM m hO).win 4).index t = ![t.val / 7, 0] := by
  have h : (grid0.coords t 0).val < 33 := (grid0.coords t 0).isLt
  refine (show _ = ![(BitVec.ofNat 32 (grid0.coords t 0).val).toNat, 0] from rfl).trans ?_
  rw [word_lt (by omega), coords0]

/-- The tiles cover the result. -/
theorem covers (hO : Ok m) : ((cfgM m hO).win 4).Covers := by
  refine ⟨(by decide : ∀ a : Fin 2, 0 < S1024x1024.size a), fun β => ?_⟩
  have hb0 : (β (0 : Fin 2)).val < 33 := Nat.lt_of_lt_of_eq (β (0 : Fin 2)).isLt (show (33792 + 1024 - 1) / 1024 = 33 by norm_num)
  have hb1 : (β (1 : Fin 2)).val < 1 := Nat.lt_of_lt_of_eq (β (1 : Fin 2)).isLt (show (1024 + 1024 - 1) / 1024 = 1 by norm_num)
  have hN : (β (0 : Fin 2)).val * 7 + 6 < grid0.N := Nat.lt_of_lt_of_eq (by omega : _ < 231) N_0.symm
  refine ⟨⟨(β (0 : Fin 2)).val * 7 + 6, hN⟩, (flush0_4 (adm m hO) _).mpr (by show ((β (0 : Fin 2)).val * 7 + 6) % 7 = 6; omega), fun (a : Fin 2) => ⟨?_, .inl ?_⟩⟩
  · rw [idx4]
    fin_cases a
    · show ((β (0 : Fin 2)).val * 7 + 6) / 7 = (β (0 : Fin 2)).val
      omega
    · show 0 = (β (1 : Fin 2)).val
      omega
  · rfl

/-- The result array when every point has flushed. -/
theorem arr_out (hO : Ok m) (hg : Tables m) (c : Dev nD) : (dats m hO 0 c).arrAt 4 (cfgM m hO).N = outArr m c := by
  refine (dats m hO 0 c).arrAt_eq_of_covers 4 (outArr m c) (covers m hO) fun t hf y => ?_
  have h1 : t.val % 7 = 6 := (flush0_4 (adm m hO) t).mp hf
  refine (show _ = (dats m hO 0 c).after 4 t y from rfl).trans ?_
  rw [after0_4]
  obtain ⟨r, n, rfl⟩ := is_pair y
  refine (finished m hO hg c t h1 r n).trans ?_
  have ht : t.val < 231 := Nat.lt_of_lt_of_eq t.isLt N_0
  have e : ((((cfgM m hO).win 4).blk t).view.emb (ix2 r n : S1024x1024.Idx) : S33792x1024.Idx) = ix2 ⟨t.val / 7 * 1024 + r.val, by omega⟩ n :=
    funext fun a => Fin.ext ((Pipeline.Window.rect_emb_val ((cfgM m hO).win 4) t (ix2 r n : S1024x1024.Idx) a).trans (by
      rw [idx4]
      revert a
      exact fun (a : Fin 2) => by
        fin_cases a
        · rfl
        · show 0 * 1024 + n.val = n.val
          omega))
  refine Eq.trans ?_ (congrArg (outArr m c) e).symm
  unfold outArr
  have e0 : (⟨(t.val / 7 * 1024 + r.val) / 1024, by omega⟩ : Fin 33) = tileOf t := Fin.ext (by
    show (t.val / 7 * 1024 + r.val) / 1024 = t.val / 7
    omega)
  have e1 : (⟨(t.val / 7 * 1024 + r.val) % 1024, by omega⟩ : Fin 1024) = r := Fin.ext (by
    show (t.val / 7 * 1024 + r.val) % 1024 = r.val
    omega)
  show _ = entry _ _ _ _ _ _ ⟨(t.val / 7 * 1024 + r.val) / 1024, _⟩ ⟨(t.val / 7 * 1024 + r.val) % 1024, _⟩ n
  rw [e0, e1]

/-- The run: the result holds its specification, every argument is as launched. -/
theorem run_named (ρ : Dev nD → PrngReg) (hO : Ok m) (hg : Tables m) :
    θ_run (defs (F := Ideal)) (onTc (τ := τ) (main (F := Ideal))) ⟨m, fun _ => 0, ρ⟩ fun r => ∀ c : Dev nD,
      r.2.mem ((c : Thread nD τ).loc main_v0) = outArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h c).1 4).trans (arr_out m hO hg c),
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).1 0).trans (((dats m hO 0 c).arrAt_in 0 rfl _).trans ((A_eq m hO c 0).trans (V_main_arg3 m c))),
      ((h c).1 1).trans (((dats m hO 0 c).arrAt_in 1 rfl _).trans ((A_eq m hO c 1).trans (V_main_arg4 m c))),
      ((h c).1 2).trans (((dats m hO 0 c).arrAt_in 2 rfl _).trans ((A_eq m hO c 2).trans (V_main_arg5 m c))),
      ((h c).1 3).trans (((dats m hO 0 c).arrAt_in 3 rfl _).trans ((A_eq m hO c 3).trans (V_main_arg6 m c)))⟩) (run_main m ρ hO)

end Cert.Exp

end
-- ==== Proof.ExpRef.lean ====
/- The reference's experts read entry by entry: a row's entry is its tile's expert's, or zero past the tile's rows. -/
module

public import proofs.«01_k».proof.Proof.Gen.Reference3Ideal.Read
public import proofs.«01_k».proof.Proof.ExpSpec
public import proofs.«01_k».proof.Proof.ExpTables

@[expose] public section

set_option maxRecDepth 16384

noncomputable section

namespace Cert.Reference3Ideal.Read

open Cert.Reference3Ideal Cert.Reference3Ideal.Gen Idealize.ShloMosaic Idealize.ShloMosaic.TcCoe Idealize.SL.Sem Cert.Ffn Cert.Exp

variable (x0 x2 : IVec S33 32) (x3 : FVec Ideal S32768x1024 .bf16) (x4 x5 : FVec Ideal S1x8x1024x3584 .f32) (x6 : FVec Ideal S1x8x3584x1024 .f32)

/-- The constants one and zero. -/
theorem one_bits : Ideal.ofBits FTy.f32 0x3F800000#32 = 1 := by
  simp [Ideal.ofBits, Ideal.ieee, -EReal.coe_mul]; norm_num
theorem zero_bits : Ideal.ofBits FTy.f32 0#32 = 0 := by simp [Ideal.ofBits, Ideal.ieee]
theorem zero_bits16 : Ideal.ofBits FTy.bf16 0#16 = 0 := by simp [Ideal.ofBits, Ideal.ieee]

/-- A row's tile. -/
def tileOf (a : Fin 32768) : Fin 33 := ⟨a.val / 1024, by omega⟩

/-- A row's place in its tile, as the reference computes it. -/
theorem place_at (a : Fin 32768) : val_main_v2 (F := Ideal) (ix1 a) = BitVec.ofNat 32 (a.val % 1024) := by
  have ha := a.isLt
  rw [val_main_v2_apply, val_main_v0_apply, val_main_v1_apply, val_main_c_apply]
  show IntOp.remsi .host (BitVec.ofNat 32 a.val) 1024#32 = _
  have e : (BitVec.ofNat 32 a.val).toNat = a.val := by rw [BitVec.toNat_ofNat]; omega
  have hm : (BitVec.ofNat 32 a.val).msb = false := by rw [BitVec.msb_eq_decide, e]; exact decide_eq_false (by omega)
  have hc : ¬IntOp.SDivCorner (BitVec.ofNat 32 a.val) 1024#32 := by
    rintro (h | h)
    · exact absurd h (by decide)
    · exact absurd h.2 (by decide)
  unfold IntOp.remsi
  rw [if_neg hc]
  rw [BitVec.srem_eq, hm, show (1024#32).msb = false from rfl]
  refine BitVec.eq_of_toNat_eq ?_
  show ((BitVec.ofNat 32 a.val).umod 1024#32).toNat = _
  rw [show (BitVec.ofNat 32 a.val).umod 1024#32 = BitVec.ofNat 32 a.val % 1024#32 from rfl, BitVec.toNat_umod, e, BitVec.toNat_ofNat]
  show a.val % 1024 = a.val % 1024 % 4294967296
  omega

/-- The tile's number of rows and its expert, at a row. -/
theorem rows_at (a : Fin 32768) : val_main_v6 (F := Ideal) x2 (ix1 a) = x2 (ix1 (tileOf a)) := by
  rw [val_main_v6_apply, val_main_v5_apply, val_main_v4_apply, val_main_v3_apply]
  refine congrArg x2 ?_
  funext z; fin_cases z; rfl
theorem te_at (a : Fin 32768) : val_main_v11 (F := Ideal) x0 (ix1 a) = x0 (ix1 (tileOf a)) := by
  rw [val_main_v11_apply, val_main_v10_apply, val_main_v9_apply, val_main_v8_apply]
  refine congrArg x0 ?_
  funext z; fin_cases z; rfl

/-- Whether a row is among its tile's rows. -/
theorem live_at (hr : ∀ k : Fin 33, (x2 (ix1 k)).toNat ≤ 1024) (a : Fin 32768) :
    val_main_v7 (F := Ideal) x2 (ix1 a) = BitVec.ofBool (decide (a.val % 1024 < (x2 (ix1 (tileOf a))).toNat)) := by
  have ha := a.isLt
  have h := hr (tileOf a)
  have e : (BitVec.ofNat 32 (a.val % 1024)).toNat = a.val % 1024 := by rw [BitVec.toNat_ofNat]; omega
  rw [val_main_v7_apply, place_at, rows_at]
  show BitVec.ofBool ((BitVec.ofNat 32 (a.val % 1024)).slt (x2 (ix1 (tileOf a)))) = _
  rw [slt_small (by omega) (by omega), e]

/-- Whether an expert is its tile's. -/
theorem mine_at (a : Fin 32768) (e : Fin 8) :
    val_main_v17 (F := Ideal) x0 (ix2 a e) = BitVec.ofBool (x0 (ix1 (tileOf a)) == BitVec.ofNat 32 e.val) := by
  rw [val_main_v17_apply, val_main_v15_apply, val_main_v12_apply, val_main_v16_apply, val_main_v14_apply, val_main_v13_apply]
  have e1 : idx_main_v12 (idx_main_v15 (ix2 a e)) = ix1 a := by funext z; fin_cases z; rfl
  rw [e1, te_at]
  rfl

/-- The combining weight of a row and an expert. -/
theorem comb_at (hr : ∀ k : Fin 33, (x2 (ix1 k)).toNat ≤ 1024) (a : Fin 32768) (e : Fin 8) :
    val_main_v21 (F := Ideal) x0 x2 (ix2 a e)
      = if x0 (ix1 (tileOf a)) = BitVec.ofNat 32 e.val ∧ a.val % 1024 < (x2 (ix1 (tileOf a))).toNat then 1 else 0 := by
  rw [val_main_v21_apply, val_main_v20_apply, mine_at, val_main_v19_apply, val_main_v18_apply, val_main_call0_v0_apply, val_main_call0_v1_apply,
    val_main_cst_apply, val_main_cst_0_apply]
  have e1 : idx_main_v18 (idx_main_v19 (ix2 a e)) = ix1 a := by funext z; fin_cases z; rfl
  rw [e1, live_at x2 hr]
  show (if IntOp.andi _ _ = 1#1 then Ideal.ofBits FTy.f32 0x3F800000#32 else Ideal.ofBits FTy.f32 0#32) = _
  rw [one_bits, zero_bits]
  by_cases h1 : x0 (ix1 (tileOf a)) = BitVec.ofNat 32 e.val
  · by_cases h2 : a.val % 1024 < (x2 (ix1 (tileOf a))).toNat
    · rw [beq_iff_eq.2 h1, decide_eq_true h2]; exact (if_pos ⟨h1, h2⟩).symm
    · rw [beq_iff_eq.2 h1, decide_eq_false h2]; exact (if_neg (fun h => h2 h.2)).symm
  · rw [beq_eq_false_iff_ne.2 h1]
    by_cases h2 : a.val % 1024 < (x2 (ix1 (tileOf a))).toNat
    · rw [decide_eq_true h2]; exact (if_neg (fun h => h1 h.1)).symm
    · rw [decide_eq_false h2]; exact (if_neg (fun h => h1 h.1)).symm

/-- The weights. -/
theorem wg_at (e : Fin 8) (d : Fin 1024) (f : Fin 3584) : val_main_v23 (F := Ideal) x4 (ix3 e d f) = x4 (ix4 0 e d f) := by
  have he := e.isLt; have hd := d.isLt; have hf := f.isLt
  rw [val_main_v23_apply]
  refine congrArg x4 ?_
  funext z; fin_cases z <;> first | rfl | (refine Fin.ext ?_; simp; omega) | (refine Fin.ext ?_; simp)
theorem wu_at (e : Fin 8) (d : Fin 1024) (f : Fin 3584) : val_main_v26 (F := Ideal) x5 (ix3 e d f) = x5 (ix4 0 e d f) := by
  have he := e.isLt; have hd := d.isLt; have hf := f.isLt
  rw [val_main_v26_apply]
  refine congrArg x5 ?_
  funext z; fin_cases z <;> first | rfl | (refine Fin.ext ?_; simp; omega) | (refine Fin.ext ?_; simp)
theorem wd_at (e : Fin 8) (f : Fin 3584) (n : Fin 1024) : val_main_v29 (F := Ideal) x6 (ix3 e f n) = x6 (ix4 0 e f n) := by
  have he := e.isLt; have hn := n.isLt; have hf := f.isLt
  rw [val_main_v29_apply]
  refine congrArg x6 ?_
  funext z; fin_cases z <;> first | rfl | (refine Fin.ext ?_; simp; omega) | (refine Fin.ext ?_; simp)

/-- The two projections of a row, by every expert. -/
theorem gate_at (a : Fin 32768) (e : Fin 8) (f : Fin 3584) : val_main_v24 (F := Ideal) x3 x4 (ix3 a e f) = ∑ d, x3 (ix2 a d) * x4 (ix4 0 e d f) := by
  rw [val_main_v24_apply]
  have el : ∀ d : Fin 1024, lidx_main_v24 (ix3 a e f) d = ix2 a d := fun d => by funext z; fin_cases z <;> rfl
  have er : ∀ d : Fin 1024, ridx_main_v24 (ix3 a e f) d = ix3 e d f := fun d => by funext z; fin_cases z <;> rfl
  simp only [el, er, wg_at]
  rfl
theorem up_at (a : Fin 32768) (e : Fin 8) (f : Fin 3584) : val_main_v27 (F := Ideal) x3 x5 (ix3 a e f) = ∑ d, x3 (ix2 a d) * x5 (ix4 0 e d f) := by
  rw [val_main_v27_apply]
  have el : ∀ d : Fin 1024, lidx_main_v27 (ix3 a e f) d = ix2 a d := fun d => by funext z; fin_cases z <;> rfl
  have er : ∀ d : Fin 1024, ridx_main_v27 (ix3 a e f) d = ix3 e d f := fun d => by funext z; fin_cases z <;> rfl
  simp only [el, er, wu_at]
  rfl

/-- One hidden unit. -/
theorem unit_at (a : Fin 32768) (e : Fin 8) (f : Fin 3584) : val_main_v28 (F := Ideal) x3 x4 x5 (ix3 a e f)
    = act (fun d => x3 (ix2 a d)) (fun d => x4 (ix4 0 e d f)) (fun d => x5 (ix4 0 e d f)) := by
  rw [val_main_v28_apply, val_main_v25_apply, val_main_call1_v5_apply, val_main_call1_v4_apply, val_main_call1_cst_0_apply, val_main_call1_v3_apply,
    val_main_call1_v2_apply, val_main_call1_cst_apply, val_main_call1_v1_apply, val_main_call1_v0_apply, gate_at, up_at]
  unfold act
  rw [← silu_eq]
  show (_ * Ideal.div (Ideal.ofBits FTy.f32 0x3F800000#32) (Ideal.ofBits FTy.f32 0x3F800000#32 + Ideal.exp (-_))) * _ = _
  rw [one_bits]

/-- Every expert's result for a row. -/
theorem all_at (e : Fin 8) (a : Fin 32768) (n : Fin 1024) : val_main_v30 (F := Ideal) x3 x4 x5 x6 (ix3 e a n)
    = ∑ f, term x3 x4 x5 x6 a e n f := by
  rw [val_main_v30_apply]
  have el : ∀ f : Fin 3584, lidx_main_v30 (ix3 e a n) f = ix3 a e f := fun d => by funext z; fin_cases z <;> rfl
  have er : ∀ f : Fin 3584, ridx_main_v30 (ix3 e a n) f = ix3 e f n := fun d => by funext z; fin_cases z <;> rfl
  simp only [el, er, unit_at, wd_at]
  rfl

/-- A row's weighted sum over the experts is its tile's expert's result, or zero past the tile's rows. -/
theorem sum_at (he : ∀ k : Fin 33, (x0 (ix1 k)).toNat < 8) (hr : ∀ k : Fin 33, (x2 (ix1 k)).toNat ≤ 1024) (a : Fin 32768) (n : Fin 1024) :
    val_main_v36 (F := Ideal) x0 x2 x3 x4 x5 x6 (ix2 a n)
      = if a.val % 1024 < (x2 (ix1 (tileOf a))).toNat then ∑ f, term x3 x4 x5 x6 a (expertOf (x0 (ix1 (tileOf a)))) n f else 0 := by
  rw [val_main_v36_apply, val_main_cst_1_apply]
  have ek : ∀ k : Fin 8, idx_main_v36 (ix2 a n) k = ix3 k a n := fun k => by funext z; fin_cases z <;> rfl
  have ec : ∀ k : Fin 8, idx_main_v31 (idx_main_v32 (idx_main_v34 (ix3 k a n))) = ix2 a k := fun k => by funext z; fin_cases z <;> rfl
  simp only [ek, val_main_v35_apply, val_main_v34_apply, val_main_v33_apply, val_main_v32_apply, val_main_v31_apply, ec, comb_at x0 x2 hr, all_at]
  show Ideal.ofBits FTy.f32 0#32 + ∑ k : Fin 8, (@ite EReal _ _ 1 0 : EReal) * _ = _
  rw [zero_bits, zero_add]
  have h8 := he (tileOf a)
  rw [Finset.sum_eq_single (expertOf (x0 (ix1 (tileOf a))))]
  · have e1 : x0 (ix1 (tileOf a)) = BitVec.ofNat 32 (expertOf (x0 (ix1 (tileOf a)))).val := by
      refine BitVec.eq_of_toNat_eq ?_
      rw [BitVec.toNat_ofNat]
      show _ = (x0 (ix1 (tileOf a))).toNat % 8 % 4294967296
      omega
    by_cases h2 : a.val % 1024 < (x2 (ix1 (tileOf a))).toNat
    · rw [if_pos ⟨e1, h2⟩, if_pos h2, one_mul]
    · rw [if_neg (fun h => h2 h.2), if_neg h2, zero_mul]
  · intro k _ hk
    rw [if_neg, zero_mul]
    rintro ⟨h1, -⟩
    refine hk (Fin.ext ?_)
    show k.val = (x0 (ix1 (tileOf a))).toNat % 8
    rw [h1, BitVec.toNat_ofNat]
    have := k.isLt
    omega
  · exact fun h => absurd (Finset.mem_univ _) h

/-- Two arrays one above the other, read at an entry. -/
theorem stack_at (X : FVec Ideal S32768x1024 .bf16) (Y : FVec Ideal S1024x1024 .bf16) (a : Fin 33792) (n : Fin 1024) :
    (concatenate S33792x1024 0 [⟨S32768x1024, X⟩, ⟨S1024x1024, Y⟩] concatenates_S32768x1024_S1024x1024_S33792x1024_d0 : FVec Ideal S33792x1024 .bf16) (ix2 a n)
      = if h : a.val < 32768 then X (ix2 ⟨a.val, h⟩ n) else Y (ix2 ⟨a.val - 32768, by omega⟩ n) := by
  pointwise

/-- The reference's result at an entry. -/
theorem out_at (he : ∀ k : Fin 33, (x0 (ix1 k)).toNat < 8) (hr : ∀ k : Fin 33, (x2 (ix1 k)).toNat ≤ 1024)
    (hl : x2 (ix1 32) = 0#32) (a : Fin 33792) (n : Fin 1024) :
    val_main_v39 (F := Ideal) x0 x2 x3 x4 x5 x6 (ix2 a n)
      = entry (fun k => x0 (ix1 k)) (fun k => x2 (ix1 k)) x3 x4 x5 x6 ⟨a.val / 1024, by omega⟩ ⟨a.val % 1024, by omega⟩ n := by
  have ha := a.isLt
  unfold val_main_v39
  refine (stack_at _ _ a n).trans ?_
  unfold entry
  split
  · rename_i h
    rw [val_main_v37_apply]
    refine (sum_at x0 x2 x3 x4 x5 x6 he hr ⟨a.val, h⟩ n).trans ?_
    have e1 : rowOf ⟨a.val / 1024, by omega⟩ ⟨a.val % 1024, by omega⟩ = ⟨a.val, h⟩ := Fin.ext (by
      show (a.val / 1024 * 1024 + a.val % 1024) % 32768 = a.val
      omega)
    rw [e1]
    rfl
  · rename_i h
    rw [val_main_v38_apply, val_main_cst_2_apply]
    have e1 : (⟨a.val / 1024, by omega⟩ : Fin 33) = 32 := Fin.ext (by show a.val / 1024 = 32; omega)
    rw [e1, if_neg (by
      show ¬(a.val % 1024 < (x2 (ix1 32)).toNat)
      rw [hl]; exact Nat.not_lt_zero _)]
    exact zero_bits16

end Cert.Reference3Ideal.Read

end
-- ==== Proof.ExpFinal.lean ====
/- The experts call's two programs as arrays: equal for any activations and weights, under tables as the routing makes them. -/
module

public import proofs.«01_k».proof.Proof.ExpPoints
public import proofs.«01_k».proof.Proof.ExpRef
public import proofs.«01_k».proof.Proof.Gen.Reference3Ideal.Run

@[expose] public section

set_option maxRecDepth 16384

noncomputable section

namespace Cert.Exp

open Cert.Kernel3Ideal Cert.Kernel3Ideal.Gen Idealize.ShloMosaic Idealize.ShloMosaic.TcCoe Idealize.SL.Sem Cert.Ffn

/-- The precondition on a launch's arrays, as a fact about the tables the launch reads, over any numbers. -/
theorem tables_good {F : FTy → Type} [FloatOps F] [Cert.Pre_tables_ok.Facts] (m : (ℓ : Loc nD τ sig) → Buf (Elt F) ℓ)
    (h : Cert.Pre_tables_ok.fn (F := F) (m (((0 : Dev nD) : Thread nD τ).loc main_arg0)) (m (((0 : Dev nD) : Thread nD τ).loc main_arg1)) (m (((0 : Dev nD) : Thread nD τ).loc main_arg2)) (m (((0 : Dev nD) : Thread nD τ).loc main_arg3)) (m (((0 : Dev nD) : Thread nD τ).loc main_arg4)) (m (((0 : Dev nD) : Thread nD τ).loc main_arg5)) (m (((0 : Dev nD) : Thread nD τ).loc main_arg6)) = fun _ => 1#1) :
    Good (teW (tbl m)) (usedW (tbl m)) (rowsW (tbl m)) :=
  good_of_pre _ _ _ _ _ _ _ h

/-- Such a launch's windows stay inside their arrays. -/
theorem launch_ok {F : FTy → Type} [FloatOps F] [Cert.Pre_tables_ok.Facts] (m : (ℓ : Loc nD τ sig) → Buf (Elt F) ℓ)
    (h : Cert.Pre_tables_ok.fn (F := F) (m (((0 : Dev nD) : Thread nD τ).loc main_arg0)) (m (((0 : Dev nD) : Thread nD τ).loc main_arg1)) (m (((0 : Dev nD) : Thread nD τ).loc main_arg2)) (m (((0 : Dev nD) : Thread nD τ).loc main_arg3)) (m (((0 : Dev nD) : Thread nD τ).loc main_arg4)) (m (((0 : Dev nD) : Thread nD τ).loc main_arg5)) (m (((0 : Dev nD) : Thread nD τ).loc main_arg6)) = fun _ => 1#1) : Ok m :=
  ok_of_good _ (tables_good m h)

variable (m : (ℓ : Loc nD τ sig) → Buf (Elt Ideal) ℓ)

/-- The kernel's result array is the reference's term over the same arguments. -/
theorem result (hg : Tables m) (c : Dev nD) :
    Cert.Reference3Ideal.Read.val_main_v39 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) = outArr m c := by
  obtain rfl : c = (0 : Dev nD) := Subsingleton.elim _ _
  funext y
  idx_vars y
  have hl : rowsW (tbl m) 32 = 0#32 := by
    rcases hg.rows 32 with h | ⟨-, h⟩
    · exact h
    · exact absurd (Nat.lt_of_lt_of_le h hg.le) (by decide)
  have hr : ∀ k : Fin 33, (rowsW (tbl m) k).toNat ≤ 1024 := fun k => by
    rcases rows_five m hg k with h | h | h | h | h <;> rw [h] <;> decide
  exact Cert.Reference3Ideal.Read.out_at _ _ _ _ _ _ hg.expert hr hl y0 y1

end Cert.Exp

namespace Cert.Reference3Ideal.Read

open Cert.Reference3Ideal Cert.Reference3Ideal.Gen Idealize.ShloMosaic Idealize.ShloMosaic.TcCoe Idealize.SL.Sem

/-- The reference's run, its result named as one term over the arguments. -/
theorem run_named (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v39) = val_main_v39 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (val_main_v39_eq _ _ _ _ _ _), (h c).2⟩) (Cert.Reference3Ideal.Value.run m ρ)

end Cert.Reference3Ideal.Read

end
-- ==== Proof.ExpBits.lean ====
/- The experts call on floats: the same program text as over the extended reals, so the same run. -/
module

public import proofs.«01_k».proof.Defs
public import proofs.«01_k».proof.Proof.ExpFinal
public import proofs.«01_k».proof.Proof.ExpFrame
public import proofs.«01_k».proof.Proof.Gen.Kernel3

@[expose] public section

set_option maxRecDepth 16384

noncomputable section

namespace Cert.Exp

open Idealize.ShloMosaic Idealize.ShloMosaic.TcCoe Idealize.SL.Sem

set_option maxHeartbeats 2000000 in
/-- The two programs' bodies are one text. -/
theorem body_eq : Cert.Kernel3.defs₀ (F := Bits) = Cert.Kernel3Ideal.defs₀ (F := Bits) := by
  unfold Cert.Kernel3.defs₀ Cert.Kernel3Ideal.defs₀
  refine congrArg (Defs.onTc (Λ := Cert.Kernel3Ideal.Λ₀)) (funext fun l => funext fun x => ?_)
  revert l
  exact fun (l : Fin 1) => by
    fin_cases l
    intro x
    obtain ⟨t, s⟩ := x
    rfl

/-- So are their body tables. -/
theorem table_eq : Cert.Kernel3.defs (F := Bits) = Cert.Kernel3Ideal.defs (F := Bits) :=
  congrArg (Pipeline.defs (Cert.Kernel3Ideal.pcfgs (F := Bits))) body_eq

set_option maxHeartbeats 2000000 in
/-- The float program runs to an end under tables as the routing makes them, its arguments unchanged. -/
theorem float_runs [Cert.Pre_tables_ok.Facts] : Cert.quiescent_Kernel3 := by
  intro m ρ h
  have r := Cert.Kernel3Ideal.Gen.frame (F := Bits) m ρ (launch_ok (F := Bits) m (h 0))
  rw [table_eq]
  exact r

end Cert.Exp

end
-- ==== Proof.FfnRun.lean ====
/- The feed-forward call's run with its result array and its arguments named. -/
module

public import proofs.«01_k».proof.Proof.Gen.Kernel2Ideal.Frame
public import Idealize.ShloMosaic.Lib.Pipeline.Value
public import proofs.«01_k».proof.Proof.FfnTerms

@[expose] public section

noncomputable section

namespace Cert.Kernel2Ideal.Value

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- An array some window reads and none writes back is as launched. -/
theorem kept_in (r : PUnit × MemSt nD τ sig (Elt Ideal)) (h : Pipeline.FramePost cfgs (dats m) 0 (V m) r) (c : Dev nD) :
    r.2.mem ((c : Thread nD τ).loc main_arg0) = m ((c : Thread nD τ).loc main_arg0)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5) :=
  ⟨((h c).1 0).trans (((dats m 0 c).arrAt_in 0 rfl _).trans ((A_eq m c 0).trans (V_main_arg0 m c))),
    ((h c).1 5).trans (((dats m 0 c).arrAt_in 5 rfl _).trans ((A_eq m c 5).trans (V_main_arg3 m c))),
    ((h c).1 6).trans (((dats m 0 c).arrAt_in 6 rfl _).trans ((A_eq m c 6).trans (V_main_arg4 m c))),
    ((h c).1 7).trans (((dats m 0 c).arrAt_in 7 rfl _).trans ((A_eq m c 7).trans (V_main_arg5 m c)))⟩

/-- The run: the result holds the array the points' write-backs leave, every argument is as launched. -/
theorem run_blocks : θ_run (defs (F := Ideal)) (onTc (τ := τ) (main (F := Ideal))) ⟨m, fun _ => 0, ρ⟩ fun r => ∀ c : Dev nD,
      r.2.mem ((c : Thread nD τ).loc main_v8) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1 8, (kept_in m r h c).1,
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      (kept_in m r h c).2.1, (kept_in m r h c).2.2.1, (kept_in m r h c).2.2.2⟩)
    (run_main m ρ)

end Cert.Kernel2Ideal.Value

end
-- ==== Proof.FfnPayload.lean ====
/- What the feed-forward kernel's body stores, entry by entry, over the blocks it read: the normalised rows, the two
   accumulations of a point, and the finished row. -/
module

public import proofs.«01_k».proof.Proof.Gen.Kernel2Ideal.Skeleton
public import proofs.«01_k».proof.Proof.FfnTerms

@[expose] public section

set_option maxRecDepth 16384

noncomputable section

namespace Cert.Kernel2Ideal.Value

open Cert.Kernel2Ideal Cert.Kernel2Ideal.Gen Idealize.ShloMosaic Idealize.ShloMosaic.TcCoe Idealize.SL.Sem
open Cert.Ffn

/-- The normalised, modulated rows. -/
theorem hid_at (x : Vec Ideal S2048x1024 .f32) (g : Vec Ideal S1x1024 .f32) (sc sh : Vec Ideal S1x1x1x1024 .f32) (r : Fin 2048) (d : Fin 1024) :
    k0_pay3 x g sc sh (ix2 r d)
      = hid (fun k => x (ix2 r k)) (fun k => g (ix2 0 k)) (fun k => sc (ix4 0 0 0 k)) (fun k => sh (ix4 0 0 0 k)) d := by
  pointwise [k0_pay3, hid]

/-- The first half's rows: 256 hidden units added. -/
theorem step0_at (wg wu : Vec Ideal S1x1024x256 .f32) (wd : Vec Ideal S1x256x1024 .f32) (h : Vec Ideal S1024x1024 .bf16)
    (acc : Vec Ideal S1024x1024 .f32) (r : Fin 1024) (n : Fin 1024) :
    k0_pay8 wg wu wd h acc (ix2 r n)
      = acc (ix2 r n) + ∑ k : Fin 256, act (fun d => h (ix2 r d)) (fun d => wg (ix3 0 d k)) (fun d => wu (ix3 0 d k)) * wd (ix3 0 k n) := by
  pointwise [k0_pay8, k0_pay5, k0_pay6, k0_pay7, act, silu, zero_sub]

/-- The second half's rows: 256 hidden units added. -/
theorem step1_at (wg wu : Vec Ideal S1x1024x256 .f32) (wd : Vec Ideal S1x256x1024 .f32) (h : Vec Ideal S1024x1024 .bf16)
    (acc : Vec Ideal S1024x1024 .f32) (r : Fin 1024) (n : Fin 1024) :
    k0_pay1 (k0_pay6 wu) (k0_pay7 wd) h (k0_pay9 wg h) (Scalar.ofBits .f32 0x00000000#32) acc (ix2 r n)
      = acc (ix2 r n) + ∑ k : Fin 256, act (fun d => h (ix2 r d)) (fun d => wg (ix3 0 d k)) (fun d => wu (ix3 0 d k)) * wd (ix3 0 k n) := by
  pointwise [k0_pay1, k0_pay9, k0_pay5, k0_pay6, k0_pay7, act, silu, zero_sub]

/-- The last point's rows: the input row plus the gate times the sum. -/
theorem last_at (x acc : Vec Ideal S2048x1024 .f32) (gate : Vec Ideal S1x1x1x1024 .f32) (r : Fin 2048) (n : Fin 1024) :
    k0_pay2 x gate acc (ix2 r n) = x (ix2 r n) + gate (ix4 0 0 0 n) * acc (ix2 r n) := by
  pointwise [k0_pay2]

end Cert.Kernel2Ideal.Value
-- ==== Proof.FfnBlocks.lean ====
/- The windows' blocks of the feed-forward call at a symbolic grid point: which entries of the arguments a block holds.
   Grid point `t` is (row block `t / 11`, stretch of hidden units `t % 11`). -/
module

public import proofs.«01_k».proof.Proof.FfnRun
public import proofs.«01_k».proof.Proof.FfnPayload
public import Idealize.ShloMosaic.Lib.Pipeline.ValueKit
public import Idealize.ShloMosaic.Lib.Pipeline.ValueKit.Held

@[expose] public section

set_option maxRecDepth 16384

noncomputable section

namespace Cert.Kernel2Ideal.Value

open Cert.Kernel2Ideal Cert.Kernel2Ideal.Gen Idealize.ShloMosaic Idealize.ShloMosaic.TcCoe Idealize.SL.Sem
open Idealize.ShloMosaic.Pipeline (Dat)
open Cert.Ffn

variable (m : (ℓ : Loc nD τ sig) → Buf (Elt Ideal) ℓ)

/-- The block index of every window at every grid point, decided over the 66 points. -/
theorem idx : ∀ t : Fin cfg0.N,
    win0_0.index t = ![t.val / 11, 0]
    ∧ win0_1.index t = ![0, 0]
    ∧ win0_2.index t = ![4, t.val / 11 - 3, 0, 0]
    ∧ win0_3.index t = ![3, t.val / 11 - 3, 0, 0]
    ∧ win0_4.index t = ![5, t.val / 11 - 3, 0, 0]
    ∧ win0_5.index t = ![0, 0, t.val % 11]
    ∧ win0_6.index t = ![0, 0, t.val % 11]
    ∧ win0_7.index t = ![0, t.val % 11, 0]
    ∧ win0_8.index t = ![t.val / 11, 0] :=
  (by decide +kernel : ∀ t : Fin grid0.N, _)

/-- A point's row block is one of six. -/
theorem point_lt (t : Fin cfg0.N) : t.val / 11 < 6 := by
  have := lt_of_lt_of_eq t.isLt N_0
  omega

/-- A point's row block. -/
def tileOf (t : Fin cfg0.N) : Fin 6 := ⟨t.val / 11, point_lt t⟩

/-- The rows of the activations. -/
def xIn (c : Dev nD) (i : Fin 6) (r : Fin 2048) : Fin 1024 → EReal := fun d =>
  (m ((c : Thread nD τ).loc main_arg0) : FVec Ideal S12288x1024 .f32) (ix2 ⟨i.val * 2048 + r.val, by omega⟩ d)
/-- The norm's scale of layer 0. -/
def gIn (c : Dev nD) : Fin 1024 → EReal := fun d =>
  (m ((c : Thread nD τ).loc main_arg1) : FVec Ideal S2x1024 .f32) (ix2 0 d)
/-- Modulation `k` of layer 0 for a row block: the prompt's four blocks share row 0, each latent image has its own. -/
def modIn (c : Dev nD) (k : Fin 6) (i : Fin 6) : Fin 1024 → EReal := fun d =>
  (m ((c : Thread nD τ).loc main_arg2) : FVec Ideal S2x8x6144 .f32) (ix3 0 ⟨i.val - 3, by omega⟩ ⟨k.val * 1024 + d.val, by omega⟩)
/-- The weights. -/
def wgIn (c : Dev nD) : Fin 1024 → Fin 2816 → EReal := fun d f =>
  (m ((c : Thread nD τ).loc main_arg3) : FVec Ideal S1x1024x2816 .f32) (ix3 0 d f)
def wuIn (c : Dev nD) : Fin 1024 → Fin 2816 → EReal := fun d f =>
  (m ((c : Thread nD τ).loc main_arg4) : FVec Ideal S1x1024x2816 .f32) (ix3 0 d f)
def wdIn (c : Dev nD) : Fin 2816 → Fin 1024 → EReal := fun f n =>
  (m ((c : Thread nD τ).loc main_arg5) : FVec Ideal S1x2816x1024 .f32) (ix3 0 f n)

/-- The activations' block. -/
theorem blk_x (c : Dev nD) (t : Fin cfg0.N) (r : Fin 2048) (d : Fin 1024) :
    (iblk m c 0 t : FVec Ideal S2048x1024 .f32) (ix2 r d) = xIn m c (tileOf t) r d := by
  refine Eq.trans (b := (m ((c : Thread nD τ).loc main_arg0) : FVec Ideal S12288x1024 .f32)
    (ix2 ⟨t.val / 11 * 2048 + r.val, by have := point_lt t; omega⟩ d)) ?_ rfl
  blk_ext [iblk, V, idx t]

/-- Hidden unit `k` of a point's stretch. -/
theorem unit_lt (t : Fin cfg0.N) (k : Fin 256) : t.val % 11 * 256 + k.val < 2816 := by omega

/-- The weights' blocks. -/
theorem blk_wg (c : Dev nD) (t : Fin cfg0.N) (d : Fin 1024) (k : Fin 256) :
    (iblk m c 5 t : FVec Ideal S1x1024x256 .f32) (ix3 0 d k) = wgIn m c d ⟨t.val % 11 * 256 + k.val, unit_lt t k⟩ := by
  unfold wgIn
  blk_ext [iblk, V, idx t]
theorem blk_wu (c : Dev nD) (t : Fin cfg0.N) (d : Fin 1024) (k : Fin 256) :
    (iblk m c 6 t : FVec Ideal S1x1024x256 .f32) (ix3 0 d k) = wuIn m c d ⟨t.val % 11 * 256 + k.val, unit_lt t k⟩ := by
  unfold wuIn
  blk_ext [iblk, V, idx t]
theorem blk_wd (c : Dev nD) (t : Fin cfg0.N) (k : Fin 256) (n : Fin 1024) :
    (iblk m c 7 t : FVec Ideal S1x256x1024 .f32) (ix3 0 k n) = wdIn m c ⟨t.val % 11 * 256 + k.val, unit_lt t k⟩ n := by
  unfold wdIn
  blk_ext [iblk, V, idx t]

/-- The norm's scale as the call's operand. -/
theorem ent_g (c : Dev nD) (d : Fin 1024) : (V m c main_v7 : FVec Ideal S1x1024 .f32) (ix2 0 d) = gIn m c d := by
  unfold V gIn
  simp only [hostOps0, List.flatten_cons, List.flatten_nil, List.append_nil, List.cons_append, List.nil_append]
  entry_read
  pointwise
theorem blk_g (c : Dev nD) (t : Fin cfg0.N) (d : Fin 1024) : (iblk m c 1 t : FVec Ideal S1x1024 .f32) (ix2 0 d) = gIn m c d := by
  refine Eq.trans (b := (V m c main_v7 : FVec Ideal S1x1024 .f32) (ix2 0 d)) ?_ (ent_g m c d)
  blk_ext [iblk, idx t]

/-- The modulations as the call's operand: modulation `k`, row `r`. -/
theorem ent_mod (c : Dev nD) (k : Fin 6) (r : Fin 8) (d : Fin 1024) :
    (V m c main_v4 : FVec Ideal S6x8x1x1024 .f32) (ix4 k r 0 d)
      = (m ((c : Thread nD τ).loc main_arg2) : FVec Ideal S2x8x6144 .f32) (ix3 0 r ⟨k.val * 1024 + d.val, by omega⟩) := by
  unfold V
  simp only [hostOps0, List.flatten_cons, List.flatten_nil, List.append_nil, List.cons_append, List.nil_append]
  entry_read
  pointwise
theorem blk_sc (c : Dev nD) (t : Fin cfg0.N) (d : Fin 1024) :
    (iblk m c 2 t : FVec Ideal S1x1x1x1024 .f32) (ix4 0 0 0 d) = modIn m c 4 (tileOf t) d := by
  refine Eq.trans (b := (V m c main_v4 : FVec Ideal S6x8x1x1024 .f32) (ix4 4 ⟨t.val / 11 - 3, by have := point_lt t; omega⟩ 0 d)) ?_ (ent_mod m c _ _ d)
  blk_ext [iblk, idx t]
theorem blk_sh (c : Dev nD) (t : Fin cfg0.N) (d : Fin 1024) :
    (iblk m c 3 t : FVec Ideal S1x1x1x1024 .f32) (ix4 0 0 0 d) = modIn m c 3 (tileOf t) d := by
  refine Eq.trans (b := (V m c main_v4 : FVec Ideal S6x8x1x1024 .f32) (ix4 3 ⟨t.val / 11 - 3, by have := point_lt t; omega⟩ 0 d)) ?_ (ent_mod m c _ _ d)
  blk_ext [iblk, idx t]
theorem blk_gate (c : Dev nD) (t : Fin cfg0.N) (d : Fin 1024) :
    (iblk m c 4 t : FVec Ideal S1x1x1x1024 .f32) (ix4 0 0 0 d) = modIn m c 5 (tileOf t) d := by
  refine Eq.trans (b := (V m c main_v4 : FVec Ideal S6x8x1x1024 .f32) (ix4 5 ⟨t.val / 11 - 3, by have := point_lt t; omega⟩ 0 d)) ?_ (ent_mod m c _ _ d)
  blk_ext [iblk, idx t]

end Cert.Kernel2Ideal.Value
-- ==== Proof.FfnPoints.lean ====
/- What the output block and the kept rows hold after each grid point of the feed-forward call. -/
module

public import proofs.«01_k».proof.Proof.FfnBlocks
public import Idealize.ShloMosaic.Lib.Pipeline.ReadBack

@[expose] public section

set_option maxRecDepth 16384

noncomputable section

namespace Cert.Kernel2Ideal.Value

open Cert.Kernel2Ideal Cert.Kernel2Ideal.Gen Idealize.ShloMosaic Idealize.ShloMosaic.TcCoe Idealize.SL.Sem
open Idealize.ShloMosaic.Pipeline (Dat)
open Cert.Ffn

variable (m : (ℓ : Loc nD τ sig) → Buf (Elt Ideal) ℓ)

/-- The normalised rows of a row block. -/
def hIn (c : Dev nD) (i : Fin 6) (r : Fin 2048) : Fin 1024 → EReal :=
  hid (xIn m c i r) (gIn m c) (modIn m c 4 i) (modIn m c 3 i)

/-- The terms of one entry's sum over the hidden units. -/
def terms (c : Dev nD) (i : Fin 6) (r : Fin 2048) (n : Fin 1024) : Fin 2816 → EReal :=
  term (hIn m c i r) (wgIn m c) (wuIn m c) (wdIn m c) n

/-- The rows a first point stores. -/
theorem hid_blk (c : Dev nD) (t : Fin cfg0.N) (r : Fin 2048) (d : Fin 1024) :
    k0_pay3 (iblk m c 0 t) (iblk m c 1 t) (iblk m c 2 t) (iblk m c 3 t) (ix2 r d) = hIn m c (tileOf t) r d := by
  refine (hid_at _ _ _ _ r d).trans ?_
  simp only [blk_x, blk_g, blk_sc, blk_sh]
  rfl

/-- After a first point the kept buffer holds the rows. -/
theorem fill (c : Dev nD) (t : Fin cfg0.N) (h0 : t.val % 11 = 0) (r : Fin 2048) (d : Fin 1024) :
    ((outsAt0 m c t.val t.isLt).2 : FVec Ideal S2048x1024 .bf16) (ix2 r d) = hIn m c (tileOf t) r d := by
  rw [outsAt0_A m c t h0 (by omega)]
  frame_out
  clear h0
  exact hid_blk m c t r d

/-- The other points leave the buffer as they find it. -/
theorem keep (c : Dev nD) (t : Fin cfg0.N) (h0 : ¬t.val % 11 = 0) :
    (outsAt0 m c t.val t.isLt).2 = (outsAt0 m c (t.val - 1) (lt_of_le_of_lt (Nat.sub_le _ _) t.isLt)).2 := by
  by_cases h1 : t.val % 11 = 10
  · rw [outsAt0_C m c t h0 h1]
    rfl
  · rw [outsAt0_B m c t h0 h1]
    rfl

/-- A point that is not its row block's first has the row block of the point before. -/
theorem tile_pred (t : Fin cfg0.N) (h0 : ¬t.val % 11 = 0) : tileOf ⟨t.val - 1, lt_of_le_of_lt (Nat.sub_le _ _) t.isLt⟩ = tileOf t :=
  Fin.ext (by show (t.val - 1) / 11 = t.val / 11; omega)

/-- So after every point the buffer holds its row block's rows. -/
theorem held (c : Dev nD) : ∀ (s : Nat) (hs : s < cfg0.N) (r : Fin 2048) (d : Fin 1024),
    ((outsAt0 m c s hs).2 : FVec Ideal S2048x1024 .bf16) (ix2 r d) = hIn m c (tileOf ⟨s, hs⟩) r d := by
  intro s
  induction s with
  | zero => exact fun hs r d => fill m c ⟨0, hs⟩ rfl r d
  | succ s ih =>
    intro hs r d
    by_cases h0 : (s + 1) % 11 = 0
    · exact fill m c ⟨s + 1, hs⟩ h0 r d
    · rw [keep m c ⟨s + 1, hs⟩ h0, ← tile_pred ⟨s + 1, hs⟩ h0]
      exact ih _ r d

/-- A stretch of a point's hidden units is 256 terms of the sum. -/
theorem stretch (c : Dev nD) (t : Fin cfg0.N) (h : Fin 1024 → EReal) (r : Fin 2048) (n : Fin 1024)
    (hh : ∀ d, h d = hIn m c (tileOf t) r d) :
    ∑ k : Fin 256, act h (fun d => (iblk m c 5 t : FVec Ideal S1x1024x256 .f32) (ix3 0 d k)) (fun d => (iblk m c 6 t : FVec Ideal S1x1024x256 .f32) (ix3 0 d k))
        * (iblk m c 7 t : FVec Ideal S1x256x1024 .f32) (ix3 0 k n)
      = ∑ k : Fin 256, terms m c (tileOf t) r n ⟨t.val % 11 * 256 + k.val, unit_lt t k⟩ := by
  simp only [blk_wg, blk_wu, blk_wd]
  rw [show h = hIn m c (tileOf t) r from funext hh]
  rfl

/-- Half the rows of a buffer, from row 0 and from row 1024. -/
theorem ld_lo {e : EltTy} (X : Vec Ideal S2048x1024 e) (r n : Fin 1024) :
    (View.ld (Val := Elt Ideal) (e' := e) X (Rect.unit (s := S2048x1024) ![0, 0] ![1024, 1024] inb_S2048x1024_S1024x1024_0_0) : Vec Ideal S1024x1024 e) (ix2 r n)
      = X (ix2 ⟨r.val, by omega⟩ n) := by
  pointwise
theorem ld_hi {e : EltTy} (X : Vec Ideal S2048x1024 e) (r n : Fin 1024) :
    (View.ld (Val := Elt Ideal) (e' := e) X (Rect.unit (s := S2048x1024) ![1024, 0] ![1024, 1024] inb_S2048x1024_S1024x1024_1024_0) : Vec Ideal S1024x1024 e) (ix2 r n)
      = X (ix2 ⟨1024 + r.val, by omega⟩ n) := by
  pointwise

/-- A point adds its stretch to the first half's rows, whatever buffers hold the rows and the sum so far. -/
theorem add_lo (c : Dev nD) (t : Fin cfg0.N) (H : Vec Ideal S2048x1024 .bf16) (A : Vec Ideal S1024x1024 .f32)
    (hH : ∀ r d, H (ix2 r d) = hIn m c (tileOf t) r d) (r n : Fin 1024) :
    k0_pay8 (iblk m c 5 t) (iblk m c 6 t) (iblk m c 7 t)
        (View.ld H (Rect.unit ![0, 0] ![1024, 1024] inb_S2048x1024_S1024x1024_0_0)) A (ix2 r n)
      = A (ix2 r n) + ∑ k : Fin 256, terms m c (tileOf t) ⟨r.val, by omega⟩ n ⟨t.val % 11 * 256 + k.val, unit_lt t k⟩ := by
  refine (step0_at _ _ _ _ _ r n).trans (congrArg (A (ix2 r n) + ·) ?_)
  exact stretch m c t _ _ n fun d => (ld_lo H r d).trans (hH _ _)

/-- And to the second half's. -/
theorem add_hi (c : Dev nD) (t : Fin cfg0.N) (H : Vec Ideal S2048x1024 .bf16) (A : Vec Ideal S1024x1024 .f32)
    (hH : ∀ r d, H (ix2 r d) = hIn m c (tileOf t) r d) (r n : Fin 1024) :
    k0_pay1 (k0_pay6 (iblk m c 6 t)) (k0_pay7 (iblk m c 7 t))
        (View.ld H (Rect.unit ![1024, 0] ![1024, 1024] inb_S2048x1024_S1024x1024_1024_0))
        (k0_pay9 (iblk m c 5 t) (View.ld H (Rect.unit ![1024, 0] ![1024, 1024] inb_S2048x1024_S1024x1024_1024_0)))
        (Scalar.ofBits .f32 0x00000000#32) A (ix2 r n)
      = A (ix2 r n) + ∑ k : Fin 256, terms m c (tileOf t) ⟨1024 + r.val, by omega⟩ n ⟨t.val % 11 * 256 + k.val, unit_lt t k⟩ := by
  refine (step1_at _ _ _ _ _ r n).trans (congrArg (A (ix2 r n) + ·) ?_)
  exact stretch m c t _ _ n fun d => (ld_hi H r d).trans (hH _ _)

/-- Loading a whole buffer reads it at its own index. -/
theorem whole_idx (s : Shape) (off : Fin s.rank → Nat) (h : ∀ a, off a = 0) (inb : ∀ a, off a + s.size a ≤ s.size a) (y : s.Idx) :
    (Rect.unit off s.size inb).toLoadRect.idx y = y :=
  funext fun a => Fin.ext (by
    show off a + 1 * (y a).val = (y a).val
    rw [h a]; omega)

/-- Two stores of half the rows each, over whatever was there, read at an entry. -/
theorem halves_hi (hi lo : Vec Ideal S1024x1024 .f32) (L : List (View.Piece (Elt Ideal) S2048x1024 .f32)) (r n : Fin 1024) :
    (View.canon (Val := Elt Ideal) (e := .f32) (⟨Rect.unit (s := S2048x1024) ![1024, 0] ![1024, 1024] inb_S2048x1024_S1024x1024_1024_0, hi⟩
      :: ⟨Rect.unit (s := S2048x1024) ![0, 0] ![1024, 1024] inb_S2048x1024_S1024x1024_0_0, lo⟩ :: L) : Vec Ideal S2048x1024 .f32)
      (ix2 ⟨1024 + r.val, by omega⟩ n) = hi (ix2 r n) := by
  have e : (ix2 ⟨1024 + r.val, by omega⟩ n : S2048x1024.Idx)
      = (Rect.unit (s := S2048x1024) ![1024, 0] ![1024, 1024] inb_S2048x1024_S1024x1024_1024_0).emb (ix2 r n) := by
    blk_ext
  rw [e]
  exact View.canon_cons_emb _ _ _ _
theorem halves_lo (hi lo : Vec Ideal S1024x1024 .f32) (L : List (View.Piece (Elt Ideal) S2048x1024 .f32)) (r n : Fin 1024) :
    (View.canon (Val := Elt Ideal) (e := .f32) (⟨Rect.unit (s := S2048x1024) ![1024, 0] ![1024, 1024] inb_S2048x1024_S1024x1024_1024_0, hi⟩
      :: ⟨Rect.unit (s := S2048x1024) ![0, 0] ![1024, 1024] inb_S2048x1024_S1024x1024_0_0, lo⟩ :: L) : Vec Ideal S2048x1024 .f32)
      (ix2 ⟨r.val, by omega⟩ n) = lo (ix2 r n) := by
  have e : (ix2 ⟨r.val, by omega⟩ n : S2048x1024.Idx)
      = (Rect.unit (s := S2048x1024) ![0, 0] ![1024, 1024] inb_S2048x1024_S1024x1024_0_0).emb (ix2 r n) := by
    blk_ext
  rw [View.canon_cons_of_not_mem, e]
  · exact View.canon_cons_emb _ _ _ _
  · intro h
    have h1 := (Rect.mem_set_unit (inb := inb_S2048x1024_S1024x1024_1024_0)).1 h 0
    have h2 : 1024 ≤ r.val := h1.1
    omega

/-- A middle point adds its stretch to what the point before left. -/
theorem acc_B (c : Dev nD) (t : Fin cfg0.N) (h0 : ¬t.val % 11 = 0) (h1 : ¬t.val % 11 = 10) (r : Fin 2048) (n : Fin 1024) :
    ((outsAt0 m c t.val t.isLt).1 : FVec Ideal S2048x1024 .f32) (ix2 r n)
      = ((outsAt0 m c (t.val - 1) (lt_of_le_of_lt (Nat.sub_le _ _) t.isLt)).1 : FVec Ideal S2048x1024 .f32) (ix2 r n)
        + ∑ k : Fin 256, terms m c (tileOf t) r n ⟨t.val % 11 * 256 + k.val, unit_lt t k⟩ := by
  have hh := held m c (t.val - 1) (lt_of_le_of_lt (Nat.sub_le _ _) t.isLt)
  rw [tile_pred t h0] at hh
  rw [outsAt0_B m c t h0 h1]
  frame_out
  clear h0 h1
  canon_tiles x hx using (View.cover_of_tiledBy _ ![1024, 1024] (by sl_kernel_rfl) _)
  · idx_vars x
    rw [show r = ⟨1024 + x0.val, by have := x0.isLt; omega⟩ from Fin.ext hx0, show n = x1 from Fin.ext hx1]
    refine (add_hi m c t _ _ ?_ x0 x1).trans (congrArg (· + _) (ld_hi _ x0 x1))
    intro r d; rw [read_unread_whole]; exact hh r d
  · idx_vars x
    rw [show r = ⟨x0.val, by have := x0.isLt; omega⟩ from Fin.ext hx0, show n = x1 from Fin.ext hx1]
    refine (add_lo m c t _ _ ?_ x0 x1).trans (congrArg (· + _) (ld_lo _ x0 x1))
    intro r d; rw [read_unread_whole]; exact hh r d

/-- A last point's. -/
theorem acc_C (c : Dev nD) (t : Fin cfg0.N) (h0 : ¬t.val % 11 = 0) (h1 : t.val % 11 = 10) (r : Fin 2048) (n : Fin 1024) :
    ((outsAt0 m c t.val t.isLt).1 : FVec Ideal S2048x1024 .f32) (ix2 r n)
      = xIn m c (tileOf t) r n + modIn m c 5 (tileOf t) n
        * (((outsAt0 m c (t.val - 1) (lt_of_le_of_lt (Nat.sub_le _ _) t.isLt)).1 : FVec Ideal S2048x1024 .f32) (ix2 r n)
        + ∑ k : Fin 256, terms m c (tileOf t) r n ⟨t.val % 11 * 256 + k.val, unit_lt t k⟩) := by
  have hh := held m c (t.val - 1) (lt_of_le_of_lt (Nat.sub_le _ _) t.isLt)
  rw [tile_pred t h0] at hh
  rw [outsAt0_C m c t h0 h1]
  frame_out
  clear h0 h1
  refine (last_at _ _ _ r n).trans ?_
  rw [blk_x, blk_gate, View.readCov_eq_canon']
  refine congrArg (fun z => xIn m c (tileOf t) r n + modIn m c 5 (tileOf t) n * z) ((congrArg _ (whole_idx S2048x1024 _ (by decide) _ _)).trans ?_)
  canon_tiles x hx using (View.cover_of_tiledBy _ ![1024, 1024] (by sl_kernel_rfl) _)
  · idx_vars x
    rw [show r = ⟨1024 + x0.val, by have := x0.isLt; omega⟩ from Fin.ext hx0, show n = x1 from Fin.ext hx1]
    refine (add_hi m c t _ _ ?_ x0 x1).trans (congrArg (· + _) (ld_hi _ x0 x1))
    intro r d; rw [read_unread_whole]; exact hh r d
  · idx_vars x
    rw [show r = ⟨x0.val, by have := x0.isLt; omega⟩ from Fin.ext hx0, show n = x1 from Fin.ext hx1]
    refine (add_lo m c t _ _ ?_ x0 x1).trans (congrArg (· + _) (ld_lo _ x0 x1))
    intro r d; rw [read_unread_whole]; exact hh r d

/-- The first point's zeros. -/
theorem zeros_at (r : Fin 2048) (n : Fin 1024) : (k0_pay4 (F := Ideal)) (ix2 r n) = 0 := by
  pointwise [k0_pay4]

/-- A first point starts the sum from zero. -/
theorem acc_A_lo (c : Dev nD) (t : Fin cfg0.N) (h0 : t.val % 11 = 0) (s n : Fin 1024) :
    ((outsAt0 m c t.val t.isLt).1 : FVec Ideal S2048x1024 .f32) (ix2 ⟨s.val, by omega⟩ n)
      = ∑ k : Fin 256, terms m c (tileOf t) ⟨s.val, by omega⟩ n ⟨t.val % 11 * 256 + k.val, unit_lt t k⟩ := by
  have hh := hid_blk m c t
  rw [outsAt0_A m c t h0 (by omega)]
  frame_out
  clear h0
  refine (halves_lo _ _ _ s n).trans ?_
  rw [View.readCov_fill _ _ _ _ _ (by decide), View.readCov_fill _ _ _ _ _ (by decide)]
  refine (add_lo m c t _ _ hh s n).trans ?_
  rw [ld_lo, zeros_at, zero_add]
theorem acc_A_hi (c : Dev nD) (t : Fin cfg0.N) (h0 : t.val % 11 = 0) (s n : Fin 1024) :
    ((outsAt0 m c t.val t.isLt).1 : FVec Ideal S2048x1024 .f32) (ix2 ⟨1024 + s.val, by omega⟩ n)
      = ∑ k : Fin 256, terms m c (tileOf t) ⟨1024 + s.val, by omega⟩ n ⟨t.val % 11 * 256 + k.val, unit_lt t k⟩ := by
  have hh := hid_blk m c t
  rw [outsAt0_A m c t h0 (by omega)]
  frame_out
  clear h0
  refine (halves_hi _ _ _ s n).trans ?_
  rw [View.readCov_fill _ _ _ _ _ (by decide)]
  refine (add_hi m c t _ _ hh s n).trans ?_
  rw [View.readCov_skip _ _ _ _ _ (by decide), View.readCov_fill _ _ _ _ _ (by decide)]
  rw [ld_hi, zeros_at, zero_add]
theorem acc_A (c : Dev nD) (t : Fin cfg0.N) (h0 : t.val % 11 = 0) (r : Fin 2048) (n : Fin 1024) :
    ((outsAt0 m c t.val t.isLt).1 : FVec Ideal S2048x1024 .f32) (ix2 r n)
      = ∑ k : Fin 256, terms m c (tileOf t) r n ⟨t.val % 11 * 256 + k.val, unit_lt t k⟩ := by
  by_cases hr : r.val < 1024
  · exact acc_A_lo m c t h0 ⟨r.val, hr⟩ n
  · have e : r = ⟨1024 + (⟨r.val - 1024, by omega⟩ : Fin 1024).val, by have := r.isLt; dsimp only; omega⟩ := Fin.ext (by dsimp only; omega)
    rw [e]
    exact acc_A_hi m c t h0 ⟨r.val - 1024, by omega⟩ n

/-- So before its row block's last point the output block holds the sum of the stretches so far. -/
theorem sums (c : Dev nD) : ∀ (s : Nat) (hs : s < cfg0.N) (h1 : ¬s % 11 = 10) (r : Fin 2048) (n : Fin 1024),
    ((outsAt0 m c s hs).1 : FVec Ideal S2048x1024 .f32) (ix2 r n) = upTo (terms m c (tileOf ⟨s, hs⟩) r n) (s % 11 + 1) := by
  intro s
  induction s with
  | zero =>
    intro hs _ r n
    rw [upTo_succ _ _ (by omega)]
    exact (acc_A m c ⟨0, hs⟩ rfl r n).trans (zero_add _).symm
  | succ s ih =>
    intro hs h1 r n
    rw [upTo_succ _ _ (by omega)]
    by_cases h0 : (s + 1) % 11 = 0
    · refine (acc_A m c ⟨s + 1, hs⟩ h0 r n).trans ?_
      rw [show upTo (terms m c (tileOf ⟨s + 1, hs⟩) r n) ((s + 1) % 11) = 0 from by rw [h0]; rfl, zero_add]
    · refine (acc_B m c ⟨s + 1, hs⟩ h0 h1 r n).trans (congrArg (· + _) ?_)
      refine (ih (Nat.lt_of_succ_lt hs) (by omega) r n).trans ?_
      rw [show tileOf ⟨s, Nat.lt_of_succ_lt hs⟩ = tileOf ⟨s + 1, hs⟩ from tile_pred ⟨s + 1, hs⟩ h0, show s % 11 + 1 = (s + 1) % 11 by omega]

/-- And after its last point the finished rows. -/
theorem finished (c : Dev nD) (t : Fin cfg0.N) (h1 : t.val % 11 = 10) (r : Fin 2048) (n : Fin 1024) :
    ((outsAt0 m c t.val t.isLt).1 : FVec Ideal S2048x1024 .f32) (ix2 r n)
      = ffnRow (xIn m c (tileOf t) r) (modIn m c 5 (tileOf t)) (hIn m c (tileOf t) r) (wgIn m c) (wuIn m c) (wdIn m c) n := by
  have h0 : ¬t.val % 11 = 0 := by omega
  refine (acc_C m c t h0 h1 r n).trans ?_
  unfold ffnRow
  refine congrArg (fun z => xIn m c (tileOf t) r n + modIn m c 5 (tileOf t) n * z) ?_
  have hs := sums m c (t.val - 1) (lt_of_le_of_lt (Nat.sub_le _ _) t.isLt) (by omega) r n
  rw [tile_pred t h0, show (t.val - 1) % 11 + 1 = t.val % 11 by omega] at hs
  rw [hs, ← upTo_succ _ _ (by omega), h1]
  exact upTo_all _

/-- The specification of the whole result. -/
def outArr (c : Dev nD) : Vec Ideal S12288x1024 .f32 := fun y =>
  ffnRow (xIn m c ⟨(y 0).val / 2048, by have : (y 0).val < 12288 := (y 0).isLt; omega⟩ ⟨(y 0).val % 2048, by omega⟩)
    (modIn m c 5 ⟨(y 0).val / 2048, by have : (y 0).val < 12288 := (y 0).isLt; omega⟩)
    (hIn m c ⟨(y 0).val / 2048, by have : (y 0).val < 12288 := (y 0).isLt; omega⟩ ⟨(y 0).val % 2048, by omega⟩)
    (wgIn m c) (wuIn m c) (wdIn m c) (y 1)

/-- The points that write the output block back are each row block's last. -/
theorem flush_last : ∀ t : Fin cfg0.N, (cfg0.win 8).flush t = true → t.val % 11 = 10 := by
  decide +kernel

/-- The result array when every point has flushed. -/
theorem arr_out (c : Dev nD) : (dats m 0 c).arrAt 8 cfg0.N = outArr m c := by
  refine (dats m 0 c).arrAt_eq_of_covers 8 (outArr m c) (by decide +kernel) fun t hf y => ?_
  have h1 := flush_last t hf
  blk_simp
  rw [after0_8]
  idx_vars y
  rw [finished m c t h1 y0 y1]
  have ht := point_lt t
  have e : ((View.whole main_v8).slice (win0_8.rect t)).emb (ix2 y0 y1)
      = (ix2 ⟨t.val / 11 * 2048 + y0.val, by omega⟩ ⟨y1.val, by omega⟩ : S12288x1024.Idx) := by
    blk_ext [idx t]
  rw [e]
  have q : ∀ (i i' : Fin 6) (r r' : Fin 2048) (n n' : Fin 1024), i = i' → r = r' → n = n' →
      ffnRow (xIn m c i r) (modIn m c 5 i) (hIn m c i r) (wgIn m c) (wuIn m c) (wdIn m c) n
        = ffnRow (xIn m c i' r') (modIn m c 5 i') (hIn m c i' r') (wgIn m c) (wuIn m c) (wdIn m c) n' := by
    rintro i _ r _ n _ rfl rfl rfl; rfl
  refine q _ _ _ _ _ _ ?_ ?_ ?_
  · exact Fin.ext (show t.val / 11 = (t.val / 11 * 2048 + y0.val) / 2048 by omega)
  · exact Fin.ext (show y0.val = (t.val / 11 * 2048 + y0.val) % 2048 by omega)
  · exact rfl

end Cert.Kernel2Ideal.Value
-- ==== Proof.FfnRef.lean ====
/- The reference's feed-forward network read entry by entry: both streams' rows are the specification's. -/
module

public import proofs.«01_k».proof.Proof.Gen.Reference2Ideal.Read
public import proofs.«01_k».proof.Proof.FfnTerms

@[expose] public section

set_option maxRecDepth 16384

noncomputable section

namespace Cert.Reference2Ideal.Read

open Cert.Reference2Ideal Cert.Reference2Ideal.Gen Idealize.ShloMosaic Idealize.ShloMosaic.TcCoe Idealize.SL.Sem Cert.Ffn

variable (x0 : FVec Ideal S12288x1024 .f32) (x1 : FVec Ideal S2x1024 .f32) (x2 : FVec Ideal S2x8x6144 .f32)
  (x3 x4 : FVec Ideal S1x1024x2816 .f32) (x5 : FVec Ideal S1x2816x1024 .f32)

/-- Row `a` of the activations. -/
def xOf (a : Fin 12288) : Fin 1024 → EReal := fun d => x0 (ix2 a d)
/-- The norm's scale of layer 0. -/
def gOf : Fin 1024 → EReal := fun d => x1 (ix2 0 d)
/-- Modulation `k` of layer 0, row `r`. -/
def modOf (k : Fin 6) (r : Fin 8) : Fin 1024 → EReal := fun d => x2 (ix3 0 r ⟨k.val * 1024 + d.val, by omega⟩)
/-- A projection's weight. -/
def upOf (w : FVec Ideal S1x1024x2816 .f32) : Fin 1024 → Fin 2816 → EReal := fun d f => w (ix3 0 d f)
def downOf : Fin 2816 → Fin 1024 → EReal := fun f n => x5 (ix3 0 f n)

/-- The constants one and zero. -/
theorem one_bits : Ideal.ofBits FTy.f32 0x3F800000#32 = 1 := by
  simp [Ideal.ofBits, Ideal.ieee, -EReal.coe_mul]; norm_num
theorem zero_bits : Ideal.ofBits FTy.f32 0#32 = 0 := by simp [Ideal.ofBits, Ideal.ieee]

/-- A row of the result: row `a` of the activations, row `r` of the modulations. -/
def rowR (a : Fin 12288) (r : Fin 8) : Fin 1024 → EReal :=
  ffnRow (xOf x0 a) (modOf x2 5 r) (hid (xOf x0 a) (gOf x1) (modOf x2 4 r) (modOf x2 3 r)) (upOf x3) (upOf x4) (downOf x5)

/-! The prompt rows. -/

/-- The stream's rows. -/
theorem p_x (r : Fin 8192) (d : Fin 1024) : val_main_v0 (F := Ideal) x0 (ix2 r d) = xOf x0 ⟨r.val, by omega⟩ d := by
  have hr := r.isLt; have hd := d.isLt;
  unfold xOf
  rw [val_main_v0_apply]
  refine congrArg x0 ?_
  funext a; fin_cases a <;> first | rfl | exact Fin.ext (Nat.zero_add _) | (refine Fin.ext ?_; simp; omega) | (refine Fin.ext ?_; simp)
theorem p_sh (d : Fin 1024) : val_main_v7 (F := Ideal) x2 (ix2 0 d) = modOf x2 3 0 d := by
  have hd := d.isLt;
  unfold modOf
  rw [val_main_v7_apply, val_main_v3_apply, val_main_v2_apply, val_main_v1_apply]
  refine congrArg x2 ?_
  funext a; fin_cases a <;> first | rfl | exact Fin.ext (Nat.zero_add _) | (refine Fin.ext ?_; simp; omega) | (refine Fin.ext ?_; simp)
theorem p_sc (d : Fin 1024) : val_main_v8 (F := Ideal) x2 (ix2 0 d) = modOf x2 4 0 d := by
  have hd := d.isLt;
  unfold modOf
  rw [val_main_v8_apply, val_main_v3_apply, val_main_v2_apply, val_main_v1_apply]
  refine congrArg x2 ?_
  funext a; fin_cases a <;> first | rfl | exact Fin.ext (Nat.zero_add _) | (refine Fin.ext ?_; simp; omega) | (refine Fin.ext ?_; simp)
theorem p_gate (d : Fin 1024) : val_main_v9 (F := Ideal) x2 (ix2 0 d) = modOf x2 5 0 d := by
  have hd := d.isLt;
  unfold modOf
  rw [val_main_v9_apply, val_main_v3_apply, val_main_v2_apply, val_main_v1_apply]
  refine congrArg x2 ?_
  funext a; fin_cases a <;> first | rfl | exact Fin.ext (Nat.zero_add _) | (refine Fin.ext ?_; simp; omega) | (refine Fin.ext ?_; simp)

/-- The reciprocal root mean square of a row. -/
theorem p_ms (r : Fin 8192) (d : Fin 1024) : val_main_v20 (F := Ideal) x0 (ix2 r d)
    = Ideal.rsqrt (Ideal.div (∑ k, xOf x0 ⟨r.val, by omega⟩ k * xOf x0 ⟨r.val, by omega⟩ k) (Ideal.ofBits FTy.f32 0x44800000#32) + Ideal.ofBits FTy.f32 0x358637BD#32) := by
  rw [val_main_v20_apply, val_main_v19_apply, val_main_v18_apply, val_main_v16_apply, val_main_v14_apply, val_main_v13_apply, val_main_v15_apply, val_main_cst_0_apply, val_main_v17_apply, val_main_cst_1_apply, val_main_cst_apply]
  have e : ∀ k : Fin 1024, idx_main_v13 (idx_main_v14 (idx_main_v20 (ix2 r d))) k = (ix2 r k) := fun k => by
    funext a; fin_cases a <;> rfl
  simp only [e, val_main_v12_apply, p_x]
  show Ideal.rsqrt (Ideal.div (Ideal.ofBits FTy.f32 0#32 + _) _ + _) = _
  rw [zero_bits, zero_add]
  rfl

/-- The normalised, modulated row. -/
theorem p_hid (r : Fin 8192) (d : Fin 1024) : val_main_v30 (F := Ideal) x0 x1 x2 (ix2 r d)
    = hid (xOf x0 ⟨r.val, by omega⟩) (gOf x1) (modOf x2 4 0) (modOf x2 3 0) d := by
  rw [val_main_v30_apply, val_main_v28_apply, val_main_v24_apply, val_main_v21_apply, p_x, p_ms, val_main_v23_apply, val_main_v22_apply, val_main_v11_apply, val_main_v10_apply, val_main_v27_apply, val_main_v26_apply, val_main_v25_apply, val_main_cst_2_apply, val_main_v29_apply]
  have e1 : idx_main_v10 (idx_main_v11 (idx_main_v22 (idx_main_v23 (ix2 r d)))) = ix2 0 d := by
    have hd := d.isLt
    funext a; fin_cases a <;> first | rfl | exact Fin.ext (Nat.zero_add _) | (refine Fin.ext ?_; simp; omega) | (refine Fin.ext ?_; simp)
  have e2 : idx_main_v27 (ix2 r d) = ix2 0 d := by
    funext a; fin_cases a <;> first | rfl | exact Fin.ext (Nat.zero_add _) | (refine Fin.ext ?_; simp; omega) | (refine Fin.ext ?_; simp)
  have e3 : idx_main_v29 (ix2 r d) = ix2 0 d := by
    funext a; fin_cases a <;> first | rfl | exact Fin.ext (Nat.zero_add _) | (refine Fin.ext ?_; simp; omega) | (refine Fin.ext ?_; simp)
  rw [e1, e2, e3, p_sc, p_sh]
  show _ * (Ideal.ofBits FTy.f32 0x3F800000#32 + _) + _ = _
  rw [one_bits]
  rfl

/-- The weights. -/
theorem p_wg (d : Fin 1024) (f : Fin 2816) : val_main_v31 (F := Ideal) x3 (ix2 d f) = upOf x3 d f := by
  have hd := d.isLt; have hf := f.isLt
  unfold upOf
  rw [val_main_v31_apply]
  refine congrArg x3 ?_
  funext a; fin_cases a <;> first | rfl | exact Fin.ext (Nat.zero_add _) | (refine Fin.ext ?_; simp; omega) | (refine Fin.ext ?_; simp)
theorem p_wu (d : Fin 1024) (f : Fin 2816) : val_main_v32 (F := Ideal) x4 (ix2 d f) = upOf x4 d f := by
  have hd := d.isLt; have hf := f.isLt
  unfold upOf
  rw [val_main_v32_apply]
  refine congrArg x4 ?_
  funext a; fin_cases a <;> first | rfl | exact Fin.ext (Nat.zero_add _) | (refine Fin.ext ?_; simp; omega) | (refine Fin.ext ?_; simp)
theorem p_wd (f : Fin 2816) (n : Fin 1024) : val_main_v33 (F := Ideal) x5 (ix2 f n) = downOf x5 f n := by
  have hn := n.isLt; have hf := f.isLt
  unfold downOf
  rw [val_main_v33_apply]
  refine congrArg x5 ?_
  funext a; fin_cases a <;> first | rfl | exact Fin.ext (Nat.zero_add _) | (refine Fin.ext ?_; simp; omega) | (refine Fin.ext ?_; simp)

/-- The two projections of a row. -/
theorem p_gp (r : Fin 8192) (f : Fin 2816) : val_main_v34 (F := Ideal) x0 x1 x2 x3 (ix2 r f)
    = ∑ d, hid (xOf x0 ⟨r.val, by omega⟩) (gOf x1) (modOf x2 4 0) (modOf x2 3 0) d * upOf x3 d f := by
  rw [val_main_v34_apply]
  have el : ∀ d : Fin 1024, lidx_main_v34 (ix2 r f) d = (ix2 r d) := fun d => by funext a; fin_cases a <;> rfl
  have er : ∀ d : Fin 1024, ridx_main_v34 (ix2 r f) d = ix2 d f := fun d => by funext a; fin_cases a <;> rfl
  simp only [el, er, p_hid, p_wg]
theorem p_up (r : Fin 8192) (f : Fin 2816) : val_main_v36 (F := Ideal) x0 x1 x2 x4 (ix2 r f)
    = ∑ d, hid (xOf x0 ⟨r.val, by omega⟩) (gOf x1) (modOf x2 4 0) (modOf x2 3 0) d * upOf x4 d f := by
  rw [val_main_v36_apply]
  have el : ∀ d : Fin 1024, lidx_main_v36 (ix2 r f) d = (ix2 r d) := fun d => by funext a; fin_cases a <;> rfl
  have er : ∀ d : Fin 1024, ridx_main_v36 (ix2 r f) d = ix2 d f := fun d => by funext a; fin_cases a <;> rfl
  simp only [el, er, p_hid, p_wu]

/-- One hidden unit. -/
theorem p_act (r : Fin 8192) (f : Fin 2816) : val_main_v37 (F := Ideal) x0 x1 x2 x3 x4 (ix2 r f)
    = act (hid (xOf x0 ⟨r.val, by omega⟩) (gOf x1) (modOf x2 4 0) (modOf x2 3 0)) (fun d => upOf x3 d f) (fun d => upOf x4 d f) := by
  rw [val_main_v37_apply, val_main_v35_apply, val_main_call0_v5_apply, val_main_call0_v4_apply, val_main_call0_cst_0_apply, val_main_call0_v3_apply, val_main_call0_v2_apply, val_main_call0_cst_apply, val_main_call0_v1_apply, val_main_call0_v0_apply, p_gp, p_up]
  unfold act
  rw [← silu_eq]
  show (_ * Ideal.div (Ideal.ofBits FTy.f32 0x3F800000#32) (Ideal.ofBits FTy.f32 0x3F800000#32 + Ideal.exp (-_))) * _ = _
  rw [one_bits]

/-- The finished row. -/
theorem p_out (r : Fin 8192) (n : Fin 1024) : val_main_v41 (F := Ideal) x0 x1 x2 x3 x4 x5 (ix2 r n)
    = rowR x0 x1 x2 x3 x4 x5 ⟨r.val, by omega⟩ 0 n := by
  rw [val_main_v41_apply, val_main_v40_apply, val_main_v39_apply, val_main_v38_apply, p_x]
  have el : ∀ f : Fin 2816, lidx_main_v38 (ix2 r n) f = (ix2 r f) := fun f => by funext a; fin_cases a <;> rfl
  have er : ∀ f : Fin 2816, ridx_main_v38 (ix2 r n) f = ix2 f n := fun f => by funext a; fin_cases a <;> rfl
  have e : idx_main_v39 (ix2 r n) = ix2 0 n := by
    funext a; fin_cases a <;> rfl
  simp only [el, er, p_act, p_wd]
  rw [e, p_gate]
  rfl

/-! The latent rows. -/

/-- The stream's rows. -/
theorem s_x (b : Fin 2) (r : Fin 2048) (d : Fin 1024) : val_main_v43 (F := Ideal) x0 (ix3 b r d) = xOf x0 ⟨8192 + (b.val * 2048 + r.val), by omega⟩ d := by
  have hr := r.isLt; have hd := d.isLt; have hb := b.isLt;
  unfold xOf
  rw [val_main_v43_apply, val_main_v42_apply]
  refine congrArg x0 ?_
  funext a; fin_cases a <;> first | rfl | exact Fin.ext (Nat.zero_add _) | (refine Fin.ext ?_; simp; omega) | (refine Fin.ext ?_; simp)
theorem s_sh (b : Fin 2) (d : Fin 1024) : val_main_v50 (F := Ideal) x2 (ix3 b 0 d) = modOf x2 3 ⟨1 + b.val, by omega⟩ d := by
  have hd := d.isLt; have hb := b.isLt;
  unfold modOf
  rw [val_main_v50_apply, val_main_v46_apply, val_main_v45_apply, val_main_v44_apply]
  refine congrArg x2 ?_
  funext a; fin_cases a <;> first | rfl | exact Fin.ext (Nat.zero_add _) | (refine Fin.ext ?_; simp; omega) | (refine Fin.ext ?_; simp)
theorem s_sc (b : Fin 2) (d : Fin 1024) : val_main_v51 (F := Ideal) x2 (ix3 b 0 d) = modOf x2 4 ⟨1 + b.val, by omega⟩ d := by
  have hd := d.isLt; have hb := b.isLt;
  unfold modOf
  rw [val_main_v51_apply, val_main_v46_apply, val_main_v45_apply, val_main_v44_apply]
  refine congrArg x2 ?_
  funext a; fin_cases a <;> first | rfl | exact Fin.ext (Nat.zero_add _) | (refine Fin.ext ?_; simp; omega) | (refine Fin.ext ?_; simp)
theorem s_gate (b : Fin 2) (d : Fin 1024) : val_main_v52 (F := Ideal) x2 (ix3 b 0 d) = modOf x2 5 ⟨1 + b.val, by omega⟩ d := by
  have hd := d.isLt; have hb := b.isLt;
  unfold modOf
  rw [val_main_v52_apply, val_main_v46_apply, val_main_v45_apply, val_main_v44_apply]
  refine congrArg x2 ?_
  funext a; fin_cases a <;> first | rfl | exact Fin.ext (Nat.zero_add _) | (refine Fin.ext ?_; simp; omega) | (refine Fin.ext ?_; simp)

/-- The reciprocal root mean square of a row. -/
theorem s_ms (b : Fin 2) (r : Fin 2048) (d : Fin 1024) : val_main_v63 (F := Ideal) x0 (ix3 b r d)
    = Ideal.rsqrt (Ideal.div (∑ k, xOf x0 ⟨8192 + (b.val * 2048 + r.val), by omega⟩ k * xOf x0 ⟨8192 + (b.val * 2048 + r.val), by omega⟩ k) (Ideal.ofBits FTy.f32 0x44800000#32) + Ideal.ofBits FTy.f32 0x358637BD#32) := by
  rw [val_main_v63_apply, val_main_v62_apply, val_main_v61_apply, val_main_v59_apply, val_main_v57_apply, val_main_v56_apply, val_main_v58_apply, val_main_cst_4_apply, val_main_v60_apply, val_main_cst_5_apply, val_main_cst_3_apply]
  have e : ∀ k : Fin 1024, idx_main_v56 (idx_main_v57 (idx_main_v63 (ix3 b r d))) k = (ix3 b r k) := fun k => by
    funext a; fin_cases a <;> rfl
  simp only [e, val_main_v55_apply, s_x]
  show Ideal.rsqrt (Ideal.div (Ideal.ofBits FTy.f32 0#32 + _) _ + _) = _
  rw [zero_bits, zero_add]
  rfl

/-- The normalised, modulated row. -/
theorem s_hid (b : Fin 2) (r : Fin 2048) (d : Fin 1024) : val_main_v73 (F := Ideal) x0 x1 x2 (ix3 b r d)
    = hid (xOf x0 ⟨8192 + (b.val * 2048 + r.val), by omega⟩) (gOf x1) (modOf x2 4 ⟨1 + b.val, by omega⟩) (modOf x2 3 ⟨1 + b.val, by omega⟩) d := by
  rw [val_main_v73_apply, val_main_v71_apply, val_main_v67_apply, val_main_v64_apply, s_x, s_ms, val_main_v66_apply, val_main_v65_apply, val_main_v54_apply, val_main_v53_apply, val_main_v70_apply, val_main_v69_apply, val_main_v68_apply, val_main_cst_6_apply, val_main_v72_apply]
  have e1 : idx_main_v53 (idx_main_v54 (idx_main_v65 (idx_main_v66 (ix3 b r d)))) = ix2 0 d := by
    have hd := d.isLt
    funext a; fin_cases a <;> first | rfl | exact Fin.ext (Nat.zero_add _) | (refine Fin.ext ?_; simp; omega) | (refine Fin.ext ?_; simp)
  have e2 : idx_main_v70 (ix3 b r d) = ix3 b 0 d := by
    funext a; fin_cases a <;> first | rfl | exact Fin.ext (Nat.zero_add _) | (refine Fin.ext ?_; simp; omega) | (refine Fin.ext ?_; simp)
  have e3 : idx_main_v72 (ix3 b r d) = ix3 b 0 d := by
    funext a; fin_cases a <;> first | rfl | exact Fin.ext (Nat.zero_add _) | (refine Fin.ext ?_; simp; omega) | (refine Fin.ext ?_; simp)
  rw [e1, e2, e3, s_sc, s_sh]
  show _ * (Ideal.ofBits FTy.f32 0x3F800000#32 + _) + _ = _
  rw [one_bits]
  rfl

/-- The weights. -/
theorem s_wg (d : Fin 1024) (f : Fin 2816) : val_main_v74 (F := Ideal) x3 (ix2 d f) = upOf x3 d f := by
  have hd := d.isLt; have hf := f.isLt
  unfold upOf
  rw [val_main_v74_apply]
  refine congrArg x3 ?_
  funext a; fin_cases a <;> first | rfl | exact Fin.ext (Nat.zero_add _) | (refine Fin.ext ?_; simp; omega) | (refine Fin.ext ?_; simp)
theorem s_wu (d : Fin 1024) (f : Fin 2816) : val_main_v75 (F := Ideal) x4 (ix2 d f) = upOf x4 d f := by
  have hd := d.isLt; have hf := f.isLt
  unfold upOf
  rw [val_main_v75_apply]
  refine congrArg x4 ?_
  funext a; fin_cases a <;> first | rfl | exact Fin.ext (Nat.zero_add _) | (refine Fin.ext ?_; simp; omega) | (refine Fin.ext ?_; simp)
theorem s_wd (f : Fin 2816) (n : Fin 1024) : val_main_v76 (F := Ideal) x5 (ix2 f n) = downOf x5 f n := by
  have hn := n.isLt; have hf := f.isLt
  unfold downOf
  rw [val_main_v76_apply]
  refine congrArg x5 ?_
  funext a; fin_cases a <;> first | rfl | exact Fin.ext (Nat.zero_add _) | (refine Fin.ext ?_; simp; omega) | (refine Fin.ext ?_; simp)

/-- The two projections of a row. -/
theorem s_gp (b : Fin 2) (r : Fin 2048) (f : Fin 2816) : val_main_v77 (F := Ideal) x0 x1 x2 x3 (ix3 b r f)
    = ∑ d, hid (xOf x0 ⟨8192 + (b.val * 2048 + r.val), by omega⟩) (gOf x1) (modOf x2 4 ⟨1 + b.val, by omega⟩) (modOf x2 3 ⟨1 + b.val, by omega⟩) d * upOf x3 d f := by
  rw [val_main_v77_apply]
  have el : ∀ d : Fin 1024, lidx_main_v77 (ix3 b r f) d = (ix3 b r d) := fun d => by funext a; fin_cases a <;> rfl
  have er : ∀ d : Fin 1024, ridx_main_v77 (ix3 b r f) d = ix2 d f := fun d => by funext a; fin_cases a <;> rfl
  simp only [el, er, s_hid, s_wg]
theorem s_up (b : Fin 2) (r : Fin 2048) (f : Fin 2816) : val_main_v79 (F := Ideal) x0 x1 x2 x4 (ix3 b r f)
    = ∑ d, hid (xOf x0 ⟨8192 + (b.val * 2048 + r.val), by omega⟩) (gOf x1) (modOf x2 4 ⟨1 + b.val, by omega⟩) (modOf x2 3 ⟨1 + b.val, by omega⟩) d * upOf x4 d f := by
  rw [val_main_v79_apply]
  have el : ∀ d : Fin 1024, lidx_main_v79 (ix3 b r f) d = (ix3 b r d) := fun d => by funext a; fin_cases a <;> rfl
  have er : ∀ d : Fin 1024, ridx_main_v79 (ix3 b r f) d = ix2 d f := fun d => by funext a; fin_cases a <;> rfl
  simp only [el, er, s_hid, s_wu]

/-- One hidden unit. -/
theorem s_act (b : Fin 2) (r : Fin 2048) (f : Fin 2816) : val_main_v80 (F := Ideal) x0 x1 x2 x3 x4 (ix3 b r f)
    = act (hid (xOf x0 ⟨8192 + (b.val * 2048 + r.val), by omega⟩) (gOf x1) (modOf x2 4 ⟨1 + b.val, by omega⟩) (modOf x2 3 ⟨1 + b.val, by omega⟩)) (fun d => upOf x3 d f) (fun d => upOf x4 d f) := by
  rw [val_main_v80_apply, val_main_v78_apply, val_main_call1_v5_apply, val_main_call1_v4_apply, val_main_call1_cst_0_apply, val_main_call1_v3_apply, val_main_call1_v2_apply, val_main_call1_cst_apply, val_main_call1_v1_apply, val_main_call1_v0_apply, s_gp, s_up]
  unfold act
  rw [← silu_eq]
  show (_ * Ideal.div (Ideal.ofBits FTy.f32 0x3F800000#32) (Ideal.ofBits FTy.f32 0x3F800000#32 + Ideal.exp (-_))) * _ = _
  rw [one_bits]

/-- The finished row. -/
theorem s_out (b : Fin 2) (r : Fin 2048) (n : Fin 1024) : val_main_v84 (F := Ideal) x0 x1 x2 x3 x4 x5 (ix3 b r n)
    = rowR x0 x1 x2 x3 x4 x5 ⟨8192 + (b.val * 2048 + r.val), by omega⟩ ⟨1 + b.val, by omega⟩ n := by
  rw [val_main_v84_apply, val_main_v83_apply, val_main_v82_apply, val_main_v81_apply, s_x]
  have el : ∀ f : Fin 2816, lidx_main_v81 (ix3 b r n) f = (ix3 b r f) := fun f => by funext a; fin_cases a <;> rfl
  have er : ∀ f : Fin 2816, ridx_main_v81 (ix3 b r n) f = ix2 f n := fun f => by funext a; fin_cases a <;> rfl
  have e : idx_main_v82 (ix3 b r n) = ix3 b 0 n := by
    funext a; fin_cases a <;> rfl
  simp only [el, er, s_act, s_wd]
  rw [e, s_gate]
  rfl

/-! The whole result. -/

/-- Which row of the modulations a row of the activations uses. -/
def modRow (a : Fin 12288) : Fin 8 := ⟨a.val / 2048 - 3, by omega⟩

/-- Two arrays one above the other, read at an entry. -/
theorem stack_at (X : FVec Ideal S8192x1024 .f32) (Y : FVec Ideal S4096x1024 .f32) (a : Fin 12288) (n : Fin 1024) :
    (concatenate S12288x1024 0 [⟨S8192x1024, X⟩, ⟨S4096x1024, Y⟩] concatenates_S8192x1024_S4096x1024_S12288x1024_d0 : FVec Ideal S12288x1024 .f32) (ix2 a n)
      = if h : a.val < 8192 then X (ix2 ⟨a.val, h⟩ n) else Y (ix2 ⟨a.val - 8192, by omega⟩ n) := by
  pointwise

/-- The reference's result at an entry. -/
theorem out_at (a : Fin 12288) (n : Fin 1024) : val_main_v86 (F := Ideal) x0 x1 x2 x3 x4 x5 (ix2 a n)
    = rowR x0 x1 x2 x3 x4 x5 a (modRow a) n := by
  have ha := a.isLt; have hn := n.isLt
  unfold val_main_v86
  refine (stack_at _ _ a n).trans ?_
  have q : ∀ (a a' : Fin 12288) (r r' : Fin 8), a = a' → r = r' →
      rowR x0 x1 x2 x3 x4 x5 a r n = rowR x0 x1 x2 x3 x4 x5 a' r' n := by
    rintro a _ r _ rfl rfl; rfl
  split
  · rename_i h
    refine (p_out x0 x1 x2 x3 x4 x5 ⟨a.val, h⟩ n).trans (q _ _ _ _ rfl ?_)
    exact Fin.ext (show 0 = a.val / 2048 - 3 by omega)
  · rename_i h
    rw [val_main_v85_apply]
    have e : idx_main_v85 (ix2 ⟨a.val - 8192, by omega⟩ n) = ix3 ⟨(a.val - 8192) / 2048, by omega⟩ ⟨(a.val - 8192) % 2048, by omega⟩ n := by
      funext z; fin_cases z <;> refine Fin.ext ?_ <;> simp <;> omega
    rw [e]
    refine (s_out x0 x1 x2 x3 x4 x5 _ _ n).trans (q _ _ _ _ ?_ ?_)
    · exact Fin.ext (show 8192 + ((a.val - 8192) / 2048 * 2048 + (a.val - 8192) % 2048) = a.val by omega)
    · exact Fin.ext (show 1 + (a.val - 8192) / 2048 = a.val / 2048 - 3 by omega)

end Cert.Reference2Ideal.Read

end
-- ==== Proof.FfnFinal.lean ====
/- The feed-forward network's two programs as arrays: equal for any arguments. -/
module

public import proofs.«01_k».proof.Proof.FfnPoints
public import proofs.«01_k».proof.Proof.FfnRef
public import proofs.«01_k».proof.Proof.Gen.Reference2Ideal.Run

@[expose] public section

set_option maxRecDepth 16384

noncomputable section

namespace Cert.Kernel2Ideal.Value

open Cert.Kernel2Ideal Cert.Kernel2Ideal.Gen Idealize.ShloMosaic Idealize.ShloMosaic.TcCoe Idealize.SL.Sem Cert.Ffn

variable (m : (ℓ : Loc nD τ sig) → Buf (Elt Ideal) ℓ)

/-- The kernel's result array is the reference's term over the same arguments. -/
theorem result (c : Dev nD) :
    Cert.Reference2Ideal.Read.val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = outArr m c := by
  funext y
  idx_vars y
  refine (Cert.Reference2Ideal.Read.out_at _ _ _ _ _ _ y0 y1).trans ?_
  have hx : Cert.Reference2Ideal.Read.xOf (m ((c : Thread nD τ).loc main_arg0)) y0
      = xIn m c ⟨y0.val / 2048, by omega⟩ ⟨y0.val % 2048, by omega⟩ := by
    funext d
    unfold Cert.Reference2Ideal.Read.xOf xIn
    refine congrArg (m ((c : Thread nD τ).loc main_arg0)) ?_
    exact congrArg (fun z : Fin 12288 => ix2 z d) (Fin.ext (show y0.val = y0.val / 2048 * 2048 + y0.val % 2048 by omega))
  unfold Cert.Reference2Ideal.Read.rowR
  rw [hx]
  rfl

end Cert.Kernel2Ideal.Value

namespace Cert.Reference2Ideal.Read

open Cert.Reference2Ideal Cert.Reference2Ideal.Gen Idealize.ShloMosaic Idealize.ShloMosaic.TcCoe Idealize.SL.Sem

/-- The reference's run, its result named as one term over the arguments. -/
theorem run_named (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v86) = val_main_v86 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (val_main_v86_eq _ _), (h c).2⟩) (Cert.Reference2Ideal.Value.run m ρ)

end Cert.Reference2Ideal.Read

end
-- ==== Proof.MixTerms.lean ====
/- The output projection's rows as plain terms: what both programs compute, and a sum over the joined mixers cut at their borders. -/
module

public import proofs.«01_k».proof.Proof.FfnTerms

@[expose] public section

noncomputable section

namespace Cert.Mix

open Idealize.ShloMosaic

/-- Two mixers' outputs side by side: 768 columns, then 256. -/
def two (a : Fin 768 → EReal) (b : Fin 256 → EReal) (k : Fin 1024) : EReal :=
  if h : k.val < 768 then a ⟨k.val, h⟩ else b ⟨k.val - 768, by omega⟩

/-- Three mixers' outputs side by side: 256 columns, then 512, then 256. -/
def three (a : Fin 256 → EReal) (b : Fin 512 → EReal) (d : Fin 256 → EReal) (k : Fin 1024) : EReal :=
  if h : k.val < 256 then a ⟨k.val, h⟩ else if h' : k.val < 768 then b ⟨k.val - 256, by omega⟩ else d ⟨k.val - 768, by omega⟩

/-- A finished entry: the token, plus the gate times the projection of the joined mixers. -/
def entry (x g : EReal) (a w : Fin 1024 → EReal) : EReal := x + g * ∑ k, a k * w k

/-- The projection of two mixers is the sum of theirs. -/
theorem two_sum (a : Fin 768 → EReal) (b : Fin 256 → EReal) (w : Fin 1024 → EReal) :
    ∑ k, two a b k * w k
      = (∑ k : Fin 768, a k * w ⟨k.val, by omega⟩) + ∑ k : Fin 256, b k * w ⟨768 + k.val, by omega⟩ := by
  refine (Fin.sum_univ_add (a := 768) (b := 256) fun k => two a b k * w k).trans ?_
  refine congrArg₂ (· + ·) ?_ ?_
  · refine Finset.sum_congr rfl fun k _ => ?_
    have h : (Fin.castAdd 256 k : Fin 1024).val < 768 := k.isLt
    unfold two
    rw [dif_pos h]
    rfl
  · refine Finset.sum_congr rfl fun k _ => ?_
    have h : ¬(Fin.natAdd 768 k : Fin 1024).val < 768 := Nat.not_lt.mpr (Nat.le_add_right _ _)
    unfold two
    rw [dif_neg h]
    exact congrArg (fun z : Fin 256 => b z * _) (Fin.ext (show 768 + k.val - 768 = k.val by omega))

/-- The projection of three mixers is the sum of theirs. -/
theorem three_sum (a : Fin 256 → EReal) (b : Fin 512 → EReal) (d : Fin 256 → EReal) (w : Fin 1024 → EReal) :
    ∑ k, three a b d k * w k
      = ((∑ k : Fin 256, a k * w ⟨k.val, by omega⟩) + ∑ k : Fin 512, b k * w ⟨256 + k.val, by omega⟩)
        + ∑ k : Fin 256, d k * w ⟨768 + k.val, by omega⟩ := by
  refine (Fin.sum_univ_add (a := 768) (b := 256) fun k => three a b d k * w k).trans ?_
  refine congrArg₂ (· + ·) ((Fin.sum_univ_add (a := 256) (b := 512)
    fun k => three a b d (Fin.castAdd 256 k) * w (Fin.castAdd 256 k)).trans (congrArg₂ (· + ·) ?_ ?_)) ?_
  · refine Finset.sum_congr rfl fun k _ => ?_
    have h : (Fin.castAdd 256 (Fin.castAdd 512 k) : Fin 1024).val < 256 := k.isLt
    unfold three
    rw [dif_pos h]
    rfl
  · refine Finset.sum_congr rfl fun k _ => ?_
    have h : ¬(Fin.castAdd 256 (Fin.natAdd 256 k : Fin 768) : Fin 1024).val < 256 := Nat.not_lt.mpr (Nat.le_add_right _ _)
    have h' : (Fin.castAdd 256 (Fin.natAdd 256 k : Fin 768) : Fin 1024).val < 768 := (Fin.natAdd 256 k : Fin 768).isLt
    unfold three
    rw [dif_neg h, dif_pos h']
    exact congrArg (fun z : Fin 512 => b z * _) (Fin.ext (show 256 + k.val - 256 = k.val by omega))
  · refine Finset.sum_congr rfl fun k _ => ?_
    have h' : ¬(Fin.natAdd 768 k : Fin 1024).val < 768 := Nat.not_lt.mpr (Nat.le_add_right _ _)
    have h : ¬(Fin.natAdd 768 k : Fin 1024).val < 256 := fun q => h' (Nat.lt_trans q (by norm_num))
    unfold three
    rw [dif_neg h, dif_neg h']
    exact congrArg (fun z : Fin 256 => d z * _) (Fin.ext (show 768 + k.val - 768 = k.val by omega))

/-- The result's entry in row `a`, column `n`: the prompt's rows come first, then the two latent images' of 2048 rows each. -/
def out (xp : Fin 8192 → Fin 1024 → EReal) (xs : Fin 4096 → Fin 1024 → EReal) (mp : Fin 8192 → Fin 768 → EReal) (hp : Fin 8192 → Fin 256 → EReal)
    (na : Fin 4096 → Fin 256 → EReal) (ds : Fin 4096 → Fin 512 → EReal) (hs : Fin 4096 → Fin 256 → EReal)
    (g : Fin 8 → Fin 1024 → EReal) (w : Fin 1024 → Fin 1024 → EReal) (a : Fin 12288) (n : Fin 1024) : EReal :=
  if h : a.val < 8192 then entry (xp ⟨a.val, h⟩ n) (g 0 n) (two (mp ⟨a.val, h⟩) (hp ⟨a.val, h⟩)) fun k => w k n
  else entry (xs ⟨a.val - 8192, by omega⟩ n) (g ⟨1 + (a.val - 8192) / 2048, by omega⟩ n)
    (three (na ⟨a.val - 8192, by omega⟩) (ds ⟨a.val - 8192, by omega⟩) (hs ⟨a.val - 8192, by omega⟩)) fun k => w k n

end Cert.Mix

end
-- ==== Proof.MixBlocks.lean ====
/- The output projection's call: what its payloads are at an entry, which entries of the arguments a block holds, and its result array.
   Grid point `t` is the block of rows `t * 1024`; the first eight are the prompt's, the last four the latent images'. -/
module

public import proofs.«01_k».proof.Proof.Gen.Kernel4Ideal.Value
public import proofs.«01_k».proof.Proof.MixTerms
public import Idealize.ShloMosaic.Lib.Pipeline.ValueKit
public import Idealize.ShloMosaic.Lib.Pipeline.ValueKit.Held

@[expose] public section

set_option maxRecDepth 16384

noncomputable section

namespace Cert.Kernel4Ideal.Value

open Cert.Kernel4Ideal Cert.Kernel4Ideal.Gen Idealize.ShloMosaic Idealize.ShloMosaic.TcCoe Idealize.SL.Sem
open Idealize.ShloMosaic.Pipeline (Dat)
open Cert.Mix

variable (m : (ℓ : Loc nD τ sig) → Buf (Elt Ideal) ℓ)

/-- A prompt block's rows. -/
theorem prompt_at (a : Vec Ideal S1024x768 .bf16) (wa : Vec Ideal S1x768x1024 .f32) (b : Vec Ideal S1024x256 .bf16) (wb : Vec Ideal S1x256x1024 .f32)
    (x : Vec Ideal S1024x1024 .f32) (g : Vec Ideal S1x1x1x1024 .f32) (r n : Fin 1024) :
    k0_pay1 a wa b wb x g (ix2 r n)
      = x (ix2 r n) + g (ix4 0 0 0 n) * ((∑ k : Fin 768, a (ix2 r k) * wa (ix3 0 k n)) + ∑ k : Fin 256, b (ix2 r k) * wb (ix3 0 k n)) := by
  pointwise [k0_pay1]

/-- A latent block's rows. -/
theorem latent_at (a : Vec Ideal S1024x256 .bf16) (wa : Vec Ideal S1x256x1024 .f32) (b : Vec Ideal S1024x512 .bf16) (wb : Vec Ideal S1x512x1024 .f32)
    (d : Vec Ideal S1024x256 .bf16) (wd : Vec Ideal S1x256x1024 .f32) (x : Vec Ideal S1024x1024 .f32) (g : Vec Ideal S1x1x1x1024 .f32) (r n : Fin 1024) :
    k0_pay2 a wa b wb d wd x g (ix2 r n)
      = x (ix2 r n) + g (ix4 0 0 0 n) * ((∑ k : Fin 256, a (ix2 r k) * wa (ix3 0 k n)) + (∑ k : Fin 512, b (ix2 r k) * wb (ix3 0 k n))
          + ∑ k : Fin 256, d (ix2 r k) * wd (ix3 0 k n)) := by
  pointwise [k0_pay2]

/-- The block index of every window at every grid point, decided over the twelve points. -/
theorem idx : ∀ t : Fin cfg0.N,
    win0_0.index t = ![min t.val 7, 0]
    ∧ win0_1.index t = ![t.val - 8, 0]
    ∧ win0_2.index t = ![min t.val 7, 0]
    ∧ win0_3.index t = ![min t.val 7, 0]
    ∧ win0_4.index t = ![t.val - 8, 0]
    ∧ win0_5.index t = ![t.val - 8, 0]
    ∧ win0_6.index t = ![t.val - 8, 0]
    ∧ win0_7.index t = ![2, (t.val - 6) / 2, 0, 0]
    ∧ win0_8.index t = ![0, 0, 0]
    ∧ win0_9.index t = ![t.val, 0] :=
  (by decide +kernel : ∀ t : Fin grid0.N, _)

theorem point_lt (t : Fin cfg0.N) : t.val < 12 := lt_of_lt_of_eq t.isLt N_0

/-- The arguments: the two streams' tokens, the prompt's mixers, the latents' mixers, the gate and the projection's weights. -/
def xpIn (c : Dev nD) : FVec Ideal S8192x1024 .f32 := m ((c : Thread nD τ).loc main_arg0)
def xsIn (c : Dev nD) : FVec Ideal S4096x1024 .f32 := m ((c : Thread nD τ).loc main_arg1)
def mpIn (c : Dev nD) : FVec Ideal S8192x768 .bf16 := m ((c : Thread nD τ).loc main_arg2)
def hpIn (c : Dev nD) : FVec Ideal S8192x256 .bf16 := m ((c : Thread nD τ).loc main_arg3)
def naIn (c : Dev nD) : FVec Ideal S4096x256 .bf16 := m ((c : Thread nD τ).loc main_arg4)
def dsIn (c : Dev nD) : FVec Ideal S4096x512 .bf16 := m ((c : Thread nD τ).loc main_arg5)
def hsIn (c : Dev nD) : FVec Ideal S4096x256 .bf16 := m ((c : Thread nD τ).loc main_arg6)
def gateIn (c : Dev nD) (i : Fin 8) (n : Fin 1024) : EReal :=
  (m ((c : Thread nD τ).loc main_arg7) : FVec Ideal S2x8x6144 .f32) (ix3 0 i ⟨2048 + n.val, by omega⟩)
def wIn (c : Dev nD) (k n : Fin 1024) : EReal :=
  (m ((c : Thread nD τ).loc main_arg8) : FVec Ideal S2x1024x1024 .f32) (ix3 0 k n)

theorem blk_xp (c : Dev nD) (t : Fin cfg0.N) (h : t.val < 8) (r : Fin 1024) (d : Fin 1024) :
    (iblk m c 0 t : FVec Ideal S1024x1024 .f32) (ix2 r d) = xpIn m c (ix2 ⟨t.val * 1024 + r.val, by omega⟩ d) := by
  unfold xpIn
  blk_ext [iblk, V, idx t]
theorem blk_mp (c : Dev nD) (t : Fin cfg0.N) (h : t.val < 8) (r : Fin 1024) (d : Fin 768) :
    (iblk m c 2 t : FVec Ideal S1024x768 .bf16) (ix2 r d) = mpIn m c (ix2 ⟨t.val * 1024 + r.val, by omega⟩ d) := by
  unfold mpIn
  blk_ext [iblk, V, idx t]
theorem blk_hp (c : Dev nD) (t : Fin cfg0.N) (h : t.val < 8) (r : Fin 1024) (d : Fin 256) :
    (iblk m c 3 t : FVec Ideal S1024x256 .bf16) (ix2 r d) = hpIn m c (ix2 ⟨t.val * 1024 + r.val, by omega⟩ d) := by
  unfold hpIn
  blk_ext [iblk, V, idx t]
theorem late_lt (t : Fin cfg0.N) (r : Fin 1024) : (t.val - 8) * 1024 + r.val < 4096 := by have := point_lt t; omega
theorem blk_xs (c : Dev nD) (t : Fin cfg0.N) (r : Fin 1024) (d : Fin 1024) :
    (iblk m c 1 t : FVec Ideal S1024x1024 .f32) (ix2 r d) = xsIn m c (ix2 ⟨(t.val - 8) * 1024 + r.val, late_lt t r⟩ d) := by
  unfold xsIn
  blk_ext [iblk, V, idx t]
theorem blk_na (c : Dev nD) (t : Fin cfg0.N) (r : Fin 1024) (d : Fin 256) :
    (iblk m c 4 t : FVec Ideal S1024x256 .bf16) (ix2 r d) = naIn m c (ix2 ⟨(t.val - 8) * 1024 + r.val, late_lt t r⟩ d) := by
  unfold naIn
  blk_ext [iblk, V, idx t]
theorem blk_ds (c : Dev nD) (t : Fin cfg0.N) (r : Fin 1024) (d : Fin 512) :
    (iblk m c 5 t : FVec Ideal S1024x512 .bf16) (ix2 r d) = dsIn m c (ix2 ⟨(t.val - 8) * 1024 + r.val, late_lt t r⟩ d) := by
  unfold dsIn
  blk_ext [iblk, V, idx t]
theorem blk_hs (c : Dev nD) (t : Fin cfg0.N) (r : Fin 1024) (d : Fin 256) :
    (iblk m c 6 t : FVec Ideal S1024x256 .bf16) (ix2 r d) = hsIn m c (ix2 ⟨(t.val - 8) * 1024 + r.val, late_lt t r⟩ d) := by
  unfold hsIn
  blk_ext [iblk, V, idx t]
theorem blk_w (c : Dev nD) (t : Fin cfg0.N) (k n : Fin 1024) :
    (iblk m c 8 t : FVec Ideal S1x1024x1024 .f32) (ix3 0 k n) = wIn m c k n := by
  unfold wIn
  blk_ext [iblk, V, idx t]

/-- The modulations as the call's operand: modulation `k`, row `r`. -/
theorem ent_mod (c : Dev nD) (k : Fin 6) (r : Fin 8) (d : Fin 1024) :
    (V m c main_v4 : FVec Ideal S6x8x1x1024 .f32) (ix4 k r 0 d)
      = (m ((c : Thread nD τ).loc main_arg7) : FVec Ideal S2x8x6144 .f32) (ix3 0 r ⟨k.val * 1024 + d.val, by omega⟩) := by
  unfold V
  simp only [hostOps0, List.flatten_cons, List.flatten_nil, List.append_nil, List.cons_append, List.nil_append]
  entry_read
  pointwise
theorem gate_lt (t : Fin cfg0.N) : (t.val - 6) / 2 < 8 := by have := point_lt t; omega
theorem blk_gate (c : Dev nD) (t : Fin cfg0.N) (d : Fin 1024) :
    (iblk m c 7 t : FVec Ideal S1x1x1x1024 .f32) (ix4 0 0 0 d) = gateIn m c ⟨(t.val - 6) / 2, gate_lt t⟩ d := by
  refine Eq.trans (b := (V m c main_v4 : FVec Ideal S6x8x1x1024 .f32) (ix4 2 ⟨(t.val - 6) / 2, gate_lt t⟩ 0 d)) ?_ (ent_mod m c _ _ d)
  blk_ext [iblk, idx t]

/-- The rows of the weights the payloads load. -/
theorem ld_w {e : EltTy} (X : Vec Ideal S1x1024x1024 e) (a b : ℕ) (h : a + b ≤ 1024) (inb) (k : Fin b) (n : Fin 1024) :
    (View.ld (Val := Elt Ideal) (e' := e) X (Rect.unit (s := S1x1024x1024) ![0, a, 0] ![1, b, 1024] inb)) (ix3 0 k n)
      = X (ix3 0 ⟨a + k.val, by omega⟩ n) := by
  refine congrArg X ?_
  funext z; fin_cases z <;> refine Fin.ext ?_ <;> simp

/-- A block of the prompt, finished. -/
theorem block_A (c : Dev nD) (t : Fin cfg0.N) (h0 : t.val < 8) (h1 : ¬8 ≤ t.val) (r n : Fin 1024) :
    (outsAt0 m c t.val t.isLt : FVec Ideal S1024x1024 .f32) (ix2 r n)
      = entry (xpIn m c (ix2 ⟨t.val * 1024 + r.val, by omega⟩ n)) (gateIn m c ⟨(t.val - 6) / 2, gate_lt t⟩ n)
          (two (fun k => mpIn m c (ix2 ⟨t.val * 1024 + r.val, by omega⟩ k)) (fun k => hpIn m c (ix2 ⟨t.val * 1024 + r.val, by omega⟩ k)))
          fun k => wIn m c k n := by
  rw [outsAt0_A m c t h0 h1]
  frame_out
  rw [prompt_at, blk_xp m c t h0, blk_gate]
  unfold entry
  rw [two_sum]
  refine congrArg₂ (fun p q => _ + _ * (p + q)) (Finset.sum_congr rfl fun k _ => ?_) (Finset.sum_congr rfl fun k _ => ?_)
  · rw [blk_mp m c t h0, ld_w _ 0 768 (by norm_num), blk_w]
    exact congrArg (fun z : Fin 1024 => _ * wIn m c z n) (Fin.ext (Nat.zero_add _))
  · rw [blk_hp m c t h0, ld_w _ 768 256 (by norm_num), blk_w]

/-- A block of the latent images, finished. -/
theorem block_B (c : Dev nD) (t : Fin cfg0.N) (h0 : ¬t.val < 8) (h1 : 8 ≤ t.val) (r n : Fin 1024) :
    (outsAt0 m c t.val t.isLt : FVec Ideal S1024x1024 .f32) (ix2 r n)
      = entry (xsIn m c (ix2 ⟨(t.val - 8) * 1024 + r.val, late_lt t r⟩ n)) (gateIn m c ⟨(t.val - 6) / 2, gate_lt t⟩ n)
          (three (fun k => naIn m c (ix2 ⟨(t.val - 8) * 1024 + r.val, late_lt t r⟩ k)) (fun k => dsIn m c (ix2 ⟨(t.val - 8) * 1024 + r.val, late_lt t r⟩ k))
            (fun k => hsIn m c (ix2 ⟨(t.val - 8) * 1024 + r.val, late_lt t r⟩ k)))
          fun k => wIn m c k n := by
  rw [outsAt0_B m c t h0 h1]
  frame_out
  rw [latent_at, blk_xs m c t, blk_gate]
  unfold entry
  rw [three_sum]
  refine congrArg₂ (fun p q => _ + _ * (p + q)) (congrArg₂ (· + ·) (Finset.sum_congr rfl fun k _ => ?_) (Finset.sum_congr rfl fun k _ => ?_)) (Finset.sum_congr rfl fun k _ => ?_)
  · rw [blk_na m c t, ld_w _ 0 256 (by norm_num), blk_w]
    exact congrArg (fun z : Fin 1024 => _ * wIn m c z n) (Fin.ext (Nat.zero_add _))
  · rw [blk_ds m c t, ld_w _ 256 512 (by norm_num), blk_w]
  · rw [blk_hs m c t, ld_w _ 768 256 (by norm_num), blk_w]

/-- The result array. -/
def outArr (c : Dev nD) : FVec Ideal S12288x1024 .f32 := fun y =>
  out (fun a n => xpIn m c (ix2 a n)) (fun a n => xsIn m c (ix2 a n)) (fun a n => mpIn m c (ix2 a n)) (fun a n => hpIn m c (ix2 a n))
    (fun a n => naIn m c (ix2 a n)) (fun a n => dsIn m c (ix2 a n)) (fun a n => hsIn m c (ix2 a n)) (gateIn m c) (wIn m c) (y 0) (y 1)

/-- The result array when every point has flushed. -/
theorem arr_out (c : Dev nD) : (dats m 0 c).arrAt 9 cfg0.N = outArr m c := by
  refine (dats m 0 c).arrAt_eq_of_covers 9 (outArr m c) (by decide +kernel) fun t hf y => ?_
  blk_simp
  rw [after0_9]
  idx_vars y
  have ht := point_lt t
  have e : ((View.whole main_v5).slice (win0_9.rect t)).emb (ix2 y0 y1)
      = (ix2 ⟨t.val * 1024 + y0.val, by omega⟩ ⟨y1.val, by omega⟩ : S12288x1024.Idx) := by
    blk_ext [idx t]
  rw [e]
  by_cases h : t.val < 8
  · rw [block_A m c t h (by omega) y0 y1]
    show _ = out _ _ _ _ _ _ _ _ _ (⟨t.val * 1024 + y0.val, _⟩ : Fin 12288) (⟨y1.val, _⟩ : Fin 1024)
    unfold out
    rw [dif_pos (show t.val * 1024 + y0.val < 8192 by omega)]
    exact congrArg (fun z : Fin 8 => entry _ (gateIn m c z y1) _ _) (Fin.ext (show (t.val - 6) / 2 = 0 by omega))
  · rw [block_B m c t h (by omega) y0 y1]
    show _ = out _ _ _ _ _ _ _ _ _ (⟨t.val * 1024 + y0.val, _⟩ : Fin 12288) (⟨y1.val, _⟩ : Fin 1024)
    unfold out
    rw [dif_neg (show ¬t.val * 1024 + y0.val < 8192 by omega)]
    have q : ∀ (a b : Fin 4096) (i j : Fin 8), a = b → i = j →
        entry (xsIn m c (ix2 a y1)) (gateIn m c i y1) (three (fun k => naIn m c (ix2 a k)) (fun k => dsIn m c (ix2 a k)) (fun k => hsIn m c (ix2 a k))) (fun k => wIn m c k y1)
          = entry (xsIn m c (ix2 b y1)) (gateIn m c j y1) (three (fun k => naIn m c (ix2 b k)) (fun k => dsIn m c (ix2 b k)) (fun k => hsIn m c (ix2 b k))) (fun k => wIn m c k y1) := by
      rintro a _ i _ rfl rfl; rfl
    exact q _ _ _ _ (Fin.ext (show (t.val - 8) * 1024 + y0.val = t.val * 1024 + y0.val - 8192 by omega))
      (Fin.ext (show (t.val - 6) / 2 = 1 + (t.val * 1024 + y0.val - 8192) / 2048 by omega))

end Cert.Kernel4Ideal.Value

end
-- ==== Proof.MixRef.lean ====
/- The reference's output projection read entry by entry. -/
module

public import proofs.«01_k».proof.Proof.Gen.Reference4Ideal.Read
public import proofs.«01_k».proof.Proof.MixTerms

@[expose] public section

set_option maxRecDepth 16384

noncomputable section

namespace Cert.Reference4Ideal.Read

open Cert.Reference4Ideal Cert.Reference4Ideal.Gen Idealize.ShloMosaic Idealize.ShloMosaic.TcCoe Idealize.SL.Sem Cert.Mix

variable (x0 : FVec Ideal S8192x1024 .f32) (x1 : FVec Ideal S4096x1024 .f32) (x2 : FVec Ideal S8192x768 .bf16) (x3 : FVec Ideal S8192x256 .bf16)
  (x4 : FVec Ideal S4096x256 .bf16) (x5 : FVec Ideal S4096x512 .bf16) (x6 : FVec Ideal S4096x256 .bf16)
  (x7 : FVec Ideal S2x8x6144 .f32) (x8 : FVec Ideal S2x1024x1024 .f32)

/-- The gate of the attention's half, row `i` of the modulations. -/
def gOf (i : Fin 8) (n : Fin 1024) : EReal := x7 (ix3 0 i ⟨2048 + n.val, by omega⟩)

/-- Two arrays side by side. -/
theorem two_at (a : FVec Ideal S8192x768 .f32) (b : FVec Ideal S8192x256 .f32) (r : Fin 8192) (k : Fin 1024) :
    concatenate S8192x1024 1 [⟨S8192x768, a⟩, ⟨S8192x256, b⟩] concatenates_S8192x768_S8192x256_S8192x1024_d1 (ix2 r k)
      = two (fun k => a (ix2 r k)) (fun k => b (ix2 r k)) k := by
  unfold two
  pointwise
/-- Three arrays side by side. -/
theorem three_at (a : FVec Ideal S2x2048x256 .f32) (b : FVec Ideal S2x2048x512 .f32) (d : FVec Ideal S2x2048x256 .f32) (i : Fin 2) (r : Fin 2048) (k : Fin 1024) :
    concatenate S2x2048x1024 2 [⟨S2x2048x256, a⟩, ⟨S2x2048x512, b⟩, ⟨S2x2048x256, d⟩] concatenates_S2x2048x256_S2x2048x512_S2x2048x256_S2x2048x1024_d2 (ix3 i r k)
      = three (fun k => a (ix3 i r k)) (fun k => b (ix3 i r k)) (fun k => d (ix3 i r k)) k := by
  unfold three
  pointwise
  by_cases h : k.val < 256
  · rw [dif_pos h, dif_pos h]
  · rw [dif_neg h, dif_neg h]
    by_cases h' : k.val < 768
    · rw [dif_pos h', dif_pos (show k.val - 256 < 512 by omega)]
    · rw [dif_neg h', dif_neg (show ¬k.val - 256 < 512 by omega)]
      exact congrArg (fun z : Fin 256 => d (ix3 i r z)) (Fin.ext (show k.val - 256 - 512 = k.val - 768 by omega))
/-- One stream's rows above the other's. -/
theorem stack_at (p : FVec Ideal S8192x1024 .f32) (q : FVec Ideal S4096x1024 .f32) (a : Fin 12288) (n : Fin 1024) :
    concatenate S12288x1024 0 [⟨S8192x1024, p⟩, ⟨S4096x1024, q⟩] concatenates_S8192x1024_S4096x1024_S12288x1024_d0 (ix2 a n)
      = if h : a.val < 8192 then p (ix2 ⟨a.val, h⟩ n) else q (ix2 ⟨a.val - 8192, by omega⟩ n) := by
  pointwise

/-- The prompt's gate and weights. -/
theorem p_gate (n : Fin 1024) : val_main_v7 (F := Ideal) x7 (ix2 0 n) = gOf x7 0 n := by
  have hn := n.isLt
  unfold gOf
  rw [val_main_v7_apply, val_main_v4_apply, val_main_v3_apply, val_main_v2_apply]
  refine congrArg x7 ?_
  funext a; fin_cases a <;> first | rfl | exact Fin.ext (Nat.zero_add _) | (refine Fin.ext ?_; simp; omega) | (refine Fin.ext ?_; simp)
theorem p_w (k n : Fin 1024) : val_main_v13 (F := Ideal) x8 (ix2 k n) = x8 (ix3 0 k n) := by
  have hn := n.isLt; have hk := k.isLt
  rw [val_main_v13_apply, val_main_v12_apply]
  refine congrArg x8 ?_
  funext a; fin_cases a <;> first | rfl | exact Fin.ext (Nat.zero_add _) | (refine Fin.ext ?_; simp; omega) | (refine Fin.ext ?_; simp)
/-- The prompt's joined mixers. -/
theorem p_mix (r : Fin 8192) (k : Fin 1024) : val_main_v11 (F := Ideal) x2 x3 (ix2 r k) = two (fun k => x2 (ix2 r k)) (fun k => x3 (ix2 r k)) k :=
  two_at (val_main_v0 (F := Ideal) x2) (val_main_v1 (F := Ideal) x3) r k
/-- A finished prompt entry. -/
theorem p_out (r : Fin 8192) (n : Fin 1024) : val_main_v17 (F := Ideal) x0 x2 x3 x7 x8 (ix2 r n)
    = entry (x0 (ix2 r n)) (gOf x7 0 n) (two (fun k => x2 (ix2 r k)) (fun k => x3 (ix2 r k))) fun k => x8 (ix3 0 k n) := by
  rw [val_main_v17_apply, val_main_v16_apply, val_main_v15_apply, val_main_v14_apply]
  have el : ∀ k : Fin 1024, lidx_main_v14 (ix2 r n) k = (ix2 r k) := fun k => by funext a; fin_cases a <;> rfl
  have er : ∀ k : Fin 1024, ridx_main_v14 (ix2 r n) k = ix2 k n := fun k => by funext a; fin_cases a <;> rfl
  have e : idx_main_v15 (ix2 r n) = ix2 0 n := by
    funext a; fin_cases a <;> rfl
  simp only [el, er, p_mix, p_w]
  rw [e, p_gate]
  rfl

/-- Row `r` of latent image `b`. -/
def at' (b : Fin 2) (r : Fin 2048) : Fin 4096 := ⟨b.val * 2048 + r.val, by omega⟩

/-- The latents' tokens, mixers, gate and weights. -/
theorem s_x (b : Fin 2) (r : Fin 2048) (n : Fin 1024) : val_main_v18 (F := Ideal) x1 (ix3 b r n) = x1 (ix2 (at' b r) n) := by
  have hn := n.isLt; have hr := r.isLt; have hb := b.isLt
  rw [val_main_v18_apply]
  refine congrArg x1 ?_
  funext a; fin_cases a <;> first | (refine Fin.ext ?_; simp [at']; omega) | (refine Fin.ext ?_; simp [at'])
theorem s_na (b : Fin 2) (r : Fin 2048) (k : Fin 256) : val_main_v20 (F := Ideal) x4 (ix3 b r k) = x4 (ix2 (at' b r) k) := by
  have hn := k.isLt; have hr := r.isLt; have hb := b.isLt
  rw [val_main_v20_apply, val_main_v19_apply]
  refine congrArg x4 ?_
  funext a; fin_cases a <;> first | (refine Fin.ext ?_; simp [at']; omega) | (refine Fin.ext ?_; simp [at'])
theorem s_ds (b : Fin 2) (r : Fin 2048) (k : Fin 512) : val_main_v22 (F := Ideal) x5 (ix3 b r k) = x5 (ix2 (at' b r) k) := by
  have hn := k.isLt; have hr := r.isLt; have hb := b.isLt
  rw [val_main_v22_apply, val_main_v21_apply]
  refine congrArg x5 ?_
  funext a; fin_cases a <;> first | (refine Fin.ext ?_; simp [at']; omega) | (refine Fin.ext ?_; simp [at'])
theorem s_hs (b : Fin 2) (r : Fin 2048) (k : Fin 256) : val_main_v24 (F := Ideal) x6 (ix3 b r k) = x6 (ix2 (at' b r) k) := by
  have hn := k.isLt; have hr := r.isLt; have hb := b.isLt
  rw [val_main_v24_apply, val_main_v23_apply]
  refine congrArg x6 ?_
  funext a; fin_cases a <;> first | (refine Fin.ext ?_; simp [at']; omega) | (refine Fin.ext ?_; simp [at'])
theorem s_gate (b : Fin 2) (n : Fin 1024) : val_main_v30 (F := Ideal) x7 (ix3 b 0 n) = gOf x7 ⟨1 + b.val, by omega⟩ n := by
  have hn := n.isLt; have hb := b.isLt
  unfold gOf
  rw [val_main_v30_apply, val_main_v27_apply, val_main_v26_apply, val_main_v25_apply]
  refine congrArg x7 ?_
  funext a; fin_cases a <;> first | rfl | exact Fin.ext (Nat.zero_add _) | (refine Fin.ext ?_; simp; omega) | (refine Fin.ext ?_; simp)
theorem s_w (k n : Fin 1024) : val_main_v36 (F := Ideal) x8 (ix2 k n) = x8 (ix3 0 k n) := by
  have hn := n.isLt; have hk := k.isLt
  rw [val_main_v36_apply, val_main_v35_apply]
  refine congrArg x8 ?_
  funext a; fin_cases a <;> first | rfl | exact Fin.ext (Nat.zero_add _) | (refine Fin.ext ?_; simp; omega) | (refine Fin.ext ?_; simp)
/-- The latents' joined mixers. -/
theorem s_mix (b : Fin 2) (r : Fin 2048) (k : Fin 1024) : val_main_v34 (F := Ideal) x4 x5 x6 (ix3 b r k)
    = three (fun k => x4 (ix2 (at' b r) k)) (fun k => x5 (ix2 (at' b r) k)) (fun k => x6 (ix2 (at' b r) k)) k := by
  refine (three_at (val_main_v20 (F := Ideal) x4) (val_main_v22 (F := Ideal) x5) (val_main_v24 (F := Ideal) x6) b r k).trans ?_
  simp only [s_na, s_ds, s_hs]
/-- A finished latent entry. -/
theorem s_out (b : Fin 2) (r : Fin 2048) (n : Fin 1024) : val_main_v40 (F := Ideal) x1 x4 x5 x6 x7 x8 (ix3 b r n)
    = entry (x1 (ix2 (at' b r) n)) (gOf x7 ⟨1 + b.val, by omega⟩ n)
        (three (fun k => x4 (ix2 (at' b r) k)) (fun k => x5 (ix2 (at' b r) k)) (fun k => x6 (ix2 (at' b r) k))) fun k => x8 (ix3 0 k n) := by
  rw [val_main_v40_apply, val_main_v39_apply, val_main_v38_apply, val_main_v37_apply, s_x]
  have el : ∀ k : Fin 1024, lidx_main_v37 (ix3 b r n) k = (ix3 b r k) := fun k => by funext a; fin_cases a <;> rfl
  have er : ∀ k : Fin 1024, ridx_main_v37 (ix3 b r n) k = ix2 k n := fun k => by funext a; fin_cases a <;> rfl
  have e : idx_main_v38 (ix3 b r n) = ix3 b 0 n := by
    funext a; fin_cases a <;> rfl
  simp only [el, er, s_mix, s_w]
  rw [e, s_gate]
  rfl

/-- The result's entry. -/
theorem out_at (a : Fin 12288) (n : Fin 1024) : val_main_v42 (F := Ideal) x0 x1 x2 x3 x4 x5 x6 x7 x8 (ix2 a n)
    = out (fun a n => x0 (ix2 a n)) (fun a n => x1 (ix2 a n)) (fun a n => x2 (ix2 a n)) (fun a n => x3 (ix2 a n)) (fun a n => x4 (ix2 a n))
        (fun a n => x5 (ix2 a n)) (fun a n => x6 (ix2 a n)) (gOf x7) (fun k n => x8 (ix3 0 k n)) a n := by
  refine (stack_at (val_main_v17 (F := Ideal) x0 x2 x3 x7 x8) (val_main_v41 (F := Ideal) x1 x4 x5 x6 x7 x8) a n).trans ?_
  unfold out
  by_cases h : a.val < 8192
  · rw [dif_pos h, dif_pos h, p_out]
  · rw [dif_neg h, dif_neg h, val_main_v41_apply]
    have hn := n.isLt; have ha := a.isLt
    have e : idx_main_v41 (ix2 (⟨a.val - 8192, by omega⟩ : Fin 4096) n)
        = ix3 (⟨(a.val - 8192) / 2048, by omega⟩ : Fin 2) (⟨(a.val - 8192) % 2048, by omega⟩ : Fin 2048) n := by
      funext z; fin_cases z <;> first | (refine Fin.ext ?_; simp; omega) | (refine Fin.ext ?_; simp)
    rw [e, s_out]
    have q : at' (⟨(a.val - 8192) / 2048, by omega⟩ : Fin 2) (⟨(a.val - 8192) % 2048, by omega⟩ : Fin 2048) = ⟨a.val - 8192, by omega⟩ :=
      Fin.ext (show (a.val - 8192) / 2048 * 2048 + (a.val - 8192) % 2048 = a.val - 8192 by omega)
    rw [q]

end Cert.Reference4Ideal.Read

end
-- ==== Proof.MixFinal.lean ====
/- The output projection's two programs as arrays: equal for any arguments. -/
module

public import proofs.«01_k».proof.Proof.MixBlocks
public import proofs.«01_k».proof.Proof.MixRef
public import proofs.«01_k».proof.Proof.Gen.Reference4Ideal.Run

@[expose] public section

set_option maxRecDepth 16384

noncomputable section

namespace Cert.Kernel4Ideal.Value

open Cert.Kernel4Ideal Cert.Kernel4Ideal.Gen Idealize.ShloMosaic Idealize.ShloMosaic.TcCoe Idealize.SL.Sem Cert.Mix

variable (m : (ℓ : Loc nD τ sig) → Buf (Elt Ideal) ℓ)

/-- The kernel's result array is the reference's term over the same arguments. -/
theorem result (c : Dev nD) :
    Cert.Reference4Ideal.Read.val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) = outArr m c := by
  funext y
  idx_vars y
  exact Cert.Reference4Ideal.Read.out_at _ _ _ _ _ _ _ _ _ y0 y1

end Cert.Kernel4Ideal.Value

namespace Cert.Reference4Ideal.Read

open Cert.Reference4Ideal Cert.Reference4Ideal.Gen Idealize.ShloMosaic Idealize.ShloMosaic.TcCoe Idealize.SL.Sem

/-- The reference's run, its result named as one term over the arguments. -/
theorem run_named (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v42) = val_main_v42 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans (val_main_v42_eq _ _ _ _ _ _ _ _ _), (h c).2⟩) (Cert.Reference4Ideal.Value.run m ρ)

end Cert.Reference4Ideal.Read

end
-- ==== Proof.PromptTerms.lean ====
/- The prompt's attention, one entry at a time: what the kernel computes, what the reference computes, and why the two are one over real arguments.
   `P b r col` is the projected token `r` of prompt `b` at column `col`. -/
module

public import proofs.«01_k».proof.Proof.Core

@[expose] public section

noncomputable section

namespace Cert.Prompt

open Idealize.ShloMosaic Cert.Attn

/-- The exponential of a score less the row's greatest score. -/
def wt (s : Fin 256 → EReal) (n : Fin 256) : EReal :=
  Ideal.exp (s n - Finset.univ.fold max (Ideal.ofBits FTy.f32 0xFF800000#32) s)

/-- The kernel's weighted value, divided by the weights' sum after the product. -/
def oneK (s V : Fin 256 → EReal) : EReal := (∑ n, wt s n * V n) * Ideal.div 1 (∑ n, wt s n)
/-- The reference's: the softmax, multiplied into the values. -/
def oneR (s V : Fin 256 → EReal) : EReal := ∑ n, Ideal.div (wt s n) (∑ n, wt s n) * V n

/-- The kernel's difference of two maps' weighted values. -/
def twoK (s1 s2 V : Fin 256 → EReal) (lam : EReal) : EReal :=
  (∑ n, wt s1 n * V n) * Ideal.div 1 (∑ n, wt s1 n) - (∑ n, wt s2 n * V n) * (lam * Ideal.div 1 (∑ n, wt s2 n))
/-- The reference's. -/
def twoR (s1 s2 V : Fin 256 → EReal) (lam : EReal) : EReal :=
  ∑ n, (Ideal.div (wt s1 n) (∑ n, wt s1 n) - lam * Ideal.div (wt s2 n) (∑ n, wt s2 n)) * V n

/-- The greatest of finitely many (at least one) real numbers, taken from −∞, is a real number. -/
theorem max_real (s : Fin 256 → ℝ) :
    ∃ M : ℝ, Finset.univ.fold max (Ideal.ofBits FTy.f32 0xFF800000#32) (fun n => ((s n : ℝ) : EReal)) = ((M : ℝ) : EReal) := by
  have hb : Ideal.ofBits FTy.f32 0xFF800000#32 = (⊥ : EReal) := by simp [Ideal.ofBits, Ideal.ieee]
  rw [hb]
  obtain ⟨i, -, hi⟩ := Finset.exists_mem_eq_sup (Finset.univ : Finset (Fin 256)) ⟨0, Finset.mem_univ _⟩ (fun n => ((s n : ℝ) : EReal))
  exact ⟨s i, hi⟩

/-- The weights of real scores are positive reals. -/
theorem wt_real (s : Fin 256 → ℝ) : ∃ e : Fin 256 → ℝ, (∀ n, 0 < e n) ∧ wt (fun n => ((s n : ℝ) : EReal)) = fun n => ((e n : ℝ) : EReal) := by
  obtain ⟨M, hM⟩ := max_real s
  refine ⟨fun n => Real.exp (s n - M), fun n => Real.exp_pos _, ?_⟩
  funext n
  unfold wt
  rw [hM, ← EReal.coe_sub, Ideal.exp_coe]

/-- A factor that is neither negative nor infinite goes into a sum. -/
theorem sum_mul_const {x : EReal} (h0 : 0 ≤ x) (ht : x ≠ ⊤) (f : Fin 256 → EReal) : (∑ n, f n) * x = ∑ n, f n * x := by
  induction (Finset.univ : Finset (Fin 256)) using Finset.induction_on with
  | empty => simp
  | insert a s ha ih =>
    rw [Finset.sum_insert ha, Finset.sum_insert ha, ← ih, EReal.right_distrib_of_nonneg_of_ne_top h0 ht]

/-- Dividing the weighted sum is dividing the weights, whatever the values. -/
theorem one_eq {s : Fin 256 → EReal} (V : Fin 256 → EReal) (hs : ∀ n, IsReal (s n)) : oneK s V = oneR s V := by
  choose r hr using hs
  obtain rfl : s = fun n => ((r n : ℝ) : EReal) := funext hr
  obtain ⟨e1, p1, h1⟩ := wt_real r
  have lp : 0 < ∑ n, e1 n := Finset.sum_pos (fun n _ => p1 n) ⟨0, Finset.mem_univ _⟩
  have l1 : (∑ n, e1 n) ≠ 0 := ne_of_gt lp
  unfold oneK oneR
  simp only [h1, coe_sum_real, Ideal.div_coe l1]
  rw [one_mul, sum_mul_const (EReal.coe_nonneg.2 (by positivity)) (EReal.coe_ne_top _)]
  exact Finset.sum_congr rfl fun n _ => mul_right_comm _ _ _

/-- Dividing the two weighted sums afterwards is dividing the weights first. -/
theorem two_eq {s1 s2 V : Fin 256 → EReal} {lam : EReal} (hs1 : ∀ n, IsReal (s1 n)) (hs2 : ∀ n, IsReal (s2 n)) (hV : ∀ n, IsReal (V n))
    (hl : IsReal lam) : twoK s1 s2 V lam = twoR s1 s2 V lam := by
  choose r1 hr1 using hs1
  choose r2 hr2 using hs2
  choose v hv using hV
  obtain ⟨l, rfl⟩ := hl
  obtain rfl : s1 = fun n => ((r1 n : ℝ) : EReal) := funext hr1
  obtain rfl : s2 = fun n => ((r2 n : ℝ) : EReal) := funext hr2
  obtain rfl : V = fun n => ((v n : ℝ) : EReal) := funext hv
  obtain ⟨e1, p1, h1⟩ := wt_real r1
  obtain ⟨e2, p2, h2⟩ := wt_real r2
  have l1 : (∑ n, e1 n) ≠ 0 := ne_of_gt (Finset.sum_pos (fun n _ => p1 n) ⟨0, Finset.mem_univ _⟩)
  have l2 : (∑ n, e2 n) ≠ 0 := ne_of_gt (Finset.sum_pos (fun n _ => p2 n) ⟨0, Finset.mem_univ _⟩)
  unfold twoK twoR
  simp only [h1, h2, ← EReal.coe_mul, coe_sum_real, Ideal.div_coe l1, Ideal.div_coe l2, ← EReal.coe_sub]
  rw [← EReal.coe_one]
  simp only [← EReal.coe_mul, ← EReal.coe_sub, coe_sum_real]
  congr 1
  rw [Finset.sum_mul, Finset.sum_mul, ← Finset.sum_sub_distrib]
  refine Finset.sum_congr rfl fun n _ => ?_
  ring

/-- The scale's two words: an eighth. -/
theorem eighth : Ideal.ofBits FTy.f32 0x3E000000#32 = ((1 / 8 : ℝ) : EReal) := by
  simp [Ideal.ofBits, Ideal.ieee, -EReal.coe_mul]; norm_num
theorem eighth' : Ideal.ofBits FTy.bf16 0x3E00#16 = ((1 / 8 : ℝ) : EReal) := by
  simp [Ideal.ofBits, Ideal.ieee, -EReal.coe_mul]; norm_num

variable (P : Fin 32 → Fin 256 → ℕ → EReal)

/-- The kernel's scores of row `r`, queries from column `q` and keys from column `k` on: the query scaled first. -/
def scK (b : Fin 32) (r : Fin 256) (q k : ℕ) (n : Fin 256) : EReal :=
  ∑ d : Fin 64, (P b r (q + d.val) * Ideal.ofBits FTy.bf16 0x3E00#16) * P b n (k + d.val)
/-- The reference's: the product scaled. -/
def scR (b : Fin 32) (r : Fin 256) (q k : ℕ) (n : Fin 256) : EReal :=
  (∑ d : Fin 64, P b r (q + d.val) * P b n (k + d.val)) * Ideal.ofBits FTy.f32 0x3E000000#32

variable {P}

/-- The scores are one where their queries and keys are real, and then they are real. -/
theorem sc_eq {b : Fin 32} {r : Fin 256} {q k : ℕ} (hq : ∀ r (d : Fin 64), IsReal (P b r (q + d.val))) (hk : ∀ r (d : Fin 64), IsReal (P b r (k + d.val))) :
    scK P b r q k = scR P b r q k := by
  choose v hv using hq
  choose w hw using hk
  funext n
  unfold scK scR
  simp only [hv, hw, eighth, eighth', ← EReal.coe_mul, coe_sum_real]
  congr 1
  rw [Finset.sum_mul]
  exact Finset.sum_congr rfl fun d _ => by ring
theorem scR_real {b : Fin 32} {r : Fin 256} {q k : ℕ} (hq : ∀ r (d : Fin 64), IsReal (P b r (q + d.val))) (hk : ∀ r (d : Fin 64), IsReal (P b r (k + d.val)))
    (n : Fin 256) : IsReal (scR P b r q k n) :=
  (IsReal.sum _ fun d => (hq _ _).mul (hk _ _)).mul ⟨_, eighth⟩

variable (P)

/-- Head `h` of the plain attention, lane `j`: the kernel's and the reference's. -/
def naK (b : Fin 32) (r : Fin 256) (h : ℕ) (j : ℕ) : EReal :=
  oneK (scK P b r (64 * h) (256 + 64 * h)) fun n => P b n (512 + 64 * h + j)
def naR (b : Fin 32) (r : Fin 256) (h : ℕ) (j : ℕ) : EReal :=
  oneR (scR P b r (64 * h) (256 + 64 * h)) fun n => P b n (512 + 64 * h + j)

/-- Head `h` of the differential attention, lane `j`: the kernel's and the reference's. -/
def dfK (lam : EReal) (g : Fin 128 → EReal) (b : Fin 32) (r : Fin 256) (h : ℕ) (j : Fin 128) : EReal :=
  normed (fun j => twoK (scK P b r (768 + 128 * h) (1280 + 128 * h)) (scK P b r (832 + 128 * h) (1344 + 128 * h))
    (fun n => P b n (1792 + 128 * h + j.val)) lam) g j
def dfR (lam : EReal) (g : Fin 128 → EReal) (b : Fin 32) (r : Fin 256) (h : ℕ) (j : Fin 128) : EReal :=
  normed (fun j => twoR (scR P b r (768 + 128 * h) (1280 + 128 * h)) (scR P b r (832 + 128 * h) (1344 + 128 * h))
    (fun n => P b n (1792 + 128 * h + j.val)) lam) g j

/-- The result's entry: four plain heads of 64 columns, then four differential heads of 128. -/
def outK (lam : EReal) (g : Fin 128 → EReal) (b : Fin 32) (r : Fin 256) (n : ℕ) : EReal :=
  if n < 256 then naK P b r (n / 64) (n % 64) else dfK P lam g b r ((n - 256) / 128) ⟨(n - 256) % 128, Nat.mod_lt _ (by omega)⟩
def outR (lam : EReal) (g : Fin 128 → EReal) (b : Fin 32) (r : Fin 256) (n : ℕ) : EReal :=
  if n < 256 then naR P b r (n / 64) (n % 64) else dfR P lam g b r ((n - 256) / 128) ⟨(n - 256) % 128, Nat.mod_lt _ (by omega)⟩

variable {P}

/-- Over real queries and keys, real values of the differential heads and a real second weight the two are one; the plain heads' values are free. -/
theorem out_eq (hA : ∀ b r k, k < 512 → IsReal (P b r k)) (hP : ∀ b r k, 768 ≤ k → k < 2304 → IsReal (P b r k)) {lam : EReal} (hl : IsReal lam)
    (g : Fin 128 → EReal) (b : Fin 32) (r : Fin 256) (n : ℕ) (hn : n < 768) : outK P lam g b r n = outR P lam g b r n := by
  unfold outK outR
  split
  · have hq : ∀ r (d : Fin 64), IsReal (P b r (64 * (n / 64) + d.val)) := fun _ _ => hA _ _ _ (by omega)
    have hk : ∀ r (d : Fin 64), IsReal (P b r (256 + 64 * (n / 64) + d.val)) := fun _ _ => hA _ _ _ (by omega)
    unfold naK naR
    rw [sc_eq hq hk]
    exact one_eq _ (scR_real hq hk)
  · have q1 : ∀ r (d : Fin 64), IsReal (P b r (768 + 128 * ((n - 256) / 128) + d.val)) := fun _ _ => hP _ _ _ (by omega) (by omega)
    have q2 : ∀ r (d : Fin 64), IsReal (P b r (832 + 128 * ((n - 256) / 128) + d.val)) := fun _ _ => hP _ _ _ (by omega) (by omega)
    have k1 : ∀ r (d : Fin 64), IsReal (P b r (1280 + 128 * ((n - 256) / 128) + d.val)) := fun _ _ => hP _ _ _ (by omega) (by omega)
    have k2 : ∀ r (d : Fin 64), IsReal (P b r (1344 + 128 * ((n - 256) / 128) + d.val)) := fun _ _ => hP _ _ _ (by omega) (by omega)
    unfold dfK dfR
    rw [sc_eq q1 k1, sc_eq q2 k2]
    exact congrArg (fun o => normed o g _) (funext fun j =>
      two_eq (scR_real q1 k1) (scR_real q2 k2) (fun n => hP _ _ _ (by omega) (by omega)) hl)

end Cert.Prompt

end
-- ==== Proof.PromptBlocks.lean ====
/- The prompt attention's call: its payloads at an entry, the blocks it reads, and its result array. Grid point `t` is prompt `t`; its
   three blocks of tokens are the columns 0 … 767, 768 … 1535 and 1536 … 2303. -/
module

public import proofs.«01_k».proof.Proof.Gen.Kernel5Ideal.Value
public import proofs.«01_k».proof.Proof.PromptTerms
public import Idealize.ShloMosaic.Lib.Pipeline.ValueKit
public import Idealize.ShloMosaic.Lib.Pipeline.ValueKit.Held

@[expose] public section

set_option maxRecDepth 16384

noncomputable section

namespace Cert.Kernel5Ideal.Value

open Cert.Kernel5Ideal Cert.Kernel5Ideal.Gen Idealize.ShloMosaic Idealize.ShloMosaic.TcCoe Idealize.SL.Sem
open Idealize.ShloMosaic.Pipeline (Dat)
open Cert.Prompt
open Cert.Attn (normed lamOf)

variable (m : (ℓ : Loc nD τ sig) → Buf (Elt Ideal) ℓ)

/-- A row's scores against the keys, the query scaled first. -/
def sV (q k : Vec Ideal S256x64 .bf16) (r n : Fin 256) : EReal :=
  ∑ d : Fin 64, (q (ix2 r d) * Ideal.ofBits FTy.bf16 0x3E00#16) * k (ix2 n d)

/-- The plain heads' payloads. -/
theorem na0_at (q k v : Vec Ideal S256x64 .bf16) (r : Fin 256) (j : Fin 64) :
    k0_pay7 v (k0_pay5 q k) (k0_pay6 q k) (constant S256x64 .f32 0x00000000#32) (ix2 r j) = oneK (sV q k r) fun n => v (ix2 n j) := by
  pointwise [k0_pay7, k0_pay5, k0_pay6, k0_pay4, oneK, wt, sV]
theorem na1_at (q k v : Vec Ideal S256x64 .bf16) (r : Fin 256) (j : Fin 64) :
    k0_pay8 q k v (ix2 r j) = oneK (sV q k r) fun n => v (ix2 n j) := by
  pointwise [k0_pay8, oneK, wt, sV]
theorem na2_at (q k v : Vec Ideal S256x64 .bf16) (r : Fin 256) (j : Fin 64) :
    k0_pay10 (k0_pay9 q) k v (constant S256x256 .f32 0x00000000#32) (ix2 r j) = oneK (sV q k r) fun n => v (ix2 n j) := by
  pointwise [k0_pay10, k0_pay9, oneK, wt, sV]
theorem na3_at (q k v : Vec Ideal S256x64 .bf16) (r : Fin 256) (j : Fin 64) :
    k0_pay11 q k v (ix2 r j) = oneK (sV q k r) fun n => v (ix2 n j) := by
  pointwise [k0_pay11, oneK, wt, sV]

/-- The second map's weight. -/
theorem lam_at (a b c d : Vec Ideal S1x64 .f32) : k0_pay2 a b c d (ix2 0 0)
    = lamOf (fun i => a (ix2 0 i)) (fun i => b (ix2 0 i)) (fun i => c (ix2 0 i)) (fun i => d (ix2 0 i)) := by
  pointwise [k0_pay2, lamOf]

/-- A differential head's row. -/
def dV (q1 q2 k1 k2 : Vec Ideal S256x64 .bf16) (v : Vec Ideal S256x128 .bf16) (lam : FVec Ideal S1x1 .f32) (g : Vec Ideal S1x128 .f32) (r : Fin 256) (j : Fin 128) : EReal :=
  normed (fun j => twoK (sV q1 k1 r) (sV q2 k2 r) (fun n => v (ix2 n j)) (lam (ix2 0 0))) (fun j => g (ix2 0 j)) j

/-- The differential heads' payloads. -/
theorem df0_at (q1 q2 k1 k2 : Vec Ideal S256x64 .bf16) (v : Vec Ideal S256x128 .bf16) (lam : FVec Ideal S1x1 .f32) (g : Vec Ideal S1x128 .f32) (r : Fin 256) (j : Fin 128) :
    k0_pay14 (k0_pay3 g) (k0_pay12 q1 k1 v) (k0_pay13 lam q2 k2 v) (ix2 r j) = dV q1 q2 k1 k2 v lam g r j := by
  pointwise [k0_pay14, k0_pay3, k0_pay12, k0_pay13, dV, normed, twoK, wt, sV]
theorem df1_at (q1 q2 k1 k2 : Vec Ideal S256x64 .bf16) (v : Vec Ideal S256x128 .bf16) (lam : FVec Ideal S1x1 .f32) (g : Vec Ideal S1x128 .f32) (r : Fin 256) (j : Fin 128) :
    k0_pay19 lam (k0_pay3 g) v (k0_pay15 q1 k1) (k0_pay16 q1 k1) (k0_pay17 q2 k2) (k0_pay18 q2 k2) (ix2 r j) = dV q1 q2 k1 k2 v lam g r j := by
  pointwise [k0_pay19, k0_pay3, k0_pay15, k0_pay16, k0_pay17, k0_pay18, dV, normed, twoK, wt, sV]
theorem df2_at (q1 q2 k1 k2 : Vec Ideal S256x64 .bf16) (v : Vec Ideal S256x128 .bf16) (lam : FVec Ideal S1x1 .f32) (g : Vec Ideal S1x128 .f32) (r : Fin 256) (j : Fin 128) :
    k0_pay25 (k0_pay3 g) (k0_pay22 lam (k0_pay20 q1) q2 k0_pay21 k1 k2 v) (k0_pay23 lam (k0_pay20 q1) q2 k0_pay21 k1 k2 v) k0_pay24 (ix2 r j) = dV q1 q2 k1 k2 v lam g r j := by
  pointwise [k0_pay25, k0_pay3, k0_pay22, k0_pay23, k0_pay20, k0_pay21, k0_pay24, dV, normed, twoK, wt, sV]
theorem df3_at (q1 q2 k1 k2 : Vec Ideal S256x64 .bf16) (v : Vec Ideal S256x128 .bf16) (lam : FVec Ideal S1x1 .f32) (g : Vec Ideal S1x128 .f32) (r : Fin 256) (j : Fin 128) :
    k0_pay1 lam (k0_pay3 g) v (k0_pay27 q1 k1) (k0_pay28 q2 k2) (k0_pay29 q2 k2) (k0_pay30 q1 k1 v) (ix2 r j) = dV q1 q2 k1 k2 v lam g r j := by
  pointwise [k0_pay1, k0_pay3, k0_pay26, k0_pay27, k0_pay28, k0_pay29, k0_pay30, dV, normed, twoK, wt, sV]

/-- The block index of every window at every grid point, decided over the 32 points. -/
theorem idx : ∀ t : Fin cfg0.N,
    win0_0.index t = ![t.val, 0] ∧ win0_1.index t = ![t.val, 1] ∧ win0_2.index t = ![t.val, 2]
    ∧ win0_3.index t = ![0, 0] ∧ win0_4.index t = ![0, 0] ∧ win0_5.index t = ![0, 0] ∧ win0_6.index t = ![0, 0] ∧ win0_7.index t = ![0, 0]
    ∧ win0_8.index t = ![t.val, 0] :=
  (by decide +kernel : ∀ t : Fin grid0.N, _)

theorem point_lt (t : Fin cfg0.N) : t.val < 32 := lt_of_lt_of_eq t.isLt N_0
/-- The prompt of a grid point. -/
def prompt (t : Fin cfg0.N) : Fin 32 := ⟨t.val, point_lt t⟩

/-- The projected tokens by prompt, row and column; the four vectors of the second weight and the norm's gain, of layer 0. -/
def pIn (c : Dev nD) (b : Fin 32) (r : Fin 256) (k : ℕ) : EReal :=
  (m ((c : Thread nD τ).loc main_arg0) : FVec Ideal S12288x3072 .bf16) (ix2 ⟨b.val * 256 + r.val, by omega⟩ ⟨k % 3072, Nat.mod_lt _ (by omega)⟩)
def a1In (c : Dev nD) (i : Fin 64) : EReal := (m ((c : Thread nD τ).loc main_arg1) : FVec Ideal S2x64 .f32) (ix2 0 i)
def a2In (c : Dev nD) (i : Fin 64) : EReal := (m ((c : Thread nD τ).loc main_arg2) : FVec Ideal S2x64 .f32) (ix2 0 i)
def a3In (c : Dev nD) (i : Fin 64) : EReal := (m ((c : Thread nD τ).loc main_arg3) : FVec Ideal S2x64 .f32) (ix2 0 i)
def a4In (c : Dev nD) (i : Fin 64) : EReal := (m ((c : Thread nD τ).loc main_arg4) : FVec Ideal S2x64 .f32) (ix2 0 i)
def gIn (c : Dev nD) (i : Fin 128) : EReal := (m ((c : Thread nD τ).loc main_arg5) : FVec Ideal S2x128 .f32) (ix2 0 i)
/-- The second map's weight. -/
def lamIn (c : Dev nD) : EReal := lamOf (a1In m c) (a2In m c) (a3In m c) (a4In m c)

theorem blk0 (c : Dev nD) (t : Fin cfg0.N) (r : Fin 256) (k : Fin 768) :
    (iblk m c 0 t : FVec Ideal S256x768 .bf16) (ix2 r k) = pIn m c (prompt t) r k.val := by
  have ht := point_lt t
  unfold pIn prompt
  blk_ext [iblk, V, idx t]
theorem blk1 (c : Dev nD) (t : Fin cfg0.N) (r : Fin 256) (k : Fin 768) :
    (iblk m c 1 t : FVec Ideal S256x768 .bf16) (ix2 r k) = pIn m c (prompt t) r (768 + k.val) := by
  have ht := point_lt t
  unfold pIn prompt
  blk_ext [iblk, V, idx t]
theorem blk2 (c : Dev nD) (t : Fin cfg0.N) (r : Fin 256) (k : Fin 768) :
    (iblk m c 2 t : FVec Ideal S256x768 .bf16) (ix2 r k) = pIn m c (prompt t) r (1536 + k.val) := by
  have ht := point_lt t
  unfold pIn prompt
  blk_ext [iblk, V, idx t]

theorem blk_a1 (c : Dev nD) (t : Fin cfg0.N) (i : Fin 64) : (iblk m c 3 t : FVec Ideal S1x64 .f32) (ix2 0 i) = a1In m c i := by
  refine Eq.trans (b := (V m c (Pipeline.arrRef spec0 3) : FVec Ideal S1x64 .f32) (ix2 0 i)) ?_ ?_
  · blk_ext [iblk, idx t]
  · unfold V a1In
    simp only [hostOps0, List.flatten_cons, List.flatten_nil, List.append_nil, List.cons_append, List.nil_append]
    entry_read
    pointwise
theorem blk_a2 (c : Dev nD) (t : Fin cfg0.N) (i : Fin 64) : (iblk m c 4 t : FVec Ideal S1x64 .f32) (ix2 0 i) = a2In m c i := by
  refine Eq.trans (b := (V m c (Pipeline.arrRef spec0 4) : FVec Ideal S1x64 .f32) (ix2 0 i)) ?_ ?_
  · blk_ext [iblk, idx t]
  · unfold V a2In
    simp only [hostOps0, List.flatten_cons, List.flatten_nil, List.append_nil, List.cons_append, List.nil_append]
    entry_read
    pointwise
theorem blk_a3 (c : Dev nD) (t : Fin cfg0.N) (i : Fin 64) : (iblk m c 5 t : FVec Ideal S1x64 .f32) (ix2 0 i) = a3In m c i := by
  refine Eq.trans (b := (V m c (Pipeline.arrRef spec0 5) : FVec Ideal S1x64 .f32) (ix2 0 i)) ?_ ?_
  · blk_ext [iblk, idx t]
  · unfold V a3In
    simp only [hostOps0, List.flatten_cons, List.flatten_nil, List.append_nil, List.cons_append, List.nil_append]
    entry_read
    pointwise
theorem blk_a4 (c : Dev nD) (t : Fin cfg0.N) (i : Fin 64) : (iblk m c 6 t : FVec Ideal S1x64 .f32) (ix2 0 i) = a4In m c i := by
  refine Eq.trans (b := (V m c (Pipeline.arrRef spec0 6) : FVec Ideal S1x64 .f32) (ix2 0 i)) ?_ ?_
  · blk_ext [iblk, idx t]
  · unfold V a4In
    simp only [hostOps0, List.flatten_cons, List.flatten_nil, List.append_nil, List.cons_append, List.nil_append]
    entry_read
    pointwise
theorem blk_g (c : Dev nD) (t : Fin cfg0.N) (i : Fin 128) : (iblk m c 7 t : FVec Ideal S1x128 .f32) (ix2 0 i) = gIn m c i := by
  refine Eq.trans (b := (V m c (Pipeline.arrRef spec0 7) : FVec Ideal S1x128 .f32) (ix2 0 i)) ?_ ?_
  · blk_ext [iblk, idx t]
  · unfold V gIn
    simp only [hostOps0, List.flatten_cons, List.flatten_nil, List.append_nil, List.cons_append, List.nil_append]
    entry_read
    pointwise
theorem lam_in (c : Dev nD) (t : Fin cfg0.N) : k0_pay2 (iblk m c 3 t) (iblk m c 4 t) (iblk m c 5 t) (iblk m c 6 t) (ix2 0 0) = lamIn m c := by
  refine (lam_at _ _ _ _).trans ?_
  unfold lamIn
  simp only [blk_a1, blk_a2, blk_a3, blk_a4]

/-- A load of some columns of a block. -/
theorem ld_col {e : EltTy} (X : Vec Ideal S256x768 e) (a w : ℕ) (h : a + w ≤ 768) (inb) (r : Fin 256) (j : Fin w) :
    (View.ld (Val := Elt Ideal) (e' := e) X (Rect.unit (s := S256x768) ![0, a] ![256, w] inb)) (ix2 r j)
      = X (ix2 r ⟨a + j.val, by omega⟩) := by
  refine congrArg X ?_
  funext z; fin_cases z <;> refine Fin.ext ?_ <;> simp

/-- A plain head, its three operands loaded from the first block. -/
theorem na_row (c : Dev nD) (t : Fin cfg0.N) (h : ℕ) (a b d : ℕ) (ha : a + 64 ≤ 768) (hb : b + 64 ≤ 768) (hd : d + 64 ≤ 768) (ia ib id)
    (ea : a = 64 * h) (eb : b = 256 + 64 * h) (ed : d = 512 + 64 * h) (r : Fin 256) (j : Fin 64) :
    oneK (sV (View.ld (iblk m c 0 t) (Rect.unit ![0, a] ![256, 64] ia)) (View.ld (iblk m c 0 t) (Rect.unit ![0, b] ![256, 64] ib)) r)
        (fun n => (View.ld (iblk m c 0 t) (Rect.unit ![0, d] ![256, 64] id)) (ix2 n j))
      = naK (pIn m c) (prompt t) r h j.val := by
  subst ea eb ed
  unfold naK
  refine congrArg₂ oneK (funext fun n => ?_) (funext fun n => ?_)
  · unfold sV scK
    refine Finset.sum_congr rfl fun k _ => ?_
    rw [ld_col _ _ 64 ha, ld_col _ _ 64 hb, blk0, blk0]
  · rw [ld_col _ _ 64 hd, blk0]

/-- A differential head: its queries from the second block, its values from the third, its keys from either. -/
theorem df_row (c : Dev nD) (t : Fin cfg0.N) (h : ℕ) (q1 q2 k1 k2 : Vec Ideal S256x64 .bf16) (v : Vec Ideal S256x128 .bf16)
    (e1 : ∀ r d, q1 (ix2 r d) = pIn m c (prompt t) r (768 + 128 * h + d.val)) (e2 : ∀ r d, q2 (ix2 r d) = pIn m c (prompt t) r (832 + 128 * h + d.val))
    (f1 : ∀ r d, k1 (ix2 r d) = pIn m c (prompt t) r (1280 + 128 * h + d.val)) (f2 : ∀ r d, k2 (ix2 r d) = pIn m c (prompt t) r (1344 + 128 * h + d.val))
    (ev : ∀ r d, v (ix2 r d) = pIn m c (prompt t) r (1792 + 128 * h + d.val)) (r : Fin 256) (j : Fin 128) :
    dV q1 q2 k1 k2 v (k0_pay2 (iblk m c 3 t) (iblk m c 4 t) (iblk m c 5 t) (iblk m c 6 t)) (iblk m c 7 t) r j
      = dfK (pIn m c) (lamIn m c) (gIn m c) (prompt t) r h j := by
  have s1 : sV q1 k1 r = scK (pIn m c) (prompt t) r (768 + 128 * h) (1280 + 128 * h) := by
    funext n
    unfold sV scK
    simp only [e1, f1]
  have s2 : sV q2 k2 r = scK (pIn m c) (prompt t) r (832 + 128 * h) (1344 + 128 * h) := by
    funext n
    unfold sV scK
    simp only [e2, f2]
  unfold dV dfK
  rw [s1, s2, lam_in]
  simp only [ev, blk_g]

/-- Columns of the second and of the third block. -/
theorem col1 (c : Dev nD) (t : Fin cfg0.N) (a w k : ℕ) (h : a + w ≤ 768) (inb) (e : 768 + a = k) (r : Fin 256) (j : Fin w) :
    (View.ld (iblk m c 1 t) (Rect.unit (s := S256x768) ![0, a] ![256, w] inb)) (ix2 r j) = pIn m c (prompt t) r (k + j.val) := by
  subst e
  rw [ld_col _ _ w h, blk1]
  exact congrArg (pIn m c (prompt t) r) (Nat.add_assoc _ _ _).symm
theorem col2 (c : Dev nD) (t : Fin cfg0.N) (a w k : ℕ) (h : a + w ≤ 768) (inb) (e : 1536 + a = k) (r : Fin 256) (j : Fin w) :
    (View.ld (iblk m c 2 t) (Rect.unit (s := S256x768) ![0, a] ![256, w] inb)) (ix2 r j) = pIn m c (prompt t) r (k + j.val) := by
  subst e
  rw [ld_col _ _ w h, blk2]
  exact congrArg (pIn m c (prompt t) r) (Nat.add_assoc _ _ _).symm

/-- The entry of a plain head's columns, and of a differential head's. -/
theorem outK_na (P : Fin 32 → Fin 256 → ℕ → EReal) (lam : EReal) (g : Fin 128 → EReal) (b : Fin 32) (r : Fin 256) (h j n : ℕ) (hh : h < 4) (hj : j < 64)
    (e : n = 64 * h + j) : outK P lam g b r n = naK P b r h j := by
  subst e
  unfold outK
  rw [if_pos (by omega), show (64 * h + j) / 64 = h by omega, show (64 * h + j) % 64 = j by omega]
theorem outK_df (P : Fin 32 → Fin 256 → ℕ → EReal) (lam : EReal) (g : Fin 128 → EReal) (b : Fin 32) (r : Fin 256) (h n : ℕ) (j : Fin 128)
    (e : n = 256 + 128 * h + j.val) : outK P lam g b r n = dfK P lam g b r h j := by
  subst e
  unfold outK
  rw [if_neg (by omega), show (256 + 128 * h + j.val - 256) / 128 = h by omega]
  exact congrArg (dfK P lam g b r h) (Fin.ext (by show (256 + 128 * h + j.val - 256) % 128 = j.val; omega))

/-- A block of the result: the eight heads' columns. -/
theorem block_at (c : Dev nD) (t : Fin cfg0.N) (r : Fin 256) (n : Fin 768) :
    (outsAt0 m c t : FVec Ideal S256x768 .bf16) (ix2 r n) = outK (pIn m c) (lamIn m c) (gIn m c) (prompt t) r n.val := by
  unfold outsAt0
  frame_out
  canon_tiles x hh using (View.cover_of_tiledBy _ ![256, 64] (by sl_kernel_rfl) _)
  all_goals idx_vars x
  all_goals rw [show r = x0 from Fin.ext hh0]
  · rw [outK_df _ _ _ _ _ 3 _ x1 (by omega)]
    refine (df3_at _ _ _ _ _ _ _ x0 x1).trans (df_row m c t 3 _ _ _ _ _ (fun r d => ?_) (fun r d => ?_) (fun r d => ?_) (fun r d => ?_) (fun r d => ?_) x0 x1)
    · exact col1 m c t 384 64 _ (by omega) _ rfl r d
    · exact col1 m c t 448 64 _ (by omega) _ rfl r d
    · exact col2 m c t 128 64 _ (by omega) _ rfl r d
    · exact col2 m c t 192 64 _ (by omega) _ rfl r d
    · exact col2 m c t 640 128 _ (by omega) _ rfl r d
  · rw [outK_df _ _ _ _ _ 2 _ x1 (by omega)]
    refine (df2_at _ _ _ _ _ _ _ x0 x1).trans (df_row m c t 2 _ _ _ _ _ (fun r d => ?_) (fun r d => ?_) (fun r d => ?_) (fun r d => ?_) (fun r d => ?_) x0 x1)
    · exact col1 m c t 256 64 _ (by omega) _ rfl r d
    · exact col1 m c t 320 64 _ (by omega) _ rfl r d
    · exact col2 m c t 0 64 _ (by omega) _ rfl r d
    · exact col2 m c t 64 64 _ (by omega) _ rfl r d
    · exact col2 m c t 512 128 _ (by omega) _ rfl r d
  · rw [outK_df _ _ _ _ _ 1 _ x1 (by omega)]
    refine (df1_at _ _ _ _ _ _ _ x0 x1).trans (df_row m c t 1 _ _ _ _ _ (fun r d => ?_) (fun r d => ?_) (fun r d => ?_) (fun r d => ?_) (fun r d => ?_) x0 x1)
    · exact col1 m c t 128 64 _ (by omega) _ rfl r d
    · exact col1 m c t 192 64 _ (by omega) _ rfl r d
    · exact col1 m c t 640 64 _ (by omega) _ rfl r d
    · exact col1 m c t 704 64 _ (by omega) _ rfl r d
    · exact col2 m c t 384 128 _ (by omega) _ rfl r d
  · rw [outK_df _ _ _ _ _ 0 _ x1 (by omega)]
    refine (df0_at _ _ _ _ _ _ _ x0 x1).trans (df_row m c t 0 _ _ _ _ _ (fun r d => ?_) (fun r d => ?_) (fun r d => ?_) (fun r d => ?_) (fun r d => ?_) x0 x1)
    · exact col1 m c t 0 64 _ (by omega) _ rfl r d
    · exact col1 m c t 64 64 _ (by omega) _ rfl r d
    · exact col1 m c t 512 64 _ (by omega) _ rfl r d
    · exact col1 m c t 576 64 _ (by omega) _ rfl r d
    · exact col2 m c t 256 128 _ (by omega) _ rfl r d
  · rw [outK_na _ _ _ _ _ 3 x1.val _ (by omega) x1.isLt (by omega)]
    exact (na3_at _ _ _ x0 x1).trans (na_row m c t 3 192 448 704 (by omega) (by omega) (by omega) _ _ _ rfl rfl rfl x0 x1)
  · rw [outK_na _ _ _ _ _ 2 x1.val _ (by omega) x1.isLt (by omega)]
    exact (na2_at _ _ _ x0 x1).trans (na_row m c t 2 128 384 640 (by omega) (by omega) (by omega) _ _ _ rfl rfl rfl x0 x1)
  · rw [outK_na _ _ _ _ _ 1 x1.val _ (by omega) x1.isLt (by omega)]
    exact (na1_at _ _ _ x0 x1).trans (na_row m c t 1 64 320 576 (by omega) (by omega) (by omega) _ _ _ rfl rfl rfl x0 x1)
  · rw [outK_na _ _ _ _ _ 0 x1.val _ (by omega) x1.isLt (by omega)]
    exact (na0_at _ _ _ x0 x1).trans (na_row m c t 0 0 256 512 (by omega) (by omega) (by omega) _ _ _ rfl rfl rfl x0 x1)

/-- The whole result. -/
def outArr (c : Dev nD) : FVec Ideal S8192x768 .bf16 := fun y =>
  outK (pIn m c) (lamIn m c) (gIn m c) ⟨(y 0).val / 256, Nat.div_lt_of_lt_mul (y 0).isLt⟩ ⟨(y 0).val % 256, Nat.mod_lt _ (by omega)⟩ (y 1).val

/-- The result array when every point has flushed. -/
theorem arr_out (c : Dev nD) : (dats m 0 c).arrAt 8 cfg0.N = outArr m c := by
  refine (dats m 0 c).arrAt_eq_of_covers 8 (outArr m c) (by decide +kernel) fun t hf y => ?_
  blk_simp
  rw [after0_8]
  idx_vars y
  have ht := point_lt t
  have e : ((View.whole main_v15).slice (win0_8.rect t)).emb (ix2 y0 y1)
      = (ix2 ⟨t.val * 256 + y0.val, by omega⟩ ⟨y1.val, by omega⟩ : S8192x768.Idx) := by
    blk_ext [idx t]
  rw [e]
  refine (block_at m c t y0 y1).trans ?_
  show _ = outK _ _ _ (⟨(t.val * 256 + y0.val) / 256, _⟩ : Fin 32) (⟨(t.val * 256 + y0.val) % 256, _⟩ : Fin 256) y1.val
  rw [show prompt t = (⟨(t.val * 256 + y0.val) / 256, by omega⟩ : Fin 32) from Fin.ext (by show t.val = (t.val * 256 + y0.val) / 256; omega)]
  exact congrArg (fun z => outK _ _ _ _ z _) (Fin.ext (by show y0.val = (t.val * 256 + y0.val) % 256; omega))

end Cert.Kernel5Ideal.Value

end
-- ==== Proof.PromptRef.lean ====
/- The prompt's attention: the reference's result at an entry. -/
module

public import proofs.«01_k».proof.Proof.PromptTerms
public import proofs.«01_k».proof.Proof.Gen.Reference5Ideal.Read
public import Idealize.ShloMosaic.Lib.Pointwise

@[expose] public section

set_option maxRecDepth 16384

noncomputable section

namespace Cert.Reference5Ideal.Read

open Cert.Reference5Ideal Cert.Reference5Ideal.Gen Idealize.ShloMosaic Idealize.ShloMosaic.TcCoe Idealize.SL.Sem Cert.Attn Cert.Prompt

variable (x0 : FVec Ideal S12288x3072 .bf16) (x1 x2 x3 x4 : FVec Ideal S2x64 .f32) (x5 : FVec Ideal S2x128 .f32)

/-- The projected tokens by prompt, row and column. -/
def pOf (b : Fin 32) (r : Fin 256) (k : ℕ) : EReal := x0 (ix2 ⟨b.val * 256 + r.val, by omega⟩ ⟨k % 3072, Nat.mod_lt _ (by omega)⟩)
/-- The second map's weight. -/
def lamO : EReal := lamOf (fun k => x1 (ix2 0 k)) (fun k => x2 (ix2 0 k)) (fun k => x3 (ix2 0 k)) (fun k => x4 (ix2 0 k))

theorem tok_at (b : Fin 32) (r : Fin 256) (k : Fin 3072) : val_main_v2 (F := Ideal) x0 (ix3 b r k) = pOf x0 b r k.val := by
  rw [val_main_v2_apply, val_main_v1_apply, val_main_v0_apply]
  refine congrArg x0 ?_
  have hb := b.isLt; have hr := r.isLt; have hk := k.isLt
  funext a; fin_cases a <;> refine Fin.ext ?_ <;> simp <;> omega

/-- Queries, keys and values of the plain heads. -/
theorem naq_at (b : Fin 32) (h : Fin 4) (r : Fin 256) (d : Fin 64) : val_main_v5 (F := Ideal) x0 (ix4 b h r d) = pOf x0 b r (64 * h.val + d.val) := by
  rw [val_main_v5_apply, val_main_v4_apply, val_main_v3_apply]
  have e : idx_main_v3 (idx_main_v4 (idx_main_v5 (ix4 b h r d))) = ix3 b r ⟨64 * h.val + d.val, by omega⟩ := by
    have hb := b.isLt; have hr := r.isLt; have hh := h.isLt; have hd := d.isLt
    funext a; fin_cases a <;> refine Fin.ext ?_ <;> simp <;> omega
  rw [e, tok_at]
theorem nak_at (b : Fin 32) (h : Fin 4) (r : Fin 256) (d : Fin 64) : val_main_v8 (F := Ideal) x0 (ix4 b h r d) = pOf x0 b r (256 + 64 * h.val + d.val) := by
  rw [val_main_v8_apply, val_main_v7_apply, val_main_v6_apply]
  have e : idx_main_v6 (idx_main_v7 (idx_main_v8 (ix4 b h r d))) = ix3 b r ⟨256 + 64 * h.val + d.val, by omega⟩ := by
    have hb := b.isLt; have hr := r.isLt; have hh := h.isLt; have hd := d.isLt
    funext a; fin_cases a <;> refine Fin.ext ?_ <;> simp <;> omega
  rw [e, tok_at]
theorem nav_at (b : Fin 32) (h : Fin 4) (r : Fin 256) (d : Fin 64) : val_main_v11 (F := Ideal) x0 (ix4 b h r d) = pOf x0 b r (512 + 64 * h.val + d.val) := by
  rw [val_main_v11_apply, val_main_v10_apply, val_main_v9_apply]
  have e : idx_main_v9 (idx_main_v10 (idx_main_v11 (ix4 b h r d))) = ix3 b r ⟨512 + 64 * h.val + d.val, by omega⟩ := by
    have hb := b.isLt; have hr := r.isLt; have hh := h.isLt; have hd := d.isLt
    funext a; fin_cases a <;> refine Fin.ext ?_ <;> simp <;> omega
  rw [e, tok_at]
/-- Queries, keys and values of the differential heads. -/
theorem dq_at (b : Fin 32) (h : Fin 4) (i : Fin 2) (r : Fin 256) (d : Fin 64) :
    val_main_v14 (F := Ideal) x0 (ix5 b h i r d) = pOf x0 b r (768 + 64 * i.val + 128 * h.val + d.val) := by
  rw [val_main_v14_apply, val_main_v13_apply, val_main_v12_apply]
  have e : idx_main_v12 (idx_main_v13 (idx_main_v14 (ix5 b h i r d))) = ix3 b r ⟨768 + 64 * i.val + 128 * h.val + d.val, by omega⟩ := by
    have hb := b.isLt; have hr := r.isLt; have hh := h.isLt; have hd := d.isLt; have hi := i.isLt
    funext a; fin_cases a <;> refine Fin.ext ?_ <;> simp <;> omega
  rw [e, tok_at]
theorem dk_at (b : Fin 32) (h : Fin 4) (i : Fin 2) (r : Fin 256) (d : Fin 64) :
    val_main_v17 (F := Ideal) x0 (ix5 b h i r d) = pOf x0 b r (1280 + 64 * i.val + 128 * h.val + d.val) := by
  rw [val_main_v17_apply, val_main_v16_apply, val_main_v15_apply]
  have e : idx_main_v15 (idx_main_v16 (idx_main_v17 (ix5 b h i r d))) = ix3 b r ⟨1280 + 64 * i.val + 128 * h.val + d.val, by omega⟩ := by
    have hb := b.isLt; have hr := r.isLt; have hh := h.isLt; have hd := d.isLt; have hi := i.isLt
    funext a; fin_cases a <;> refine Fin.ext ?_ <;> simp <;> omega
  rw [e, tok_at]
theorem dv_at (b : Fin 32) (h : Fin 4) (r : Fin 256) (d : Fin 128) : val_main_v20 (F := Ideal) x0 (ix4 b h r d) = pOf x0 b r (1792 + 128 * h.val + d.val) := by
  rw [val_main_v20_apply, val_main_v19_apply, val_main_v18_apply]
  have e : idx_main_v18 (idx_main_v19 (idx_main_v20 (ix4 b h r d))) = ix3 b r ⟨1792 + 128 * h.val + d.val, by omega⟩ := by
    have hb := b.isLt; have hr := r.isLt; have hh := h.isLt; have hd := d.isLt
    funext a; fin_cases a <;> refine Fin.ext ?_ <;> simp <;> omega
  rw [e, tok_at]

/-- The plain heads' scores. -/
theorem nas_at (b : Fin 32) (h : Fin 4) (r n : Fin 256) : val_main_v23 (F := Ideal) x0 (ix4 b h r n)
    = scR (pOf x0) b r (64 * h.val) (256 + 64 * h.val) n := by
  unfold scR
  rw [val_main_v23_apply, val_main_v22_apply, val_main_v21_apply, val_main_cst_apply]
  have el : ∀ d : Fin 64, lidx_main_v21 (ix4 b h r n) d = ix4 b h r d := fun d => by
    funext a; fin_cases a <;> rfl
  have er : ∀ d : Fin 64, ridx_main_v21 (ix4 b h r n) d = ix4 b h n d := fun d => by
    funext a; fin_cases a <;> rfl
  simp only [el, er, naq_at, nak_at]
  rfl

/-- The greatest score of a row. -/
theorem natop_at (b : Fin 32) (h : Fin 4) (r : Fin 256) : val_main_v24 (F := Ideal) x0 (ix3 b h r) =
    Finset.univ.fold max (Ideal.ofBits FTy.f32 0xFF800000#32) (fun n => val_main_v23 (F := Ideal) x0 (ix4 b h r n)) := by
  unfold val_main_v24
  generalize val_main_v23 (F := Ideal) x0 = y
  pointwise [val_main_cst_0]

/-- The exponential weights. -/
theorem nawt_at (b : Fin 32) (h : Fin 4) (r n : Fin 256) : val_main_v30 (F := Ideal) x0 (ix4 b h r n) =
    wt (scR (pOf x0) b r (64 * h.val) (256 + 64 * h.val)) n := by
  have hb : Ideal.ofBits FTy.f32 0xFF800000#32 = ⊥ := by simp [Ideal.ofBits, Ideal.ieee]
  rw [val_main_v30_apply, val_main_v29_apply, val_main_v28_apply, val_main_v27_apply, val_main_v26_apply, val_main_v25_apply, val_main_cst_1_apply]
  have e : idx_main_v27 (idx_main_v28 (ix4 b h r n)) = ix3 b h r := by
    funext a; fin_cases a <;> rfl
  rw [e, natop_at]
  simp only [nas_at]
  show Ideal.exp (_ - max (Ideal.ofBits FTy.f32 0xFF800000#32) _) = _
  rw [max_eq_right (by rw [hb]; exact bot_le)]
  rfl

/-- The divided weights. -/
theorem nasoft_at (b : Fin 32) (h : Fin 4) (r n : Fin 256) : val_main_v34 (F := Ideal) x0 (ix4 b h r n) =
    Ideal.div (wt (scR (pOf x0) b r (64 * h.val) (256 + 64 * h.val)) n) (∑ n, wt (scR (pOf x0) b r (64 * h.val) (256 + 64 * h.val)) n) := by
  rw [val_main_v34_apply, val_main_v33_apply, val_main_v32_apply, val_main_v31_apply, val_main_cst_2_apply]
  have e : ∀ k' : Fin 256, idx_main_v31 (idx_main_v32 (idx_main_v33 (ix4 b h r n))) k' = ix4 b h r k' := fun k' => by
    funext a; fin_cases a <;> rfl
  simp only [e, nawt_at]
  show Ideal.div _ (Ideal.ofBits FTy.f32 0#32 + _) = _
  rw [show Ideal.ofBits FTy.f32 0#32 = 0 by simp [Ideal.ofBits, Ideal.ieee], zero_add]

/-- A plain head. -/
theorem na_at (b : Fin 32) (h : Fin 4) (r : Fin 256) (j : Fin 64) : val_main_v35 (F := Ideal) x0 (ix4 b h r j) = naR (pOf x0) b r h.val j.val := by
  unfold naR oneR
  rw [val_main_v35_apply]
  have el : ∀ k : Fin 256, lidx_main_v35 (ix4 b h r j) k = ix4 b h r k := fun k => by
    funext a; fin_cases a <;> rfl
  have er : ∀ k : Fin 256, ridx_main_v35 (ix4 b h r j) k = ix4 b h k j := fun k => by
    funext a; fin_cases a <;> rfl
  simp only [el, er, nasoft_at, nav_at]

/-- The second map's weight. -/
theorem lam_at : val_main_v51 (F := Ideal) x1 x2 x3 x4 ix0 = lamO x1 x2 x3 x4 := by
  unfold lamO
  pointwise [lamOf, val_main_v36, val_main_v37, val_main_v38, val_main_v39, val_main_v40, val_main_v41, val_main_v42, val_main_v43, val_main_v44,
    val_main_v45, val_main_v46, val_main_v47, val_main_v48, val_main_v49, val_main_v50, val_main_v51, val_main_cst_3, val_main_cst_4, val_main_cst_5]

/-- The scores of map `i` of a differential head. -/
def ds (b : Fin 32) (h : Fin 4) (i : Fin 2) (r : Fin 256) : Fin 256 → EReal :=
  scR (pOf x0) b r (768 + 64 * i.val + 128 * h.val) (1280 + 64 * i.val + 128 * h.val)

theorem ds_at (b : Fin 32) (h : Fin 4) (i : Fin 2) (r n : Fin 256) : val_main_v54 (F := Ideal) x0 (ix5 b h i r n) = ds x0 b h i r n := by
  unfold ds scR
  rw [val_main_v54_apply, val_main_v53_apply, val_main_v52_apply, val_main_cst_6_apply]
  have el : ∀ d : Fin 64, lidx_main_v52 (ix5 b h i r n) d = ix5 b h i r d := fun d => by
    funext a; fin_cases a <;> rfl
  have er : ∀ d : Fin 64, ridx_main_v52 (ix5 b h i r n) d = ix5 b h i n d := fun d => by
    funext a; fin_cases a <;> rfl
  simp only [el, er, dq_at, dk_at]
  rfl

/-- The greatest score of a row. -/
theorem dtop_at (b : Fin 32) (h : Fin 4) (i : Fin 2) (r : Fin 256) : val_main_v55 (F := Ideal) x0 (ix4 b h i r) =
    Finset.univ.fold max (Ideal.ofBits FTy.f32 0xFF800000#32) (fun n => val_main_v54 (F := Ideal) x0 (ix5 b h i r n)) := by
  unfold val_main_v55
  generalize val_main_v54 (F := Ideal) x0 = y
  pointwise [val_main_cst_7]

/-- The exponential weights. -/
theorem dwt_at (b : Fin 32) (h : Fin 4) (i : Fin 2) (r n : Fin 256) : val_main_v61 (F := Ideal) x0 (ix5 b h i r n) = wt (ds x0 b h i r) n := by
  have hb : Ideal.ofBits FTy.f32 0xFF800000#32 = ⊥ := by simp [Ideal.ofBits, Ideal.ieee]
  rw [val_main_v61_apply, val_main_v60_apply, val_main_v59_apply, val_main_v58_apply, val_main_v57_apply, val_main_v56_apply, val_main_cst_8_apply]
  have e : idx_main_v58 (idx_main_v59 (ix5 b h i r n)) = ix4 b h i r := by
    funext a; fin_cases a <;> rfl
  rw [e, dtop_at]
  simp only [ds_at]
  show Ideal.exp (_ - max (Ideal.ofBits FTy.f32 0xFF800000#32) _) = _
  rw [max_eq_right (by rw [hb]; exact bot_le)]
  rfl

/-- The divided weights. -/
theorem dsoft_at (b : Fin 32) (h : Fin 4) (i : Fin 2) (r n : Fin 256) : val_main_v65 (F := Ideal) x0 (ix5 b h i r n) =
    Ideal.div (wt (ds x0 b h i r) n) (∑ n, wt (ds x0 b h i r) n) := by
  rw [val_main_v65_apply, val_main_v64_apply, val_main_v63_apply, val_main_v62_apply, val_main_cst_9_apply]
  have e : ∀ k' : Fin 256, idx_main_v62 (idx_main_v63 (idx_main_v64 (ix5 b h i r n))) k' = ix5 b h i r k' := fun k' => by
    funext a; fin_cases a <;> rfl
  simp only [e, dwt_at]
  show Ideal.div _ (Ideal.ofBits FTy.f32 0#32 + _) = _
  rw [show Ideal.ofBits FTy.f32 0#32 = 0 by simp [Ideal.ofBits, Ideal.ieee], zero_add]

/-- The difference of the two maps. -/
theorem diff_at (b : Fin 32) (h : Fin 4) (r n : Fin 256) : val_main_v72 (F := Ideal) x0 x1 x2 x3 x4 (ix4 b h r n) =
    Ideal.div (wt (ds x0 b h 0 r) n) (∑ n, wt (ds x0 b h 0 r) n) - lamO x1 x2 x3 x4 * Ideal.div (wt (ds x0 b h 1 r) n) (∑ n, wt (ds x0 b h 1 r) n) := by
  rw [val_main_v72_apply, val_main_v71_apply, val_main_v70_apply, val_main_v69_apply, val_main_v68_apply, val_main_v67_apply, val_main_v66_apply]
  have e0 : idx_main_v66 (idx_main_v67 (ix4 b h r n)) = ix5 b h 0 r n := by
    have hb := b.isLt; have hh := h.isLt; have hr := r.isLt; have hn := n.isLt
    funext a; fin_cases a <;> refine Fin.ext ?_ <;> simp <;> omega
  have e1 : idx_main_v68 (idx_main_v69 (ix4 b h r n)) = ix5 b h 1 r n := by
    have hb := b.isLt; have hh := h.isLt; have hr := r.isLt; have hn := n.isLt
    funext a; fin_cases a <;> refine Fin.ext ?_ <;> simp <;> omega
  have e2 : idx_main_v70 (ix4 b h r n) = ix0 := by
    funext a; exact a.elim0
  rw [e0, e1, e2, dsoft_at, dsoft_at, lam_at]
  rfl

/-- The weighted values. -/
theorem mix_at (b : Fin 32) (h : Fin 4) (r : Fin 256) (j : Fin 128) : val_main_v73 (F := Ideal) x0 x1 x2 x3 x4 (ix4 b h r j) =
    twoR (ds x0 b h 0 r) (ds x0 b h 1 r) (fun n => pOf x0 b n (1792 + 128 * h.val + j.val)) (lamO x1 x2 x3 x4) := by
  unfold twoR
  rw [val_main_v73_apply]
  have el : ∀ k : Fin 256, lidx_main_v73 (ix4 b h r j) k = ix4 b h r k := fun k => by
    funext a; fin_cases a <;> rfl
  have er : ∀ k : Fin 256, ridx_main_v73 (ix4 b h r j) k = ix4 b h k j := fun k => by
    funext a; fin_cases a <;> rfl
  simp only [el, er, diff_at, dv_at]

/-- The reciprocal root mean square of a row. -/
theorem scale_at (b : Fin 32) (h : Fin 4) (n : Fin 256) (j : Fin 128) (o : Fin 128 → EReal)
    (ho : ∀ x, val_main_v73 (F := Ideal) x0 x1 x2 x3 x4 (ix4 b h n x) = o x) : val_main_v82 (F := Ideal) x0 x1 x2 x3 x4 (ix4 b h n j) =
    Ideal.rsqrt (Ideal.div (∑ x, o x * o x) (Ideal.ofBits FTy.f32 0x43000000#32) + Ideal.ofBits FTy.f32 0x358637BD#32) := by
  have e : ∀ k : Fin 128, idx_main_v75 (idx_main_v76 (idx_main_v82 (ix4 b h n j))) k = ix4 b h n k := fun k => by
    funext a; fin_cases a <;> rfl
  have hs : val_main_v75 (F := Ideal) x0 x1 x2 x3 x4 (idx_main_v76 (idx_main_v82 (ix4 b h n j))) = ∑ x, o x * o x := by
    rw [val_main_v75_apply, val_main_cst_10_apply]
    refine (congrArg (fun z : EReal => z + _) (show Ideal.ofBits FTy.f32 0#32 = 0 by simp [Ideal.ofBits, Ideal.ieee])).trans ((zero_add _).trans ?_)
    refine Finset.sum_congr rfl fun k _ => ?_
    rw [e, val_main_v74_apply, ho]
    rfl
  rw [val_main_v82_apply, val_main_v81_apply, val_main_v80_apply, val_main_v79_apply, val_main_v78_apply, val_main_v77_apply,
    val_main_v76_apply, val_main_cst_12_apply, val_main_cst_11_apply, hs]
  rfl

/-- A differential head. -/
theorem df_at (b : Fin 32) (h : Fin 4) (n : Fin 256) (j : Fin 128) : val_main_v90 (F := Ideal) x0 x1 x2 x3 x4 x5 (ix4 b h n j) =
    dfR (pOf x0) (lamO x1 x2 x3 x4) (fun k => x5 (ix2 0 k)) b n h.val j := by
  have ho := fun x => mix_at x0 x1 x2 x3 x4 b h n x
  have eg : idx_main_v84 (idx_main_v85 (idx_main_v86 (idx_main_v87 (ix4 b h n j)))) = ix2 0 j := by
    have hj := j.isLt
    funext a; fin_cases a <;> refine Fin.ext ?_ <;> simp <;> omega
  rw [val_main_v90_apply, val_main_v89_apply, val_main_v88_apply, val_main_v87_apply, val_main_v86_apply, val_main_v85_apply, val_main_v84_apply,
    val_main_v83_apply, val_main_cst_13_apply, eg, scale_at x0 x1 x2 x3 x4 b h n j _ ho, ho]
  rfl

/-- The heads side by side. -/
theorem row_at (b : Fin 32) (r : Fin 256) (n : Fin 768) : val_main_v95 (F := Ideal) x0 x1 x2 x3 x4 x5 (ix3 b r n) =
    outR (pOf x0) (lamO x1 x2 x3 x4) (fun k => x5 (ix2 0 k)) b r n.val := by
  have hb := b.isLt; have hr := r.isLt; have hn := n.isLt
  unfold outR
  by_cases h : n.val < 256
  · rw [if_pos h]
    have ea : val_main_v95 (F := Ideal) x0 x1 x2 x3 x4 x5 (ix3 b r n) = val_main_v92 (F := Ideal) x0 (ix3 b r ⟨n.val, h⟩) := by
      unfold val_main_v95
      generalize val_main_v92 (F := Ideal) x0 = y
      generalize val_main_v94 (F := Ideal) x0 x1 x2 x3 x4 x5 = z
      pointwise
      exact dif_pos h
    rw [ea, val_main_v92_apply, val_main_v91_apply]
    have e : idx_main_v91 (idx_main_v92 (ix3 b r ⟨n.val, h⟩)) = ix4 b ⟨n.val / 64, by omega⟩ r ⟨n.val % 64, Nat.mod_lt _ (by omega)⟩ := by
      funext a; fin_cases a <;> refine Fin.ext ?_ <;> simp <;> omega
    rw [e, na_at]
  · rw [if_neg h]
    have ea : val_main_v95 (F := Ideal) x0 x1 x2 x3 x4 x5 (ix3 b r n) = val_main_v94 (F := Ideal) x0 x1 x2 x3 x4 x5 (ix3 b r ⟨n.val - 256, by omega⟩) := by
      unfold val_main_v95
      generalize val_main_v92 (F := Ideal) x0 = y
      generalize val_main_v94 (F := Ideal) x0 x1 x2 x3 x4 x5 = z
      pointwise
      exact dif_neg h
    rw [ea, val_main_v94_apply, val_main_v93_apply]
    have e : idx_main_v93 (idx_main_v94 (ix3 b r ⟨n.val - 256, by omega⟩))
        = ix4 b ⟨(n.val - 256) / 128, by omega⟩ r ⟨(n.val - 256) % 128, Nat.mod_lt _ (by omega)⟩ := by
      funext a; fin_cases a <;> refine Fin.ext ?_ <;> simp <;> omega
    rw [e, df_at]

/-- The reference's result array at a row and a column. -/
theorem out_at (r : Fin 8192) (n : Fin 768) : val_main_v97 (F := Ideal) x0 x1 x2 x3 x4 x5 (ix2 r n) =
    outR (pOf x0) (lamO x1 x2 x3 x4) (fun k => x5 (ix2 0 k)) ⟨r.val / 256, by omega⟩ ⟨r.val % 256, by omega⟩ n.val := by
  rw [val_main_v97_apply, val_main_v96_apply]
  have e : idx_main_v96 (ix2 r n) = ix3 ⟨r.val / 256, by omega⟩ ⟨r.val % 256, by omega⟩ n := by
    have hr := r.isLt; have hn := n.isLt
    funext a; fin_cases a <;> refine Fin.ext ?_ <;> simp <;> omega
  rw [e]
  exact row_at x0 x1 x2 x3 x4 x5 _ _ _

end Cert.Reference5Ideal.Read

end
-- ==== Proof.PromptFinal.lean ====
/- The prompt's attention: what the kernel leaves is what the reference returns, over the extended reals. -/
module

public import proofs.«01_k».proof.Proof.PromptBlocks
public import proofs.«01_k».proof.Proof.PromptRef
public import proofs.«01_k».proof.Proof.Pre
public import proofs.«01_k».proof.Pre_finite_prompt
public import proofs.«01_k».proof.Proof.Gen.Reference5Ideal.Run

@[expose] public section

set_option maxRecDepth 16384

noncomputable section

namespace Cert.Prompt

open Cert.Pre_finite_prompt Idealize.ShloMosaic Idealize.ShloMosaic.TcCoe Idealize.SL.Sem Cert.Attn

/-- One array's test, read at an entry. -/
theorem real_all {s : Shape} {axes : List (Fin s.rank)} (x : FVec Ideal s .f32) (hb : S_.BroadcastsInDim s (![] : Fin 0 → Fin s.rank))
    (hr : s.ReducesTo axes S_) (hu : 0 < S_.numel) (j : S_.Idx)
    (h : Host.reduce IntOp.andi (cmpf .olt (Host.absf x) (broadcastInDim s ![] hb (constant S_ .f32 0x7F800000#32))) (constantI S_ 1 1#1) hr hu j = 1#1)
    (i : s.Idx) : IsReal (x i) :=
  real_of_test x hb i (Host.reduce_andi_all _ _ _ _ j h i)

/-- The precondition's meaning: real are the prompt's queries and keys, the differential heads' values, and the first layer's four vectors of the
second weight. -/
theorem real_of_prompt [Facts] (x0 : FVec Ideal S12288x3072 .bf16) (x1 x2 x3 x4 : FVec Ideal S2x64 .f32) (x5 : FVec Ideal S2x128 .f32)
    (h : fn (F := Ideal) x0 x1 x2 x3 x4 x5 = fun _ => 1#1) :
    (∀ (i : Fin 12288) (j : Fin 3072), i.val < 8192 → j.val < 512 → IsReal (x0 (ix2 i j)))
      ∧ (∀ (i : Fin 12288) (j : Fin 3072), i.val < 8192 → 768 ≤ j.val → j.val < 2304 → IsReal (x0 (ix2 i j)))
      ∧ (∀ j : Fin 64, IsReal (x1 (ix2 0 j))) ∧ (∀ j : Fin 64, IsReal (x2 (ix2 0 j))) ∧ (∀ j : Fin 64, IsReal (x3 (ix2 0 j)))
      ∧ (∀ j : Fin 64, IsReal (x4 (ix2 0 j))) := by
  have h := congrFun h (fun a => a.elim0)
  obtain ⟨h, r4⟩ := IntOp.andi_eq_one.1 h
  obtain ⟨h, r3⟩ := IntOp.andi_eq_one.1 h
  obtain ⟨h, r2⟩ := IntOp.andi_eq_one.1 h
  obtain ⟨h, r1⟩ := IntOp.andi_eq_one.1 h
  obtain ⟨ra, rb⟩ := IntOp.andi_eq_one.1 h
  clear * - ra rb r1 r2 r3 r4
  beta_reduce at ra rb r1 r2 r3 r4
  replace ra := real_all _ _ _ _ _ ra
  replace rb := real_all _ _ _ _ _ rb
  replace r1 := real_all _ _ _ _ _ r1
  replace r2 := real_all _ _ _ _ _ r2
  replace r3 := real_all _ _ _ _ _ r3
  replace r4 := real_all _ _ _ _ _ r4
  refine ⟨fun i j hi h1 => ?_, fun i j hi h0 h1 => ?_, fun j => ?_, fun j => ?_, fun j => ?_, fun j => ?_⟩
  · have e : extractStridedSlice S8192x512 ![0, 0] x0 Facts.slices_S12288x3072_S8192x512_0_0 (ix2 ⟨i.val, hi⟩ ⟨j.val, h1⟩) = x0 (ix2 i j) := by
      refine congrArg x0 ?_
      funext a; fin_cases a <;> refine Fin.ext ?_ <;> simp
    refine Eq.mp (congrArg IsReal e) ?_
    exact ra (ix2 ⟨i.val, hi⟩ ⟨j.val, h1⟩)
  · have e : extractStridedSlice S8192x1536 ![0, 768] x0 Facts.slices_S12288x3072_S8192x1536_0_768 (ix2 ⟨i.val, hi⟩ ⟨j.val - 768, by omega⟩)
        = x0 (ix2 i j) := by
      refine congrArg x0 ?_
      funext a; fin_cases a
      · refine Fin.ext ?_; simp
      · refine Fin.ext ?_; simp; omega
    refine Eq.mp (congrArg IsReal e) ?_
    exact rb (ix2 ⟨i.val, hi⟩ ⟨j.val - 768, by omega⟩)
  · have e : extractStridedSlice S1x64 ![0, 0] x1 Facts.slices_S2x64_S1x64_0_0 (ix2 0 j) = x1 (ix2 0 j) := by
      refine congrArg x1 ?_
      funext a; fin_cases a <;> refine Fin.ext ?_ <;> simp
    refine Eq.mp (congrArg IsReal e) ?_
    exact r1 (ix2 0 j)
  · have e : extractStridedSlice S1x64 ![0, 0] x2 Facts.slices_S2x64_S1x64_0_0 (ix2 0 j) = x2 (ix2 0 j) := by
      refine congrArg x2 ?_
      funext a; fin_cases a <;> refine Fin.ext ?_ <;> simp
    refine Eq.mp (congrArg IsReal e) ?_
    exact r2 (ix2 0 j)
  · have e : extractStridedSlice S1x64 ![0, 0] x3 Facts.slices_S2x64_S1x64_0_0 (ix2 0 j) = x3 (ix2 0 j) := by
      refine congrArg x3 ?_
      funext a; fin_cases a <;> refine Fin.ext ?_ <;> simp
    refine Eq.mp (congrArg IsReal e) ?_
    exact r3 (ix2 0 j)
  · have e : extractStridedSlice S1x64 ![0, 0] x4 Facts.slices_S2x64_S1x64_0_0 (ix2 0 j) = x4 (ix2 0 j) := by
      refine congrArg x4 ?_
      funext a; fin_cases a <;> refine Fin.ext ?_ <;> simp
    refine Eq.mp (congrArg IsReal e) ?_
    exact r4 (ix2 0 j)

end Cert.Prompt

namespace Cert.Kernel5Ideal.Value

open Cert.Kernel5Ideal Cert.Kernel5Ideal.Gen Idealize.ShloMosaic Idealize.ShloMosaic.TcCoe Idealize.SL.Sem Cert.Attn Cert.Prompt

variable (m : (ℓ : Loc nD τ sig) → Buf (Elt Ideal) ℓ)

/-- The kernel's result array is the reference's term over the same arguments, where these are real. -/
theorem result [Cert.Pre_finite_prompt.Facts] (c : Dev nD)
    (h : Cert.Pre_finite_prompt.fn (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) = fun _ => 1#1) :
    Cert.Reference5Ideal.Read.val_main_v97 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) = outArr m c := by
  obtain ⟨ra, rb, r1, r2, r3, r4⟩ := real_of_prompt _ _ _ _ _ _ h
  clear h
  funext y
  idx_vars y
  refine (Cert.Reference5Ideal.Read.out_at _ _ _ _ _ _ y0 y1).trans ?_
  have hA : ∀ b r k, k < 512 → IsReal (pIn m c b r k) := fun b r k hk =>
    ra _ _ (show b.val * 256 + r.val < 8192 by omega) (show k % 3072 < 512 by omega)
  have hB : ∀ b r k, 768 ≤ k → k < 2304 → IsReal (pIn m c b r k) := fun b r k h0 h1 =>
    rb _ _ (show b.val * 256 + r.val < 8192 by omega) (show 768 ≤ k % 3072 by omega) (show k % 3072 < 2304 by omega)
  exact (out_eq hA hB (lamOf_real r1 r2 r3 r4 : IsReal (lamIn m c)) (gIn m c) _ _ _ y1.isLt).symm

end Cert.Kernel5Ideal.Value

namespace Cert.Reference5Ideal.Read

open Cert.Reference5Ideal Cert.Reference5Ideal.Gen Idealize.ShloMosaic Idealize.ShloMosaic.TcCoe Idealize.SL.Sem

/-- The reference's run, its result named as one term over the arguments. -/
theorem run_named (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v97) = val_main_v97 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (val_main_v97_eq m c), (h c).2⟩) (Cert.Reference5Ideal.Value.run m ρ)

end Cert.Reference5Ideal.Read

end
-- ==== Proof.CondTerms.lean ====
/- The modulation's mathematics: one entry as the kernel sums it, in three products of split factors, and as the reference does. -/
module

public import proofs.«01_k».proof.Proof.FfnTerms
public import proofs.«01_k».proof.Proof.Core

@[expose] public section

set_option maxRecDepth 16384

noncomputable section

namespace Cert.Cond

open Idealize.ShloMosaic Cert.Attn Cert.Ffn

/-- The eight conditions: the prompt's, the two latent images', and five of padding. -/
def condOf (c : Fin 2 → Fin 1024 → EReal) (cc : Fin 1024 → EReal) (i : Fin 8) (d : Fin 1024) : EReal :=
  if _h : i.val < 1 then cc d else if h : i.val - 1 < 2 then c ⟨i.val - 1, h⟩ d else Ideal.ofBits FTy.f32 0x00000000#32

/-- The kernel's entry: the factors' leading parts multiplied, then the leading part of each by the rest of the other. -/
def modK (s W : Fin 1024 → EReal) (b : EReal) : EReal :=
  ((∑ d, s d * W d) + ((∑ d, s d * (W d - W d)) + ∑ d, (s d - s d) * W d)) + b
/-- The reference's. -/
def modR (s W : Fin 1024 → EReal) (b : EReal) : EReal := (∑ d, s d * W d) + b

/-- Real factors leave no rest. -/
theorem mod_eq {s W : Fin 1024 → EReal} (hs : ∀ d, IsReal (s d)) (hW : ∀ d, IsReal (W d)) (b : EReal) : modK s W b = modR s W b := by
  have e : ∀ {x : EReal}, IsReal x → x - x = 0 := fun {x} ⟨r, hr⟩ => by rw [hr, ← EReal.coe_sub, sub_self, EReal.coe_zero]
  unfold modK modR
  simp only [e (hs _), e (hW _), mul_zero, zero_mul, Finset.sum_const_zero, add_zero]

/-- The sigmoid-weighted unit of a real number is real. -/
theorem silu_real {y : EReal} (hy : IsReal y) : IsReal (silu y) := by
  obtain ⟨r, rfl⟩ := hy
  have h : (1 + Real.exp (-r)) ≠ 0 := by positivity
  unfold silu
  rw [← EReal.coe_neg, Ideal.exp_coe, ← EReal.coe_one, ← EReal.coe_add, Ideal.div_coe h, ← EReal.coe_mul]
  exact ⟨_, rfl⟩

/-- Real conditions, padded. -/
theorem cond_real {c : Fin 2 → Fin 1024 → EReal} {cc : Fin 1024 → EReal} (hc : ∀ i d, IsReal (c i d)) (hcc : ∀ d, IsReal (cc d)) (i : Fin 8) (d : Fin 1024) :
    IsReal (condOf c cc i d) := by
  unfold condOf
  split
  · exact hcc d
  · split
    · exact hc _ d
    · exact ⟨0, by simp [Ideal.ofBits, Ideal.ieee]⟩

end Cert.Cond

end
-- ==== Proof.CondBlocks.lean ====
/- The modulation's call: its payload at an entry, the blocks it reads, and its result array. Grid point `t` is layer `t / 4` and the
   stretch `t % 4` of 1536 of its 6144 columns. -/
module

public import proofs.«01_k».proof.Proof.Gen.Kernel6Ideal.Value
public import proofs.«01_k».proof.Proof.CondTerms
public import Idealize.ShloMosaic.Lib.Pipeline.ValueKit
public import Idealize.ShloMosaic.Lib.Pipeline.ValueKit.Held

@[expose] public section

set_option maxRecDepth 16384

noncomputable section

namespace Cert.Kernel6Ideal.Value

open Cert.Kernel6Ideal Cert.Kernel6Ideal.Gen Idealize.ShloMosaic Idealize.ShloMosaic.TcCoe Idealize.SL.Sem
open Idealize.ShloMosaic.Pipeline (Dat)
open Cert.Cond
open Cert.Ffn (silu)

variable (m : (ℓ : Loc nD τ sig) → Buf (Elt Ideal) ℓ)

/-- The stored block at an entry. -/
theorem pay_at (x : Vec Ideal S8x1024 .f32) (w : Vec Ideal S1x1024x1536 .f32) (b : Vec Ideal S1x1x1536 .f32) (i : Fin 8) (n : Fin 1536) :
    k0_pay1 x w b (ix3 0 i n) = modK (fun d => silu (x (ix2 i d))) (fun d => w (ix3 0 d n)) (b (ix3 0 0 n)) := by
  pointwise [k0_pay1, modK, silu, zero_sub]

/-- The block index of every window at every grid point, decided over the 8 points. -/
theorem idx : ∀ t : Fin cfg0.N,
    win0_0.index t = ![0, 0] ∧ win0_1.index t = ![t.val / 4, 0, t.val % 4] ∧ win0_2.index t = ![t.val / 4, 0, t.val % 4]
    ∧ win0_3.index t = ![t.val / 4, 0, t.val % 4] :=
  (by decide +kernel : ∀ t : Fin grid0.N, _)

theorem point_lt (t : Fin cfg0.N) : t.val < 8 := lt_of_lt_of_eq t.isLt N_0
/-- A grid point's layer, and a column of its stretch. -/
def layer (t : Fin cfg0.N) : Fin 2 := ⟨t.val / 4, by have := point_lt t; omega⟩
def colOf (t : Fin cfg0.N) (n : Fin 1536) : Fin 6144 := ⟨(t.val % 4) * 1536 + n.val, by omega⟩

/-- The conditions, the weights and the biases as functions of their coordinates. -/
def cIn (c : Dev nD) (i : Fin 2) (d : Fin 1024) : EReal := (m ((c : Thread nD τ).loc main_arg0) : FVec Ideal S2x1024 .f32) (ix2 i d)
def ccIn (c : Dev nD) (d : Fin 1024) : EReal := (m ((c : Thread nD τ).loc main_arg1) : FVec Ideal S1024 .f32) (ix1 d)
def wIn (c : Dev nD) (l : Fin 2) (d : Fin 1024) (n : Fin 6144) : EReal := (m ((c : Thread nD τ).loc main_arg2) : FVec Ideal S2x1024x6144 .f32) (ix3 l d n)
def bIn (c : Dev nD) (l : Fin 2) (n : Fin 6144) : EReal := (m ((c : Thread nD τ).loc main_arg3) : FVec Ideal S2x6144 .f32) (ix2 l n)

/-- The host's operations before the conditions are put together. -/
def first : List (HloOp τ sig (Elt Ideal)) :=
  [ StableHlo.unary main_arg1 main_v0 (broadcastInDim S1x1024 ![1] bcast_S1024_S1x1024_1 : (⟨S1024, .f32⟩ : BufTy).Contents (Elt Ideal) → (⟨S1x1024, .f32⟩ : BufTy).Contents (Elt Ideal)),
    StableHlo.nullary main_cst (constant (F := Ideal) S_ .f32 0x00000000#32),
    StableHlo.unary main_cst main_v1 (broadcastInDim S5x1024 ![] bcast_S_S5x1024 : (⟨S_, .f32⟩ : BufTy).Contents (Elt Ideal) → (⟨S5x1024, .f32⟩ : BufTy).Contents (Elt Ideal)) ]

/-- The conditions' array as the host leaves it: the prompt's row, the images' and the padding, one below the other. -/
theorem host_cond (c : Dev nD) : (V m c main_v2 : FVec Ideal S8x1024 .f32)
    = concatenate S8x1024 0 [⟨S1x1024, (StableHlo.after first (fun b => m (c, b)) main_v0 : FVec Ideal S1x1024 .f32)⟩,
        ⟨S2x1024, (StableHlo.after first (fun b => m (c, b)) main_arg0 : FVec Ideal S2x1024 .f32)⟩,
        ⟨S5x1024, (StableHlo.after first (fun b => m (c, b)) main_v1 : FVec Ideal S5x1024 .f32)⟩] concatenates_S1x1024_S2x1024_S5x1024_S8x1024_d0 := by
  unfold V first
  simp only [hostOps0, StableHlo.after_cons, StableHlo.after_nil]
  refine (StableHlo.reshape_result_ne' (r := main_v2) _ _ _ _ _ ?_).trans ?_
  · decide
  · exact StableHlo.nary_result _ _ _ _ _ _

/-- Its three parts, entry by entry. -/
theorem first_v0 (c : Dev nD) (i : Fin 1) (d : Fin 1024) :
    (StableHlo.after first (fun b => m (c, b)) main_v0 : FVec Ideal S1x1024 .f32) (ix2 i d) = ccIn m c d := by
  unfold first ccIn
  entry_read
  pointwise
theorem first_arg0 (c : Dev nD) (i : Fin 2) (d : Fin 1024) :
    (StableHlo.after first (fun b => m (c, b)) main_arg0 : FVec Ideal S2x1024 .f32) (ix2 i d) = cIn m c i d := by
  unfold first cIn
  entry_read
  rfl
theorem first_v1 (c : Dev nD) (i : Fin 5) (d : Fin 1024) :
    (StableHlo.after first (fun b => m (c, b)) main_v1 : FVec Ideal S5x1024 .f32) (ix2 i d) = (0 : EReal) := by
  unfold first
  entry_read
  pointwise

theorem blk_c (c : Dev nD) (t : Fin cfg0.N) (i : Fin 8) (d : Fin 1024) :
    (iblk m c 0 t : FVec Ideal S8x1024 .f32) (ix2 i d) = condOf (cIn m c) (ccIn m c) i d := by
  refine Eq.trans (b := (V m c (Pipeline.arrRef spec0 0) : FVec Ideal S8x1024 .f32) (ix2 i d)) ?_ ?_
  · blk_ext [iblk, idx t]
  · refine (congrFun (host_cond m c) (ix2 i d)).trans ?_
    have h0 := first_v0 m c
    have h1 := first_arg0 m c
    have h2 := first_v1 m c
    generalize (StableHlo.after first (fun b => m (c, b)) main_v0 : FVec Ideal S1x1024 .f32) = u0 at h0 ⊢
    generalize (StableHlo.after first (fun b => m (c, b)) main_arg0 : FVec Ideal S2x1024 .f32) = u1 at h1 ⊢
    generalize (StableHlo.after first (fun b => m (c, b)) main_v1 : FVec Ideal S5x1024 .f32) = u2 at h2 ⊢
    unfold condOf
    pointwise
    simp only [h0, h1, h2]

theorem blk_w (c : Dev nD) (t : Fin cfg0.N) (d : Fin 1024) (n : Fin 1536) :
    (iblk m c 1 t : FVec Ideal S1x1024x1536 .f32) (ix3 0 d n) = wIn m c (layer t) d (colOf t n) := by
  have ht := point_lt t
  unfold wIn layer colOf
  blk_ext [iblk, V, idx t]

theorem blk_b (c : Dev nD) (t : Fin cfg0.N) (n : Fin 1536) :
    (iblk m c 2 t : FVec Ideal S1x1x1536 .f32) (ix3 0 0 n) = bIn m c (layer t) (colOf t n) := by
  have ht := point_lt t
  refine Eq.trans (b := (V m c (Pipeline.arrRef spec0 2) : FVec Ideal S2x1x6144 .f32) (ix3 (layer t) 0 (colOf t n))) ?_ ?_
  · unfold layer colOf
    blk_ext [iblk, idx t]
  · unfold V bIn
    simp only [hostOps0, List.flatten_cons, List.flatten_nil, List.append_nil, List.cons_append, List.nil_append]
    entry_read
    pointwise

/-- A result's entry as the kernel computes it. -/
def entry (c : Dev nD) (l : Fin 2) (i : Fin 8) (n : Fin 6144) : EReal :=
  modK (fun d => silu (condOf (cIn m c) (ccIn m c) i d)) (fun d => wIn m c l d n) (bIn m c l n)

theorem block_at (c : Dev nD) (t : Fin cfg0.N) (i : Fin 8) (n : Fin 1536) :
    (out0_3 (iblk m c 0 t) (iblk m c 1 t) (iblk m c 2 t) : FVec Ideal S1x8x1536 .f32) (ix3 0 i n) = entry m c (layer t) i (colOf t n) := by
  frame_out
  refine (pay_at _ _ _ i n).trans ?_
  unfold entry
  simp only [blk_c, blk_w, blk_b]

/-- The whole result. -/
def outArr (c : Dev nD) : FVec Ideal S2x8x6144 .f32 := fun y => entry m c (y 0) (y 1) (y 2)

/-- The result array when every point has flushed. -/
theorem arr_out (c : Dev nD) : (dats m 0 c).arrAt 3 cfg0.N = outArr m c := by
  refine (dats m 0 c).arrAt_eq_of_covers 3 (outArr m c) (by decide +kernel) fun t hf y => ?_
  blk_simp
  rw [after0_3]
  idx_vars y
  have ht := point_lt t
  have e : ((View.whole main_v4).slice (win0_3.rect t)).emb (ix3 y0 y1 y2) = (ix3 (layer t) y1 (colOf t y2) : S2x8x6144.Idx) := by
    unfold layer colOf
    blk_ext [idx t]
  rw [e]
  have z : y0 = 0 := Fin.ext (by omega)
  subst z
  exact block_at m c t y1 y2

end Cert.Kernel6Ideal.Value

end
-- ==== Proof.CondRef.lean ====
/- The modulation: the reference's result at an entry. -/
module

public import proofs.«01_k».proof.Proof.CondTerms
public import proofs.«01_k».proof.Proof.Gen.Reference6Ideal.Read
public import Idealize.ShloMosaic.Lib.Pointwise

@[expose] public section

set_option maxRecDepth 16384

noncomputable section

namespace Cert.Reference6Ideal.Read

open Cert.Reference6Ideal Cert.Reference6Ideal.Gen Idealize.ShloMosaic Idealize.ShloMosaic.TcCoe Idealize.SL.Sem Cert.Cond
open Cert.Ffn (silu silu_eq)

variable (x0 : FVec Ideal S2x1024 .f32) (x1 : FVec Ideal S1024 .f32) (x2 : FVec Ideal S2x1024x6144 .f32) (x3 : FVec Ideal S2x6144 .f32)

/-- The padded conditions. -/
theorem cond_at (i : Fin 8) (d : Fin 1024) : val_main_v2 (F := Ideal) x0 x1 (ix2 i d) = condOf (fun i d => x0 (ix2 i d)) (fun d => x1 (ix1 d)) i d := by
  unfold condOf
  pointwise [val_main_v2, val_main_v0, val_main_v1, val_main_cst]

/-- Their sigmoid-weighted units, once for each layer. -/
theorem silu0_at (i : Fin 8) (d : Fin 1024) : val_main_v3 (F := Ideal) x0 x1 (ix2 i d) = silu (condOf (fun i d => x0 (ix2 i d)) (fun d => x1 (ix1 d)) i d) := by
  rw [← silu_eq, ← cond_at]
  unfold val_main_v3 val_main_call0_v5 val_main_call0_v3 val_main_call0_v1 val_main_call0_v0
  generalize val_main_v2 (F := Ideal) x0 x1 = y
  pointwise [val_main_call0_v4, val_main_call0_v2, val_main_call0_cst, val_main_call0_cst_0]
theorem silu1_at (i : Fin 8) (d : Fin 1024) : val_main_v12 (F := Ideal) x0 x1 (ix2 i d) = silu (condOf (fun i d => x0 (ix2 i d)) (fun d => x1 (ix1 d)) i d) := by
  rw [← silu_eq, ← cond_at]
  unfold val_main_v12 val_main_call1_v5 val_main_call1_v3 val_main_call1_v1 val_main_call1_v0
  generalize val_main_v2 (F := Ideal) x0 x1 = y
  pointwise [val_main_call1_v4, val_main_call1_v2, val_main_call1_cst, val_main_call1_cst_0]

/-- An entry of the result, as the reference computes it. -/
def entry (l : Fin 2) (i : Fin 8) (n : Fin 6144) : EReal :=
  modR (fun d => silu (condOf (fun i d => x0 (ix2 i d)) (fun d => x1 (ix1 d)) i d)) (fun d => x2 (ix3 l d n)) (x3 (ix2 l n))

/-- The first layer's, and the second's. -/
theorem layer0_at (i : Fin 8) (n : Fin 6144) : val_main_v11 (F := Ideal) x0 x1 x2 x3 (ix2 i n) = entry x0 x1 x2 x3 0 i n := by
  unfold entry modR
  rw [val_main_v11_apply, val_main_v6_apply, val_main_v10_apply, val_main_v9_apply, val_main_v8_apply, val_main_v7_apply]
  have el : ∀ d : Fin 1024, lidx_main_v6 (ix2 i n) d = ix2 i d := fun d => by
    funext a; fin_cases a <;> rfl
  have er : ∀ d : Fin 1024, ridx_main_v6 (ix2 i n) d = ix2 d n := fun d => by
    funext a; fin_cases a <;> rfl
  have ew : ∀ d : Fin 1024, val_main_v5 (F := Ideal) x2 (ix2 d n) = x2 (ix3 0 d n) := fun d => by
    rw [val_main_v5_apply, val_main_v4_apply]
    refine congrArg x2 ?_
    have hd := d.isLt; have hn := n.isLt
    funext a; fin_cases a <;> first | rfl | (refine Fin.ext ?_; simp; omega) | (refine Fin.ext ?_; simp)
  have eb : idx_main_v7 (idx_main_v8 (idx_main_v9 (idx_main_v10 (ix2 i n)))) = ix2 0 n := by
    have hn := n.isLt
    funext a; fin_cases a <;> first | rfl | (refine Fin.ext ?_; simp; omega) | (refine Fin.ext ?_; simp)
  simp only [el, er, ew, eb, silu0_at]
  rfl
theorem layer1_at (i : Fin 8) (n : Fin 6144) : val_main_v20 (F := Ideal) x0 x1 x2 x3 (ix2 i n) = entry x0 x1 x2 x3 1 i n := by
  unfold entry modR
  rw [val_main_v20_apply, val_main_v15_apply, val_main_v19_apply, val_main_v18_apply, val_main_v17_apply, val_main_v16_apply]
  have el : ∀ d : Fin 1024, lidx_main_v15 (ix2 i n) d = ix2 i d := fun d => by
    funext a; fin_cases a <;> rfl
  have er : ∀ d : Fin 1024, ridx_main_v15 (ix2 i n) d = ix2 d n := fun d => by
    funext a; fin_cases a <;> rfl
  have ew : ∀ d : Fin 1024, val_main_v14 (F := Ideal) x2 (ix2 d n) = x2 (ix3 1 d n) := fun d => by
    rw [val_main_v14_apply, val_main_v13_apply]
    refine congrArg x2 ?_
    have hd := d.isLt; have hn := n.isLt
    funext a; fin_cases a <;> first | rfl | (refine Fin.ext ?_; simp; omega) | (refine Fin.ext ?_; simp)
  have eb : idx_main_v16 (idx_main_v17 (idx_main_v18 (idx_main_v19 (ix2 i n)))) = ix2 1 n := by
    have hn := n.isLt
    funext a; fin_cases a <;> first | rfl | (refine Fin.ext ?_; simp; omega) | (refine Fin.ext ?_; simp)
  simp only [el, er, ew, eb, silu1_at]
  rfl

/-- The reference's result array. -/
theorem out_at (l : Fin 2) (i : Fin 8) (n : Fin 6144) : val_main_v23 (F := Ideal) x0 x1 x2 x3 (ix3 l i n) = entry x0 x1 x2 x3 l i n := by
  have e0 : val_main_v21 (F := Ideal) x0 x1 x2 x3 (ix3 0 i n) = entry x0 x1 x2 x3 0 i n := by
    rw [val_main_v21_apply, ← layer0_at]
    refine congrArg _ ?_
    funext a; fin_cases a <;> rfl
  have e1 : val_main_v22 (F := Ideal) x0 x1 x2 x3 (ix3 0 i n) = entry x0 x1 x2 x3 1 i n := by
    rw [val_main_v22_apply, ← layer1_at]
    refine congrArg _ ?_
    funext a; fin_cases a <;> rfl
  match l with
  | 0 =>
    rw [← e0]
    unfold val_main_v23
    generalize val_main_v21 (F := Ideal) x0 x1 x2 x3 = y
    generalize val_main_v22 (F := Ideal) x0 x1 x2 x3 = z
    pointwise
  | 1 =>
    rw [← e1]
    unfold val_main_v23
    generalize val_main_v21 (F := Ideal) x0 x1 x2 x3 = y
    generalize val_main_v22 (F := Ideal) x0 x1 x2 x3 = z
    pointwise

end Cert.Reference6Ideal.Read

end
-- ==== Proof.CondFinal.lean ====
/- The modulation: what the kernel leaves is what the reference returns, over the extended reals. -/
module

public import proofs.«01_k».proof.Proof.CondBlocks
public import proofs.«01_k».proof.Proof.CondRef
public import proofs.«01_k».proof.Proof.PromptFinal
public import proofs.«01_k».proof.Pre_finite_cond
public import proofs.«01_k».proof.Proof.Gen.Reference6Ideal.Run

@[expose] public section

set_option maxRecDepth 16384

noncomputable section

namespace Cert.Cond

open Cert.Pre_finite_cond Idealize.ShloMosaic Idealize.ShloMosaic.TcCoe Idealize.SL.Sem Cert.Attn

/-- The precondition's meaning: real are the conditions, the prompt's and the images', and the weights. -/
theorem real_of_cond [Facts] (x0 : FVec Ideal S2x1024 .f32) (x1 : FVec Ideal S1024 .f32) (x2 : FVec Ideal S2x1024x6144 .f32) (x3 : FVec Ideal S2x6144 .f32)
    (h : fn (F := Ideal) x0 x1 x2 x3 = fun _ => 1#1) : (∀ i, IsReal (x0 i)) ∧ (∀ i, IsReal (x1 i)) ∧ ∀ i, IsReal (x2 i) := by
  have h := congrFun h (fun a => a.elim0)
  obtain ⟨h, r2⟩ := IntOp.andi_eq_one.1 h
  obtain ⟨r0, r1⟩ := IntOp.andi_eq_one.1 h
  clear * - r0 r1 r2
  beta_reduce at r0 r1 r2
  exact ⟨Cert.Prompt.real_all _ _ _ _ _ r0, Cert.Prompt.real_all _ _ _ _ _ r1, Cert.Prompt.real_all _ _ _ _ _ r2⟩

end Cert.Cond

namespace Cert.Kernel6Ideal.Value

open Cert.Kernel6Ideal Cert.Kernel6Ideal.Gen Idealize.ShloMosaic Idealize.ShloMosaic.TcCoe Idealize.SL.Sem Cert.Attn Cert.Cond

variable (m : (ℓ : Loc nD τ sig) → Buf (Elt Ideal) ℓ)

/-- The kernel's result array is the reference's term over the same arguments, where the conditions and the weights are real. -/
theorem result [Cert.Pre_finite_cond.Facts] (c : Dev nD)
    (h : Cert.Pre_finite_cond.fn (F := Ideal) (m ((c : Thread nD τ).loc main_arg0)) (m ((c : Thread nD τ).loc main_arg1)) (m ((c : Thread nD τ).loc main_arg2))
      (m ((c : Thread nD τ).loc main_arg3)) = fun _ => 1#1) :
    Cert.Reference6Ideal.Read.val_main_v23 (F := Ideal) (m ((c : Thread nD τ).loc main_arg0)) (m ((c : Thread nD τ).loc main_arg1)) (m ((c : Thread nD τ).loc main_arg2))
      (m ((c : Thread nD τ).loc main_arg3)) = outArr m c := by
  obtain ⟨r0, r1, r2⟩ := real_of_cond _ _ _ _ h
  clear h
  funext y
  idx_vars y
  refine (Cert.Reference6Ideal.Read.out_at _ _ _ _ y0 y1 y2).trans ?_
  have hs : ∀ d, IsReal (Cert.Ffn.silu (condOf (cIn m c) (ccIn m c) y1 d)) := fun d =>
    silu_real (cond_real (fun i d => r0 (ix2 i d)) (fun d => r1 (ix1 d)) y1 d)
  have hW : ∀ d, IsReal (wIn m c y0 d y2) := fun d => r2 (ix3 y0 d y2)
  exact (mod_eq hs hW (bIn m c y0 y2)).symm

end Cert.Kernel6Ideal.Value

namespace Cert.Reference6Ideal.Read

open Cert.Reference6Ideal Cert.Reference6Ideal.Gen Idealize.ShloMosaic Idealize.ShloMosaic.TcCoe Idealize.SL.Sem

/-- The reference's run, its result named as one term over the arguments. -/
theorem run_named (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v23) = val_main_v23 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (val_main_v23_eq _ _ _ _), (h c).2⟩) (Cert.Reference6Ideal.Value.run m ρ)

end Cert.Reference6Ideal.Read

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Pre_tables_ok
public import proofs.«01_k».proof.Proof.Gen.Pre_finite_inputs
public import proofs.«01_k».proof.Proof.Gen.Pre_finite_prompt
public import proofs.«01_k».proof.Proof.Gen.Pre_finite_cond
public import proofs.«01_k».proof.Proof.Final
public import proofs.«01_k».proof.Proof.ExpFrame
public import proofs.«01_k».proof.Proof.ExpFinal
public import proofs.«01_k».proof.Proof.ExpBits
public import proofs.«01_k».proof.Proof.FfnFinal
public import proofs.«01_k».proof.Proof.MixFinal
public import proofs.«01_k».proof.Proof.PromptFinal
public import proofs.«01_k».proof.Proof.CondFinal
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The kernel and the reference over the extended reals: the same result of the same real arguments. -/
theorem attention [Cert.Pre_finite_inputs.Facts] : Cert.algebraic_KernelIdeal_ReferenceIdeal_pre_finite_inputs := by
  pair_intro
  · run_from Cert.KernelIdeal.Value.run_blocks m g
  · run_from Cert.ReferenceIdeal.Read.run_named m' g'
    exact (Cert.KernelIdeal.Value.result m c (hpre c)).trans (Cert.KernelIdeal.Value.arr_out m c).symm

set_option maxHeartbeats 3200000 in
/-- The reference runs to an end, whatever its arguments. -/
theorem reference_runs : Cert.quiescent_ReferenceIdeal := by
  intro m g _
  run_from Cert.ReferenceIdeal.Read.run_named m g
  · exact fun _ => ⟨trivial, trivial, trivial, trivial, trivial, trivial, trivial, trivial⟩
  · clear hc; funext x; obtain ⟨_, x⟩ := x; rcases x with x | x <;> exact x.elim0

/-- The feed-forward kernel and its reference over the extended reals: the same result of the same arguments, whatever these are. -/
theorem ffn : Cert.algebraic_Kernel2Ideal_Reference2Ideal := by
  pair_intro
  · run_from Cert.Kernel2Ideal.Value.run_blocks m g
  · run_from Cert.Reference2Ideal.Read.run_named m' g'
    exact (Cert.Kernel2Ideal.Value.result m c).trans (Cert.Kernel2Ideal.Value.arr_out m c).symm

set_option maxHeartbeats 3200000 in
/-- The feed-forward reference runs to an end, whatever its arguments. -/
theorem reference2_runs : Cert.quiescent_Reference2Ideal := by
  intro m g _
  run_from Cert.Reference2Ideal.Read.run_named m g
  · exact fun _ => ⟨trivial, trivial, trivial, trivial, trivial, trivial⟩
  · clear hc; funext x; obtain ⟨_, x⟩ := x; rcases x with x | x <;> exact x.elim0

/-- The output projection's kernel and its reference over the extended reals: the same result of the same arguments. -/
theorem outproj : Cert.algebraic_Kernel4Ideal_Reference4Ideal := by
  pair_intro
  · run_from Cert.Kernel4Ideal.Value.run_blocks m g
  · run_from Cert.Reference4Ideal.Read.run_named m' g'
    exact (Cert.Kernel4Ideal.Value.result m c).trans (Cert.Kernel4Ideal.Value.arr_out m c).symm

set_option maxHeartbeats 3200000 in
/-- The output projection's reference runs to an end, whatever its arguments. -/
theorem reference4_runs : Cert.quiescent_Reference4Ideal := by
  intro m g _
  run_from Cert.Reference4Ideal.Read.run_named m g
  · exact fun _ => ⟨trivial, trivial, trivial, trivial, trivial, trivial, trivial, trivial, trivial⟩
  · clear hc; funext x; obtain ⟨_, x⟩ := x; rcases x with x | x <;> exact x.elim0

/-- The experts kernel and its reference over the extended reals: the same result of the same arguments, under tables as the routing makes them. -/
theorem experts [Cert.Pre_tables_ok.Facts] : Cert.algebraic_Kernel3Ideal_Reference3Ideal := by
  pair_intro
  · run_from Cert.Exp.run_named m g (Cert.Exp.launch_ok m (hpre 0)) (Cert.Exp.tables_good m (hpre 0))
  · run_from Cert.Reference3Ideal.Read.run_named m' g'
    exact Cert.Exp.result m (Cert.Exp.tables_good m (hpre 0)) c

set_option maxHeartbeats 3200000 in
/-- The experts reference runs to an end, whatever its arguments. -/
theorem reference3_runs : Cert.quiescent_Reference3Ideal := by
  intro m g _
  run_from Cert.Reference3Ideal.Read.run_named m g
  · exact fun _ => ⟨trivial, trivial, trivial, trivial, trivial, trivial, trivial⟩
  · clear hc; funext x; obtain ⟨_, x⟩ := x; rcases x with x | x <;> exact x.elim0

/-- The prompt's attention and its reference over the extended reals: the same result of the same real arguments. -/
theorem promptAttention [Cert.Pre_finite_prompt.Facts] : Cert.algebraic_Kernel5Ideal_Reference5Ideal_pre_finite_prompt := by
  pair_intro
  · run_from Cert.Kernel5Ideal.Value.run_blocks m g
  · run_from Cert.Reference5Ideal.Read.run_named m' g'
    exact (Cert.Kernel5Ideal.Value.result m c (hpre c)).trans (Cert.Kernel5Ideal.Value.arr_out m c).symm

set_option maxHeartbeats 3200000 in
/-- The prompt's attention's reference runs to an end, whatever its arguments. -/
theorem reference5_runs : Cert.quiescent_Reference5Ideal := by
  intro m g _
  run_from Cert.Reference5Ideal.Read.run_named m g
  · exact fun _ => ⟨trivial, trivial, trivial, trivial, trivial, trivial⟩
  · clear hc; funext x; obtain ⟨_, x⟩ := x; rcases x with x | x <;> exact x.elim0

/-- The modulation and its reference over the extended reals: the same result of the same arguments, the conditions and the weights real. -/
theorem modulation [Cert.Pre_finite_cond.Facts] : Cert.algebraic_Kernel6Ideal_Reference6Ideal_pre_finite_cond := by
  pair_intro
  · run_from Cert.Kernel6Ideal.Value.run_blocks m g
  · run_from Cert.Reference6Ideal.Read.run_named m' g'
    exact (Cert.Kernel6Ideal.Value.result m c (hpre c)).trans (Cert.Kernel6Ideal.Value.arr_out m c).symm

set_option maxHeartbeats 3200000 in
/-- The modulation's reference runs to an end, whatever its arguments. -/
theorem reference6_runs : Cert.quiescent_Reference6Ideal := by
  intro m g _
  run_from Cert.Reference6Ideal.Read.run_named m g
  · exact fun _ => ⟨trivial, trivial, trivial, trivial⟩
  · clear hc; funext x; obtain ⟨_, x⟩ := x; rcases x with x | x <;> exact x.elim0

/-- Everything stated, for the six calls. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_finite_inputs.Gen.facts, Cert.Pre_tables_ok.Gen.facts, Cert.Pre_finite_prompt.Gen.facts, Cert.Pre_finite_cond.Gen.facts,
  fun m ρ _ => Cert.Kernel.Gen.frame m ρ, fun m ρ _ => Cert.KernelIdeal.Gen.frame m ρ, fun m ρ _ => Cert.KernelIdeal.Gen.frame m ρ,
  reference_runs, fun m ρ _ => reference_runs m ρ trivial,
  fun m ρ _ => Cert.Kernel2.Gen.frame m ρ, fun m ρ _ => Cert.Kernel2Ideal.Gen.frame m ρ, reference2_runs,
  Cert.Exp.float_runs,
  fun m ρ h => Cert.Kernel3Ideal.Gen.frame m ρ (Cert.Exp.launch_ok m (h 0)),
  reference3_runs, fun m ρ _ => reference3_runs m ρ trivial,
  fun m ρ _ => Cert.Kernel4.Gen.frame m ρ, fun m ρ _ => Cert.Kernel4Ideal.Gen.frame m ρ, reference4_runs,
  fun m ρ _ => Cert.Kernel5.Gen.frame m ρ, fun m ρ _ => Cert.Kernel5Ideal.Gen.frame m ρ, fun m ρ _ => Cert.Kernel5Ideal.Gen.frame m ρ,
  reference5_runs, fun m ρ _ => reference5_runs m ρ trivial,
  fun m ρ _ => Cert.Kernel6.Gen.frame m ρ, fun m ρ _ => Cert.Kernel6Ideal.Gen.frame m ρ, fun m ρ _ => Cert.Kernel6Ideal.Gen.frame m ρ,
  reference6_runs, fun m ρ _ => reference6_runs m ρ trivial,
  trivial, attention, trivial, ffn, trivial, experts, trivial, outproj, trivial, promptAttention, trivial, modulation⟩

end Cert.Proof

end
